-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DNorm (m : (ℓ : Loc Cert.DNorm.nD Cert.DNorm.τ Cert.DNorm.sig) → Buf (Elt Bits) ℓ) : Prop :=
  True

def Pre_DNormIdeal (m : (ℓ : Loc Cert.DNormIdeal.nD Cert.DNormIdeal.τ Cert.DNormIdeal.sig) → Buf (Elt Ideal) ℓ) : Prop :=
  True

def Pre_DNormRefIdeal (m : (ℓ : Loc Cert.DNormRefIdeal.nD Cert.DNormRefIdeal.τ Cert.DNormRefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_GFfn (m : (ℓ : Loc Cert.GFfn.nD Cert.GFfn.τ Cert.GFfn.sig) → Buf (Elt Bits) ℓ) : Prop :=
  True

def Pre_GFfnIdeal (m : (ℓ : Loc Cert.GFfnIdeal.nD Cert.GFfnIdeal.τ Cert.GFfnIdeal.sig) → Buf (Elt Ideal) ℓ) : Prop :=
  True

def Pre_GFfnRefIdeal (m : (ℓ : Loc Cert.GFfnRefIdeal.nD Cert.GFfnRefIdeal.τ Cert.GFfnRefIdeal.sig) → Buf (Elt Ideal) ℓ) : Prop :=
  True

def Pre_GBranch (m : (ℓ : Loc Cert.GBranch.nD Cert.GBranch.τ Cert.GBranch.sig) → Buf (Elt Bits) ℓ) : Prop :=
  True

def Pre_GBranchIdeal (m : (ℓ : Loc Cert.GBranchIdeal.nD Cert.GBranchIdeal.τ Cert.GBranchIdeal.sig) → Buf (Elt Ideal) ℓ) : Prop :=
  True

def Pre_GBranchRefIdeal (m : (ℓ : Loc Cert.GBranchRefIdeal.nD Cert.GBranchRefIdeal.τ Cert.GBranchRefIdeal.sig) → Buf (Elt Ideal) ℓ) : Prop :=
  True

def Pre_GQkv (m : (ℓ : Loc Cert.GQkv.nD Cert.GQkv.τ Cert.GQkv.sig) → Buf (Elt Bits) ℓ) : Prop :=
  True

def Pre_GQkvIdeal (m : (ℓ : Loc Cert.GQkvIdeal.nD Cert.GQkvIdeal.τ Cert.GQkvIdeal.sig) → Buf (Elt Ideal) ℓ) : Prop :=
  True

def Pre_GQkvRefIdeal (m : (ℓ : Loc Cert.GQkvRefIdeal.nD Cert.GQkvRefIdeal.τ Cert.GQkvRefIdeal.sig) → Buf (Elt Ideal) ℓ) : Prop :=
  True

def Pre_GRwkv (m : (ℓ : Loc Cert.GRwkv.nD Cert.GRwkv.τ Cert.GRwkv.sig) → Buf (Elt Bits) ℓ) : Prop :=
  True

def Pre_GRwkvIdeal (m : (ℓ : Loc Cert.GRwkvIdeal.nD Cert.GRwkvIdeal.τ Cert.GRwkvIdeal.sig) → Buf (Elt Ideal) ℓ) : Prop :=
  True

def Pre_GRwkvRefIdeal (m : (ℓ : Loc Cert.GRwkvRefIdeal.nD Cert.GRwkvRefIdeal.τ Cert.GRwkvRefIdeal.sig) → Buf (Elt Ideal) ℓ) : Prop :=
  True

def Pre_GGate (m : (ℓ : Loc Cert.GGate.nD Cert.GGate.τ Cert.GGate.sig) → Buf (Elt Bits) ℓ) : Prop :=
  True

def Pre_GGateIdeal (m : (ℓ : Loc Cert.GGateIdeal.nD Cert.GGateIdeal.τ Cert.GGateIdeal.sig) → Buf (Elt Ideal) ℓ) : Prop :=
  True

def Pre_GGateRefIdeal (m : (ℓ : Loc Cert.GGateRefIdeal.nD Cert.GGateRefIdeal.τ Cert.GGateRefIdeal.sig) → Buf (Elt Ideal) ℓ) : Prop :=
  True

def Pre_DQkv (m : (ℓ : Loc Cert.DQkv.nD Cert.DQkv.τ Cert.DQkv.sig) → Buf (Elt Bits) ℓ) : Prop :=
  True

def Pre_DQkvIdeal (m : (ℓ : Loc Cert.DQkvIdeal.nD Cert.DQkvIdeal.τ Cert.DQkvIdeal.sig) → Buf (Elt Ideal) ℓ) : Prop :=
  True

def Pre_DQkvRefIdeal (m : (ℓ : Loc Cert.DQkvRefIdeal.nD Cert.DQkvRefIdeal.τ Cert.DQkvRefIdeal.sig) → Buf (Elt Ideal) ℓ) : Prop :=
  True

def Pre_DRwkv (m : (ℓ : Loc Cert.DRwkv.nD Cert.DRwkv.τ Cert.DRwkv.sig) → Buf (Elt Bits) ℓ) : Prop :=
  True

def Pre_DRwkvIdeal (m : (ℓ : Loc Cert.DRwkvIdeal.nD Cert.DRwkvIdeal.τ Cert.DRwkvIdeal.sig) → Buf (Elt Ideal) ℓ) : Prop :=
  True

def Pre_DRwkvRefIdeal (m : (ℓ : Loc Cert.DRwkvRefIdeal.nD Cert.DRwkvRefIdeal.τ Cert.DRwkvRefIdeal.sig) → Buf (Elt Ideal) ℓ) : Prop :=
  True

def Pre_DGate (m : (ℓ : Loc Cert.DGate.nD Cert.DGate.τ Cert.DGate.sig) → Buf (Elt Bits) ℓ) : Prop :=
  True

def Pre_DGateIdeal (m : (ℓ : Loc Cert.DGateIdeal.nD Cert.DGateIdeal.τ Cert.DGateIdeal.sig) → Buf (Elt Ideal) ℓ) : Prop :=
  True

def Pre_DGateRefIdeal (m : (ℓ : Loc Cert.DGateRefIdeal.nD Cert.DGateRefIdeal.τ Cert.DGateRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvRefIdeal (m : (ℓ : Loc Cert.RwkvRefIdeal.nD Cert.RwkvRefIdeal.τ Cert.RwkvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_SwigluF (m : (ℓ : Loc Cert.SwigluF.nD Cert.SwigluF.τ Cert.SwigluF.sig) → Buf (Elt Bits) ℓ) : Prop :=
  True

def Pre_SwigluFIdeal (m : (ℓ : Loc Cert.SwigluFIdeal.nD Cert.SwigluFIdeal.τ Cert.SwigluFIdeal.sig) → Buf (Elt Ideal) ℓ) : Prop :=
  True

def Pre_SwigluFRefIdeal (m : (ℓ : Loc Cert.SwigluFRefIdeal.nD Cert.SwigluFRefIdeal.τ Cert.SwigluFRefIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_ResidF (m : (ℓ : Loc Cert.ResidF.nD Cert.ResidF.τ Cert.ResidF.sig) → Buf (Elt Bits) ℓ) : Prop :=
  True

def Pre_ResidFIdeal (m : (ℓ : Loc Cert.ResidFIdeal.nD Cert.ResidFIdeal.τ Cert.ResidFIdeal.sig) → Buf (Elt Ideal) ℓ) : Prop :=
  True

def Pre_ResidFRefIdeal (m : (ℓ : Loc Cert.ResidFRefIdeal.nD Cert.ResidFRefIdeal.τ Cert.ResidFRefIdeal.sig) → Buf (Elt Ideal) ℓ) : Prop :=
  True

def Pre_RmsB (m : (ℓ : Loc Cert.RmsB.nD Cert.RmsB.τ Cert.RmsB.sig) → Buf (Elt Bits) ℓ) : Prop :=
  True

def Pre_RmsBIdeal (m : (ℓ : Loc Cert.RmsBIdeal.nD Cert.RmsBIdeal.τ Cert.RmsBIdeal.sig) → Buf (Elt Ideal) ℓ) : Prop :=
  True

def Pre_RmsBRefIdeal (m : (ℓ : Loc Cert.RmsBRefIdeal.nD Cert.RmsBRefIdeal.τ Cert.RmsBRefIdeal.sig) → Buf (Elt Ideal) ℓ) : Prop :=
  True

def Pre_ResidB (m : (ℓ : Loc Cert.ResidB.nD Cert.ResidB.τ Cert.ResidB.sig) → Buf (Elt Bits) ℓ) : Prop :=
  True

def Pre_ResidBIdeal (m : (ℓ : Loc Cert.ResidBIdeal.nD Cert.ResidBIdeal.τ Cert.ResidBIdeal.sig) → Buf (Elt Ideal) ℓ) : Prop :=
  True

def Pre_ResidBRefIdeal (m : (ℓ : Loc Cert.ResidBRefIdeal.nD Cert.ResidBRefIdeal.τ Cert.ResidBRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamLora (m : (ℓ : Loc Cert.AdamLora.nD Cert.AdamLora.τ Cert.AdamLora.sig) → Buf (Elt Bits) ℓ) : Prop :=
  True

def Pre_AdamLoraIdeal (m : (ℓ : Loc Cert.AdamLoraIdeal.nD Cert.AdamLoraIdeal.τ Cert.AdamLoraIdeal.sig) → Buf (Elt Ideal) ℓ) : Prop :=
  True

def Pre_AdamLoraRefIdeal (m : (ℓ : Loc Cert.AdamLoraRefIdeal.nD Cert.AdamLoraRefIdeal.τ Cert.AdamLoraRefIdeal.sig) → Buf (Elt Ideal) ℓ) : Prop :=
  True

def Pre_AdamLoraG (m : (ℓ : Loc Cert.AdamLoraG.nD Cert.AdamLoraG.τ Cert.AdamLoraG.sig) → Buf (Elt Bits) ℓ) : Prop :=
  True

def Pre_AdamLoraGIdeal (m : (ℓ : Loc Cert.AdamLoraGIdeal.nD Cert.AdamLoraGIdeal.τ Cert.AdamLoraGIdeal.sig) → Buf (Elt Ideal) ℓ) : Prop :=
  True

def Pre_AdamLoraGRefIdeal (m : (ℓ : Loc Cert.AdamLoraGRefIdeal.nD Cert.AdamLoraGRefIdeal.τ Cert.AdamLoraGRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DNorm [hDNorm : Cert.DNorm.Facts] : Prop :=
  ∀ (m : (ℓ : Loc Cert.DNorm.nD Cert.DNorm.τ Cert.DNorm.sig) → Buf (Elt Bits) ℓ) (g : Dev Cert.DNorm.nD → PrngReg), Pre_DNorm m →
    θ_run (Cert.DNorm.defs (F := Bits)) (onTc (τ := Cert.DNorm.τ) (Cert.DNorm.main (F := Bits))) ⟨m, fun _ => 0, g⟩ (fun r => (∀ c : Dev Cert.DNorm.nD,
      r.2.mem ((c.tc : Thread Cert.DNorm.nD Cert.DNorm.τ).loc Cert.DNorm.main_arg0) = m ((c.tc : Thread Cert.DNorm.nD Cert.DNorm.τ).loc Cert.DNorm.main_arg0)
      ∧ r.2.mem ((c.tc : Thread Cert.DNorm.nD Cert.DNorm.τ).loc Cert.DNorm.main_arg1) = m ((c.tc : Thread Cert.DNorm.nD Cert.DNorm.τ).loc Cert.DNorm.main_arg1))
      ∧ r.2.sem = fun _ => 0)

def quiescent_DNormIdeal [hDNormIdeal : Cert.DNormIdeal.Facts] : Prop :=
  ∀ (m : (ℓ : Loc Cert.DNormIdeal.nD Cert.DNormIdeal.τ Cert.DNormIdeal.sig) → Buf (Elt Ideal) ℓ) (g : Dev Cert.DNormIdeal.nD → PrngReg), Pre_DNormIdeal m →
    θ_run (Cert.DNormIdeal.defs (F := Ideal)) (onTc (τ := Cert.DNormIdeal.τ) (Cert.DNormIdeal.main (F := Ideal))) ⟨m, fun _ => 0, g⟩ (fun r => (∀ c : Dev Cert.DNormIdeal.nD,
      r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
      ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1))
      ∧ r.2.sem = fun _ => 0)

def quiescent_DNormRefIdeal [hDNormRefIdeal : Cert.DNormRefIdeal.Facts] : Prop :=
  ∀ (m : (ℓ : Loc Cert.DNormRefIdeal.nD Cert.DNormRefIdeal.τ Cert.DNormRefIdeal.sig) → Buf (Elt Ideal) ℓ) (g : Dev Cert.DNormRefIdeal.nD → PrngReg), Pre_DNormRefIdeal m →
    θ_run (Cert.DNormRefIdeal.defs (F := Ideal)) (onTc (τ := Cert.DNormRefIdeal.τ) (Cert.DNormRefIdeal.main (F := Ideal))) ⟨m, fun _ => 0, g⟩ (fun r => (∀ c : Dev Cert.DNormRefIdeal.nD,
      r.2.mem ((c.tc : Thread Cert.DNormRefIdeal.nD Cert.DNormRefIdeal.τ).loc Cert.DNormRefIdeal.main_arg0) = m ((c.tc : Thread Cert.DNormRefIdeal.nD Cert.DNormRefIdeal.τ).loc Cert.DNormRefIdeal.main_arg0)
      ∧ r.2.mem ((c.tc : Thread Cert.DNormRefIdeal.nD Cert.DNormRefIdeal.τ).loc Cert.DNormRefIdeal.main_arg1) = m ((c.tc : Thread Cert.DNormRefIdeal.nD Cert.DNormRefIdeal.τ).loc Cert.DNormRefIdeal.main_arg1))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1))
      ∧ r.2.sem = fun _ => 0)

def quiescent_GFfn [hGFfn : Cert.GFfn.Facts] : Prop :=
  ∀ (m : (ℓ : Loc Cert.GFfn.nD Cert.GFfn.τ Cert.GFfn.sig) → Buf (Elt Bits) ℓ) (g : Dev Cert.GFfn.nD → PrngReg), Pre_GFfn m →
    θ_run (Cert.GFfn.defs (F := Bits)) (onTc (τ := Cert.GFfn.τ) (Cert.GFfn.main (F := Bits))) ⟨m, fun _ => 0, g⟩ (fun r => (∀ c : Dev Cert.GFfn.nD,
      r.2.mem ((c.tc : Thread Cert.GFfn.nD Cert.GFfn.τ).loc Cert.GFfn.main_arg0) = m ((c.tc : Thread Cert.GFfn.nD Cert.GFfn.τ).loc Cert.GFfn.main_arg0)
      ∧ r.2.mem ((c.tc : Thread Cert.GFfn.nD Cert.GFfn.τ).loc Cert.GFfn.main_arg1) = m ((c.tc : Thread Cert.GFfn.nD Cert.GFfn.τ).loc Cert.GFfn.main_arg1))
      ∧ r.2.sem = fun _ => 0)

def quiescent_GFfnIdeal [hGFfnIdeal : Cert.GFfnIdeal.Facts] : Prop :=
  ∀ (m : (ℓ : Loc Cert.GFfnIdeal.nD Cert.GFfnIdeal.τ Cert.GFfnIdeal.sig) → Buf (Elt Ideal) ℓ) (g : Dev Cert.GFfnIdeal.nD → PrngReg), Pre_GFfnIdeal m →
    θ_run (Cert.GFfnIdeal.defs (F := Ideal)) (onTc (τ := Cert.GFfnIdeal.τ) (Cert.GFfnIdeal.main (F := Ideal))) ⟨m, fun _ => 0, g⟩ (fun r => (∀ c : Dev Cert.GFfnIdeal.nD,
      r.2.mem ((c.tc : Thread Cert.GFfnIdeal.nD Cert.GFfnIdeal.τ).loc Cert.GFfnIdeal.main_arg0) = m ((c.tc : Thread Cert.GFfnIdeal.nD Cert.GFfnIdeal.τ).loc Cert.GFfnIdeal.main_arg0)
      ∧ r.2.mem ((c.tc : Thread Cert.GFfnIdeal.nD Cert.GFfnIdeal.τ).loc Cert.GFfnIdeal.main_arg1) = m ((c.tc : Thread Cert.GFfnIdeal.nD Cert.GFfnIdeal.τ).loc Cert.GFfnIdeal.main_arg1))
      ∧ r.2.sem = fun _ => 0)

def quiescent_GFfnRefIdeal [hGFfnRefIdeal : Cert.GFfnRefIdeal.Facts] : Prop :=
  ∀ (m : (ℓ : Loc Cert.GFfnRefIdeal.nD Cert.GFfnRefIdeal.τ Cert.GFfnRefIdeal.sig) → Buf (Elt Ideal) ℓ) (g : Dev Cert.GFfnRefIdeal.nD → PrngReg), Pre_GFfnRefIdeal m →
    θ_run (Cert.GFfnRefIdeal.defs (F := Ideal)) (onTc (τ := Cert.GFfnRefIdeal.τ) (Cert.GFfnRefIdeal.main (F := Ideal))) ⟨m, fun _ => 0, g⟩ (fun r => (∀ c : Dev Cert.GFfnRefIdeal.nD,
      r.2.mem ((c.tc : Thread Cert.GFfnRefIdeal.nD Cert.GFfnRefIdeal.τ).loc Cert.GFfnRefIdeal.main_arg0) = m ((c.tc : Thread Cert.GFfnRefIdeal.nD Cert.GFfnRefIdeal.τ).loc Cert.GFfnRefIdeal.main_arg0)
      ∧ r.2.mem ((c.tc : Thread Cert.GFfnRefIdeal.nD Cert.GFfnRefIdeal.τ).loc Cert.GFfnRefIdeal.main_arg1) = m ((c.tc : Thread Cert.GFfnRefIdeal.nD Cert.GFfnRefIdeal.τ).loc Cert.GFfnRefIdeal.main_arg1))
      ∧ r.2.sem = fun _ => 0)

def quiescent_GBranch [hGBranch : Cert.GBranch.Facts] : Prop :=
  ∀ (m : (ℓ : Loc Cert.GBranch.nD Cert.GBranch.τ Cert.GBranch.sig) → Buf (Elt Bits) ℓ) (g : Dev Cert.GBranch.nD → PrngReg), Pre_GBranch m →
    θ_run (Cert.GBranch.defs (F := Bits)) (onTc (τ := Cert.GBranch.τ) (Cert.GBranch.main (F := Bits))) ⟨m, fun _ => 0, g⟩ (fun r => (∀ c : Dev Cert.GBranch.nD,
      r.2.mem ((c.tc : Thread Cert.GBranch.nD Cert.GBranch.τ).loc Cert.GBranch.main_arg0) = m ((c.tc : Thread Cert.GBranch.nD Cert.GBranch.τ).loc Cert.GBranch.main_arg0)
      ∧ r.2.mem ((c.tc : Thread Cert.GBranch.nD Cert.GBranch.τ).loc Cert.GBranch.main_arg1) = m ((c.tc : Thread Cert.GBranch.nD Cert.GBranch.τ).loc Cert.GBranch.main_arg1))
      ∧ r.2.sem = fun _ => 0)

def quiescent_GBranchIdeal [hGBranchIdeal : Cert.GBranchIdeal.Facts] : Prop :=
  ∀ (m : (ℓ : Loc Cert.GBranchIdeal.nD Cert.GBranchIdeal.τ Cert.GBranchIdeal.sig) → Buf (Elt Ideal) ℓ) (g : Dev Cert.GBranchIdeal.nD → PrngReg), Pre_GBranchIdeal m →
    θ_run (Cert.GBranchIdeal.defs (F := Ideal)) (onTc (τ := Cert.GBranchIdeal.τ) (Cert.GBranchIdeal.main (F := Ideal))) ⟨m, fun _ => 0, g⟩ (fun r => (∀ c : Dev Cert.GBranchIdeal.nD,
      r.2.mem ((c.tc : Thread Cert.GBranchIdeal.nD Cert.GBranchIdeal.τ).loc Cert.GBranchIdeal.main_arg0) = m ((c.tc : Thread Cert.GBranchIdeal.nD Cert.GBranchIdeal.τ).loc Cert.GBranchIdeal.main_arg0)
      ∧ r.2.mem ((c.tc : Thread Cert.GBranchIdeal.nD Cert.GBranchIdeal.τ).loc Cert.GBranchIdeal.main_arg1) = m ((c.tc : Thread Cert.GBranchIdeal.nD Cert.GBranchIdeal.τ).loc Cert.GBranchIdeal.main_arg1))
      ∧ r.2.sem = fun _ => 0)

def quiescent_GBranchRefIdeal [hGBranchRefIdeal : Cert.GBranchRefIdeal.Facts] : Prop :=
  ∀ (m : (ℓ : Loc Cert.GBranchRefIdeal.nD Cert.GBranchRefIdeal.τ Cert.GBranchRefIdeal.sig) → Buf (Elt Ideal) ℓ) (g : Dev Cert.GBranchRefIdeal.nD → PrngReg), Pre_GBranchRefIdeal m →
    θ_run (Cert.GBranchRefIdeal.defs (F := Ideal)) (onTc (τ := Cert.GBranchRefIdeal.τ) (Cert.GBranchRefIdeal.main (F := Ideal))) ⟨m, fun _ => 0, g⟩ (fun r => (∀ c : Dev Cert.GBranchRefIdeal.nD,
      r.2.mem ((c.tc : Thread Cert.GBranchRefIdeal.nD Cert.GBranchRefIdeal.τ).loc Cert.GBranchRefIdeal.main_arg0) = m ((c.tc : Thread Cert.GBranchRefIdeal.nD Cert.GBranchRefIdeal.τ).loc Cert.GBranchRefIdeal.main_arg0)
      ∧ r.2.mem ((c.tc : Thread Cert.GBranchRefIdeal.nD Cert.GBranchRefIdeal.τ).loc Cert.GBranchRefIdeal.main_arg1) = m ((c.tc : Thread Cert.GBranchRefIdeal.nD Cert.GBranchRefIdeal.τ).loc Cert.GBranchRefIdeal.main_arg1))
      ∧ r.2.sem = fun _ => 0)

def quiescent_GQkv [hGQkv : Cert.GQkv.Facts] : Prop :=
  ∀ (m : (ℓ : Loc Cert.GQkv.nD Cert.GQkv.τ Cert.GQkv.sig) → Buf (Elt Bits) ℓ) (g : Dev Cert.GQkv.nD → PrngReg), Pre_GQkv m →
    θ_run (Cert.GQkv.defs (F := Bits)) (onTc (τ := Cert.GQkv.τ) (Cert.GQkv.main (F := Bits))) ⟨m, fun _ => 0, g⟩ (fun r => (∀ c : Dev Cert.GQkv.nD,
      r.2.mem ((c.tc : Thread Cert.GQkv.nD Cert.GQkv.τ).loc Cert.GQkv.main_arg0) = m ((c.tc : Thread Cert.GQkv.nD Cert.GQkv.τ).loc Cert.GQkv.main_arg0)
      ∧ r.2.mem ((c.tc : Thread Cert.GQkv.nD Cert.GQkv.τ).loc Cert.GQkv.main_arg1) = m ((c.tc : Thread Cert.GQkv.nD Cert.GQkv.τ).loc Cert.GQkv.main_arg1))
      ∧ r.2.sem = fun _ => 0)

def quiescent_GQkvIdeal [hGQkvIdeal : Cert.GQkvIdeal.Facts] : Prop :=
  ∀ (m : (ℓ : Loc Cert.GQkvIdeal.nD Cert.GQkvIdeal.τ Cert.GQkvIdeal.sig) → Buf (Elt Ideal) ℓ) (g : Dev Cert.GQkvIdeal.nD → PrngReg), Pre_GQkvIdeal m →
    θ_run (Cert.GQkvIdeal.defs (F := Ideal)) (onTc (τ := Cert.GQkvIdeal.τ) (Cert.GQkvIdeal.main (F := Ideal))) ⟨m, fun _ => 0, g⟩ (fun r => (∀ c : Dev Cert.GQkvIdeal.nD,
      r.2.mem ((c.tc : Thread Cert.GQkvIdeal.nD Cert.GQkvIdeal.τ).loc Cert.GQkvIdeal.main_arg0) = m ((c.tc : Thread Cert.GQkvIdeal.nD Cert.GQkvIdeal.τ).loc Cert.GQkvIdeal.main_arg0)
      ∧ r.2.mem ((c.tc : Thread Cert.GQkvIdeal.nD Cert.GQkvIdeal.τ).loc Cert.GQkvIdeal.main_arg1) = m ((c.tc : Thread Cert.GQkvIdeal.nD Cert.GQkvIdeal.τ).loc Cert.GQkvIdeal.main_arg1))
      ∧ r.2.sem = fun _ => 0)

def quiescent_GQkvRefIdeal [hGQkvRefIdeal : Cert.GQkvRefIdeal.Facts] : Prop :=
  ∀ (m : (ℓ : Loc Cert.GQkvRefIdeal.nD Cert.GQkvRefIdeal.τ Cert.GQkvRefIdeal.sig) → Buf (Elt Ideal) ℓ) (g : Dev Cert.GQkvRefIdeal.nD → PrngReg), Pre_GQkvRefIdeal m →
    θ_run (Cert.GQkvRefIdeal.defs (F := Ideal)) (onTc (τ := Cert.GQkvRefIdeal.τ) (Cert.GQkvRefIdeal.main (F := Ideal))) ⟨m, fun _ => 0, g⟩ (fun r => (∀ c : Dev Cert.GQkvRefIdeal.nD,
      r.2.mem ((c.tc : Thread Cert.GQkvRefIdeal.nD Cert.GQkvRefIdeal.τ).loc Cert.GQkvRefIdeal.main_arg0) = m ((c.tc : Thread Cert.GQkvRefIdeal.nD Cert.GQkvRefIdeal.τ).loc Cert.GQkvRefIdeal.main_arg0)
      ∧ r.2.mem ((c.tc : Thread Cert.GQkvRefIdeal.nD Cert.GQkvRefIdeal.τ).loc Cert.GQkvRefIdeal.main_arg1) = m ((c.tc : Thread Cert.GQkvRefIdeal.nD Cert.GQkvRefIdeal.τ).loc Cert.GQkvRefIdeal.main_arg1))
      ∧ r.2.sem = fun _ => 0)

def quiescent_GRwkv [hGRwkv : Cert.GRwkv.Facts] : Prop :=
  ∀ (m : (ℓ : Loc Cert.GRwkv.nD Cert.GRwkv.τ Cert.GRwkv.sig) → Buf (Elt Bits) ℓ) (g : Dev Cert.GRwkv.nD → PrngReg), Pre_GRwkv m →
    θ_run (Cert.GRwkv.defs (F := Bits)) (onTc (τ := Cert.GRwkv.τ) (Cert.GRwkv.main (F := Bits))) ⟨m, fun _ => 0, g⟩ (fun r => (∀ c : Dev Cert.GRwkv.nD,
      r.2.mem ((c.tc : Thread Cert.GRwkv.nD Cert.GRwkv.τ).loc Cert.GRwkv.main_arg0) = m ((c.tc : Thread Cert.GRwkv.nD Cert.GRwkv.τ).loc Cert.GRwkv.main_arg0)
      ∧ r.2.mem ((c.tc : Thread Cert.GRwkv.nD Cert.GRwkv.τ).loc Cert.GRwkv.main_arg1) = m ((c.tc : Thread Cert.GRwkv.nD Cert.GRwkv.τ).loc Cert.GRwkv.main_arg1))
      ∧ r.2.sem = fun _ => 0)

def quiescent_GRwkvIdeal [hGRwkvIdeal : Cert.GRwkvIdeal.Facts] : Prop :=
  ∀ (m : (ℓ : Loc Cert.GRwkvIdeal.nD Cert.GRwkvIdeal.τ Cert.GRwkvIdeal.sig) → Buf (Elt Ideal) ℓ) (g : Dev Cert.GRwkvIdeal.nD → PrngReg), Pre_GRwkvIdeal m →
    θ_run (Cert.GRwkvIdeal.defs (F := Ideal)) (onTc (τ := Cert.GRwkvIdeal.τ) (Cert.GRwkvIdeal.main (F := Ideal))) ⟨m, fun _ => 0, g⟩ (fun r => (∀ c : Dev Cert.GRwkvIdeal.nD,
      r.2.mem ((c.tc : Thread Cert.GRwkvIdeal.nD Cert.GRwkvIdeal.τ).loc Cert.GRwkvIdeal.main_arg0) = m ((c.tc : Thread Cert.GRwkvIdeal.nD Cert.GRwkvIdeal.τ).loc Cert.GRwkvIdeal.main_arg0)
      ∧ r.2.mem ((c.tc : Thread Cert.GRwkvIdeal.nD Cert.GRwkvIdeal.τ).loc Cert.GRwkvIdeal.main_arg1) = m ((c.tc : Thread Cert.GRwkvIdeal.nD Cert.GRwkvIdeal.τ).loc Cert.GRwkvIdeal.main_arg1))
      ∧ r.2.sem = fun _ => 0)

def quiescent_GRwkvRefIdeal [hGRwkvRefIdeal : Cert.GRwkvRefIdeal.Facts] : Prop :=
  ∀ (m : (ℓ : Loc Cert.GRwkvRefIdeal.nD Cert.GRwkvRefIdeal.τ Cert.GRwkvRefIdeal.sig) → Buf (Elt Ideal) ℓ) (g : Dev Cert.GRwkvRefIdeal.nD → PrngReg), Pre_GRwkvRefIdeal m →
    θ_run (Cert.GRwkvRefIdeal.defs (F := Ideal)) (onTc (τ := Cert.GRwkvRefIdeal.τ) (Cert.GRwkvRefIdeal.main (F := Ideal))) ⟨m, fun _ => 0, g⟩ (fun r => (∀ c : Dev Cert.GRwkvRefIdeal.nD,
      r.2.mem ((c.tc : Thread Cert.GRwkvRefIdeal.nD Cert.GRwkvRefIdeal.τ).loc Cert.GRwkvRefIdeal.main_arg0) = m ((c.tc : Thread Cert.GRwkvRefIdeal.nD Cert.GRwkvRefIdeal.τ).loc Cert.GRwkvRefIdeal.main_arg0)
      ∧ r.2.mem ((c.tc : Thread Cert.GRwkvRefIdeal.nD Cert.GRwkvRefIdeal.τ).loc Cert.GRwkvRefIdeal.main_arg1) = m ((c.tc : Thread Cert.GRwkvRefIdeal.nD Cert.GRwkvRefIdeal.τ).loc Cert.GRwkvRefIdeal.main_arg1))
      ∧ r.2.sem = fun _ => 0)

def quiescent_GGate [hGGate : Cert.GGate.Facts] : Prop :=
  ∀ (m : (ℓ : Loc Cert.GGate.nD Cert.GGate.τ Cert.GGate.sig) → Buf (Elt Bits) ℓ) (g : Dev Cert.GGate.nD → PrngReg), Pre_GGate m →
    θ_run (Cert.GGate.defs (F := Bits)) (onTc (τ := Cert.GGate.τ) (Cert.GGate.main (F := Bits))) ⟨m, fun _ => 0, g⟩ (fun r => (∀ c : Dev Cert.GGate.nD,
      r.2.mem ((c.tc : Thread Cert.GGate.nD Cert.GGate.τ).loc Cert.GGate.main_arg0) = m ((c.tc : Thread Cert.GGate.nD Cert.GGate.τ).loc Cert.GGate.main_arg0)
      ∧ r.2.mem ((c.tc : Thread Cert.GGate.nD Cert.GGate.τ).loc Cert.GGate.main_arg1) = m ((c.tc : Thread Cert.GGate.nD Cert.GGate.τ).loc Cert.GGate.main_arg1))
      ∧ r.2.sem = fun _ => 0)

def quiescent_GGateIdeal [hGGateIdeal : Cert.GGateIdeal.Facts] : Prop :=
  ∀ (m : (ℓ : Loc Cert.GGateIdeal.nD Cert.GGateIdeal.τ Cert.GGateIdeal.sig) → Buf (Elt Ideal) ℓ) (g : Dev Cert.GGateIdeal.nD → PrngReg), Pre_GGateIdeal m →
    θ_run (Cert.GGateIdeal.defs (F := Ideal)) (onTc (τ := Cert.GGateIdeal.τ) (Cert.GGateIdeal.main (F := Ideal))) ⟨m, fun _ => 0, g⟩ (fun r => (∀ c : Dev Cert.GGateIdeal.nD,
      r.2.mem ((c.tc : Thread Cert.GGateIdeal.nD Cert.GGateIdeal.τ).loc Cert.GGateIdeal.main_arg0) = m ((c.tc : Thread Cert.GGateIdeal.nD Cert.GGateIdeal.τ).loc Cert.GGateIdeal.main_arg0)
      ∧ r.2.mem ((c.tc : Thread Cert.GGateIdeal.nD Cert.GGateIdeal.τ).loc Cert.GGateIdeal.main_arg1) = m ((c.tc : Thread Cert.GGateIdeal.nD Cert.GGateIdeal.τ).loc Cert.GGateIdeal.main_arg1))
      ∧ r.2.sem = fun _ => 0)

def quiescent_GGateRefIdeal [hGGateRefIdeal : Cert.GGateRefIdeal.Facts] : Prop :=
  ∀ (m : (ℓ : Loc Cert.GGateRefIdeal.nD Cert.GGateRefIdeal.τ Cert.GGateRefIdeal.sig) → Buf (Elt Ideal) ℓ) (g : Dev Cert.GGateRefIdeal.nD → PrngReg), Pre_GGateRefIdeal m →
    θ_run (Cert.GGateRefIdeal.defs (F := Ideal)) (onTc (τ := Cert.GGateRefIdeal.τ) (Cert.GGateRefIdeal.main (F := Ideal))) ⟨m, fun _ => 0, g⟩ (fun r => (∀ c : Dev Cert.GGateRefIdeal.nD,
      r.2.mem ((c.tc : Thread Cert.GGateRefIdeal.nD Cert.GGateRefIdeal.τ).loc Cert.GGateRefIdeal.main_arg0) = m ((c.tc : Thread Cert.GGateRefIdeal.nD Cert.GGateRefIdeal.τ).loc Cert.GGateRefIdeal.main_arg0)
      ∧ r.2.mem ((c.tc : Thread Cert.GGateRefIdeal.nD Cert.GGateRefIdeal.τ).loc Cert.GGateRefIdeal.main_arg1) = m ((c.tc : Thread Cert.GGateRefIdeal.nD Cert.GGateRefIdeal.τ).loc Cert.GGateRefIdeal.main_arg1))
      ∧ r.2.sem = fun _ => 0)

def quiescent_DQkv [hDQkv : Cert.DQkv.Facts] : Prop :=
  ∀ (m : (ℓ : Loc Cert.DQkv.nD Cert.DQkv.τ Cert.DQkv.sig) → Buf (Elt Bits) ℓ) (g : Dev Cert.DQkv.nD → PrngReg), Pre_DQkv m →
    θ_run (Cert.DQkv.defs (F := Bits)) (onTc (τ := Cert.DQkv.τ) (Cert.DQkv.main (F := Bits))) ⟨m, fun _ => 0, g⟩ (fun r => (∀ c : Dev Cert.DQkv.nD,
      r.2.mem ((c.tc : Thread Cert.DQkv.nD Cert.DQkv.τ).loc Cert.DQkv.main_arg0) = m ((c.tc : Thread Cert.DQkv.nD Cert.DQkv.τ).loc Cert.DQkv.main_arg0)
      ∧ r.2.mem ((c.tc : Thread Cert.DQkv.nD Cert.DQkv.τ).loc Cert.DQkv.main_arg1) = m ((c.tc : Thread Cert.DQkv.nD Cert.DQkv.τ).loc Cert.DQkv.main_arg1))
      ∧ r.2.sem = fun _ => 0)

def quiescent_DQkvIdeal [hDQkvIdeal : Cert.DQkvIdeal.Facts] : Prop :=
  ∀ (m : (ℓ : Loc Cert.DQkvIdeal.nD Cert.DQkvIdeal.τ Cert.DQkvIdeal.sig) → Buf (Elt Ideal) ℓ) (g : Dev Cert.DQkvIdeal.nD → PrngReg), Pre_DQkvIdeal m →
    θ_run (Cert.DQkvIdeal.defs (F := Ideal)) (onTc (τ := Cert.DQkvIdeal.τ) (Cert.DQkvIdeal.main (F := Ideal))) ⟨m, fun _ => 0, g⟩ (fun r => (∀ c : Dev Cert.DQkvIdeal.nD,
      r.2.mem ((c.tc : Thread Cert.DQkvIdeal.nD Cert.DQkvIdeal.τ).loc Cert.DQkvIdeal.main_arg0) = m ((c.tc : Thread Cert.DQkvIdeal.nD Cert.DQkvIdeal.τ).loc Cert.DQkvIdeal.main_arg0)
      ∧ r.2.mem ((c.tc : Thread Cert.DQkvIdeal.nD Cert.DQkvIdeal.τ).loc Cert.DQkvIdeal.main_arg1) = m ((c.tc : Thread Cert.DQkvIdeal.nD Cert.DQkvIdeal.τ).loc Cert.DQkvIdeal.main_arg1))
      ∧ r.2.sem = fun _ => 0)

def quiescent_DQkvRefIdeal [hDQkvRefIdeal : Cert.DQkvRefIdeal.Facts] : Prop :=
  ∀ (m : (ℓ : Loc Cert.DQkvRefIdeal.nD Cert.DQkvRefIdeal.τ Cert.DQkvRefIdeal.sig) → Buf (Elt Ideal) ℓ) (g : Dev Cert.DQkvRefIdeal.nD → PrngReg), Pre_DQkvRefIdeal m →
    θ_run (Cert.DQkvRefIdeal.defs (F := Ideal)) (onTc (τ := Cert.DQkvRefIdeal.τ) (Cert.DQkvRefIdeal.main (F := Ideal))) ⟨m, fun _ => 0, g⟩ (fun r => (∀ c : Dev Cert.DQkvRefIdeal.nD,
      r.2.mem ((c.tc : Thread Cert.DQkvRefIdeal.nD Cert.DQkvRefIdeal.τ).loc Cert.DQkvRefIdeal.main_arg0) = m ((c.tc : Thread Cert.DQkvRefIdeal.nD Cert.DQkvRefIdeal.τ).loc Cert.DQkvRefIdeal.main_arg0)
      ∧ r.2.mem ((c.tc : Thread Cert.DQkvRefIdeal.nD Cert.DQkvRefIdeal.τ).loc Cert.DQkvRefIdeal.main_arg1) = m ((c.tc : Thread Cert.DQkvRefIdeal.nD Cert.DQkvRefIdeal.τ).loc Cert.DQkvRefIdeal.main_arg1))
      ∧ r.2.sem = fun _ => 0)

def quiescent_DRwkv [hDRwkv : Cert.DRwkv.Facts] : Prop :=
  ∀ (m : (ℓ : Loc Cert.DRwkv.nD Cert.DRwkv.τ Cert.DRwkv.sig) → Buf (Elt Bits) ℓ) (g : Dev Cert.DRwkv.nD → PrngReg), Pre_DRwkv m →
    θ_run (Cert.DRwkv.defs (F := Bits)) (onTc (τ := Cert.DRwkv.τ) (Cert.DRwkv.main (F := Bits))) ⟨m, fun _ => 0, g⟩ (fun r => (∀ c : Dev Cert.DRwkv.nD,
      r.2.mem ((c.tc : Thread Cert.DRwkv.nD Cert.DRwkv.τ).loc Cert.DRwkv.main_arg0) = m ((c.tc : Thread Cert.DRwkv.nD Cert.DRwkv.τ).loc Cert.DRwkv.main_arg0)
      ∧ r.2.mem ((c.tc : Thread Cert.DRwkv.nD Cert.DRwkv.τ).loc Cert.DRwkv.main_arg1) = m ((c.tc : Thread Cert.DRwkv.nD Cert.DRwkv.τ).loc Cert.DRwkv.main_arg1))
      ∧ r.2.sem = fun _ => 0)

def quiescent_DRwkvIdeal [hDRwkvIdeal : Cert.DRwkvIdeal.Facts] : Prop :=
  ∀ (m : (ℓ : Loc Cert.DRwkvIdeal.nD Cert.DRwkvIdeal.τ Cert.DRwkvIdeal.sig) → Buf (Elt Ideal) ℓ) (g : Dev Cert.DRwkvIdeal.nD → PrngReg), Pre_DRwkvIdeal m →
    θ_run (Cert.DRwkvIdeal.defs (F := Ideal)) (onTc (τ := Cert.DRwkvIdeal.τ) (Cert.DRwkvIdeal.main (F := Ideal))) ⟨m, fun _ => 0, g⟩ (fun r => (∀ c : Dev Cert.DRwkvIdeal.nD,
      r.2.mem ((c.tc : Thread Cert.DRwkvIdeal.nD Cert.DRwkvIdeal.τ).loc Cert.DRwkvIdeal.main_arg0) = m ((c.tc : Thread Cert.DRwkvIdeal.nD Cert.DRwkvIdeal.τ).loc Cert.DRwkvIdeal.main_arg0)
      ∧ r.2.mem ((c.tc : Thread Cert.DRwkvIdeal.nD Cert.DRwkvIdeal.τ).loc Cert.DRwkvIdeal.main_arg1) = m ((c.tc : Thread Cert.DRwkvIdeal.nD Cert.DRwkvIdeal.τ).loc Cert.DRwkvIdeal.main_arg1))
      ∧ r.2.sem = fun _ => 0)

def quiescent_DRwkvRefIdeal [hDRwkvRefIdeal : Cert.DRwkvRefIdeal.Facts] : Prop :=
  ∀ (m : (ℓ : Loc Cert.DRwkvRefIdeal.nD Cert.DRwkvRefIdeal.τ Cert.DRwkvRefIdeal.sig) → Buf (Elt Ideal) ℓ) (g : Dev Cert.DRwkvRefIdeal.nD → PrngReg), Pre_DRwkvRefIdeal m →
    θ_run (Cert.DRwkvRefIdeal.defs (F := Ideal)) (onTc (τ := Cert.DRwkvRefIdeal.τ) (Cert.DRwkvRefIdeal.main (F := Ideal))) ⟨m, fun _ => 0, g⟩ (fun r => (∀ c : Dev Cert.DRwkvRefIdeal.nD,
      r.2.mem ((c.tc : Thread Cert.DRwkvRefIdeal.nD Cert.DRwkvRefIdeal.τ).loc Cert.DRwkvRefIdeal.main_arg0) = m ((c.tc : Thread Cert.DRwkvRefIdeal.nD Cert.DRwkvRefIdeal.τ).loc Cert.DRwkvRefIdeal.main_arg0)
      ∧ r.2.mem ((c.tc : Thread Cert.DRwkvRefIdeal.nD Cert.DRwkvRefIdeal.τ).loc Cert.DRwkvRefIdeal.main_arg1) = m ((c.tc : Thread Cert.DRwkvRefIdeal.nD Cert.DRwkvRefIdeal.τ).loc Cert.DRwkvRefIdeal.main_arg1))
      ∧ r.2.sem = fun _ => 0)

def quiescent_DGate [hDGate : Cert.DGate.Facts] : Prop :=
  ∀ (m : (ℓ : Loc Cert.DGate.nD Cert.DGate.τ Cert.DGate.sig) → Buf (Elt Bits) ℓ) (g : Dev Cert.DGate.nD → PrngReg), Pre_DGate m →
    θ_run (Cert.DGate.defs (F := Bits)) (onTc (τ := Cert.DGate.τ) (Cert.DGate.main (F := Bits))) ⟨m, fun _ => 0, g⟩ (fun r => (∀ c : Dev Cert.DGate.nD,
      r.2.mem ((c.tc : Thread Cert.DGate.nD Cert.DGate.τ).loc Cert.DGate.main_arg0) = m ((c.tc : Thread Cert.DGate.nD Cert.DGate.τ).loc Cert.DGate.main_arg0)
      ∧ r.2.mem ((c.tc : Thread Cert.DGate.nD Cert.DGate.τ).loc Cert.DGate.main_arg1) = m ((c.tc : Thread Cert.DGate.nD Cert.DGate.τ).loc Cert.DGate.main_arg1))
      ∧ r.2.sem = fun _ => 0)

def quiescent_DGateIdeal [hDGateIdeal : Cert.DGateIdeal.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1))
      ∧ r.2.sem = fun _ => 0)

def quiescent_DGateRefIdeal [hDGateRefIdeal : Cert.DGateRefIdeal.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2))
      ∧ r.2.sem = fun _ => 0)

def quiescent_SwigluF [hSwigluF : Cert.SwigluF.Facts] : Prop :=
  ∀ (m : (ℓ : Loc Cert.SwigluF.nD Cert.SwigluF.τ Cert.SwigluF.sig) → Buf (Elt Bits) ℓ) (g : Dev Cert.SwigluF.nD → PrngReg), Pre_SwigluF m →
    θ_run (Cert.SwigluF.defs (F := Bits)) (onTc (τ := Cert.SwigluF.τ) (Cert.SwigluF.main (F := Bits))) ⟨m, fun _ => 0, g⟩ (fun r => (∀ c : Dev Cert.SwigluF.nD,
      r.2.mem ((c.tc : Thread Cert.SwigluF.nD Cert.SwigluF.τ).loc Cert.SwigluF.main_arg0) = m ((c.tc : Thread Cert.SwigluF.nD Cert.SwigluF.τ).loc Cert.SwigluF.main_arg0)
      ∧ r.2.mem ((c.tc : Thread Cert.SwigluF.nD Cert.SwigluF.τ).loc Cert.SwigluF.main_arg1) = m ((c.tc : Thread Cert.SwigluF.nD Cert.SwigluF.τ).loc Cert.SwigluF.main_arg1))
      ∧ r.2.sem = fun _ => 0)

def quiescent_SwigluFIdeal [hSwigluFIdeal : Cert.SwigluFIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg), Pre_SwigluFIdeal m →
    θ_run (Cert.SwigluFIdeal.defs (F := Ideal)) (onTc (τ := Cert.SwigluFIdeal.τ) (Cert.SwigluFIdeal.main (F := Ideal))) ⟨m, fun _ => 0, g⟩ (fun r => (∀ c : Dev Cert.SwigluFIdeal.nD,
      r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0)
      ∧ r.2.mem ((c.tc : Thread Cert.SwigluFIdeal.nD Cert.SwigluFIdeal.τ).loc Cert.SwigluFIdeal.main_arg1) = m ((c.tc : Thread Cert.SwigluFIdeal.nD Cert.SwigluFIdeal.τ).loc Cert.SwigluFIdeal.main_arg1))
      ∧ r.2.sem = fun _ => 0)

def quiescent_SwigluFRefIdeal [hSwigluFRefIdeal : Cert.SwigluFRefIdeal.Facts] : Prop :=
  ∀ (m : (ℓ : Loc Cert.SwigluFRefIdeal.nD Cert.SwigluFRefIdeal.τ Cert.SwigluFRefIdeal.sig) → Buf (Elt Ideal) ℓ) (g : Dev Cert.SwigluFRefIdeal.nD → PrngReg), Pre_SwigluFRefIdeal m →
    θ_run (Cert.SwigluFRefIdeal.defs (F := Ideal)) (onTc (τ := Cert.SwigluFRefIdeal.τ) (Cert.SwigluFRefIdeal.main (F := Ideal))) ⟨m, fun _ => 0, g⟩ (fun r => (∀ c : Dev Cert.SwigluFRefIdeal.nD,
      r.2.mem ((c.tc : Thread Cert.SwigluFRefIdeal.nD Cert.SwigluFRefIdeal.τ).loc Cert.SwigluFRefIdeal.main_arg0) = m ((c.tc : Thread Cert.SwigluFRefIdeal.nD Cert.SwigluFRefIdeal.τ).loc Cert.SwigluFRefIdeal.main_arg0)
      ∧ r.2.mem ((c.tc : Thread Cert.SwigluFRefIdeal.nD Cert.SwigluFRefIdeal.τ).loc Cert.SwigluFRefIdeal.main_arg1) = m ((c.tc : Thread Cert.SwigluFRefIdeal.nD Cert.SwigluFRefIdeal.τ).loc Cert.SwigluFRefIdeal.main_arg1))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_ResidF [hResidF : Cert.ResidF.Facts] : Prop :=
  ∀ (m : (ℓ : Loc Cert.ResidF.nD Cert.ResidF.τ Cert.ResidF.sig) → Buf (Elt Bits) ℓ) (g : Dev Cert.ResidF.nD → PrngReg), Pre_ResidF m →
    θ_run (Cert.ResidF.defs (F := Bits)) (onTc (τ := Cert.ResidF.τ) (Cert.ResidF.main (F := Bits))) ⟨m, fun _ => 0, g⟩ (fun r => (∀ c : Dev Cert.ResidF.nD,
      r.2.mem ((c.tc : Thread Cert.ResidF.nD Cert.ResidF.τ).loc Cert.ResidF.main_arg0) = m ((c.tc : Thread Cert.ResidF.nD Cert.ResidF.τ).loc Cert.ResidF.main_arg0)
      ∧ r.2.mem ((c.tc : Thread Cert.ResidF.nD Cert.ResidF.τ).loc Cert.ResidF.main_arg1) = m ((c.tc : Thread Cert.ResidF.nD Cert.ResidF.τ).loc Cert.ResidF.main_arg1)
      ∧ r.2.mem ((c.tc : Thread Cert.ResidF.nD Cert.ResidF.τ).loc Cert.ResidF.main_arg2) = m ((c.tc : Thread Cert.ResidF.nD Cert.ResidF.τ).loc Cert.ResidF.main_arg2)
      ∧ r.2.mem ((c.tc : Thread Cert.ResidF.nD Cert.ResidF.τ).loc Cert.ResidF.main_arg3) = m ((c.tc : Thread Cert.ResidF.nD Cert.ResidF.τ).loc Cert.ResidF.main_arg3))
      ∧ r.2.sem = fun _ => 0)

def quiescent_ResidFIdeal [hResidFIdeal : Cert.ResidFIdeal.Facts] : Prop :=
  ∀ (m : (ℓ : Loc Cert.ResidFIdeal.nD Cert.ResidFIdeal.τ Cert.ResidFIdeal.sig) → Buf (Elt Ideal) ℓ) (g : Dev Cert.ResidFIdeal.nD → PrngReg), Pre_ResidFIdeal m →
    θ_run (Cert.ResidFIdeal.defs (F := Ideal)) (onTc (τ := Cert.ResidFIdeal.τ) (Cert.ResidFIdeal.main (F := Ideal))) ⟨m, fun _ => 0, g⟩ (fun r => (∀ c : Dev Cert.ResidFIdeal.nD,
      r.2.mem ((c.tc : Thread Cert.ResidFIdeal.nD Cert.ResidFIdeal.τ).loc Cert.ResidFIdeal.main_arg0) = m ((c.tc : Thread Cert.ResidFIdeal.nD Cert.ResidFIdeal.τ).loc Cert.ResidFIdeal.main_arg0)
      ∧ r.2.mem ((c.tc : Thread Cert.ResidFIdeal.nD Cert.ResidFIdeal.τ).loc Cert.ResidFIdeal.main_arg1) = m ((c.tc : Thread Cert.ResidFIdeal.nD Cert.ResidFIdeal.τ).loc Cert.ResidFIdeal.main_arg1)
      ∧ r.2.mem ((c.tc : Thread Cert.ResidFIdeal.nD Cert.ResidFIdeal.τ).loc Cert.ResidFIdeal.main_arg2) = m ((c.tc : Thread Cert.ResidFIdeal.nD Cert.ResidFIdeal.τ).loc Cert.ResidFIdeal.main_arg2)
      ∧ r.2.mem ((c.tc : Thread Cert.ResidFIdeal.nD Cert.ResidFIdeal.τ).loc Cert.ResidFIdeal.main_arg3) = m ((c.tc : Thread Cert.ResidFIdeal.nD Cert.ResidFIdeal.τ).loc Cert.ResidFIdeal.main_arg3))
      ∧ r.2.sem = fun _ => 0)

def quiescent_ResidFRefIdeal [hResidFRefIdeal : Cert.ResidFRefIdeal.Facts] : Prop :=
  ∀ (m : (ℓ : Loc Cert.ResidFRefIdeal.nD Cert.ResidFRefIdeal.τ Cert.ResidFRefIdeal.sig) → Buf (Elt Ideal) ℓ) (g : Dev Cert.ResidFRefIdeal.nD → PrngReg), Pre_ResidFRefIdeal m →
    θ_run (Cert.ResidFRefIdeal.defs (F := Ideal)) (onTc (τ := Cert.ResidFRefIdeal.τ) (Cert.ResidFRefIdeal.main (F := Ideal))) ⟨m, fun _ => 0, g⟩ (fun r => (∀ c : Dev Cert.ResidFRefIdeal.nD,
      r.2.mem ((c.tc : Thread Cert.ResidFRefIdeal.nD Cert.ResidFRefIdeal.τ).loc Cert.ResidFRefIdeal.main_arg0) = m ((c.tc : Thread Cert.ResidFRefIdeal.nD Cert.ResidFRefIdeal.τ).loc Cert.ResidFRefIdeal.main_arg0)
      ∧ r.2.mem ((c.tc : Thread Cert.ResidFRefIdeal.nD Cert.ResidFRefIdeal.τ).loc Cert.ResidFRefIdeal.main_arg1) = m ((c.tc : Thread Cert.ResidFRefIdeal.nD Cert.ResidFRefIdeal.τ).loc Cert.ResidFRefIdeal.main_arg1)
      ∧ r.2.mem ((c.tc : Thread Cert.ResidFRefIdeal.nD Cert.ResidFRefIdeal.τ).loc Cert.ResidFRefIdeal.main_arg2) = m ((c.tc : Thread Cert.ResidFRefIdeal.nD Cert.ResidFRefIdeal.τ).loc Cert.ResidFRefIdeal.main_arg2)
      ∧ r.2.mem ((c.tc : Thread Cert.ResidFRefIdeal.nD Cert.ResidFRefIdeal.τ).loc Cert.ResidFRefIdeal.main_arg3) = m ((c.tc : Thread Cert.ResidFRefIdeal.nD Cert.ResidFRefIdeal.τ).loc Cert.ResidFRefIdeal.main_arg3))
      ∧ r.2.sem = fun _ => 0)

def quiescent_RmsB [hRmsB : Cert.RmsB.Facts] : Prop :=
  ∀ (m : (ℓ : Loc Cert.RmsB.nD Cert.RmsB.τ Cert.RmsB.sig) → Buf (Elt Bits) ℓ) (g : Dev Cert.RmsB.nD → PrngReg), Pre_RmsB m →
    θ_run (Cert.RmsB.defs (F := Bits)) (onTc (τ := Cert.RmsB.τ) (Cert.RmsB.main (F := Bits))) ⟨m, fun _ => 0, g⟩ (fun r => (∀ c : Dev Cert.RmsB.nD,
      r.2.mem ((c.tc : Thread Cert.RmsB.nD Cert.RmsB.τ).loc Cert.RmsB.main_arg0) = m ((c.tc : Thread Cert.RmsB.nD Cert.RmsB.τ).loc Cert.RmsB.main_arg0)
      ∧ r.2.mem ((c.tc : Thread Cert.RmsB.nD Cert.RmsB.τ).loc Cert.RmsB.main_arg1) = m ((c.tc : Thread Cert.RmsB.nD Cert.RmsB.τ).loc Cert.RmsB.main_arg1)
      ∧ r.2.mem ((c.tc : Thread Cert.RmsB.nD Cert.RmsB.τ).loc Cert.RmsB.main_arg2) = m ((c.tc : Thread Cert.RmsB.nD Cert.RmsB.τ).loc Cert.RmsB.main_arg2)
      ∧ r.2.mem ((c.tc : Thread Cert.RmsB.nD Cert.RmsB.τ).loc Cert.RmsB.main_arg3) = m ((c.tc : Thread Cert.RmsB.nD Cert.RmsB.τ).loc Cert.RmsB.main_arg3)
      ∧ r.2.mem ((c.tc : Thread Cert.RmsB.nD Cert.RmsB.τ).loc Cert.RmsB.main_arg4) = m ((c.tc : Thread Cert.RmsB.nD Cert.RmsB.τ).loc Cert.RmsB.main_arg4)
      ∧ r.2.mem ((c.tc : Thread Cert.RmsB.nD Cert.RmsB.τ).loc Cert.RmsB.main_arg5) = m ((c.tc : Thread Cert.RmsB.nD Cert.RmsB.τ).loc Cert.RmsB.main_arg5))
      ∧ r.2.sem = fun _ => 0)

def quiescent_RmsBIdeal [hRmsBIdeal : Cert.RmsBIdeal.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3)
      ∧ r.2.mem ((c.tc : Thread Cert.RmsBIdeal.nD Cert.RmsBIdeal.τ).loc Cert.RmsBIdeal.main_arg4) = m ((c.tc : Thread Cert.RmsBIdeal.nD Cert.RmsBIdeal.τ).loc Cert.RmsBIdeal.main_arg4)
      ∧ r.2.mem ((c.tc : Thread Cert.RmsBIdeal.nD Cert.RmsBIdeal.τ).loc Cert.RmsBIdeal.main_arg5) = m ((c.tc : Thread Cert.RmsBIdeal.nD Cert.RmsBIdeal.τ).loc Cert.RmsBIdeal.main_arg5))
      ∧ r.2.sem = fun _ => 0)

def quiescent_RmsBRefIdeal [hRmsBRefIdeal : Cert.RmsBRefIdeal.Facts] : Prop :=
  ∀ (m : (ℓ : Loc Cert.RmsBRefIdeal.nD Cert.RmsBRefIdeal.τ Cert.RmsBRefIdeal.sig) → Buf (Elt Ideal) ℓ) (g : Dev Cert.RmsBRefIdeal.nD → PrngReg), Pre_RmsBRefIdeal m →
    θ_run (Cert.RmsBRefIdeal.defs (F := Ideal)) (onTc (τ := Cert.RmsBRefIdeal.τ) (Cert.RmsBRefIdeal.main (F := Ideal))) ⟨m, fun _ => 0, g⟩ (fun r => (∀ c : Dev Cert.RmsBRefIdeal.nD,
      r.2.mem ((c.tc : Thread Cert.RmsBRefIdeal.nD Cert.RmsBRefIdeal.τ).loc Cert.RmsBRefIdeal.main_arg0) = m ((c.tc : Thread Cert.RmsBRefIdeal.nD Cert.RmsBRefIdeal.τ).loc Cert.RmsBRefIdeal.main_arg0)
      ∧ r.2.mem ((c.tc : Thread Cert.RmsBRefIdeal.nD Cert.RmsBRefIdeal.τ).loc Cert.RmsBRefIdeal.main_arg1) = m ((c.tc : Thread Cert.RmsBRefIdeal.nD Cert.RmsBRefIdeal.τ).loc Cert.RmsBRefIdeal.main_arg1)
      ∧ r.2.mem ((c.tc : Thread Cert.RmsBRefIdeal.nD Cert.RmsBRefIdeal.τ).loc Cert.RmsBRefIdeal.main_arg2) = m ((c.tc : Thread Cert.RmsBRefIdeal.nD Cert.RmsBRefIdeal.τ).loc Cert.RmsBRefIdeal.main_arg2)
      ∧ r.2.mem ((c.tc : Thread Cert.RmsBRefIdeal.nD Cert.RmsBRefIdeal.τ).loc Cert.RmsBRefIdeal.main_arg3) = m ((c.tc : Thread Cert.RmsBRefIdeal.nD Cert.RmsBRefIdeal.τ).loc Cert.RmsBRefIdeal.main_arg3)
      ∧ r.2.mem ((c.tc : Thread Cert.RmsBRefIdeal.nD Cert.RmsBRefIdeal.τ).loc Cert.RmsBRefIdeal.main_arg4) = m ((c.tc : Thread Cert.RmsBRefIdeal.nD Cert.RmsBRefIdeal.τ).loc Cert.RmsBRefIdeal.main_arg4)
      ∧ r.2.mem ((c.tc : Thread Cert.RmsBRefIdeal.nD Cert.RmsBRefIdeal.τ).loc Cert.RmsBRefIdeal.main_arg5) = m ((c.tc : Thread Cert.RmsBRefIdeal.nD Cert.RmsBRefIdeal.τ).loc Cert.RmsBRefIdeal.main_arg5))
      ∧ r.2.sem = fun _ => 0)

def quiescent_ResidB [hResidB : Cert.ResidB.Facts] : Prop :=
  ∀ (m : (ℓ : Loc Cert.ResidB.nD Cert.ResidB.τ Cert.ResidB.sig) → Buf (Elt Bits) ℓ) (g : Dev Cert.ResidB.nD → PrngReg), Pre_ResidB m →
    θ_run (Cert.ResidB.defs (F := Bits)) (onTc (τ := Cert.ResidB.τ) (Cert.ResidB.main (F := Bits))) ⟨m, fun _ => 0, g⟩ (fun r => (∀ c : Dev Cert.ResidB.nD,
      r.2.mem ((c.tc : Thread Cert.ResidB.nD Cert.ResidB.τ).loc Cert.ResidB.main_arg0) = m ((c.tc : Thread Cert.ResidB.nD Cert.ResidB.τ).loc Cert.ResidB.main_arg0)
      ∧ r.2.mem ((c.tc : Thread Cert.ResidB.nD Cert.ResidB.τ).loc Cert.ResidB.main_arg1) = m ((c.tc : Thread Cert.ResidB.nD Cert.ResidB.τ).loc Cert.ResidB.main_arg1)
      ∧ r.2.mem ((c.tc : Thread Cert.ResidB.nD Cert.ResidB.τ).loc Cert.ResidB.main_arg2) = m ((c.tc : Thread Cert.ResidB.nD Cert.ResidB.τ).loc Cert.ResidB.main_arg2)
      ∧ r.2.mem ((c.tc : Thread Cert.ResidB.nD Cert.ResidB.τ).loc Cert.ResidB.main_arg3) = m ((c.tc : Thread Cert.ResidB.nD Cert.ResidB.τ).loc Cert.ResidB.main_arg3)
      ∧ r.2.mem ((c.tc : Thread Cert.ResidB.nD Cert.ResidB.τ).loc Cert.ResidB.main_arg4) = m ((c.tc : Thread Cert.ResidB.nD Cert.ResidB.τ).loc Cert.ResidB.main_arg4)
      ∧ r.2.mem ((c.tc : Thread Cert.ResidB.nD Cert.ResidB.τ).loc Cert.ResidB.main_arg5) = m ((c.tc : Thread Cert.ResidB.nD Cert.ResidB.τ).loc Cert.ResidB.main_arg5)
      ∧ r.2.mem ((c.tc : Thread Cert.ResidB.nD Cert.ResidB.τ).loc Cert.ResidB.main_arg6) = m ((c.tc : Thread Cert.ResidB.nD Cert.ResidB.τ).loc Cert.ResidB.main_arg6))
      ∧ r.2.sem = fun _ => 0)

def quiescent_ResidBIdeal [hResidBIdeal : Cert.ResidBIdeal.Facts] : Prop :=
  ∀ (m : (ℓ : Loc Cert.ResidBIdeal.nD Cert.ResidBIdeal.τ Cert.ResidBIdeal.sig) → Buf (Elt Ideal) ℓ) (g : Dev Cert.ResidBIdeal.nD → PrngReg), Pre_ResidBIdeal m →
    θ_run (Cert.ResidBIdeal.defs (F := Ideal)) (onTc (τ := Cert.ResidBIdeal.τ) (Cert.ResidBIdeal.main (F := Ideal))) ⟨m, fun _ => 0, g⟩ (fun r => (∀ c : Dev Cert.ResidBIdeal.nD,
      r.2.mem ((c.tc : Thread Cert.ResidBIdeal.nD Cert.ResidBIdeal.τ).loc Cert.ResidBIdeal.main_arg0) = m ((c.tc : Thread Cert.ResidBIdeal.nD Cert.ResidBIdeal.τ).loc Cert.ResidBIdeal.main_arg0)
      ∧ r.2.mem ((c.tc : Thread Cert.ResidBIdeal.nD Cert.ResidBIdeal.τ).loc Cert.ResidBIdeal.main_arg1) = m ((c.tc : Thread Cert.ResidBIdeal.nD Cert.ResidBIdeal.τ).loc Cert.ResidBIdeal.main_arg1)
      ∧ r.2.mem ((c.tc : Thread Cert.ResidBIdeal.nD Cert.ResidBIdeal.τ).loc Cert.ResidBIdeal.main_arg2) = m ((c.tc : Thread Cert.ResidBIdeal.nD Cert.ResidBIdeal.τ).loc Cert.ResidBIdeal.main_arg2)
      ∧ r.2.mem ((c.tc : Thread Cert.ResidBIdeal.nD Cert.ResidBIdeal.τ).loc Cert.ResidBIdeal.main_arg3) = m ((c.tc : Thread Cert.ResidBIdeal.nD Cert.ResidBIdeal.τ).loc Cert.ResidBIdeal.main_arg3)
      ∧ r.2.mem ((c.tc : Thread Cert.ResidBIdeal.nD Cert.ResidBIdeal.τ).loc Cert.ResidBIdeal.main_arg4) = m ((c.tc : Thread Cert.ResidBIdeal.nD Cert.ResidBIdeal.τ).loc Cert.ResidBIdeal.main_arg4)
      ∧ r.2.mem ((c.tc : Thread Cert.ResidBIdeal.nD Cert.ResidBIdeal.τ).loc Cert.ResidBIdeal.main_arg5) = m ((c.tc : Thread Cert.ResidBIdeal.nD Cert.ResidBIdeal.τ).loc Cert.ResidBIdeal.main_arg5)
      ∧ r.2.mem ((c.tc : Thread Cert.ResidBIdeal.nD Cert.ResidBIdeal.τ).loc Cert.ResidBIdeal.main_arg6) = m ((c.tc : Thread Cert.ResidBIdeal.nD Cert.ResidBIdeal.τ).loc Cert.ResidBIdeal.main_arg6))
      ∧ r.2.sem = fun _ => 0)

def quiescent_ResidBRefIdeal [hResidBRefIdeal : Cert.ResidBRefIdeal.Facts] : Prop :=
  ∀ (m : (ℓ : Loc Cert.ResidBRefIdeal.nD Cert.ResidBRefIdeal.τ Cert.ResidBRefIdeal.sig) → Buf (Elt Ideal) ℓ) (g : Dev Cert.ResidBRefIdeal.nD → PrngReg), Pre_ResidBRefIdeal m →
    θ_run (Cert.ResidBRefIdeal.defs (F := Ideal)) (onTc (τ := Cert.ResidBRefIdeal.τ) (Cert.ResidBRefIdeal.main (F := Ideal))) ⟨m, fun _ => 0, g⟩ (fun r => (∀ c : Dev Cert.ResidBRefIdeal.nD,
      r.2.mem ((c.tc : Thread Cert.ResidBRefIdeal.nD Cert.ResidBRefIdeal.τ).loc Cert.ResidBRefIdeal.main_arg0) = m ((c.tc : Thread Cert.ResidBRefIdeal.nD Cert.ResidBRefIdeal.τ).loc Cert.ResidBRefIdeal.main_arg0)
      ∧ r.2.mem ((c.tc : Thread Cert.ResidBRefIdeal.nD Cert.ResidBRefIdeal.τ).loc Cert.ResidBRefIdeal.main_arg1) = m ((c.tc : Thread Cert.ResidBRefIdeal.nD Cert.ResidBRefIdeal.τ).loc Cert.ResidBRefIdeal.main_arg1)
      ∧ r.2.mem ((c.tc : Thread Cert.ResidBRefIdeal.nD Cert.ResidBRefIdeal.τ).loc Cert.ResidBRefIdeal.main_arg2) = m ((c.tc : Thread Cert.ResidBRefIdeal.nD Cert.ResidBRefIdeal.τ).loc Cert.ResidBRefIdeal.main_arg2)
      ∧ r.2.mem ((c.tc : Thread Cert.ResidBRefIdeal.nD Cert.ResidBRefIdeal.τ).loc Cert.ResidBRefIdeal.main_arg3) = m ((c.tc : Thread Cert.ResidBRefIdeal.nD Cert.ResidBRefIdeal.τ).loc Cert.ResidBRefIdeal.main_arg3)
      ∧ r.2.mem ((c.tc : Thread Cert.ResidBRefIdeal.nD Cert.ResidBRefIdeal.τ).loc Cert.ResidBRefIdeal.main_arg4) = m ((c.tc : Thread Cert.ResidBRefIdeal.nD Cert.ResidBRefIdeal.τ).loc Cert.ResidBRefIdeal.main_arg4)
      ∧ r.2.mem ((c.tc : Thread Cert.ResidBRefIdeal.nD Cert.ResidBRefIdeal.τ).loc Cert.ResidBRefIdeal.main_arg5) = m ((c.tc : Thread Cert.ResidBRefIdeal.nD Cert.ResidBRefIdeal.τ).loc Cert.ResidBRefIdeal.main_arg5)
      ∧ r.2.mem ((c.tc : Thread Cert.ResidBRefIdeal.nD Cert.ResidBRefIdeal.τ).loc Cert.ResidBRefIdeal.main_arg6) = m ((c.tc : Thread Cert.ResidBRefIdeal.nD Cert.ResidBRefIdeal.τ).loc Cert.ResidBRefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamLora [hAdamLora : Cert.AdamLora.Facts] : Prop :=
  ∀ (m : (ℓ : Loc Cert.AdamLora.nD Cert.AdamLora.τ Cert.AdamLora.sig) → Buf (Elt Bits) ℓ) (g : Dev Cert.AdamLora.nD → PrngReg), Pre_AdamLora m →
    θ_run (Cert.AdamLora.defs (F := Bits)) (onTc (τ := Cert.AdamLora.τ) (Cert.AdamLora.main (F := Bits))) ⟨m, fun _ => 0, g⟩ (fun r => (∀ c : Dev Cert.AdamLora.nD,
      r.2.mem ((c.tc : Thread Cert.AdamLora.nD Cert.AdamLora.τ).loc Cert.AdamLora.main_arg0) = m ((c.tc : Thread Cert.AdamLora.nD Cert.AdamLora.τ).loc Cert.AdamLora.main_arg0)
      ∧ r.2.mem ((c.tc : Thread Cert.AdamLora.nD Cert.AdamLora.τ).loc Cert.AdamLora.main_arg1) = m ((c.tc : Thread Cert.AdamLora.nD Cert.AdamLora.τ).loc Cert.AdamLora.main_arg1)
      ∧ r.2.mem ((c.tc : Thread Cert.AdamLora.nD Cert.AdamLora.τ).loc Cert.AdamLora.main_arg2) = m ((c.tc : Thread Cert.AdamLora.nD Cert.AdamLora.τ).loc Cert.AdamLora.main_arg2)
      ∧ r.2.mem ((c.tc : Thread Cert.AdamLora.nD Cert.AdamLora.τ).loc Cert.AdamLora.main_arg3) = m ((c.tc : Thread Cert.AdamLora.nD Cert.AdamLora.τ).loc Cert.AdamLora.main_arg3))
      ∧ r.2.sem = fun _ => 0)

def quiescent_AdamLoraIdeal [hAdamLoraIdeal : Cert.AdamLoraIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg), Pre_AdamLoraIdeal m →
    θ_run (Cert.AdamLoraIdeal.defs (F := Ideal)) (onTc (τ := Cert.AdamLoraIdeal.τ) (Cert.AdamLoraIdeal.main (F := Ideal))) ⟨m, fun _ => 0, g⟩ (fun r => (∀ c : Dev Cert.AdamLoraIdeal.nD,
      r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
      ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
      ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
      ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3))
      ∧ r.2.sem = fun _ => 0)

def quiescent_AdamLoraRefIdeal [hAdamLoraRefIdeal : Cert.AdamLoraRefIdeal.Facts] : Prop :=
  ∀ (m : (ℓ : Loc Cert.AdamLoraRefIdeal.nD Cert.AdamLoraRefIdeal.τ Cert.AdamLoraRefIdeal.sig) → Buf (Elt Ideal) ℓ) (g : Dev Cert.AdamLoraRefIdeal.nD → PrngReg), Pre_AdamLoraRefIdeal m →
    θ_run (Cert.AdamLoraRefIdeal.defs (F := Ideal)) (onTc (τ := Cert.AdamLoraRefIdeal.τ) (Cert.AdamLoraRefIdeal.main (F := Ideal))) ⟨m, fun _ => 0, g⟩ (fun r => (∀ c : Dev Cert.AdamLoraRefIdeal.nD,
      r.2.mem ((c.tc : Thread Cert.AdamLoraRefIdeal.nD Cert.AdamLoraRefIdeal.τ).loc Cert.AdamLoraRefIdeal.main_arg0) = m ((c.tc : Thread Cert.AdamLoraRefIdeal.nD Cert.AdamLoraRefIdeal.τ).loc Cert.AdamLoraRefIdeal.main_arg0)
      ∧ r.2.mem ((c.tc : Thread Cert.AdamLoraRefIdeal.nD Cert.AdamLoraRefIdeal.τ).loc Cert.AdamLoraRefIdeal.main_arg1) = m ((c.tc : Thread Cert.AdamLoraRefIdeal.nD Cert.AdamLoraRefIdeal.τ).loc Cert.AdamLoraRefIdeal.main_arg1)
      ∧ r.2.mem ((c.tc : Thread Cert.AdamLoraRefIdeal.nD Cert.AdamLoraRefIdeal.τ).loc Cert.AdamLoraRefIdeal.main_arg2) = m ((c.tc : Thread Cert.AdamLoraRefIdeal.nD Cert.AdamLoraRefIdeal.τ).loc Cert.AdamLoraRefIdeal.main_arg2)
      ∧ r.2.mem ((c.tc : Thread Cert.AdamLoraRefIdeal.nD Cert.AdamLoraRefIdeal.τ).loc Cert.AdamLoraRefIdeal.main_arg3) = m ((c.tc : Thread Cert.AdamLoraRefIdeal.nD Cert.AdamLoraRefIdeal.τ).loc Cert.AdamLoraRefIdeal.main_arg3))
      ∧ r.2.sem = fun _ => 0)

def quiescent_AdamLoraG [hAdamLoraG : Cert.AdamLoraG.Facts] : Prop :=
  ∀ (m : (ℓ : Loc Cert.AdamLoraG.nD Cert.AdamLoraG.τ Cert.AdamLoraG.sig) → Buf (Elt Bits) ℓ) (g : Dev Cert.AdamLoraG.nD → PrngReg), Pre_AdamLoraG m →
    θ_run (Cert.AdamLoraG.defs (F := Bits)) (onTc (τ := Cert.AdamLoraG.τ) (Cert.AdamLoraG.main (F := Bits))) ⟨m, fun _ => 0, g⟩ (fun r => (∀ c : Dev Cert.AdamLoraG.nD,
      r.2.mem ((c.tc : Thread Cert.AdamLoraG.nD Cert.AdamLoraG.τ).loc Cert.AdamLoraG.main_arg0) = m ((c.tc : Thread Cert.AdamLoraG.nD Cert.AdamLoraG.τ).loc Cert.AdamLoraG.main_arg0)
      ∧ r.2.mem ((c.tc : Thread Cert.AdamLoraG.nD Cert.AdamLoraG.τ).loc Cert.AdamLoraG.main_arg1) = m ((c.tc : Thread Cert.AdamLoraG.nD Cert.AdamLoraG.τ).loc Cert.AdamLoraG.main_arg1)
      ∧ r.2.mem ((c.tc : Thread Cert.AdamLoraG.nD Cert.AdamLoraG.τ).loc Cert.AdamLoraG.main_arg2) = m ((c.tc : Thread Cert.AdamLoraG.nD Cert.AdamLoraG.τ).loc Cert.AdamLoraG.main_arg2)
      ∧ r.2.mem ((c.tc : Thread Cert.AdamLoraG.nD Cert.AdamLoraG.τ).loc Cert.AdamLoraG.main_arg3) = m ((c.tc : Thread Cert.AdamLoraG.nD Cert.AdamLoraG.τ).loc Cert.AdamLoraG.main_arg3))
      ∧ r.2.sem = fun _ => 0)

def quiescent_AdamLoraGIdeal [hAdamLoraGIdeal : Cert.AdamLoraGIdeal.Facts] : Prop :=
  ∀ (m : (ℓ : Loc Cert.AdamLoraGIdeal.nD Cert.AdamLoraGIdeal.τ Cert.AdamLoraGIdeal.sig) → Buf (Elt Ideal) ℓ) (g : Dev Cert.AdamLoraGIdeal.nD → PrngReg), Pre_AdamLoraGIdeal m →
    θ_run (Cert.AdamLoraGIdeal.defs (F := Ideal)) (onTc (τ := Cert.AdamLoraGIdeal.τ) (Cert.AdamLoraGIdeal.main (F := Ideal))) ⟨m, fun _ => 0, g⟩ (fun r => (∀ c : Dev Cert.AdamLoraGIdeal.nD,
      r.2.mem ((c.tc : Thread Cert.AdamLoraGIdeal.nD Cert.AdamLoraGIdeal.τ).loc Cert.AdamLoraGIdeal.main_arg0) = m ((c.tc : Thread Cert.AdamLoraGIdeal.nD Cert.AdamLoraGIdeal.τ).loc Cert.AdamLoraGIdeal.main_arg0)
      ∧ r.2.mem ((c.tc : Thread Cert.AdamLoraGIdeal.nD Cert.AdamLoraGIdeal.τ).loc Cert.AdamLoraGIdeal.main_arg1) = m ((c.tc : Thread Cert.AdamLoraGIdeal.nD Cert.AdamLoraGIdeal.τ).loc Cert.AdamLoraGIdeal.main_arg1)
      ∧ r.2.mem ((c.tc : Thread Cert.AdamLoraGIdeal.nD Cert.AdamLoraGIdeal.τ).loc Cert.AdamLoraGIdeal.main_arg2) = m ((c.tc : Thread Cert.AdamLoraGIdeal.nD Cert.AdamLoraGIdeal.τ).loc Cert.AdamLoraGIdeal.main_arg2)
      ∧ r.2.mem ((c.tc : Thread Cert.AdamLoraGIdeal.nD Cert.AdamLoraGIdeal.τ).loc Cert.AdamLoraGIdeal.main_arg3) = m ((c.tc : Thread Cert.AdamLoraGIdeal.nD Cert.AdamLoraGIdeal.τ).loc Cert.AdamLoraGIdeal.main_arg3))
      ∧ r.2.sem = fun _ => 0)

def quiescent_AdamLoraGRefIdeal [hAdamLoraGRefIdeal : Cert.AdamLoraGRefIdeal.Facts] : Prop :=
  ∀ (m : (ℓ : Loc Cert.AdamLoraGRefIdeal.nD Cert.AdamLoraGRefIdeal.τ Cert.AdamLoraGRefIdeal.sig) → Buf (Elt Ideal) ℓ) (g : Dev Cert.AdamLoraGRefIdeal.nD → PrngReg), Pre_AdamLoraGRefIdeal m →
    θ_run (Cert.AdamLoraGRefIdeal.defs (F := Ideal)) (onTc (τ := Cert.AdamLoraGRefIdeal.τ) (Cert.AdamLoraGRefIdeal.main (F := Ideal))) ⟨m, fun _ => 0, g⟩ (fun r => (∀ c : Dev Cert.AdamLoraGRefIdeal.nD,
      r.2.mem ((c.tc : Thread Cert.AdamLoraGRefIdeal.nD Cert.AdamLoraGRefIdeal.τ).loc Cert.AdamLoraGRefIdeal.main_arg0) = m ((c.tc : Thread Cert.AdamLoraGRefIdeal.nD Cert.AdamLoraGRefIdeal.τ).loc Cert.AdamLoraGRefIdeal.main_arg0)
      ∧ r.2.mem ((c.tc : Thread Cert.AdamLoraGRefIdeal.nD Cert.AdamLoraGRefIdeal.τ).loc Cert.AdamLoraGRefIdeal.main_arg1) = m ((c.tc : Thread Cert.AdamLoraGRefIdeal.nD Cert.AdamLoraGRefIdeal.τ).loc Cert.AdamLoraGRefIdeal.main_arg1)
      ∧ r.2.mem ((c.tc : Thread Cert.AdamLoraGRefIdeal.nD Cert.AdamLoraGRefIdeal.τ).loc Cert.AdamLoraGRefIdeal.main_arg2) = m ((c.tc : Thread Cert.AdamLoraGRefIdeal.nD Cert.AdamLoraGRefIdeal.τ).loc Cert.AdamLoraGRefIdeal.main_arg2)
      ∧ r.2.mem ((c.tc : Thread Cert.AdamLoraGRefIdeal.nD Cert.AdamLoraGRefIdeal.τ).loc Cert.AdamLoraGRefIdeal.main_arg3) = m ((c.tc : Thread Cert.AdamLoraGRefIdeal.nD Cert.AdamLoraGRefIdeal.τ).loc Cert.AdamLoraGRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51)
      ∧ r.2.mem ((c.tc : Thread Cert.AdamSmall.nD Cert.AdamSmall.τ).loc Cert.AdamSmall.main_arg52) = m ((c.tc : Thread Cert.AdamSmall.nD Cert.AdamSmall.τ).loc Cert.AdamSmall.main_arg52)
      ∧ r.2.mem ((c.tc : Thread Cert.AdamSmall.nD Cert.AdamSmall.τ).loc Cert.AdamSmall.main_arg53) = m ((c.tc : Thread Cert.AdamSmall.nD Cert.AdamSmall.τ).loc Cert.AdamSmall.main_arg53)
      ∧ r.2.mem ((c.tc : Thread Cert.AdamSmall.nD Cert.AdamSmall.τ).loc Cert.AdamSmall.main_arg54) = m ((c.tc : Thread Cert.AdamSmall.nD Cert.AdamSmall.τ).loc Cert.AdamSmall.main_arg54)
      ∧ r.2.mem ((c.tc : Thread Cert.AdamSmall.nD Cert.AdamSmall.τ).loc Cert.AdamSmall.main_arg55) = m ((c.tc : Thread Cert.AdamSmall.nD Cert.AdamSmall.τ).loc Cert.AdamSmall.main_arg55))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
      ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
      ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
      ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
      ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51)
      ∧ r.2.mem ((c.tc : Thread Cert.AdamSmallRefIdeal.nD Cert.AdamSmallRefIdeal.τ).loc Cert.AdamSmallRefIdeal.main_arg52) = m ((c.tc : Thread Cert.AdamSmallRefIdeal.nD Cert.AdamSmallRefIdeal.τ).loc Cert.AdamSmallRefIdeal.main_arg52)
      ∧ r.2.mem ((c.tc : Thread Cert.AdamSmallRefIdeal.nD Cert.AdamSmallRefIdeal.τ).loc Cert.AdamSmallRefIdeal.main_arg53) = m ((c.tc : Thread Cert.AdamSmallRefIdeal.nD Cert.AdamSmallRefIdeal.τ).loc Cert.AdamSmallRefIdeal.main_arg53)
      ∧ r.2.mem ((c.tc : Thread Cert.AdamSmallRefIdeal.nD Cert.AdamSmallRefIdeal.τ).loc Cert.AdamSmallRefIdeal.main_arg54) = m ((c.tc : Thread Cert.AdamSmallRefIdeal.nD Cert.AdamSmallRefIdeal.τ).loc Cert.AdamSmallRefIdeal.main_arg54)
      ∧ r.2.mem ((c.tc : Thread Cert.AdamSmallRefIdeal.nD Cert.AdamSmallRefIdeal.τ).loc Cert.AdamSmallRefIdeal.main_arg55) = m ((c.tc : Thread Cert.AdamSmallRefIdeal.nD Cert.AdamSmallRefIdeal.τ).loc Cert.AdamSmallRefIdeal.main_arg55))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v34) = v0 c
          ∧ r.2.mem ((c.tc : Thread Cert.MergeRefIdeal.nD Cert.MergeRefIdeal.τ).loc Cert.MergeRefIdeal.main_v35) = v1 c
          ∧ r.2.mem ((c.tc : Thread Cert.MergeRefIdeal.nD Cert.MergeRefIdeal.τ).loc Cert.MergeRefIdeal.main_v36) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v8) = v0 c
          ∧ r.2.mem ((c.tc : Thread Cert.SwigluRefIdeal.nD Cert.SwigluRefIdeal.τ).loc Cert.SwigluRefIdeal.main_v9) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v5) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DNorm_DNormIdeal : Prop :=
  True

def algebraic_DNormIdeal_DNormRefIdeal [hDNormIdeal : Cert.DNormIdeal.Facts] [hDNormRefIdeal : Cert.DNormRefIdeal.Facts] : Prop :=
  ∀ (m : (ℓ : Loc Cert.DNormIdeal.nD Cert.DNormIdeal.τ Cert.DNormIdeal.sig) → Buf (Elt Ideal) ℓ) (g : Dev Cert.DNormIdeal.nD → PrngReg)
    (m' : (ℓ : Loc Cert.DNormRefIdeal.nD Cert.DNormRefIdeal.τ Cert.DNormRefIdeal.sig) → Buf (Elt Ideal) ℓ) (g' : Dev Cert.DNormRefIdeal.nD → PrngReg), Pre_DNormIdeal m →
    (∀ c : Dev Cert.DNormIdeal.nD,
      m' ((c.tc : Thread Cert.DNormRefIdeal.nD Cert.DNormRefIdeal.τ).loc Cert.DNormRefIdeal.main_arg0) = m ((c.tc : Thread Cert.DNormIdeal.nD Cert.DNormIdeal.τ).loc Cert.DNormIdeal.main_arg0)
      ∧ m' ((c.tc : Thread Cert.DNormRefIdeal.nD Cert.DNormRefIdeal.τ).loc Cert.DNormRefIdeal.main_arg1) = m ((c.tc : Thread Cert.DNormIdeal.nD Cert.DNormIdeal.τ).loc Cert.DNormIdeal.main_arg1)) →
    ∃ (v0 : (c : Dev Cert.DNormIdeal.nD) → Buf (Elt Ideal) ((c.tc : Thread Cert.DNormIdeal.nD Cert.DNormIdeal.τ).loc Cert.DNormIdeal.main_v0)),
      θ_run (Cert.DNormIdeal.defs (F := Ideal)) (onTc (τ := Cert.DNormIdeal.τ) (Cert.DNormIdeal.main (F := Ideal))) ⟨m, fun _ => 0, g⟩ (fun r => ∀ c : Dev Cert.DNormIdeal.nD,
          r.2.mem ((c.tc : Thread Cert.DNormIdeal.nD Cert.DNormIdeal.τ).loc Cert.DNormIdeal.main_v0) = v0 c
          ∧ r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
          ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1))
      ∧ θ_run (Cert.DNormRefIdeal.defs (F := Ideal)) (onTc (τ := Cert.DNormRefIdeal.τ) (Cert.DNormRefIdeal.main (F := Ideal))) ⟨m', fun _ => 0, g'⟩ (fun r => ∀ c : Dev Cert.DNormRefIdeal.nD,
          r.2.mem ((c.tc : Thread Cert.DNormRefIdeal.nD Cert.DNormRefIdeal.τ).loc Cert.DNormRefIdeal.main_v5) = v0 c
          ∧ r.2.mem ((c.tc : Thread Cert.DNormRefIdeal.nD Cert.DNormRefIdeal.τ).loc Cert.DNormRefIdeal.main_arg0) = m' ((c.tc : Thread Cert.DNormRefIdeal.nD Cert.DNormRefIdeal.τ).loc Cert.DNormRefIdeal.main_arg0)
          ∧ r.2.mem ((c.tc : Thread Cert.DNormRefIdeal.nD Cert.DNormRefIdeal.τ).loc Cert.DNormRefIdeal.main_arg1) = m' ((c.tc : Thread Cert.DNormRefIdeal.nD Cert.DNormRefIdeal.τ).loc Cert.DNormRefIdeal.main_arg1))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)) →
    ∃ (v0 : (c : Dev Cert.DBranchIdeal.nD) → Buf (Elt Ideal) ((c.tc : Thread Cert.DBranchIdeal.nD Cert.DBranchIdeal.τ).loc Cert.DBranchIdeal.main_v0)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v0) = v0 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v5) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)) →
    ∃ (v0 : (c : Dev Cert.GDownIdeal.nD) → Buf (Elt Ideal) ((c.tc : Thread Cert.GDownIdeal.nD Cert.GDownIdeal.τ).loc Cert.GDownIdeal.main_v0)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v0) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v6) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1))

def preserves_GFfn_GFfnIdeal : Prop :=
  True

def algebraic_GFfnIdeal_GFfnRefIdeal [hGFfnIdeal : Cert.GFfnIdeal.Facts] [hGFfnRefIdeal : Cert.GFfnRefIdeal.Facts] : Prop :=
  ∀ (m : (ℓ : Loc Cert.GFfnIdeal.nD Cert.GFfnIdeal.τ Cert.GFfnIdeal.sig) → Buf (Elt Ideal) ℓ) (g : Dev Cert.GFfnIdeal.nD → PrngReg)
    (m' : (ℓ : Loc Cert.GFfnRefIdeal.nD Cert.GFfnRefIdeal.τ Cert.GFfnRefIdeal.sig) → Buf (Elt Ideal) ℓ) (g' : Dev Cert.GFfnRefIdeal.nD → PrngReg), Pre_GFfnIdeal m →
    (∀ c : Dev Cert.GFfnIdeal.nD,
      m' ((c.tc : Thread Cert.GFfnRefIdeal.nD Cert.GFfnRefIdeal.τ).loc Cert.GFfnRefIdeal.main_arg0) = m ((c.tc : Thread Cert.GFfnIdeal.nD Cert.GFfnIdeal.τ).loc Cert.GFfnIdeal.main_arg0)
      ∧ m' ((c.tc : Thread Cert.GFfnRefIdeal.nD Cert.GFfnRefIdeal.τ).loc Cert.GFfnRefIdeal.main_arg1) = m ((c.tc : Thread Cert.GFfnIdeal.nD Cert.GFfnIdeal.τ).loc Cert.GFfnIdeal.main_arg1)) →
    ∃ (v0 : (c : Dev Cert.GFfnIdeal.nD) → Buf (Elt Ideal) ((c.tc : Thread Cert.GFfnIdeal.nD Cert.GFfnIdeal.τ).loc Cert.GFfnIdeal.main_v0)),
      θ_run (Cert.GFfnIdeal.defs (F := Ideal)) (onTc (τ := Cert.GFfnIdeal.τ) (Cert.GFfnIdeal.main (F := Ideal))) ⟨m, fun _ => 0, g⟩ (fun r => ∀ c : Dev Cert.GFfnIdeal.nD,
          r.2.mem ((c.tc : Thread Cert.GFfnIdeal.nD Cert.GFfnIdeal.τ).loc Cert.GFfnIdeal.main_v0) = v0 c
          ∧ r.2.mem ((c.tc : Thread Cert.GFfnIdeal.nD Cert.GFfnIdeal.τ).loc Cert.GFfnIdeal.main_arg0) = m ((c.tc : Thread Cert.GFfnIdeal.nD Cert.GFfnIdeal.τ).loc Cert.GFfnIdeal.main_arg0)
          ∧ r.2.mem ((c.tc : Thread Cert.GFfnIdeal.nD Cert.GFfnIdeal.τ).loc Cert.GFfnIdeal.main_arg1) = m ((c.tc : Thread Cert.GFfnIdeal.nD Cert.GFfnIdeal.τ).loc Cert.GFfnIdeal.main_arg1))
      ∧ θ_run (Cert.GFfnRefIdeal.defs (F := Ideal)) (onTc (τ := Cert.GFfnRefIdeal.τ) (Cert.GFfnRefIdeal.main (F := Ideal))) ⟨m', fun _ => 0, g'⟩ (fun r => ∀ c : Dev Cert.GFfnRefIdeal.nD,
          r.2.mem ((c.tc : Thread Cert.GFfnRefIdeal.nD Cert.GFfnRefIdeal.τ).loc Cert.GFfnRefIdeal.main_v6) = v0 c
          ∧ r.2.mem ((c.tc : Thread Cert.GFfnRefIdeal.nD Cert.GFfnRefIdeal.τ).loc Cert.GFfnRefIdeal.main_arg0) = m' ((c.tc : Thread Cert.GFfnRefIdeal.nD Cert.GFfnRefIdeal.τ).loc Cert.GFfnRefIdeal.main_arg0)
          ∧ r.2.mem ((c.tc : Thread Cert.GFfnRefIdeal.nD Cert.GFfnRefIdeal.τ).loc Cert.GFfnRefIdeal.main_arg1) = m' ((c.tc : Thread Cert.GFfnRefIdeal.nD Cert.GFfnRefIdeal.τ).loc Cert.GFfnRefIdeal.main_arg1))

def preserves_GBranch_GBranchIdeal : Prop :=
  True

def algebraic_GBranchIdeal_GBranchRefIdeal [hGBranchIdeal : Cert.GBranchIdeal.Facts] [hGBranchRefIdeal : Cert.GBranchRefIdeal.Facts] : Prop :=
  ∀ (m : (ℓ : Loc Cert.GBranchIdeal.nD Cert.GBranchIdeal.τ Cert.GBranchIdeal.sig) → Buf (Elt Ideal) ℓ) (g : Dev Cert.GBranchIdeal.nD → PrngReg)
    (m' : (ℓ : Loc Cert.GBranchRefIdeal.nD Cert.GBranchRefIdeal.τ Cert.GBranchRefIdeal.sig) → Buf (Elt Ideal) ℓ) (g' : Dev Cert.GBranchRefIdeal.nD → PrngReg), Pre_GBranchIdeal m →
    (∀ c : Dev Cert.GBranchIdeal.nD,
      m' ((c.tc : Thread Cert.GBranchRefIdeal.nD Cert.GBranchRefIdeal.τ).loc Cert.GBranchRefIdeal.main_arg0) = m ((c.tc : Thread Cert.GBranchIdeal.nD Cert.GBranchIdeal.τ).loc Cert.GBranchIdeal.main_arg0)
      ∧ m' ((c.tc : Thread Cert.GBranchRefIdeal.nD Cert.GBranchRefIdeal.τ).loc Cert.GBranchRefIdeal.main_arg1) = m ((c.tc : Thread Cert.GBranchIdeal.nD Cert.GBranchIdeal.τ).loc Cert.GBranchIdeal.main_arg1)) →
    ∃ (v0 : (c : Dev Cert.GBranchIdeal.nD) → Buf (Elt Ideal) ((c.tc : Thread Cert.GBranchIdeal.nD Cert.GBranchIdeal.τ).loc Cert.GBranchIdeal.main_v0)),
      θ_run (Cert.GBranchIdeal.defs (F := Ideal)) (onTc (τ := Cert.GBranchIdeal.τ) (Cert.GBranchIdeal.main (F := Ideal))) ⟨m, fun _ => 0, g⟩ (fun r => ∀ c : Dev Cert.GBranchIdeal.nD,
          r.2.mem ((c.tc : Thread Cert.GBranchIdeal.nD Cert.GBranchIdeal.τ).loc Cert.GBranchIdeal.main_v0) = v0 c
          ∧ r.2.mem ((c.tc : Thread Cert.GBranchIdeal.nD Cert.GBranchIdeal.τ).loc Cert.GBranchIdeal.main_arg0) = m ((c.tc : Thread Cert.GBranchIdeal.nD Cert.GBranchIdeal.τ).loc Cert.GBranchIdeal.main_arg0)
          ∧ r.2.mem ((c.tc : Thread Cert.GBranchIdeal.nD Cert.GBranchIdeal.τ).loc Cert.GBranchIdeal.main_arg1) = m ((c.tc : Thread Cert.GBranchIdeal.nD Cert.GBranchIdeal.τ).loc Cert.GBranchIdeal.main_arg1))
      ∧ θ_run (Cert.GBranchRefIdeal.defs (F := Ideal)) (onTc (τ := Cert.GBranchRefIdeal.τ) (Cert.GBranchRefIdeal.main (F := Ideal))) ⟨m', fun _ => 0, g'⟩ (fun r => ∀ c : Dev Cert.GBranchRefIdeal.nD,
          r.2.mem ((c.tc : Thread Cert.GBranchRefIdeal.nD Cert.GBranchRefIdeal.τ).loc Cert.GBranchRefIdeal.main_v6) = v0 c
          ∧ r.2.mem ((c.tc : Thread Cert.GBranchRefIdeal.nD Cert.GBranchRefIdeal.τ).loc Cert.GBranchRefIdeal.main_arg0) = m' ((c.tc : Thread Cert.GBranchRefIdeal.nD Cert.GBranchRefIdeal.τ).loc Cert.GBranchRefIdeal.main_arg0)
          ∧ r.2.mem ((c.tc : Thread Cert.GBranchRefIdeal.nD Cert.GBranchRefIdeal.τ).loc Cert.GBranchRefIdeal.main_arg1) = m' ((c.tc : Thread Cert.GBranchRefIdeal.nD Cert.GBranchRefIdeal.τ).loc Cert.GBranchRefIdeal.main_arg1))

def preserves_GQkv_GQkvIdeal : Prop :=
  True

def algebraic_GQkvIdeal_GQkvRefIdeal [hGQkvIdeal : Cert.GQkvIdeal.Facts] [hGQkvRefIdeal : Cert.GQkvRefIdeal.Facts] : Prop :=
  ∀ (m : (ℓ : Loc Cert.GQkvIdeal.nD Cert.GQkvIdeal.τ Cert.GQkvIdeal.sig) → Buf (Elt Ideal) ℓ) (g : Dev Cert.GQkvIdeal.nD → PrngReg)
    (m' : (ℓ : Loc Cert.GQkvRefIdeal.nD Cert.GQkvRefIdeal.τ Cert.GQkvRefIdeal.sig) → Buf (Elt Ideal) ℓ) (g' : Dev Cert.GQkvRefIdeal.nD → PrngReg), Pre_GQkvIdeal m →
    (∀ c : Dev Cert.GQkvIdeal.nD,
      m' ((c.tc : Thread Cert.GQkvRefIdeal.nD Cert.GQkvRefIdeal.τ).loc Cert.GQkvRefIdeal.main_arg0) = m ((c.tc : Thread Cert.GQkvIdeal.nD Cert.GQkvIdeal.τ).loc Cert.GQkvIdeal.main_arg0)
      ∧ m' ((c.tc : Thread Cert.GQkvRefIdeal.nD Cert.GQkvRefIdeal.τ).loc Cert.GQkvRefIdeal.main_arg1) = m ((c.tc : Thread Cert.GQkvIdeal.nD Cert.GQkvIdeal.τ).loc Cert.GQkvIdeal.main_arg1)) →
    ∃ (v0 : (c : Dev Cert.GQkvIdeal.nD) → Buf (Elt Ideal) ((c.tc : Thread Cert.GQkvIdeal.nD Cert.GQkvIdeal.τ).loc Cert.GQkvIdeal.main_v0)),
      θ_run (Cert.GQkvIdeal.defs (F := Ideal)) (onTc (τ := Cert.GQkvIdeal.τ) (Cert.GQkvIdeal.main (F := Ideal))) ⟨m, fun _ => 0, g⟩ (fun r => ∀ c : Dev Cert.GQkvIdeal.nD,
          r.2.mem ((c.tc : Thread Cert.GQkvIdeal.nD Cert.GQkvIdeal.τ).loc Cert.GQkvIdeal.main_v0) = v0 c
          ∧ r.2.mem ((c.tc : Thread Cert.GQkvIdeal.nD Cert.GQkvIdeal.τ).loc Cert.GQkvIdeal.main_arg0) = m ((c.tc : Thread Cert.GQkvIdeal.nD Cert.GQkvIdeal.τ).loc Cert.GQkvIdeal.main_arg0)
          ∧ r.2.mem ((c.tc : Thread Cert.GQkvIdeal.nD Cert.GQkvIdeal.τ).loc Cert.GQkvIdeal.main_arg1) = m ((c.tc : Thread Cert.GQkvIdeal.nD Cert.GQkvIdeal.τ).loc Cert.GQkvIdeal.main_arg1))
      ∧ θ_run (Cert.GQkvRefIdeal.defs (F := Ideal)) (onTc (τ := Cert.GQkvRefIdeal.τ) (Cert.GQkvRefIdeal.main (F := Ideal))) ⟨m', fun _ => 0, g'⟩ (fun r => ∀ c : Dev Cert.GQkvRefIdeal.nD,
          r.2.mem ((c.tc : Thread Cert.GQkvRefIdeal.nD Cert.GQkvRefIdeal.τ).loc Cert.GQkvRefIdeal.main_v6) = v0 c
          ∧ r.2.mem ((c.tc : Thread Cert.GQkvRefIdeal.nD Cert.GQkvRefIdeal.τ).loc Cert.GQkvRefIdeal.main_arg0) = m' ((c.tc : Thread Cert.GQkvRefIdeal.nD Cert.GQkvRefIdeal.τ).loc Cert.GQkvRefIdeal.main_arg0)
          ∧ r.2.mem ((c.tc : Thread Cert.GQkvRefIdeal.nD Cert.GQkvRefIdeal.τ).loc Cert.GQkvRefIdeal.main_arg1) = m' ((c.tc : Thread Cert.GQkvRefIdeal.nD Cert.GQkvRefIdeal.τ).loc Cert.GQkvRefIdeal.main_arg1))

def preserves_GRwkv_GRwkvIdeal : Prop :=
  True

def algebraic_GRwkvIdeal_GRwkvRefIdeal [hGRwkvIdeal : Cert.GRwkvIdeal.Facts] [hGRwkvRefIdeal : Cert.GRwkvRefIdeal.Facts] : Prop :=
  ∀ (m : (ℓ : Loc Cert.GRwkvIdeal.nD Cert.GRwkvIdeal.τ Cert.GRwkvIdeal.sig) → Buf (Elt Ideal) ℓ) (g : Dev Cert.GRwkvIdeal.nD → PrngReg)
    (m' : (ℓ : Loc Cert.GRwkvRefIdeal.nD Cert.GRwkvRefIdeal.τ Cert.GRwkvRefIdeal.sig) → Buf (Elt Ideal) ℓ) (g' : Dev Cert.GRwkvRefIdeal.nD → PrngReg), Pre_GRwkvIdeal m →
    (∀ c : Dev Cert.GRwkvIdeal.nD,
      m' ((c.tc : Thread Cert.GRwkvRefIdeal.nD Cert.GRwkvRefIdeal.τ).loc Cert.GRwkvRefIdeal.main_arg0) = m ((c.tc : Thread Cert.GRwkvIdeal.nD Cert.GRwkvIdeal.τ).loc Cert.GRwkvIdeal.main_arg0)
      ∧ m' ((c.tc : Thread Cert.GRwkvRefIdeal.nD Cert.GRwkvRefIdeal.τ).loc Cert.GRwkvRefIdeal.main_arg1) = m ((c.tc : Thread Cert.GRwkvIdeal.nD Cert.GRwkvIdeal.τ).loc Cert.GRwkvIdeal.main_arg1)) →
    ∃ (v0 : (c : Dev Cert.GRwkvIdeal.nD) → Buf (Elt Ideal) ((c.tc : Thread Cert.GRwkvIdeal.nD Cert.GRwkvIdeal.τ).loc Cert.GRwkvIdeal.main_v0)),
      θ_run (Cert.GRwkvIdeal.defs (F := Ideal)) (onTc (τ := Cert.GRwkvIdeal.τ) (Cert.GRwkvIdeal.main (F := Ideal))) ⟨m, fun _ => 0, g⟩ (fun r => ∀ c : Dev Cert.GRwkvIdeal.nD,
          r.2.mem ((c.tc : Thread Cert.GRwkvIdeal.nD Cert.GRwkvIdeal.τ).loc Cert.GRwkvIdeal.main_v0) = v0 c
          ∧ r.2.mem ((c.tc : Thread Cert.GRwkvIdeal.nD Cert.GRwkvIdeal.τ).loc Cert.GRwkvIdeal.main_arg0) = m ((c.tc : Thread Cert.GRwkvIdeal.nD Cert.GRwkvIdeal.τ).loc Cert.GRwkvIdeal.main_arg0)
          ∧ r.2.mem ((c.tc : Thread Cert.GRwkvIdeal.nD Cert.GRwkvIdeal.τ).loc Cert.GRwkvIdeal.main_arg1) = m ((c.tc : Thread Cert.GRwkvIdeal.nD Cert.GRwkvIdeal.τ).loc Cert.GRwkvIdeal.main_arg1))
      ∧ θ_run (Cert.GRwkvRefIdeal.defs (F := Ideal)) (onTc (τ := Cert.GRwkvRefIdeal.τ) (Cert.GRwkvRefIdeal.main (F := Ideal))) ⟨m', fun _ => 0, g'⟩ (fun r => ∀ c : Dev Cert.GRwkvRefIdeal.nD,
          r.2.mem ((c.tc : Thread Cert.GRwkvRefIdeal.nD Cert.GRwkvRefIdeal.τ).loc Cert.GRwkvRefIdeal.main_v6) = v0 c
          ∧ r.2.mem ((c.tc : Thread Cert.GRwkvRefIdeal.nD Cert.GRwkvRefIdeal.τ).loc Cert.GRwkvRefIdeal.main_arg0) = m' ((c.tc : Thread Cert.GRwkvRefIdeal.nD Cert.GRwkvRefIdeal.τ).loc Cert.GRwkvRefIdeal.main_arg0)
          ∧ r.2.mem ((c.tc : Thread Cert.GRwkvRefIdeal.nD Cert.GRwkvRefIdeal.τ).loc Cert.GRwkvRefIdeal.main_arg1) = m' ((c.tc : Thread Cert.GRwkvRefIdeal.nD Cert.GRwkvRefIdeal.τ).loc Cert.GRwkvRefIdeal.main_arg1))

def preserves_GGate_GGateIdeal : Prop :=
  True

def algebraic_GGateIdeal_GGateRefIdeal [hGGateIdeal : Cert.GGateIdeal.Facts] [hGGateRefIdeal : Cert.GGateRefIdeal.Facts] : Prop :=
  ∀ (m : (ℓ : Loc Cert.GGateIdeal.nD Cert.GGateIdeal.τ Cert.GGateIdeal.sig) → Buf (Elt Ideal) ℓ) (g : Dev Cert.GGateIdeal.nD → PrngReg)
    (m' : (ℓ : Loc Cert.GGateRefIdeal.nD Cert.GGateRefIdeal.τ Cert.GGateRefIdeal.sig) → Buf (Elt Ideal) ℓ) (g' : Dev Cert.GGateRefIdeal.nD → PrngReg), Pre_GGateIdeal m →
    (∀ c : Dev Cert.GGateIdeal.nD,
      m' ((c.tc : Thread Cert.GGateRefIdeal.nD Cert.GGateRefIdeal.τ).loc Cert.GGateRefIdeal.main_arg0) = m ((c.tc : Thread Cert.GGateIdeal.nD Cert.GGateIdeal.τ).loc Cert.GGateIdeal.main_arg0)
      ∧ m' ((c.tc : Thread Cert.GGateRefIdeal.nD Cert.GGateRefIdeal.τ).loc Cert.GGateRefIdeal.main_arg1) = m ((c.tc : Thread Cert.GGateIdeal.nD Cert.GGateIdeal.τ).loc Cert.GGateIdeal.main_arg1)) →
    ∃ (v0 : (c : Dev Cert.GGateIdeal.nD) → Buf (Elt Ideal) ((c.tc : Thread Cert.GGateIdeal.nD Cert.GGateIdeal.τ).loc Cert.GGateIdeal.main_v0)),
      θ_run (Cert.GGateIdeal.defs (F := Ideal)) (onTc (τ := Cert.GGateIdeal.τ) (Cert.GGateIdeal.main (F := Ideal))) ⟨m, fun _ => 0, g⟩ (fun r => ∀ c : Dev Cert.GGateIdeal.nD,
          r.2.mem ((c.tc : Thread Cert.GGateIdeal.nD Cert.GGateIdeal.τ).loc Cert.GGateIdeal.main_v0) = v0 c
          ∧ r.2.mem ((c.tc : Thread Cert.GGateIdeal.nD Cert.GGateIdeal.τ).loc Cert.GGateIdeal.main_arg0) = m ((c.tc : Thread Cert.GGateIdeal.nD Cert.GGateIdeal.τ).loc Cert.GGateIdeal.main_arg0)
          ∧ r.2.mem ((c.tc : Thread Cert.GGateIdeal.nD Cert.GGateIdeal.τ).loc Cert.GGateIdeal.main_arg1) = m ((c.tc : Thread Cert.GGateIdeal.nD Cert.GGateIdeal.τ).loc Cert.GGateIdeal.main_arg1))
      ∧ θ_run (Cert.GGateRefIdeal.defs (F := Ideal)) (onTc (τ := Cert.GGateRefIdeal.τ) (Cert.GGateRefIdeal.main (F := Ideal))) ⟨m', fun _ => 0, g'⟩ (fun r => ∀ c : Dev Cert.GGateRefIdeal.nD,
          r.2.mem ((c.tc : Thread Cert.GGateRefIdeal.nD Cert.GGateRefIdeal.τ).loc Cert.GGateRefIdeal.main_v6) = v0 c
          ∧ r.2.mem ((c.tc : Thread Cert.GGateRefIdeal.nD Cert.GGateRefIdeal.τ).loc Cert.GGateRefIdeal.main_arg0) = m' ((c.tc : Thread Cert.GGateRefIdeal.nD Cert.GGateRefIdeal.τ).loc Cert.GGateRefIdeal.main_arg0)
          ∧ r.2.mem ((c.tc : Thread Cert.GGateRefIdeal.nD Cert.GGateRefIdeal.τ).loc Cert.GGateRefIdeal.main_arg1) = m' ((c.tc : Thread Cert.GGateRefIdeal.nD Cert.GGateRefIdeal.τ).loc Cert.GGateRefIdeal.main_arg1))

def preserves_DQkv_DQkvIdeal : Prop :=
  True

def algebraic_DQkvIdeal_DQkvRefIdeal [hDQkvIdeal : Cert.DQkvIdeal.Facts] [hDQkvRefIdeal : Cert.DQkvRefIdeal.Facts] : Prop :=
  ∀ (m : (ℓ : Loc Cert.DQkvIdeal.nD Cert.DQkvIdeal.τ Cert.DQkvIdeal.sig) → Buf (Elt Ideal) ℓ) (g : Dev Cert.DQkvIdeal.nD → PrngReg)
    (m' : (ℓ : Loc Cert.DQkvRefIdeal.nD Cert.DQkvRefIdeal.τ Cert.DQkvRefIdeal.sig) → Buf (Elt Ideal) ℓ) (g' : Dev Cert.DQkvRefIdeal.nD → PrngReg), Pre_DQkvIdeal m →
    (∀ c : Dev Cert.DQkvIdeal.nD,
      m' ((c.tc : Thread Cert.DQkvRefIdeal.nD Cert.DQkvRefIdeal.τ).loc Cert.DQkvRefIdeal.main_arg0) = m ((c.tc : Thread Cert.DQkvIdeal.nD Cert.DQkvIdeal.τ).loc Cert.DQkvIdeal.main_arg0)
      ∧ m' ((c.tc : Thread Cert.DQkvRefIdeal.nD Cert.DQkvRefIdeal.τ).loc Cert.DQkvRefIdeal.main_arg1) = m ((c.tc : Thread Cert.DQkvIdeal.nD Cert.DQkvIdeal.τ).loc Cert.DQkvIdeal.main_arg1)) →
    ∃ (v0 : (c : Dev Cert.DQkvIdeal.nD) → Buf (Elt Ideal) ((c.tc : Thread Cert.DQkvIdeal.nD Cert.DQkvIdeal.τ).loc Cert.DQkvIdeal.main_v0)),
      θ_run (Cert.DQkvIdeal.defs (F := Ideal)) (onTc (τ := Cert.DQkvIdeal.τ) (Cert.DQkvIdeal.main (F := Ideal))) ⟨m, fun _ => 0, g⟩ (fun r => ∀ c : Dev Cert.DQkvIdeal.nD,
          r.2.mem ((c.tc : Thread Cert.DQkvIdeal.nD Cert.DQkvIdeal.τ).loc Cert.DQkvIdeal.main_v0) = v0 c
          ∧ r.2.mem ((c.tc : Thread Cert.DQkvIdeal.nD Cert.DQkvIdeal.τ).loc Cert.DQkvIdeal.main_arg0) = m ((c.tc : Thread Cert.DQkvIdeal.nD Cert.DQkvIdeal.τ).loc Cert.DQkvIdeal.main_arg0)
          ∧ r.2.mem ((c.tc : Thread Cert.DQkvIdeal.nD Cert.DQkvIdeal.τ).loc Cert.DQkvIdeal.main_arg1) = m ((c.tc : Thread Cert.DQkvIdeal.nD Cert.DQkvIdeal.τ).loc Cert.DQkvIdeal.main_arg1))
      ∧ θ_run (Cert.DQkvRefIdeal.defs (F := Ideal)) (onTc (τ := Cert.DQkvRefIdeal.τ) (Cert.DQkvRefIdeal.main (F := Ideal))) ⟨m', fun _ => 0, g'⟩ (fun r => ∀ c : Dev Cert.DQkvRefIdeal.nD,
          r.2.mem ((c.tc : Thread Cert.DQkvRefIdeal.nD Cert.DQkvRefIdeal.τ).loc Cert.DQkvRefIdeal.main_v5) = v0 c
          ∧ r.2.mem ((c.tc : Thread Cert.DQkvRefIdeal.nD Cert.DQkvRefIdeal.τ).loc Cert.DQkvRefIdeal.main_arg0) = m' ((c.tc : Thread Cert.DQkvRefIdeal.nD Cert.DQkvRefIdeal.τ).loc Cert.DQkvRefIdeal.main_arg0)
          ∧ r.2.mem ((c.tc : Thread Cert.DQkvRefIdeal.nD Cert.DQkvRefIdeal.τ).loc Cert.DQkvRefIdeal.main_arg1) = m' ((c.tc : Thread Cert.DQkvRefIdeal.nD Cert.DQkvRefIdeal.τ).loc Cert.DQkvRefIdeal.main_arg1))

def preserves_DRwkv_DRwkvIdeal : Prop :=
  True

def algebraic_DRwkvIdeal_DRwkvRefIdeal [hDRwkvIdeal : Cert.DRwkvIdeal.Facts] [hDRwkvRefIdeal : Cert.DRwkvRefIdeal.Facts] : Prop :=
  ∀ (m : (ℓ : Loc Cert.DRwkvIdeal.nD Cert.DRwkvIdeal.τ Cert.DRwkvIdeal.sig) → Buf (Elt Ideal) ℓ) (g : Dev Cert.DRwkvIdeal.nD → PrngReg)
    (m' : (ℓ : Loc Cert.DRwkvRefIdeal.nD Cert.DRwkvRefIdeal.τ Cert.DRwkvRefIdeal.sig) → Buf (Elt Ideal) ℓ) (g' : Dev Cert.DRwkvRefIdeal.nD → PrngReg), Pre_DRwkvIdeal m →
    (∀ c : Dev Cert.DRwkvIdeal.nD,
      m' ((c.tc : Thread Cert.DRwkvRefIdeal.nD Cert.DRwkvRefIdeal.τ).loc Cert.DRwkvRefIdeal.main_arg0) = m ((c.tc : Thread Cert.DRwkvIdeal.nD Cert.DRwkvIdeal.τ).loc Cert.DRwkvIdeal.main_arg0)
      ∧ m' ((c.tc : Thread Cert.DRwkvRefIdeal.nD Cert.DRwkvRefIdeal.τ).loc Cert.DRwkvRefIdeal.main_arg1) = m ((c.tc : Thread Cert.DRwkvIdeal.nD Cert.DRwkvIdeal.τ).loc Cert.DRwkvIdeal.main_arg1)) →
    ∃ (v0 : (c : Dev Cert.DRwkvIdeal.nD) → Buf (Elt Ideal) ((c.tc : Thread Cert.DRwkvIdeal.nD Cert.DRwkvIdeal.τ).loc Cert.DRwkvIdeal.main_v0)),
      θ_run (Cert.DRwkvIdeal.defs (F := Ideal)) (onTc (τ := Cert.DRwkvIdeal.τ) (Cert.DRwkvIdeal.main (F := Ideal))) ⟨m, fun _ => 0, g⟩ (fun r => ∀ c : Dev Cert.DRwkvIdeal.nD,
          r.2.mem ((c.tc : Thread Cert.DRwkvIdeal.nD Cert.DRwkvIdeal.τ).loc Cert.DRwkvIdeal.main_v0) = v0 c
          ∧ r.2.mem ((c.tc : Thread Cert.DRwkvIdeal.nD Cert.DRwkvIdeal.τ).loc Cert.DRwkvIdeal.main_arg0) = m ((c.tc : Thread Cert.DRwkvIdeal.nD Cert.DRwkvIdeal.τ).loc Cert.DRwkvIdeal.main_arg0)
          ∧ r.2.mem ((c.tc : Thread Cert.DRwkvIdeal.nD Cert.DRwkvIdeal.τ).loc Cert.DRwkvIdeal.main_arg1) = m ((c.tc : Thread Cert.DRwkvIdeal.nD Cert.DRwkvIdeal.τ).loc Cert.DRwkvIdeal.main_arg1))
      ∧ θ_run (Cert.DRwkvRefIdeal.defs (F := Ideal)) (onTc (τ := Cert.DRwkvRefIdeal.τ) (Cert.DRwkvRefIdeal.main (F := Ideal))) ⟨m', fun _ => 0, g'⟩ (fun r => ∀ c : Dev Cert.DRwkvRefIdeal.nD,
          r.2.mem ((c.tc : Thread Cert.DRwkvRefIdeal.nD Cert.DRwkvRefIdeal.τ).loc Cert.DRwkvRefIdeal.main_v5) = v0 c
          ∧ r.2.mem ((c.tc : Thread Cert.DRwkvRefIdeal.nD Cert.DRwkvRefIdeal.τ).loc Cert.DRwkvRefIdeal.main_arg0) = m' ((c.tc : Thread Cert.DRwkvRefIdeal.nD Cert.DRwkvRefIdeal.τ).loc Cert.DRwkvRefIdeal.main_arg0)
          ∧ r.2.mem ((c.tc : Thread Cert.DRwkvRefIdeal.nD Cert.DRwkvRefIdeal.τ).loc Cert.DRwkvRefIdeal.main_arg1) = m' ((c.tc : Thread Cert.DRwkvRefIdeal.nD Cert.DRwkvRefIdeal.τ).loc Cert.DRwkvRefIdeal.main_arg1))

def preserves_DGate_DGateIdeal : Prop :=
  True

def algebraic_DGateIdeal_DGateRefIdeal [hDGateIdeal : Cert.DGateIdeal.Facts] [hDGateRefIdeal : Cert.DGateRefIdeal.Facts] : Prop :=
  ∀ (m : (ℓ : Loc Cert.DGateIdeal.nD Cert.DGateIdeal.τ Cert.DGateIdeal.sig) → Buf (Elt Ideal) ℓ) (g : Dev Cert.DGateIdeal.nD → PrngReg)
    (m' : (ℓ : Loc Cert.DGateRefIdeal.nD Cert.DGateRefIdeal.τ Cert.DGateRefIdeal.sig) → Buf (Elt Ideal) ℓ) (g' : Dev Cert.DGateRefIdeal.nD → PrngReg), Pre_DGateIdeal m →
    (∀ c : Dev Cert.DGateIdeal.nD,
      m' ((c.tc : Thread Cert.DGateRefIdeal.nD Cert.DGateRefIdeal.τ).loc Cert.DGateRefIdeal.main_arg0) = m ((c.tc : Thread Cert.DGateIdeal.nD Cert.DGateIdeal.τ).loc Cert.DGateIdeal.main_arg0)
      ∧ m' ((c.tc : Thread Cert.DGateRefIdeal.nD Cert.DGateRefIdeal.τ).loc Cert.DGateRefIdeal.main_arg1) = m ((c.tc : Thread Cert.DGateIdeal.nD Cert.DGateIdeal.τ).loc Cert.DGateIdeal.main_arg1)) →
    ∃ (v0 : (c : Dev Cert.DGateIdeal.nD) → Buf (Elt Ideal) ((c.tc : Thread Cert.DGateIdeal.nD Cert.DGateIdeal.τ).loc Cert.DGateIdeal.main_v0)),
      θ_run (Cert.DGateIdeal.defs (F := Ideal)) (onTc (τ := Cert.DGateIdeal.τ) (Cert.DGateIdeal.main (F := Ideal))) ⟨m, fun _ => 0, g⟩ (fun r => ∀ c : Dev Cert.DGateIdeal.nD,
          r.2.mem ((c.tc : Thread Cert.DGateIdeal.nD Cert.DGateIdeal.τ).loc Cert.DGateIdeal.main_v0) = v0 c
          ∧ r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
          ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1))
      ∧ θ_run (Cert.DGateRefIdeal.defs (F := Ideal)) (onTc (τ := Cert.DGateRefIdeal.τ) (Cert.DGateRefIdeal.main (F := Ideal))) ⟨m', fun _ => 0, g'⟩ (fun r => ∀ c : Dev Cert.DGateRefIdeal.nD,
          r.2.mem ((c.tc : Thread Cert.DGateRefIdeal.nD Cert.DGateRefIdeal.τ).loc Cert.DGateRefIdeal.main_v5) = v0 c
          ∧ r.2.mem ((c.tc : Thread Cert.DGateRefIdeal.nD Cert.DGateRefIdeal.τ).loc Cert.DGateRefIdeal.main_arg0) = m' ((c.tc : Thread Cert.DGateRefIdeal.nD Cert.DGateRefIdeal.τ).loc Cert.DGateRefIdeal.main_arg0)
          ∧ r.2.mem ((c.tc : Thread Cert.DGateRefIdeal.nD Cert.DGateRefIdeal.τ).loc Cert.DGateRefIdeal.main_arg1) = m' ((c.tc : Thread Cert.DGateRefIdeal.nD Cert.DGateRefIdeal.τ).loc Cert.DGateRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Rwkv_RwkvIdeal : Prop :=
  True

def algebraic_RwkvIdeal_RwkvRefIdeal [hRwkvIdeal : Cert.RwkvIdeal.Facts] [hRwkvRefIdeal : Cert.RwkvRefIdeal.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)) →
    ∃ (v0 : (c : Dev Cert.RwkvIdeal.nD) → Buf (Elt Ideal) ((c.tc : Thread Cert.RwkvIdeal.nD Cert.RwkvIdeal.τ).loc Cert.RwkvIdeal.main_v0)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v0) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v2) = v0 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v3) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v3) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v3) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)) →
    ∃ (v0 : (c : Dev Cert.MergeFIdeal.nD) → Buf (Elt Ideal) ((c.tc : Thread Cert.MergeFIdeal.nD Cert.MergeFIdeal.τ).loc Cert.MergeFIdeal.main_v0)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v0) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v20) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2))

def preserves_SwigluF_SwigluFIdeal : Prop :=
  True

def algebraic_SwigluFIdeal_SwigluFRefIdeal [hSwigluFIdeal : Cert.SwigluFIdeal.Facts] [hSwigluFRefIdeal : Cert.SwigluFRefIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg)
    (m' : (ℓ : Loc Cert.SwigluFRefIdeal.nD Cert.SwigluFRefIdeal.τ Cert.SwigluFRefIdeal.sig) → Buf (Elt Ideal) ℓ) (g' : Dev Cert.SwigluFRefIdeal.nD → PrngReg), Pre_SwigluFIdeal m →
    (∀ c : Dev Cert.SwigluFIdeal.nD,
      m' ((c.tc : Thread Cert.SwigluFRefIdeal.nD Cert.SwigluFRefIdeal.τ).loc Cert.SwigluFRefIdeal.main_arg0) = m ((c.tc : Thread Cert.SwigluFIdeal.nD Cert.SwigluFIdeal.τ).loc Cert.SwigluFIdeal.main_arg0)
      ∧ m' ((c.tc : Thread Cert.SwigluFRefIdeal.nD Cert.SwigluFRefIdeal.τ).loc Cert.SwigluFRefIdeal.main_arg1) = m ((c.tc : Thread Cert.SwigluFIdeal.nD Cert.SwigluFIdeal.τ).loc Cert.SwigluFIdeal.main_arg1)) →
    ∃ (v0 : (c : Dev Cert.SwigluFIdeal.nD) → Buf (Elt Ideal) ((c.tc : Thread Cert.SwigluFIdeal.nD Cert.SwigluFIdeal.τ).loc Cert.SwigluFIdeal.main_v0)),
      θ_run (Cert.SwigluFIdeal.defs (F := Ideal)) (onTc (τ := Cert.SwigluFIdeal.τ) (Cert.SwigluFIdeal.main (F := Ideal))) ⟨m, fun _ => 0, g⟩ (fun r => ∀ c : Dev Cert.SwigluFIdeal.nD,
          r.2.mem ((c.tc : Thread Cert.SwigluFIdeal.nD Cert.SwigluFIdeal.τ).loc Cert.SwigluFIdeal.main_v0) = v0 c
          ∧ r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0)
          ∧ r.2.mem ((c.tc : Thread Cert.SwigluFIdeal.nD Cert.SwigluFIdeal.τ).loc Cert.SwigluFIdeal.main_arg1) = m ((c.tc : Thread Cert.SwigluFIdeal.nD Cert.SwigluFIdeal.τ).loc Cert.SwigluFIdeal.main_arg1))
      ∧ θ_run (Cert.SwigluFRefIdeal.defs (F := Ideal)) (onTc (τ := Cert.SwigluFRefIdeal.τ) (Cert.SwigluFRefIdeal.main (F := Ideal))) ⟨m', fun _ => 0, g'⟩ (fun r => ∀ c : Dev Cert.SwigluFRefIdeal.nD,
          r.2.mem ((c.tc : Thread Cert.SwigluFRefIdeal.nD Cert.SwigluFRefIdeal.τ).loc Cert.SwigluFRefIdeal.main_v4) = v0 c
          ∧ r.2.mem ((c.tc : Thread Cert.SwigluFRefIdeal.nD Cert.SwigluFRefIdeal.τ).loc Cert.SwigluFRefIdeal.main_arg0) = m' ((c.tc : Thread Cert.SwigluFRefIdeal.nD Cert.SwigluFRefIdeal.τ).loc Cert.SwigluFRefIdeal.main_arg0)
          ∧ r.2.mem ((c.tc : Thread Cert.SwigluFRefIdeal.nD Cert.SwigluFRefIdeal.τ).loc Cert.SwigluFRefIdeal.main_arg1) = m' ((c.tc : Thread Cert.SwigluFRefIdeal.nD Cert.SwigluFRefIdeal.τ).loc Cert.SwigluFRefIdeal.main_arg1))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v0)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v0) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v12) = v0 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_ResidF_ResidFIdeal : Prop :=
  True

def algebraic_ResidFIdeal_ResidFRefIdeal [hResidFIdeal : Cert.ResidFIdeal.Facts] [hResidFRefIdeal : Cert.ResidFRefIdeal.Facts] : Prop :=
  ∀ (m : (ℓ : Loc Cert.ResidFIdeal.nD Cert.ResidFIdeal.τ Cert.ResidFIdeal.sig) → Buf (Elt Ideal) ℓ) (g : Dev Cert.ResidFIdeal.nD → PrngReg)
    (m' : (ℓ : Loc Cert.ResidFRefIdeal.nD Cert.ResidFRefIdeal.τ Cert.ResidFRefIdeal.sig) → Buf (Elt Ideal) ℓ) (g' : Dev Cert.ResidFRefIdeal.nD → PrngReg), Pre_ResidFIdeal m →
    (∀ c : Dev Cert.ResidFIdeal.nD,
      m' ((c.tc : Thread Cert.ResidFRefIdeal.nD Cert.ResidFRefIdeal.τ).loc Cert.ResidFRefIdeal.main_arg0) = m ((c.tc : Thread Cert.ResidFIdeal.nD Cert.ResidFIdeal.τ).loc Cert.ResidFIdeal.main_arg0)
      ∧ m' ((c.tc : Thread Cert.ResidFRefIdeal.nD Cert.ResidFRefIdeal.τ).loc Cert.ResidFRefIdeal.main_arg1) = m ((c.tc : Thread Cert.ResidFIdeal.nD Cert.ResidFIdeal.τ).loc Cert.ResidFIdeal.main_arg1)
      ∧ m' ((c.tc : Thread Cert.ResidFRefIdeal.nD Cert.ResidFRefIdeal.τ).loc Cert.ResidFRefIdeal.main_arg2) = m ((c.tc : Thread Cert.ResidFIdeal.nD Cert.ResidFIdeal.τ).loc Cert.ResidFIdeal.main_arg2)
      ∧ m' ((c.tc : Thread Cert.ResidFRefIdeal.nD Cert.ResidFRefIdeal.τ).loc Cert.ResidFRefIdeal.main_arg3) = m ((c.tc : Thread Cert.ResidFIdeal.nD Cert.ResidFIdeal.τ).loc Cert.ResidFIdeal.main_arg3)) →
    ∃ (v0 : (c : Dev Cert.ResidFIdeal.nD) → Buf (Elt Ideal) ((c.tc : Thread Cert.ResidFIdeal.nD Cert.ResidFIdeal.τ).loc Cert.ResidFIdeal.main_v0_0)) (v1 : (c : Dev Cert.ResidFIdeal.nD) → Buf (Elt Ideal) ((c.tc : Thread Cert.ResidFIdeal.nD Cert.ResidFIdeal.τ).loc Cert.ResidFIdeal.main_v0_1)),
      θ_run (Cert.ResidFIdeal.defs (F := Ideal)) (onTc (τ := Cert.ResidFIdeal.τ) (Cert.ResidFIdeal.main (F := Ideal))) ⟨m, fun _ => 0, g⟩ (fun r => ∀ c : Dev Cert.ResidFIdeal.nD,
          r.2.mem ((c.tc : Thread Cert.ResidFIdeal.nD Cert.ResidFIdeal.τ).loc Cert.ResidFIdeal.main_v0_0) = v0 c
          ∧ r.2.mem ((c.tc : Thread Cert.ResidFIdeal.nD Cert.ResidFIdeal.τ).loc Cert.ResidFIdeal.main_v0_1) = v1 c
          ∧ r.2.mem ((c.tc : Thread Cert.ResidFIdeal.nD Cert.ResidFIdeal.τ).loc Cert.ResidFIdeal.main_arg0) = m ((c.tc : Thread Cert.ResidFIdeal.nD Cert.ResidFIdeal.τ).loc Cert.ResidFIdeal.main_arg0)
          ∧ r.2.mem ((c.tc : Thread Cert.ResidFIdeal.nD Cert.ResidFIdeal.τ).loc Cert.ResidFIdeal.main_arg1) = m ((c.tc : Thread Cert.ResidFIdeal.nD Cert.ResidFIdeal.τ).loc Cert.ResidFIdeal.main_arg1)
          ∧ r.2.mem ((c.tc : Thread Cert.ResidFIdeal.nD Cert.ResidFIdeal.τ).loc Cert.ResidFIdeal.main_arg2) = m ((c.tc : Thread Cert.ResidFIdeal.nD Cert.ResidFIdeal.τ).loc Cert.ResidFIdeal.main_arg2)
          ∧ r.2.mem ((c.tc : Thread Cert.ResidFIdeal.nD Cert.ResidFIdeal.τ).loc Cert.ResidFIdeal.main_arg3) = m ((c.tc : Thread Cert.ResidFIdeal.nD Cert.ResidFIdeal.τ).loc Cert.ResidFIdeal.main_arg3))
      ∧ θ_run (Cert.ResidFRefIdeal.defs (F := Ideal)) (onTc (τ := Cert.ResidFRefIdeal.τ) (Cert.ResidFRefIdeal.main (F := Ideal))) ⟨m', fun _ => 0, g'⟩ (fun r => ∀ c : Dev Cert.ResidFRefIdeal.nD,
          r.2.mem ((c.tc : Thread Cert.ResidFRefIdeal.nD Cert.ResidFRefIdeal.τ).loc Cert.ResidFRefIdeal.main_v12) = v0 c
          ∧ r.2.mem ((c.tc : Thread Cert.ResidFRefIdeal.nD Cert.ResidFRefIdeal.τ).loc Cert.ResidFRefIdeal.main_v25) = v1 c
          ∧ r.2.mem ((c.tc : Thread Cert.ResidFRefIdeal.nD Cert.ResidFRefIdeal.τ).loc Cert.ResidFRefIdeal.main_arg0) = m' ((c.tc : Thread Cert.ResidFRefIdeal.nD Cert.ResidFRefIdeal.τ).loc Cert.ResidFRefIdeal.main_arg0)
          ∧ r.2.mem ((c.tc : Thread Cert.ResidFRefIdeal.nD Cert.ResidFRefIdeal.τ).loc Cert.ResidFRefIdeal.main_arg1) = m' ((c.tc : Thread Cert.ResidFRefIdeal.nD Cert.ResidFRefIdeal.τ).loc Cert.ResidFRefIdeal.main_arg1)
          ∧ r.2.mem ((c.tc : Thread Cert.ResidFRefIdeal.nD Cert.ResidFRefIdeal.τ).loc Cert.ResidFRefIdeal.main_arg2) = m' ((c.tc : Thread Cert.ResidFRefIdeal.nD Cert.ResidFRefIdeal.τ).loc Cert.ResidFRefIdeal.main_arg2)
          ∧ r.2.mem ((c.tc : Thread Cert.ResidFRefIdeal.nD Cert.ResidFRefIdeal.τ).loc Cert.ResidFRefIdeal.main_arg3) = m' ((c.tc : Thread Cert.ResidFRefIdeal.nD Cert.ResidFRefIdeal.τ).loc Cert.ResidFRefIdeal.main_arg3))

def preserves_RmsB_RmsBIdeal : Prop :=
  True

def algebraic_RmsBIdeal_RmsBRefIdeal [hRmsBIdeal : Cert.RmsBIdeal.Facts] [hRmsBRefIdeal : Cert.RmsBRefIdeal.Facts] : Prop :=
  ∀ (m : (ℓ : Loc Cert.RmsBIdeal.nD Cert.RmsBIdeal.τ Cert.RmsBIdeal.sig) → Buf (Elt Ideal) ℓ) (g : Dev Cert.RmsBIdeal.nD → PrngReg)
    (m' : (ℓ : Loc Cert.RmsBRefIdeal.nD Cert.RmsBRefIdeal.τ Cert.RmsBRefIdeal.sig) → Buf (Elt Ideal) ℓ) (g' : Dev Cert.RmsBRefIdeal.nD → PrngReg), Pre_RmsBIdeal m →
    (∀ c : Dev Cert.RmsBIdeal.nD,
      m' ((c.tc : Thread Cert.RmsBRefIdeal.nD Cert.RmsBRefIdeal.τ).loc Cert.RmsBRefIdeal.main_arg0) = m ((c.tc : Thread Cert.RmsBIdeal.nD Cert.RmsBIdeal.τ).loc Cert.RmsBIdeal.main_arg0)
      ∧ m' ((c.tc : Thread Cert.RmsBRefIdeal.nD Cert.RmsBRefIdeal.τ).loc Cert.RmsBRefIdeal.main_arg1) = m ((c.tc : Thread Cert.RmsBIdeal.nD Cert.RmsBIdeal.τ).loc Cert.RmsBIdeal.main_arg1)
      ∧ m' ((c.tc : Thread Cert.RmsBRefIdeal.nD Cert.RmsBRefIdeal.τ).loc Cert.RmsBRefIdeal.main_arg2) = m ((c.tc : Thread Cert.RmsBIdeal.nD Cert.RmsBIdeal.τ).loc Cert.RmsBIdeal.main_arg2)
      ∧ m' ((c.tc : Thread Cert.RmsBRefIdeal.nD Cert.RmsBRefIdeal.τ).loc Cert.RmsBRefIdeal.main_arg3) = m ((c.tc : Thread Cert.RmsBIdeal.nD Cert.RmsBIdeal.τ).loc Cert.RmsBIdeal.main_arg3)
      ∧ m' ((c.tc : Thread Cert.RmsBRefIdeal.nD Cert.RmsBRefIdeal.τ).loc Cert.RmsBRefIdeal.main_arg4) = m ((c.tc : Thread Cert.RmsBIdeal.nD Cert.RmsBIdeal.τ).loc Cert.RmsBIdeal.main_arg4)
      ∧ m' ((c.tc : Thread Cert.RmsBRefIdeal.nD Cert.RmsBRefIdeal.τ).loc Cert.RmsBRefIdeal.main_arg5) = m ((c.tc : Thread Cert.RmsBIdeal.nD Cert.RmsBIdeal.τ).loc Cert.RmsBIdeal.main_arg5)) →
    ∃ (v0 : (c : Dev Cert.RmsBIdeal.nD) → Buf (Elt Ideal) ((c.tc : Thread Cert.RmsBIdeal.nD Cert.RmsBIdeal.τ).loc Cert.RmsBIdeal.main_v0_0)) (v1 : (c : Dev Cert.RmsBIdeal.nD) → Buf (Elt Ideal) ((c.tc : Thread Cert.RmsBIdeal.nD Cert.RmsBIdeal.τ).loc Cert.RmsBIdeal.main_v0_1)),
      θ_run (Cert.RmsBIdeal.defs (F := Ideal)) (onTc (τ := Cert.RmsBIdeal.τ) (Cert.RmsBIdeal.main (F := Ideal))) ⟨m, fun _ => 0, g⟩ (fun r => ∀ c : Dev Cert.RmsBIdeal.nD,
          r.2.mem ((c.tc : Thread Cert.RmsBIdeal.nD Cert.RmsBIdeal.τ).loc Cert.RmsBIdeal.main_v0_0) = v0 c
          ∧ r.2.mem ((c.tc : Thread Cert.RmsBIdeal.nD Cert.RmsBIdeal.τ).loc Cert.RmsBIdeal.main_v0_1) = v1 c
          ∧ r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
          ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
          ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
          ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3)
          ∧ r.2.mem ((c.tc : Thread Cert.RmsBIdeal.nD Cert.RmsBIdeal.τ).loc Cert.RmsBIdeal.main_arg4) = m ((c.tc : Thread Cert.RmsBIdeal.nD Cert.RmsBIdeal.τ).loc Cert.RmsBIdeal.main_arg4)
          ∧ r.2.mem ((c.tc : Thread Cert.RmsBIdeal.nD Cert.RmsBIdeal.τ).loc Cert.RmsBIdeal.main_arg5) = m ((c.tc : Thread Cert.RmsBIdeal.nD Cert.RmsBIdeal.τ).loc Cert.RmsBIdeal.main_arg5))
      ∧ θ_run (Cert.RmsBRefIdeal.defs (F := Ideal)) (onTc (τ := Cert.RmsBRefIdeal.τ) (Cert.RmsBRefIdeal.main (F := Ideal))) ⟨m', fun _ => 0, g'⟩ (fun r => ∀ c : Dev Cert.RmsBRefIdeal.nD,
          r.2.mem ((c.tc : Thread Cert.RmsBRefIdeal.nD Cert.RmsBRefIdeal.τ).loc Cert.RmsBRefIdeal.main_v39) = v0 c
          ∧ r.2.mem ((c.tc : Thread Cert.RmsBRefIdeal.nD Cert.RmsBRefIdeal.τ).loc Cert.RmsBRefIdeal.main_v22) = v1 c
          ∧ r.2.mem ((c.tc : Thread Cert.RmsBRefIdeal.nD Cert.RmsBRefIdeal.τ).loc Cert.RmsBRefIdeal.main_arg0) = m' ((c.tc : Thread Cert.RmsBRefIdeal.nD Cert.RmsBRefIdeal.τ).loc Cert.RmsBRefIdeal.main_arg0)
          ∧ r.2.mem ((c.tc : Thread Cert.RmsBRefIdeal.nD Cert.RmsBRefIdeal.τ).loc Cert.RmsBRefIdeal.main_arg1) = m' ((c.tc : Thread Cert.RmsBRefIdeal.nD Cert.RmsBRefIdeal.τ).loc Cert.RmsBRefIdeal.main_arg1)
          ∧ r.2.mem ((c.tc : Thread Cert.RmsBRefIdeal.nD Cert.RmsBRefIdeal.τ).loc Cert.RmsBRefIdeal.main_arg2) = m' ((c.tc : Thread Cert.RmsBRefIdeal.nD Cert.RmsBRefIdeal.τ).loc Cert.RmsBRefIdeal.main_arg2)
          ∧ r.2.mem ((c.tc : Thread Cert.RmsBRefIdeal.nD Cert.RmsBRefIdeal.τ).loc Cert.RmsBRefIdeal.main_arg3) = m' ((c.tc : Thread Cert.RmsBRefIdeal.nD Cert.RmsBRefIdeal.τ).loc Cert.RmsBRefIdeal.main_arg3)
          ∧ r.2.mem ((c.tc : Thread Cert.RmsBRefIdeal.nD Cert.RmsBRefIdeal.τ).loc Cert.RmsBRefIdeal.main_arg4) = m' ((c.tc : Thread Cert.RmsBRefIdeal.nD Cert.RmsBRefIdeal.τ).loc Cert.RmsBRefIdeal.main_arg4)
          ∧ r.2.mem ((c.tc : Thread Cert.RmsBRefIdeal.nD Cert.RmsBRefIdeal.τ).loc Cert.RmsBRefIdeal.main_arg5) = m' ((c.tc : Thread Cert.RmsBRefIdeal.nD Cert.RmsBRefIdeal.τ).loc Cert.RmsBRefIdeal.main_arg5))

def preserves_ResidB_ResidBIdeal : Prop :=
  True

def algebraic_ResidBIdeal_ResidBRefIdeal [hResidBIdeal : Cert.ResidBIdeal.Facts] [hResidBRefIdeal : Cert.ResidBRefIdeal.Facts] : Prop :=
  ∀ (m : (ℓ : Loc Cert.ResidBIdeal.nD Cert.ResidBIdeal.τ Cert.ResidBIdeal.sig) → Buf (Elt Ideal) ℓ) (g : Dev Cert.ResidBIdeal.nD → PrngReg)
    (m' : (ℓ : Loc Cert.ResidBRefIdeal.nD Cert.ResidBRefIdeal.τ Cert.ResidBRefIdeal.sig) → Buf (Elt Ideal) ℓ) (g' : Dev Cert.ResidBRefIdeal.nD → PrngReg), Pre_ResidBIdeal m →
    (∀ c : Dev Cert.ResidBIdeal.nD,
      m' ((c.tc : Thread Cert.ResidBRefIdeal.nD Cert.ResidBRefIdeal.τ).loc Cert.ResidBRefIdeal.main_arg0) = m ((c.tc : Thread Cert.ResidBIdeal.nD Cert.ResidBIdeal.τ).loc Cert.ResidBIdeal.main_arg0)
      ∧ m' ((c.tc : Thread Cert.ResidBRefIdeal.nD Cert.ResidBRefIdeal.τ).loc Cert.ResidBRefIdeal.main_arg1) = m ((c.tc : Thread Cert.ResidBIdeal.nD Cert.ResidBIdeal.τ).loc Cert.ResidBIdeal.main_arg1)
      ∧ m' ((c.tc : Thread Cert.ResidBRefIdeal.nD Cert.ResidBRefIdeal.τ).loc Cert.ResidBRefIdeal.main_arg2) = m ((c.tc : Thread Cert.ResidBIdeal.nD Cert.ResidBIdeal.τ).loc Cert.ResidBIdeal.main_arg2)
      ∧ m' ((c.tc : Thread Cert.ResidBRefIdeal.nD Cert.ResidBRefIdeal.τ).loc Cert.ResidBRefIdeal.main_arg3) = m ((c.tc : Thread Cert.ResidBIdeal.nD Cert.ResidBIdeal.τ).loc Cert.ResidBIdeal.main_arg3)
      ∧ m' ((c.tc : Thread Cert.ResidBRefIdeal.nD Cert.ResidBRefIdeal.τ).loc Cert.ResidBRefIdeal.main_arg4) = m ((c.tc : Thread Cert.ResidBIdeal.nD Cert.ResidBIdeal.τ).loc Cert.ResidBIdeal.main_arg4)
      ∧ m' ((c.tc : Thread Cert.ResidBRefIdeal.nD Cert.ResidBRefIdeal.τ).loc Cert.ResidBRefIdeal.main_arg5) = m ((c.tc : Thread Cert.ResidBIdeal.nD Cert.ResidBIdeal.τ).loc Cert.ResidBIdeal.main_arg5)
      ∧ m' ((c.tc : Thread Cert.ResidBRefIdeal.nD Cert.ResidBRefIdeal.τ).loc Cert.ResidBRefIdeal.main_arg6) = m ((c.tc : Thread Cert.ResidBIdeal.nD Cert.ResidBIdeal.τ).loc Cert.ResidBIdeal.main_arg6)) →
    ∃ (v0 : (c : Dev Cert.ResidBIdeal.nD) → Buf (Elt Ideal) ((c.tc : Thread Cert.ResidBIdeal.nD Cert.ResidBIdeal.τ).loc Cert.ResidBIdeal.main_v0_0)) (v1 : (c : Dev Cert.ResidBIdeal.nD) → Buf (Elt Ideal) ((c.tc : Thread Cert.ResidBIdeal.nD Cert.ResidBIdeal.τ).loc Cert.ResidBIdeal.main_v0_1)) (v2 : (c : Dev Cert.ResidBIdeal.nD) → Buf (Elt Ideal) ((c.tc : Thread Cert.ResidBIdeal.nD Cert.ResidBIdeal.τ).loc Cert.ResidBIdeal.main_v0_2)) (v3 : (c : Dev Cert.ResidBIdeal.nD) → Buf (Elt Ideal) ((c.tc : Thread Cert.ResidBIdeal.nD Cert.ResidBIdeal.τ).loc Cert.ResidBIdeal.main_v0_3)),
      θ_run (Cert.ResidBIdeal.defs (F := Ideal)) (onTc (τ := Cert.ResidBIdeal.τ) (Cert.ResidBIdeal.main (F := Ideal))) ⟨m, fun _ => 0, g⟩ (fun r => ∀ c : Dev Cert.ResidBIdeal.nD,
          r.2.mem ((c.tc : Thread Cert.ResidBIdeal.nD Cert.ResidBIdeal.τ).loc Cert.ResidBIdeal.main_v0_0) = v0 c
          ∧ r.2.mem ((c.tc : Thread Cert.ResidBIdeal.nD Cert.ResidBIdeal.τ).loc Cert.ResidBIdeal.main_v0_1) = v1 c
          ∧ r.2.mem ((c.tc : Thread Cert.ResidBIdeal.nD Cert.ResidBIdeal.τ).loc Cert.ResidBIdeal.main_v0_2) = v2 c
          ∧ r.2.mem ((c.tc : Thread Cert.ResidBIdeal.nD Cert.ResidBIdeal.τ).loc Cert.ResidBIdeal.main_v0_3) = v3 c
          ∧ r.2.mem ((c.tc : Thread Cert.ResidBIdeal.nD Cert.ResidBIdeal.τ).loc Cert.ResidBIdeal.main_arg0) = m ((c.tc : Thread Cert.ResidBIdeal.nD Cert.ResidBIdeal.τ).loc Cert.ResidBIdeal.main_arg0)
          ∧ r.2.mem ((c.tc : Thread Cert.ResidBIdeal.nD Cert.ResidBIdeal.τ).loc Cert.ResidBIdeal.main_arg1) = m ((c.tc : Thread Cert.ResidBIdeal.nD Cert.ResidBIdeal.τ).loc Cert.ResidBIdeal.main_arg1)
          ∧ r.2.mem ((c.tc : Thread Cert.ResidBIdeal.nD Cert.ResidBIdeal.τ).loc Cert.ResidBIdeal.main_arg2) = m ((c.tc : Thread Cert.ResidBIdeal.nD Cert.ResidBIdeal.τ).loc Cert.ResidBIdeal.main_arg2)
          ∧ r.2.mem ((c.tc : Thread Cert.ResidBIdeal.nD Cert.ResidBIdeal.τ).loc Cert.ResidBIdeal.main_arg3) = m ((c.tc : Thread Cert.ResidBIdeal.nD Cert.ResidBIdeal.τ).loc Cert.ResidBIdeal.main_arg3)
          ∧ r.2.mem ((c.tc : Thread Cert.ResidBIdeal.nD Cert.ResidBIdeal.τ).loc Cert.ResidBIdeal.main_arg4) = m ((c.tc : Thread Cert.ResidBIdeal.nD Cert.ResidBIdeal.τ).loc Cert.ResidBIdeal.main_arg4)
          ∧ r.2.mem ((c.tc : Thread Cert.ResidBIdeal.nD Cert.ResidBIdeal.τ).loc Cert.ResidBIdeal.main_arg5) = m ((c.tc : Thread Cert.ResidBIdeal.nD Cert.ResidBIdeal.τ).loc Cert.ResidBIdeal.main_arg5)
          ∧ r.2.mem ((c.tc : Thread Cert.ResidBIdeal.nD Cert.ResidBIdeal.τ).loc Cert.ResidBIdeal.main_arg6) = m ((c.tc : Thread Cert.ResidBIdeal.nD Cert.ResidBIdeal.τ).loc Cert.ResidBIdeal.main_arg6))
      ∧ θ_run (Cert.ResidBRefIdeal.defs (F := Ideal)) (onTc (τ := Cert.ResidBRefIdeal.τ) (Cert.ResidBRefIdeal.main (F := Ideal))) ⟨m', fun _ => 0, g'⟩ (fun r => ∀ c : Dev Cert.ResidBRefIdeal.nD,
          r.2.mem ((c.tc : Thread Cert.ResidBRefIdeal.nD Cert.ResidBRefIdeal.τ).loc Cert.ResidBRefIdeal.main_v37) = v0 c
          ∧ r.2.mem ((c.tc : Thread Cert.ResidBRefIdeal.nD Cert.ResidBRefIdeal.τ).loc Cert.ResidBRefIdeal.main_v72) = v1 c
          ∧ r.2.mem ((c.tc : Thread Cert.ResidBRefIdeal.nD Cert.ResidBRefIdeal.τ).loc Cert.ResidBRefIdeal.main_v20) = v2 c
          ∧ r.2.mem ((c.tc : Thread Cert.ResidBRefIdeal.nD Cert.ResidBRefIdeal.τ).loc Cert.ResidBRefIdeal.main_v55) = v3 c
          ∧ r.2.mem ((c.tc : Thread Cert.ResidBRefIdeal.nD Cert.ResidBRefIdeal.τ).loc Cert.ResidBRefIdeal.main_arg0) = m' ((c.tc : Thread Cert.ResidBRefIdeal.nD Cert.ResidBRefIdeal.τ).loc Cert.ResidBRefIdeal.main_arg0)
          ∧ r.2.mem ((c.tc : Thread Cert.ResidBRefIdeal.nD Cert.ResidBRefIdeal.τ).loc Cert.ResidBRefIdeal.main_arg1) = m' ((c.tc : Thread Cert.ResidBRefIdeal.nD Cert.ResidBRefIdeal.τ).loc Cert.ResidBRefIdeal.main_arg1)
          ∧ r.2.mem ((c.tc : Thread Cert.ResidBRefIdeal.nD Cert.ResidBRefIdeal.τ).loc Cert.ResidBRefIdeal.main_arg2) = m' ((c.tc : Thread Cert.ResidBRefIdeal.nD Cert.ResidBRefIdeal.τ).loc Cert.ResidBRefIdeal.main_arg2)
          ∧ r.2.mem ((c.tc : Thread Cert.ResidBRefIdeal.nD Cert.ResidBRefIdeal.τ).loc Cert.ResidBRefIdeal.main_arg3) = m' ((c.tc : Thread Cert.ResidBRefIdeal.nD Cert.ResidBRefIdeal.τ).loc Cert.ResidBRefIdeal.main_arg3)
          ∧ r.2.mem ((c.tc : Thread Cert.ResidBRefIdeal.nD Cert.ResidBRefIdeal.τ).loc Cert.ResidBRefIdeal.main_arg4) = m' ((c.tc : Thread Cert.ResidBRefIdeal.nD Cert.ResidBRefIdeal.τ).loc Cert.ResidBRefIdeal.main_arg4)
          ∧ r.2.mem ((c.tc : Thread Cert.ResidBRefIdeal.nD Cert.ResidBRefIdeal.τ).loc Cert.ResidBRefIdeal.main_arg5) = m' ((c.tc : Thread Cert.ResidBRefIdeal.nD Cert.ResidBRefIdeal.τ).loc Cert.ResidBRefIdeal.main_arg5)
          ∧ r.2.mem ((c.tc : Thread Cert.ResidBRefIdeal.nD Cert.ResidBRefIdeal.τ).loc Cert.ResidBRefIdeal.main_arg6) = m' ((c.tc : Thread Cert.ResidBRefIdeal.nD Cert.ResidBRefIdeal.τ).loc Cert.ResidBRefIdeal.main_arg6))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v26) = v0 c
          ∧ r.2.mem ((c.tc : Thread Cert.AdamInRefIdeal.nD Cert.AdamInRefIdeal.τ).loc Cert.AdamInRefIdeal.main_v7) = v1 c
          ∧ r.2.mem ((c.tc : Thread Cert.AdamInRefIdeal.nD Cert.AdamInRefIdeal.τ).loc Cert.AdamInRefIdeal.main_v13) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamLora_AdamLoraIdeal : Prop :=
  True

def algebraic_AdamLoraIdeal_AdamLoraRefIdeal [hAdamLoraIdeal : Cert.AdamLoraIdeal.Facts] [hAdamLoraRefIdeal : Cert.AdamLoraRefIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg)
    (m' : (ℓ : Loc Cert.AdamLoraRefIdeal.nD Cert.AdamLoraRefIdeal.τ Cert.AdamLoraRefIdeal.sig) → Buf (Elt Ideal) ℓ) (g' : Dev Cert.AdamLoraRefIdeal.nD → PrngReg), Pre_AdamLoraIdeal m →
    (∀ c : Dev Cert.AdamLoraIdeal.nD,
      m' ((c.tc : Thread Cert.AdamLoraRefIdeal.nD Cert.AdamLoraRefIdeal.τ).loc Cert.AdamLoraRefIdeal.main_arg0) = m ((c.tc : Thread Cert.AdamLoraIdeal.nD Cert.AdamLoraIdeal.τ).loc Cert.AdamLoraIdeal.main_arg0)
      ∧ m' ((c.tc : Thread Cert.AdamLoraRefIdeal.nD Cert.AdamLoraRefIdeal.τ).loc Cert.AdamLoraRefIdeal.main_arg1) = m ((c.tc : Thread Cert.AdamLoraIdeal.nD Cert.AdamLoraIdeal.τ).loc Cert.AdamLoraIdeal.main_arg1)
      ∧ m' ((c.tc : Thread Cert.AdamLoraRefIdeal.nD Cert.AdamLoraRefIdeal.τ).loc Cert.AdamLoraRefIdeal.main_arg2) = m ((c.tc : Thread Cert.AdamLoraIdeal.nD Cert.AdamLoraIdeal.τ).loc Cert.AdamLoraIdeal.main_arg2)
      ∧ m' ((c.tc : Thread Cert.AdamLoraRefIdeal.nD Cert.AdamLoraRefIdeal.τ).loc Cert.AdamLoraRefIdeal.main_arg3) = m ((c.tc : Thread Cert.AdamLoraIdeal.nD Cert.AdamLoraIdeal.τ).loc Cert.AdamLoraIdeal.main_arg3)) →
    ∃ (v0 : (c : Dev Cert.AdamLoraIdeal.nD) → Buf (Elt Ideal) ((c.tc : Thread Cert.AdamLoraIdeal.nD Cert.AdamLoraIdeal.τ).loc Cert.AdamLoraIdeal.main_v3_0)) (v1 : (c : Dev Cert.AdamLoraIdeal.nD) → Buf (Elt Ideal) ((c.tc : Thread Cert.AdamLoraIdeal.nD Cert.AdamLoraIdeal.τ).loc Cert.AdamLoraIdeal.main_v3_1)) (v2 : (c : Dev Cert.AdamLoraIdeal.nD) → Buf (Elt Ideal) ((c.tc : Thread Cert.AdamLoraIdeal.nD Cert.AdamLoraIdeal.τ).loc Cert.AdamLoraIdeal.main_v3_2)),
      θ_run (Cert.AdamLoraIdeal.defs (F := Ideal)) (onTc (τ := Cert.AdamLoraIdeal.τ) (Cert.AdamLoraIdeal.main (F := Ideal))) ⟨m, fun _ => 0, g⟩ (fun r => ∀ c : Dev Cert.AdamLoraIdeal.nD,
          r.2.mem ((c.tc : Thread Cert.AdamLoraIdeal.nD Cert.AdamLoraIdeal.τ).loc Cert.AdamLoraIdeal.main_v3_0) = v0 c
          ∧ r.2.mem ((c.tc : Thread Cert.AdamLoraIdeal.nD Cert.AdamLoraIdeal.τ).loc Cert.AdamLoraIdeal.main_v3_1) = v1 c
          ∧ r.2.mem ((c.tc : Thread Cert.AdamLoraIdeal.nD Cert.AdamLoraIdeal.τ).loc Cert.AdamLoraIdeal.main_v3_2) = v2 c
          ∧ r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
          ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
          ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
          ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3))
      ∧ θ_run (Cert.AdamLoraRefIdeal.defs (F := Ideal)) (onTc (τ := Cert.AdamLoraRefIdeal.τ) (Cert.AdamLoraRefIdeal.main (F := Ideal))) ⟨m', fun _ => 0, g'⟩ (fun r => ∀ c : Dev Cert.AdamLoraRefIdeal.nD,
          r.2.mem ((c.tc : Thread Cert.AdamLoraRefIdeal.nD Cert.AdamLoraRefIdeal.τ).loc Cert.AdamLoraRefIdeal.main_v26) = v0 c
          ∧ r.2.mem ((c.tc : Thread Cert.AdamLoraRefIdeal.nD Cert.AdamLoraRefIdeal.τ).loc Cert.AdamLoraRefIdeal.main_v7) = v1 c
          ∧ r.2.mem ((c.tc : Thread Cert.AdamLoraRefIdeal.nD Cert.AdamLoraRefIdeal.τ).loc Cert.AdamLoraRefIdeal.main_v13) = v2 c
          ∧ r.2.mem ((c.tc : Thread Cert.AdamLoraRefIdeal.nD Cert.AdamLoraRefIdeal.τ).loc Cert.AdamLoraRefIdeal.main_arg0) = m' ((c.tc : Thread Cert.AdamLoraRefIdeal.nD Cert.AdamLoraRefIdeal.τ).loc Cert.AdamLoraRefIdeal.main_arg0)
          ∧ r.2.mem ((c.tc : Thread Cert.AdamLoraRefIdeal.nD Cert.AdamLoraRefIdeal.τ).loc Cert.AdamLoraRefIdeal.main_arg1) = m' ((c.tc : Thread Cert.AdamLoraRefIdeal.nD Cert.AdamLoraRefIdeal.τ).loc Cert.AdamLoraRefIdeal.main_arg1)
          ∧ r.2.mem ((c.tc : Thread Cert.AdamLoraRefIdeal.nD Cert.AdamLoraRefIdeal.τ).loc Cert.AdamLoraRefIdeal.main_arg2) = m' ((c.tc : Thread Cert.AdamLoraRefIdeal.nD Cert.AdamLoraRefIdeal.τ).loc Cert.AdamLoraRefIdeal.main_arg2)
          ∧ r.2.mem ((c.tc : Thread Cert.AdamLoraRefIdeal.nD Cert.AdamLoraRefIdeal.τ).loc Cert.AdamLoraRefIdeal.main_arg3) = m' ((c.tc : Thread Cert.AdamLoraRefIdeal.nD Cert.AdamLoraRefIdeal.τ).loc Cert.AdamLoraRefIdeal.main_arg3))

def preserves_AdamLoraG_AdamLoraGIdeal : Prop :=
  True

def algebraic_AdamLoraGIdeal_AdamLoraGRefIdeal [hAdamLoraGIdeal : Cert.AdamLoraGIdeal.Facts] [hAdamLoraGRefIdeal : Cert.AdamLoraGRefIdeal.Facts] : Prop :=
  ∀ (m : (ℓ : Loc Cert.AdamLoraGIdeal.nD Cert.AdamLoraGIdeal.τ Cert.AdamLoraGIdeal.sig) → Buf (Elt Ideal) ℓ) (g : Dev Cert.AdamLoraGIdeal.nD → PrngReg)
    (m' : (ℓ : Loc Cert.AdamLoraGRefIdeal.nD Cert.AdamLoraGRefIdeal.τ Cert.AdamLoraGRefIdeal.sig) → Buf (Elt Ideal) ℓ) (g' : Dev Cert.AdamLoraGRefIdeal.nD → PrngReg), Pre_AdamLoraGIdeal m →
    (∀ c : Dev Cert.AdamLoraGIdeal.nD,
      m' ((c.tc : Thread Cert.AdamLoraGRefIdeal.nD Cert.AdamLoraGRefIdeal.τ).loc Cert.AdamLoraGRefIdeal.main_arg0) = m ((c.tc : Thread Cert.AdamLoraGIdeal.nD Cert.AdamLoraGIdeal.τ).loc Cert.AdamLoraGIdeal.main_arg0)
      ∧ m' ((c.tc : Thread Cert.AdamLoraGRefIdeal.nD Cert.AdamLoraGRefIdeal.τ).loc Cert.AdamLoraGRefIdeal.main_arg1) = m ((c.tc : Thread Cert.AdamLoraGIdeal.nD Cert.AdamLoraGIdeal.τ).loc Cert.AdamLoraGIdeal.main_arg1)
      ∧ m' ((c.tc : Thread Cert.AdamLoraGRefIdeal.nD Cert.AdamLoraGRefIdeal.τ).loc Cert.AdamLoraGRefIdeal.main_arg2) = m ((c.tc : Thread Cert.AdamLoraGIdeal.nD Cert.AdamLoraGIdeal.τ).loc Cert.AdamLoraGIdeal.main_arg2)
      ∧ m' ((c.tc : Thread Cert.AdamLoraGRefIdeal.nD Cert.AdamLoraGRefIdeal.τ).loc Cert.AdamLoraGRefIdeal.main_arg3) = m ((c.tc : Thread Cert.AdamLoraGIdeal.nD Cert.AdamLoraGIdeal.τ).loc Cert.AdamLoraGIdeal.main_arg3)) →
    ∃ (v0 : (c : Dev Cert.AdamLoraGIdeal.nD) → Buf (Elt Ideal) ((c.tc : Thread Cert.AdamLoraGIdeal.nD Cert.AdamLoraGIdeal.τ).loc Cert.AdamLoraGIdeal.main_v3_0)) (v1 : (c : Dev Cert.AdamLoraGIdeal.nD) → Buf (Elt Ideal) ((c.tc : Thread Cert.AdamLoraGIdeal.nD Cert.AdamLoraGIdeal.τ).loc Cert.AdamLoraGIdeal.main_v3_1)) (v2 : (c : Dev Cert.AdamLoraGIdeal.nD) → Buf (Elt Ideal) ((c.tc : Thread Cert.AdamLoraGIdeal.nD Cert.AdamLoraGIdeal.τ).loc Cert.AdamLoraGIdeal.main_v3_2)),
      θ_run (Cert.AdamLoraGIdeal.defs (F := Ideal)) (onTc (τ := Cert.AdamLoraGIdeal.τ) (Cert.AdamLoraGIdeal.main (F := Ideal))) ⟨m, fun _ => 0, g⟩ (fun r => ∀ c : Dev Cert.AdamLoraGIdeal.nD,
          r.2.mem ((c.tc : Thread Cert.AdamLoraGIdeal.nD Cert.AdamLoraGIdeal.τ).loc Cert.AdamLoraGIdeal.main_v3_0) = v0 c
          ∧ r.2.mem ((c.tc : Thread Cert.AdamLoraGIdeal.nD Cert.AdamLoraGIdeal.τ).loc Cert.AdamLoraGIdeal.main_v3_1) = v1 c
          ∧ r.2.mem ((c.tc : Thread Cert.AdamLoraGIdeal.nD Cert.AdamLoraGIdeal.τ).loc Cert.AdamLoraGIdeal.main_v3_2) = v2 c
          ∧ r.2.mem ((c.tc : Thread Cert.AdamLoraGIdeal.nD Cert.AdamLoraGIdeal.τ).loc Cert.AdamLoraGIdeal.main_arg0) = m ((c.tc : Thread Cert.AdamLoraGIdeal.nD Cert.AdamLoraGIdeal.τ).loc Cert.AdamLoraGIdeal.main_arg0)
          ∧ r.2.mem ((c.tc : Thread Cert.AdamLoraGIdeal.nD Cert.AdamLoraGIdeal.τ).loc Cert.AdamLoraGIdeal.main_arg1) = m ((c.tc : Thread Cert.AdamLoraGIdeal.nD Cert.AdamLoraGIdeal.τ).loc Cert.AdamLoraGIdeal.main_arg1)
          ∧ r.2.mem ((c.tc : Thread Cert.AdamLoraGIdeal.nD Cert.AdamLoraGIdeal.τ).loc Cert.AdamLoraGIdeal.main_arg2) = m ((c.tc : Thread Cert.AdamLoraGIdeal.nD Cert.AdamLoraGIdeal.τ).loc Cert.AdamLoraGIdeal.main_arg2)
          ∧ r.2.mem ((c.tc : Thread Cert.AdamLoraGIdeal.nD Cert.AdamLoraGIdeal.τ).loc Cert.AdamLoraGIdeal.main_arg3) = m ((c.tc : Thread Cert.AdamLoraGIdeal.nD Cert.AdamLoraGIdeal.τ).loc Cert.AdamLoraGIdeal.main_arg3))
      ∧ θ_run (Cert.AdamLoraGRefIdeal.defs (F := Ideal)) (onTc (τ := Cert.AdamLoraGRefIdeal.τ) (Cert.AdamLoraGRefIdeal.main (F := Ideal))) ⟨m', fun _ => 0, g'⟩ (fun r => ∀ c : Dev Cert.AdamLoraGRefIdeal.nD,
          r.2.mem ((c.tc : Thread Cert.AdamLoraGRefIdeal.nD Cert.AdamLoraGRefIdeal.τ).loc Cert.AdamLoraGRefIdeal.main_v26) = v0 c
          ∧ r.2.mem ((c.tc : Thread Cert.AdamLoraGRefIdeal.nD Cert.AdamLoraGRefIdeal.τ).loc Cert.AdamLoraGRefIdeal.main_v7) = v1 c
          ∧ r.2.mem ((c.tc : Thread Cert.AdamLoraGRefIdeal.nD Cert.AdamLoraGRefIdeal.τ).loc Cert.AdamLoraGRefIdeal.main_v13) = v2 c
          ∧ r.2.mem ((c.tc : Thread Cert.AdamLoraGRefIdeal.nD Cert.AdamLoraGRefIdeal.τ).loc Cert.AdamLoraGRefIdeal.main_arg0) = m' ((c.tc : Thread Cert.AdamLoraGRefIdeal.nD Cert.AdamLoraGRefIdeal.τ).loc Cert.AdamLoraGRefIdeal.main_arg0)
          ∧ r.2.mem ((c.tc : Thread Cert.AdamLoraGRefIdeal.nD Cert.AdamLoraGRefIdeal.τ).loc Cert.AdamLoraGRefIdeal.main_arg1) = m' ((c.tc : Thread Cert.AdamLoraGRefIdeal.nD Cert.AdamLoraGRefIdeal.τ).loc Cert.AdamLoraGRefIdeal.main_arg1)
          ∧ r.2.mem ((c.tc : Thread Cert.AdamLoraGRefIdeal.nD Cert.AdamLoraGRefIdeal.τ).loc Cert.AdamLoraGRefIdeal.main_arg2) = m' ((c.tc : Thread Cert.AdamLoraGRefIdeal.nD Cert.AdamLoraGRefIdeal.τ).loc Cert.AdamLoraGRefIdeal.main_arg2)
          ∧ r.2.mem ((c.tc : Thread Cert.AdamLoraGRefIdeal.nD Cert.AdamLoraGRefIdeal.τ).loc Cert.AdamLoraGRefIdeal.main_arg3) = m' ((c.tc : Thread Cert.AdamLoraGRefIdeal.nD Cert.AdamLoraGRefIdeal.τ).loc Cert.AdamLoraGRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v3_0)) (v1 : (c : Dev Cert.AdamSquareIdeal.nD) → Buf (Elt Ideal) ((c.tc : Thread Cert.AdamSquareIdeal.nD Cert.AdamSquareIdeal.τ).loc Cert.AdamSquareIdeal.main_v3_1)) (v2 : (c : Dev Cert.AdamSquareIdeal.nD) → Buf (Elt Ideal) ((c.tc : Thread Cert.AdamSquareIdeal.nD Cert.AdamSquareIdeal.τ).loc Cert.AdamSquareIdeal.main_v3_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v3_0) = v0 c
          ∧ r.2.mem ((c.tc : Thread Cert.AdamSquareIdeal.nD Cert.AdamSquareIdeal.τ).loc Cert.AdamSquareIdeal.main_v3_1) = v1 c
          ∧ r.2.mem ((c.tc : Thread Cert.AdamSquareIdeal.nD Cert.AdamSquareIdeal.τ).loc Cert.AdamSquareIdeal.main_v3_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v26) = v0 c
          ∧ r.2.mem ((c.tc : Thread Cert.AdamSquareRefIdeal.nD Cert.AdamSquareRefIdeal.τ).loc Cert.AdamSquareRefIdeal.main_v7) = v1 c
          ∧ r.2.mem ((c.tc : Thread Cert.AdamSquareRefIdeal.nD Cert.AdamSquareRefIdeal.τ).loc Cert.AdamSquareRefIdeal.main_v13) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v3_0)) (v1 : (c : Dev Cert.AdamUpIdeal.nD) → Buf (Elt Ideal) ((c.tc : Thread Cert.AdamUpIdeal.nD Cert.AdamUpIdeal.τ).loc Cert.AdamUpIdeal.main_v3_1)) (v2 : (c : Dev Cert.AdamUpIdeal.nD) → Buf (Elt Ideal) ((c.tc : Thread Cert.AdamUpIdeal.nD Cert.AdamUpIdeal.τ).loc Cert.AdamUpIdeal.main_v3_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v3_0) = v0 c
          ∧ r.2.mem ((c.tc : Thread Cert.AdamUpIdeal.nD Cert.AdamUpIdeal.τ).loc Cert.AdamUpIdeal.main_v3_1) = v1 c
          ∧ r.2.mem ((c.tc : Thread Cert.AdamUpIdeal.nD Cert.AdamUpIdeal.τ).loc Cert.AdamUpIdeal.main_v3_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v26) = v0 c
          ∧ r.2.mem ((c.tc : Thread Cert.AdamUpRefIdeal.nD Cert.AdamUpRefIdeal.τ).loc Cert.AdamUpRefIdeal.main_v7) = v1 c
          ∧ r.2.mem ((c.tc : Thread Cert.AdamUpRefIdeal.nD Cert.AdamUpRefIdeal.τ).loc Cert.AdamUpRefIdeal.main_v13) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v3_0)) (v1 : (c : Dev Cert.AdamDownIdeal.nD) → Buf (Elt Ideal) ((c.tc : Thread Cert.AdamDownIdeal.nD Cert.AdamDownIdeal.τ).loc Cert.AdamDownIdeal.main_v3_1)) (v2 : (c : Dev Cert.AdamDownIdeal.nD) → Buf (Elt Ideal) ((c.tc : Thread Cert.AdamDownIdeal.nD Cert.AdamDownIdeal.τ).loc Cert.AdamDownIdeal.main_v3_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v3_0) = v0 c
          ∧ r.2.mem ((c.tc : Thread Cert.AdamDownIdeal.nD Cert.AdamDownIdeal.τ).loc Cert.AdamDownIdeal.main_v3_1) = v1 c
          ∧ r.2.mem ((c.tc : Thread Cert.AdamDownIdeal.nD Cert.AdamDownIdeal.τ).loc Cert.AdamDownIdeal.main_v3_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v26) = v0 c
          ∧ r.2.mem ((c.tc : Thread Cert.AdamDownRefIdeal.nD Cert.AdamDownRefIdeal.τ).loc Cert.AdamDownRefIdeal.main_v7) = v1 c
          ∧ r.2.mem ((c.tc : Thread Cert.AdamDownRefIdeal.nD Cert.AdamDownRefIdeal.τ).loc Cert.AdamDownRefIdeal.main_v13) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)
      ∧ m' ((c.tc : Thread Cert.AdamSmallRefIdeal.nD Cert.AdamSmallRefIdeal.τ).loc Cert.AdamSmallRefIdeal.main_arg52) = m ((c.tc : Thread Cert.AdamSmallIdeal.nD Cert.AdamSmallIdeal.τ).loc Cert.AdamSmallIdeal.main_arg52)
      ∧ m' ((c.tc : Thread Cert.AdamSmallRefIdeal.nD Cert.AdamSmallRefIdeal.τ).loc Cert.AdamSmallRefIdeal.main_arg53) = m ((c.tc : Thread Cert.AdamSmallIdeal.nD Cert.AdamSmallIdeal.τ).loc Cert.AdamSmallIdeal.main_arg53)
      ∧ m' ((c.tc : Thread Cert.AdamSmallRefIdeal.nD Cert.AdamSmallRefIdeal.τ).loc Cert.AdamSmallRefIdeal.main_arg54) = m ((c.tc : Thread Cert.AdamSmallIdeal.nD Cert.AdamSmallIdeal.τ).loc Cert.AdamSmallIdeal.main_arg54)
      ∧ m' ((c.tc : Thread Cert.AdamSmallRefIdeal.nD Cert.AdamSmallRefIdeal.τ).loc Cert.AdamSmallRefIdeal.main_arg55) = m ((c.tc : Thread Cert.AdamSmallIdeal.nD Cert.AdamSmallIdeal.τ).loc Cert.AdamSmallIdeal.main_arg55)) →
    ∃ (v0 : (c : Dev Cert.AdamSmallIdeal.nD) → Buf (Elt Ideal) ((c.tc : Thread Cert.AdamSmallIdeal.nD Cert.AdamSmallIdeal.τ).loc Cert.AdamSmallIdeal.main_v72)) (v1 : (c : Dev Cert.AdamSmallIdeal.nD) → Buf (Elt Ideal) ((c.tc : Thread Cert.AdamSmallIdeal.nD Cert.AdamSmallIdeal.τ).loc Cert.AdamSmallIdeal.main_v74)) (v2 : (c : Dev Cert.AdamSmallIdeal.nD) → Buf (Elt Ideal) ((c.tc : Thread Cert.AdamSmallIdeal.nD Cert.AdamSmallIdeal.τ).loc Cert.AdamSmallIdeal.main_v76)) (v3 : (c : Dev Cert.AdamSmallIdeal.nD) → Buf (Elt Ideal) ((c.tc : Thread Cert.AdamSmallIdeal.nD Cert.AdamSmallIdeal.τ).loc Cert.AdamSmallIdeal.main_v78)) (v4 : (c : Dev Cert.AdamSmallIdeal.nD) → Buf (Elt Ideal) ((c.tc : Thread Cert.AdamSmallIdeal.nD Cert.AdamSmallIdeal.τ).loc Cert.AdamSmallIdeal.main_v80)) (v5 : (c : Dev Cert.AdamSmallIdeal.nD) → Buf (Elt Ideal) ((c.tc : Thread Cert.AdamSmallIdeal.nD Cert.AdamSmallIdeal.τ).loc Cert.AdamSmallIdeal.main_v82)) (v6 : (c : Dev Cert.AdamSmallIdeal.nD) → Buf (Elt Ideal) ((c.tc : Thread Cert.AdamSmallIdeal.nD Cert.AdamSmallIdeal.τ).loc Cert.AdamSmallIdeal.main_v84)) (v7 : (c : Dev Cert.AdamSmallIdeal.nD) → Buf (Elt Ideal) ((c.tc : Thread Cert.AdamSmallIdeal.nD Cert.AdamSmallIdeal.τ).loc Cert.AdamSmallIdeal.main_v86)) (v8 : (c : Dev Cert.AdamSmallIdeal.nD) → Buf (Elt Ideal) ((c.tc : Thread Cert.AdamSmallIdeal.nD Cert.AdamSmallIdeal.τ).loc Cert.AdamSmallIdeal.main_v88)) (v9 : (c : Dev Cert.AdamSmallIdeal.nD) → Buf (Elt Ideal) ((c.tc : Thread Cert.AdamSmallIdeal.nD Cert.AdamSmallIdeal.τ).loc Cert.AdamSmallIdeal.main_v90)) (v10 : (c : Dev Cert.AdamSmallIdeal.nD) → Buf (Elt Ideal) ((c.tc : Thread Cert.AdamSmallIdeal.nD Cert.AdamSmallIdeal.τ).loc Cert.AdamSmallIdeal.main_v92)) (v11 : (c : Dev Cert.AdamSmallIdeal.nD) → Buf (Elt Ideal) ((c.tc : Thread Cert.AdamSmallIdeal.nD Cert.AdamSmallIdeal.τ).loc Cert.AdamSmallIdeal.main_v157)) (v12 : (c : Dev Cert.AdamSmallIdeal.nD) → Buf (Elt Ideal) ((c.tc : Thread Cert.AdamSmallIdeal.nD Cert.AdamSmallIdeal.τ).loc Cert.AdamSmallIdeal.main_v96)) (v13 : (c : Dev Cert.AdamSmallIdeal.nD) → Buf (Elt Ideal) ((c.tc : Thread Cert.AdamSmallIdeal.nD Cert.AdamSmallIdeal.τ).loc Cert.AdamSmallIdeal.main_v98)) (v14 : (c : Dev Cert.AdamSmallIdeal.nD) → Buf (Elt Ideal) ((c.tc : Thread Cert.AdamSmallIdeal.nD Cert.AdamSmallIdeal.τ).loc Cert.AdamSmallIdeal.main_v101)) (v15 : (c : Dev Cert.AdamSmallIdeal.nD) → Buf (Elt Ideal) ((c.tc : Thread Cert.AdamSmallIdeal.nD Cert.AdamSmallIdeal.τ).loc Cert.AdamSmallIdeal.main_v103)) (v16 : (c : Dev Cert.AdamSmallIdeal.nD) → Buf (Elt Ideal) ((c.tc : Thread Cert.AdamSmallIdeal.nD Cert.AdamSmallIdeal.τ).loc Cert.AdamSmallIdeal.main_v105)) (v17 : (c : Dev Cert.AdamSmallIdeal.nD) → Buf (Elt Ideal) ((c.tc : Thread Cert.AdamSmallIdeal.nD Cert.AdamSmallIdeal.τ).loc Cert.AdamSmallIdeal.main_v107)) (v18 : (c : Dev Cert.AdamSmallIdeal.nD) → Buf (Elt Ideal) ((c.tc : Thread Cert.AdamSmallIdeal.nD Cert.AdamSmallIdeal.τ).loc Cert.AdamSmallIdeal.main_v109)) (v19 : (c : Dev Cert.AdamSmallIdeal.nD) → Buf (Elt Ideal) ((c.tc : Thread Cert.AdamSmallIdeal.nD Cert.AdamSmallIdeal.τ).loc Cert.AdamSmallIdeal.main_v111)) (v20 : (c : Dev Cert.AdamSmallIdeal.nD) → Buf (Elt Ideal) ((c.tc : Thread Cert.AdamSmallIdeal.nD Cert.AdamSmallIdeal.τ).loc Cert.AdamSmallIdeal.main_v113)) (v21 : (c : Dev Cert.AdamSmallIdeal.nD) → Buf (Elt Ideal) ((c.tc : Thread Cert.AdamSmallIdeal.nD Cert.AdamSmallIdeal.τ).loc Cert.AdamSmallIdeal.main_v115)) (v22 : (c : Dev Cert.AdamSmallIdeal.nD) → Buf (Elt Ideal) ((c.tc : Thread Cert.AdamSmallIdeal.nD Cert.AdamSmallIdeal.τ).loc Cert.AdamSmallIdeal.main_v117)) (v23 : (c : Dev Cert.AdamSmallIdeal.nD) → Buf (Elt Ideal) ((c.tc : Thread Cert.AdamSmallIdeal.nD Cert.AdamSmallIdeal.τ).loc Cert.AdamSmallIdeal.main_v119)) (v24 : (c : Dev Cert.AdamSmallIdeal.nD) → Buf (Elt Ideal) ((c.tc : Thread Cert.AdamSmallIdeal.nD Cert.AdamSmallIdeal.τ).loc Cert.AdamSmallIdeal.main_v121)) (v25 : (c : Dev Cert.AdamSmallIdeal.nD) → Buf (Elt Ideal) ((c.tc : Thread Cert.AdamSmallIdeal.nD Cert.AdamSmallIdeal.τ).loc Cert.AdamSmallIdeal.main_v158)) (v26 : (c : Dev Cert.AdamSmallIdeal.nD) → Buf (Elt Ideal) ((c.tc : Thread Cert.AdamSmallIdeal.nD Cert.AdamSmallIdeal.τ).loc Cert.AdamSmallIdeal.main_v125)) (v27 : (c : Dev Cert.AdamSmallIdeal.nD) → Buf (Elt Ideal) ((c.tc : Thread Cert.AdamSmallIdeal.nD Cert.AdamSmallIdeal.τ).loc Cert.AdamSmallIdeal.main_v127)) (v28 : (c : Dev Cert.AdamSmallIdeal.nD) → Buf (Elt Ideal) ((c.tc : Thread Cert.AdamSmallIdeal.nD Cert.AdamSmallIdeal.τ).loc Cert.AdamSmallIdeal.main_v130)) (v29 : (c : Dev Cert.AdamSmallIdeal.nD) → Buf (Elt Ideal) ((c.tc : Thread Cert.AdamSmallIdeal.nD Cert.AdamSmallIdeal.τ).loc Cert.AdamSmallIdeal.main_v132)) (v30 : (c : Dev Cert.AdamSmallIdeal.nD) → Buf (Elt Ideal) ((c.tc : Thread Cert.AdamSmallIdeal.nD Cert.AdamSmallIdeal.τ).loc Cert.AdamSmallIdeal.main_v134)) (v31 : (c : Dev Cert.AdamSmallIdeal.nD) → Buf (Elt Ideal) ((c.tc : Thread Cert.AdamSmallIdeal.nD Cert.AdamSmallIdeal.τ).loc Cert.AdamSmallIdeal.main_v136)) (v32 : (c : Dev Cert.AdamSmallIdeal.nD) → Buf (Elt Ideal) ((c.tc : Thread Cert.AdamSmallIdeal.nD Cert.AdamSmallIdeal.τ).loc Cert.AdamSmallIdeal.main_v138)) (v33 : (c : Dev Cert.AdamSmallIdeal.nD) → Buf (Elt Ideal) ((c.tc : Thread Cert.AdamSmallIdeal.nD Cert.AdamSmallIdeal.τ).loc Cert.AdamSmallIdeal.main_v140)) (v34 : (c : Dev Cert.AdamSmallIdeal.nD) → Buf (Elt Ideal) ((c.tc : Thread Cert.AdamSmallIdeal.nD Cert.AdamSmallIdeal.τ).loc Cert.AdamSmallIdeal.main_v142)) (v35 : (c : Dev Cert.AdamSmallIdeal.nD) → Buf (Elt Ideal) ((c.tc : Thread Cert.AdamSmallIdeal.nD Cert.AdamSmallIdeal.τ).loc Cert.AdamSmallIdeal.main_v144)) (v36 : (c : Dev Cert.AdamSmallIdeal.nD) → Buf (Elt Ideal) ((c.tc : Thread Cert.AdamSmallIdeal.nD Cert.AdamSmallIdeal.τ).loc Cert.AdamSmallIdeal.main_v146)) (v37 : (c : Dev Cert.AdamSmallIdeal.nD) → Buf (Elt Ideal) ((c.tc : Thread Cert.AdamSmallIdeal.nD Cert.AdamSmallIdeal.τ).loc Cert.AdamSmallIdeal.main_v148)) (v38 : (c : Dev Cert.AdamSmallIdeal.nD) → Buf (Elt Ideal) ((c.tc : Thread Cert.AdamSmallIdeal.nD Cert.AdamSmallIdeal.τ).loc Cert.AdamSmallIdeal.main_v150)) (v39 : (c : Dev Cert.AdamSmallIdeal.nD) → Buf (Elt Ideal) ((c.tc : Thread Cert.AdamSmallIdeal.nD Cert.AdamSmallIdeal.τ).loc Cert.AdamSmallIdeal.main_v159)) (v40 : (c : Dev Cert.AdamSmallIdeal.nD) → Buf (Elt Ideal) ((c.tc : Thread Cert.AdamSmallIdeal.nD Cert.AdamSmallIdeal.τ).loc Cert.AdamSmallIdeal.main_v154)) (v41 : (c : Dev Cert.AdamSmallIdeal.nD) → Buf (Elt Ideal) ((c.tc : Thread Cert.AdamSmallIdeal.nD Cert.AdamSmallIdeal.τ).loc Cert.AdamSmallIdeal.main_v156)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v72) = v0 c
          ∧ r.2.mem ((c.tc : Thread Cert.AdamSmallIdeal.nD Cert.AdamSmallIdeal.τ).loc Cert.AdamSmallIdeal.main_v74) = v1 c
          ∧ r.2.mem ((c.tc : Thread Cert.AdamSmallIdeal.nD Cert.AdamSmallIdeal.τ).loc Cert.AdamSmallIdeal.main_v76) = v2 c
          ∧ r.2.mem ((c.tc : Thread Cert.AdamSmallIdeal.nD Cert.AdamSmallIdeal.τ).loc Cert.AdamSmallIdeal.main_v78) = v3 c
          ∧ r.2.mem ((c.tc : Thread Cert.AdamSmallIdeal.nD Cert.AdamSmallIdeal.τ).loc Cert.AdamSmallIdeal.main_v80) = v4 c
          ∧ r.2.mem ((c.tc : Thread Cert.AdamSmallIdeal.nD Cert.AdamSmallIdeal.τ).loc Cert.AdamSmallIdeal.main_v82) = v5 c
          ∧ r.2.mem ((c.tc : Thread Cert.AdamSmallIdeal.nD Cert.AdamSmallIdeal.τ).loc Cert.AdamSmallIdeal.main_v84) = v6 c
          ∧ r.2.mem ((c.tc : Thread Cert.AdamSmallIdeal.nD Cert.AdamSmallIdeal.τ).loc Cert.AdamSmallIdeal.main_v86) = v7 c
          ∧ r.2.mem ((c.tc : Thread Cert.AdamSmallIdeal.nD Cert.AdamSmallIdeal.τ).loc Cert.AdamSmallIdeal.main_v88) = v8 c
          ∧ r.2.mem ((c.tc : Thread Cert.AdamSmallIdeal.nD Cert.AdamSmallIdeal.τ).loc Cert.AdamSmallIdeal.main_v90) = v9 c
          ∧ r.2.mem ((c.tc : Thread Cert.AdamSmallIdeal.nD Cert.AdamSmallIdeal.τ).loc Cert.AdamSmallIdeal.main_v92) = v10 c
          ∧ r.2.mem ((c.tc : Thread Cert.AdamSmallIdeal.nD Cert.AdamSmallIdeal.τ).loc Cert.AdamSmallIdeal.main_v157) = v11 c
          ∧ r.2.mem ((c.tc : Thread Cert.AdamSmallIdeal.nD Cert.AdamSmallIdeal.τ).loc Cert.AdamSmallIdeal.main_v96) = v12 c
          ∧ r.2.mem ((c.tc : Thread Cert.AdamSmallIdeal.nD Cert.AdamSmallIdeal.τ).loc Cert.AdamSmallIdeal.main_v98) = v13 c
          ∧ r.2.mem ((c.tc : Thread Cert.AdamSmallIdeal.nD Cert.AdamSmallIdeal.τ).loc Cert.AdamSmallIdeal.main_v101) = v14 c
          ∧ r.2.mem ((c.tc : Thread Cert.AdamSmallIdeal.nD Cert.AdamSmallIdeal.τ).loc Cert.AdamSmallIdeal.main_v103) = v15 c
          ∧ r.2.mem ((c.tc : Thread Cert.AdamSmallIdeal.nD Cert.AdamSmallIdeal.τ).loc Cert.AdamSmallIdeal.main_v105) = v16 c
          ∧ r.2.mem ((c.tc : Thread Cert.AdamSmallIdeal.nD Cert.AdamSmallIdeal.τ).loc Cert.AdamSmallIdeal.main_v107) = v17 c
          ∧ r.2.mem ((c.tc : Thread Cert.AdamSmallIdeal.nD Cert.AdamSmallIdeal.τ).loc Cert.AdamSmallIdeal.main_v109) = v18 c
          ∧ r.2.mem ((c.tc : Thread Cert.AdamSmallIdeal.nD Cert.AdamSmallIdeal.τ).loc Cert.AdamSmallIdeal.main_v111) = v19 c
          ∧ r.2.mem ((c.tc : Thread Cert.AdamSmallIdeal.nD Cert.AdamSmallIdeal.τ).loc Cert.AdamSmallIdeal.main_v113) = v20 c
          ∧ r.2.mem ((c.tc : Thread Cert.AdamSmallIdeal.nD Cert.AdamSmallIdeal.τ).loc Cert.AdamSmallIdeal.main_v115) = v21 c
          ∧ r.2.mem ((c.tc : Thread Cert.AdamSmallIdeal.nD Cert.AdamSmallIdeal.τ).loc Cert.AdamSmallIdeal.main_v117) = v22 c
          ∧ r.2.mem ((c.tc : Thread Cert.AdamSmallIdeal.nD Cert.AdamSmallIdeal.τ).loc Cert.AdamSmallIdeal.main_v119) = v23 c
          ∧ r.2.mem ((c.tc : Thread Cert.AdamSmallIdeal.nD Cert.AdamSmallIdeal.τ).loc Cert.AdamSmallIdeal.main_v121) = v24 c
          ∧ r.2.mem ((c.tc : Thread Cert.AdamSmallIdeal.nD Cert.AdamSmallIdeal.τ).loc Cert.AdamSmallIdeal.main_v158) = v25 c
          ∧ r.2.mem ((c.tc : Thread Cert.AdamSmallIdeal.nD Cert.AdamSmallIdeal.τ).loc Cert.AdamSmallIdeal.main_v125) = v26 c
          ∧ r.2.mem ((c.tc : Thread Cert.AdamSmallIdeal.nD Cert.AdamSmallIdeal.τ).loc Cert.AdamSmallIdeal.main_v127) = v27 c
          ∧ r.2.mem ((c.tc : Thread Cert.AdamSmallIdeal.nD Cert.AdamSmallIdeal.τ).loc Cert.AdamSmallIdeal.main_v130) = v28 c
          ∧ r.2.mem ((c.tc : Thread Cert.AdamSmallIdeal.nD Cert.AdamSmallIdeal.τ).loc Cert.AdamSmallIdeal.main_v132) = v29 c
          ∧ r.2.mem ((c.tc : Thread Cert.AdamSmallIdeal.nD Cert.AdamSmallIdeal.τ).loc Cert.AdamSmallIdeal.main_v134) = v30 c
          ∧ r.2.mem ((c.tc : Thread Cert.AdamSmallIdeal.nD Cert.AdamSmallIdeal.τ).loc Cert.AdamSmallIdeal.main_v136) = v31 c
          ∧ r.2.mem ((c.tc : Thread Cert.AdamSmallIdeal.nD Cert.AdamSmallIdeal.τ).loc Cert.AdamSmallIdeal.main_v138) = v32 c
          ∧ r.2.mem ((c.tc : Thread Cert.AdamSmallIdeal.nD Cert.AdamSmallIdeal.τ).loc Cert.AdamSmallIdeal.main_v140) = v33 c
          ∧ r.2.mem ((c.tc : Thread Cert.AdamSmallIdeal.nD Cert.AdamSmallIdeal.τ).loc Cert.AdamSmallIdeal.main_v142) = v34 c
          ∧ r.2.mem ((c.tc : Thread Cert.AdamSmallIdeal.nD Cert.AdamSmallIdeal.τ).loc Cert.AdamSmallIdeal.main_v144) = v35 c
          ∧ r.2.mem ((c.tc : Thread Cert.AdamSmallIdeal.nD Cert.AdamSmallIdeal.τ).loc Cert.AdamSmallIdeal.main_v146) = v36 c
          ∧ r.2.mem ((c.tc : Thread Cert.AdamSmallIdeal.nD Cert.AdamSmallIdeal.τ).loc Cert.AdamSmallIdeal.main_v148) = v37 c
          ∧ r.2.mem ((c.tc : Thread Cert.AdamSmallIdeal.nD Cert.AdamSmallIdeal.τ).loc Cert.AdamSmallIdeal.main_v150) = v38 c
          ∧ r.2.mem ((c.tc : Thread Cert.AdamSmallIdeal.nD Cert.AdamSmallIdeal.τ).loc Cert.AdamSmallIdeal.main_v159) = v39 c
          ∧ r.2.mem ((c.tc : Thread Cert.AdamSmallIdeal.nD Cert.AdamSmallIdeal.τ).loc Cert.AdamSmallIdeal.main_v154) = v40 c
          ∧ r.2.mem ((c.tc : Thread Cert.AdamSmallIdeal.nD Cert.AdamSmallIdeal.τ).loc Cert.AdamSmallIdeal.main_v156) = v41 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
          ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
          ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
          ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
          ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v239) = v9 c
          ∧ r.2.mem ((c.tc : Thread Cert.AdamSmallRefIdeal.nD Cert.AdamSmallRefIdeal.τ).loc Cert.AdamSmallRefIdeal.main_v263) = v10 c
          ∧ r.2.mem ((c.tc : Thread Cert.AdamSmallRefIdeal.nD Cert.AdamSmallRefIdeal.τ).loc Cert.AdamSmallRefIdeal.main_v287) = v11 c
          ∧ r.2.mem ((c.tc : Thread Cert.AdamSmallRefIdeal.nD Cert.AdamSmallRefIdeal.τ).loc Cert.AdamSmallRefIdeal.main_v311) = v12 c
          ∧ r.2.mem ((c.tc : Thread Cert.AdamSmallRefIdeal.nD Cert.AdamSmallRefIdeal.τ).loc Cert.AdamSmallRefIdeal.main_v335) = v13 c
          ∧ r.2.mem ((c.tc : Thread Cert.AdamSmallRefIdeal.nD Cert.AdamSmallRefIdeal.τ).loc Cert.AdamSmallRefIdeal.main_v4) = v14 c
          ∧ r.2.mem ((c.tc : Thread Cert.AdamSmallRefIdeal.nD Cert.AdamSmallRefIdeal.τ).loc Cert.AdamSmallRefIdeal.main_v28) = v15 c
          ∧ r.2.mem ((c.tc : Thread Cert.AdamSmallRefIdeal.nD Cert.AdamSmallRefIdeal.τ).loc Cert.AdamSmallRefIdeal.main_v52) = v16 c
          ∧ r.2.mem ((c.tc : Thread Cert.AdamSmallRefIdeal.nD Cert.AdamSmallRefIdeal.τ).loc Cert.AdamSmallRefIdeal.main_v76) = v17 c
          ∧ r.2.mem ((c.tc : Thread Cert.AdamSmallRefIdeal.nD Cert.AdamSmallRefIdeal.τ).loc Cert.AdamSmallRefIdeal.main_v100) = v18 c
          ∧ r.2.mem ((c.tc : Thread Cert.AdamSmallRefIdeal.nD Cert.AdamSmallRefIdeal.τ).loc Cert.AdamSmallRefIdeal.main_v124) = v19 c
          ∧ r.2.mem ((c.tc : Thread Cert.AdamSmallRefIdeal.nD Cert.AdamSmallRefIdeal.τ).loc Cert.AdamSmallRefIdeal.main_v148) = v20 c
          ∧ r.2.mem ((c.tc : Thread Cert.AdamSmallRefIdeal.nD Cert.AdamSmallRefIdeal.τ).loc Cert.AdamSmallRefIdeal.main_v172) = v21 c
          ∧ r.2.mem ((c.tc : Thread Cert.AdamSmallRefIdeal.nD Cert.AdamSmallRefIdeal.τ).loc Cert.AdamSmallRefIdeal.main_v196) = v22 c
          ∧ r.2.mem ((c.tc : Thread Cert.AdamSmallRefIdeal.nD Cert.AdamSmallRefIdeal.τ).loc Cert.AdamSmallRefIdeal.main_v220) = v23 c
          ∧ r.2.mem ((c.tc : Thread Cert.AdamSmallRefIdeal.nD Cert.AdamSmallRefIdeal.τ).loc Cert.AdamSmallRefIdeal.main_v244) = v24 c
          ∧ r.2.mem ((c.tc : Thread Cert.AdamSmallRefIdeal.nD Cert.AdamSmallRefIdeal.τ).loc Cert.AdamSmallRefIdeal.main_v268) = v25 c
          ∧ r.2.mem ((c.tc : Thread Cert.AdamSmallRefIdeal.nD Cert.AdamSmallRefIdeal.τ).loc Cert.AdamSmallRefIdeal.main_v292) = v26 c
          ∧ r.2.mem ((c.tc : Thread Cert.AdamSmallRefIdeal.nD Cert.AdamSmallRefIdeal.τ).loc Cert.AdamSmallRefIdeal.main_v316) = v27 c
          ∧ r.2.mem ((c.tc : Thread Cert.AdamSmallRefIdeal.nD Cert.AdamSmallRefIdeal.τ).loc Cert.AdamSmallRefIdeal.main_v10) = v28 c
          ∧ r.2.mem ((c.tc : Thread Cert.AdamSmallRefIdeal.nD Cert.AdamSmallRefIdeal.τ).loc Cert.AdamSmallRefIdeal.main_v34) = v29 c
          ∧ r.2.mem ((c.tc : Thread Cert.AdamSmallRefIdeal.nD Cert.AdamSmallRefIdeal.τ).loc Cert.AdamSmallRefIdeal.main_v58) = v30 c
          ∧ r.2.mem ((c.tc : Thread Cert.AdamSmallRefIdeal.nD Cert.AdamSmallRefIdeal.τ).loc Cert.AdamSmallRefIdeal.main_v82) = v31 c
          ∧ r.2.mem ((c.tc : Thread Cert.AdamSmallRefIdeal.nD Cert.AdamSmallRefIdeal.τ).loc Cert.AdamSmallRefIdeal.main_v106) = v32 c
          ∧ r.2.mem ((c.tc : Thread Cert.AdamSmallRefIdeal.nD Cert.AdamSmallRefIdeal.τ).loc Cert.AdamSmallRefIdeal.main_v130) = v33 c
          ∧ r.2.mem ((c.tc : Thread Cert.AdamSmallRefIdeal.nD Cert.AdamSmallRefIdeal.τ).loc Cert.AdamSmallRefIdeal.main_v154) = v34 c
          ∧ r.2.mem ((c.tc : Thread Cert.AdamSmallRefIdeal.nD Cert.AdamSmallRefIdeal.τ).loc Cert.AdamSmallRefIdeal.main_v178) = v35 c
          ∧ r.2.mem ((c.tc : Thread Cert.AdamSmallRefIdeal.nD Cert.AdamSmallRefIdeal.τ).loc Cert.AdamSmallRefIdeal.main_v202) = v36 c
          ∧ r.2.mem ((c.tc : Thread Cert.AdamSmallRefIdeal.nD Cert.AdamSmallRefIdeal.τ).loc Cert.AdamSmallRefIdeal.main_v226) = v37 c
          ∧ r.2.mem ((c.tc : Thread Cert.AdamSmallRefIdeal.nD Cert.AdamSmallRefIdeal.τ).loc Cert.AdamSmallRefIdeal.main_v250) = v38 c
          ∧ r.2.mem ((c.tc : Thread Cert.AdamSmallRefIdeal.nD Cert.AdamSmallRefIdeal.τ).loc Cert.AdamSmallRefIdeal.main_v274) = v39 c
          ∧ r.2.mem ((c.tc : Thread Cert.AdamSmallRefIdeal.nD Cert.AdamSmallRefIdeal.τ).loc Cert.AdamSmallRefIdeal.main_v298) = v40 c
          ∧ r.2.mem ((c.tc : Thread Cert.AdamSmallRefIdeal.nD Cert.AdamSmallRefIdeal.τ).loc Cert.AdamSmallRefIdeal.main_v322) = v41 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51)
          ∧ r.2.mem ((c.tc : Thread Cert.AdamSmallRefIdeal.nD Cert.AdamSmallRefIdeal.τ).loc Cert.AdamSmallRefIdeal.main_arg52) = m' ((c.tc : Thread Cert.AdamSmallRefIdeal.nD Cert.AdamSmallRefIdeal.τ).loc Cert.AdamSmallRefIdeal.main_arg52)
          ∧ r.2.mem ((c.tc : Thread Cert.AdamSmallRefIdeal.nD Cert.AdamSmallRefIdeal.τ).loc Cert.AdamSmallRefIdeal.main_arg53) = m' ((c.tc : Thread Cert.AdamSmallRefIdeal.nD Cert.AdamSmallRefIdeal.τ).loc Cert.AdamSmallRefIdeal.main_arg53)
          ∧ r.2.mem ((c.tc : Thread Cert.AdamSmallRefIdeal.nD Cert.AdamSmallRefIdeal.τ).loc Cert.AdamSmallRefIdeal.main_arg54) = m' ((c.tc : Thread Cert.AdamSmallRefIdeal.nD Cert.AdamSmallRefIdeal.τ).loc Cert.AdamSmallRefIdeal.main_arg54)
          ∧ r.2.mem ((c.tc : Thread Cert.AdamSmallRefIdeal.nD Cert.AdamSmallRefIdeal.τ).loc Cert.AdamSmallRefIdeal.main_arg55) = m' ((c.tc : Thread Cert.AdamSmallRefIdeal.nD Cert.AdamSmallRefIdeal.τ).loc Cert.AdamSmallRefIdeal.main_arg55))

def preserves_Scan_ScanIdeal : Prop :=
  True

def Claim : Prop :=
  ∃ (hMerge : Cert.Merge.Facts) (hMergeIdeal : Cert.MergeIdeal.Facts) (hMergeRefIdeal : Cert.MergeRefIdeal.Facts) (hSwiglu : Cert.Swiglu.Facts) (hSwigluIdeal : Cert.SwigluIdeal.Facts) (hSwigluRefIdeal : Cert.SwigluRefIdeal.Facts) (hDAct : Cert.DAct.Facts) (hDActIdeal : Cert.DActIdeal.Facts) (hDActRefIdeal : Cert.DActRefIdeal.Facts) (hDNorm : Cert.DNorm.Facts) (hDNormIdeal : Cert.DNormIdeal.Facts) (hDNormRefIdeal : Cert.DNormRefIdeal.Facts) (hDBranch : Cert.DBranch.Facts) (hDBranchIdeal : Cert.DBranchIdeal.Facts) (hDBranchRefIdeal : Cert.DBranchRefIdeal.Facts) (hGDown : Cert.GDown.Facts) (hGDownIdeal : Cert.GDownIdeal.Facts) (hGDownRefIdeal : Cert.GDownRefIdeal.Facts) (hGFfn : Cert.GFfn.Facts) (hGFfnIdeal : Cert.GFfnIdeal.Facts) (hGFfnRefIdeal : Cert.GFfnRefIdeal.Facts) (hGBranch : Cert.GBranch.Facts) (hGBranchIdeal : Cert.GBranchIdeal.Facts) (hGBranchRefIdeal : Cert.GBranchRefIdeal.Facts) (hGQkv : Cert.GQkv.Facts) (hGQkvIdeal : Cert.GQkvIdeal.Facts) (hGQkvRefIdeal : Cert.GQkvRefIdeal.Facts) (hGRwkv : Cert.GRwkv.Facts) (hGRwkvIdeal : Cert.GRwkvIdeal.Facts) (hGRwkvRefIdeal : Cert.GRwkvRefIdeal.Facts) (hGGate : Cert.GGate.Facts) (hGGateIdeal : Cert.GGateIdeal.Facts) (hGGateRefIdeal : Cert.GGateRefIdeal.Facts) (hDQkv : Cert.DQkv.Facts) (hDQkvIdeal : Cert.DQkvIdeal.Facts) (hDQkvRefIdeal : Cert.DQkvRefIdeal.Facts) (hDRwkv : Cert.DRwkv.Facts) (hDRwkvIdeal : Cert.DRwkvIdeal.Facts) (hDRwkvRefIdeal : Cert.DRwkvRefIdeal.Facts) (hDGate : Cert.DGate.Facts) (hDGateIdeal : Cert.DGateIdeal.Facts) (hDGateRefIdeal : Cert.DGateRefIdeal.Facts) (hQkv : Cert.Qkv.Facts) (hQkvIdeal : Cert.QkvIdeal.Facts) (hQkvRefIdeal : Cert.QkvRefIdeal.Facts) (hRwkv : Cert.Rwkv.Facts) (hRwkvIdeal : Cert.RwkvIdeal.Facts) (hRwkvRefIdeal : Cert.RwkvRefIdeal.Facts) (hGate : Cert.Gate.Facts) (hGateIdeal : Cert.GateIdeal.Facts) (hGateRefIdeal : Cert.GateRefIdeal.Facts) (hBranch : Cert.Branch.Facts) (hBranchIdeal : Cert.BranchIdeal.Facts) (hBranchRefIdeal : Cert.BranchRefIdeal.Facts) (hOut : Cert.Out.Facts) (hOutIdeal : Cert.OutIdeal.Facts) (hOutRefIdeal : Cert.OutRefIdeal.Facts) (hFfn : Cert.Ffn.Facts) (hFfnIdeal : Cert.FfnIdeal.Facts) (hFfnRefIdeal : Cert.FfnRefIdeal.Facts) (hDown : Cert.Down.Facts) (hDownIdeal : Cert.DownIdeal.Facts) (hDownRefIdeal : Cert.DownRefIdeal.Facts) (hMergeF : Cert.MergeF.Facts) (hMergeFIdeal : Cert.MergeFIdeal.Facts) (hMergeFRefIdeal : Cert.MergeFRefIdeal.Facts) (hSwigluF : Cert.SwigluF.Facts) (hSwigluFIdeal : Cert.SwigluFIdeal.Facts) (hSwigluFRefIdeal : Cert.SwigluFRefIdeal.Facts) (hRmsF : Cert.RmsF.Facts) (hRmsFIdeal : Cert.RmsFIdeal.Facts) (hRmsFRefIdeal : Cert.RmsFRefIdeal.Facts) (hResidF : Cert.ResidF.Facts) (hResidFIdeal : Cert.ResidFIdeal.Facts) (hResidFRefIdeal : Cert.ResidFRefIdeal.Facts) (hRmsB : Cert.RmsB.Facts) (hRmsBIdeal : Cert.RmsBIdeal.Facts) (hRmsBRefIdeal : Cert.RmsBRefIdeal.Facts) (hResidB : Cert.ResidB.Facts) (hResidBIdeal : Cert.ResidBIdeal.Facts) (hResidBRefIdeal : Cert.ResidBRefIdeal.Facts) (hAdamIn : Cert.AdamIn.Facts) (hAdamInIdeal : Cert.AdamInIdeal.Facts) (hAdamInRefIdeal : Cert.AdamInRefIdeal.Facts) (hAdamLora : Cert.AdamLora.Facts) (hAdamLoraIdeal : Cert.AdamLoraIdeal.Facts) (hAdamLoraRefIdeal : Cert.AdamLoraRefIdeal.Facts) (hAdamLoraG : Cert.AdamLoraG.Facts) (hAdamLoraGIdeal : Cert.AdamLoraGIdeal.Facts) (hAdamLoraGRefIdeal : Cert.AdamLoraGRefIdeal.Facts) (hAdamSquare : Cert.AdamSquare.Facts) (hAdamSquareIdeal : Cert.AdamSquareIdeal.Facts) (hAdamSquareRefIdeal : Cert.AdamSquareRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hScan : Cert.Scan.Facts) (hScanIdeal : Cert.ScanIdeal.Facts),
    quiescent_Merge (hMerge := hMerge)
    ∧ quiescent_MergeIdeal (hMergeIdeal := hMergeIdeal)
    ∧ quiescent_MergeRefIdeal (hMergeRefIdeal := hMergeRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_DAct (hDAct := hDAct)
    ∧ quiescent_DActIdeal (hDActIdeal := hDActIdeal)
    ∧ quiescent_DActRefIdeal (hDActRefIdeal := hDActRefIdeal)
    ∧ quiescent_DNorm (hDNorm := hDNorm)
    ∧ quiescent_DNormIdeal (hDNormIdeal := hDNormIdeal)
    ∧ quiescent_DNormRefIdeal (hDNormRefIdeal := hDNormRefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_GDown (hGDown := hGDown)
    ∧ quiescent_GDownIdeal (hGDownIdeal := hGDownIdeal)
    ∧ quiescent_GDownRefIdeal (hGDownRefIdeal := hGDownRefIdeal)
    ∧ quiescent_GFfn (hGFfn := hGFfn)
    ∧ quiescent_GFfnIdeal (hGFfnIdeal := hGFfnIdeal)
    ∧ quiescent_GFfnRefIdeal (hGFfnRefIdeal := hGFfnRefIdeal)
    ∧ quiescent_GBranch (hGBranch := hGBranch)
    ∧ quiescent_GBranchIdeal (hGBranchIdeal := hGBranchIdeal)
    ∧ quiescent_GBranchRefIdeal (hGBranchRefIdeal := hGBranchRefIdeal)
    ∧ quiescent_GQkv (hGQkv := hGQkv)
    ∧ quiescent_GQkvIdeal (hGQkvIdeal := hGQkvIdeal)
    ∧ quiescent_GQkvRefIdeal (hGQkvRefIdeal := hGQkvRefIdeal)
    ∧ quiescent_GRwkv (hGRwkv := hGRwkv)
    ∧ quiescent_GRwkvIdeal (hGRwkvIdeal := hGRwkvIdeal)
    ∧ quiescent_GRwkvRefIdeal (hGRwkvRefIdeal := hGRwkvRefIdeal)
    ∧ quiescent_GGate (hGGate := hGGate)
    ∧ quiescent_GGateIdeal (hGGateIdeal := hGGateIdeal)
    ∧ quiescent_GGateRefIdeal (hGGateRefIdeal := hGGateRefIdeal)
    ∧ quiescent_DQkv (hDQkv := hDQkv)
    ∧ quiescent_DQkvIdeal (hDQkvIdeal := hDQkvIdeal)
    ∧ quiescent_DQkvRefIdeal (hDQkvRefIdeal := hDQkvRefIdeal)
    ∧ quiescent_DRwkv (hDRwkv := hDRwkv)
    ∧ quiescent_DRwkvIdeal (hDRwkvIdeal := hDRwkvIdeal)
    ∧ quiescent_DRwkvRefIdeal (hDRwkvRefIdeal := hDRwkvRefIdeal)
    ∧ quiescent_DGate (hDGate := hDGate)
    ∧ quiescent_DGateIdeal (hDGateIdeal := hDGateIdeal)
    ∧ quiescent_DGateRefIdeal (hDGateRefIdeal := hDGateRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Rwkv (hRwkv := hRwkv)
    ∧ quiescent_RwkvIdeal (hRwkvIdeal := hRwkvIdeal)
    ∧ quiescent_RwkvRefIdeal (hRwkvRefIdeal := hRwkvRefIdeal)
    ∧ quiescent_Gate (hGate := hGate)
    ∧ quiescent_GateIdeal (hGateIdeal := hGateIdeal)
    ∧ quiescent_GateRefIdeal (hGateRefIdeal := hGateRefIdeal)
    ∧ quiescent_Branch (hBranch := hBranch)
    ∧ quiescent_BranchIdeal (hBranchIdeal := hBranchIdeal)
    ∧ quiescent_BranchRefIdeal (hBranchRefIdeal := hBranchRefIdeal)
    ∧ quiescent_Out (hOut := hOut)
    ∧ quiescent_OutIdeal (hOutIdeal := hOutIdeal)
    ∧ quiescent_OutRefIdeal (hOutRefIdeal := hOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Down (hDown := hDown)
    ∧ quiescent_DownIdeal (hDownIdeal := hDownIdeal)
    ∧ quiescent_DownRefIdeal (hDownRefIdeal := hDownRefIdeal)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_SwigluF (hSwigluF := hSwigluF)
    ∧ quiescent_SwigluFIdeal (hSwigluFIdeal := hSwigluFIdeal)
    ∧ quiescent_SwigluFRefIdeal (hSwigluFRefIdeal := hSwigluFRefIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_ResidF (hResidF := hResidF)
    ∧ quiescent_ResidFIdeal (hResidFIdeal := hResidFIdeal)
    ∧ quiescent_ResidFRefIdeal (hResidFRefIdeal := hResidFRefIdeal)
    ∧ quiescent_RmsB (hRmsB := hRmsB)
    ∧ quiescent_RmsBIdeal (hRmsBIdeal := hRmsBIdeal)
    ∧ quiescent_RmsBRefIdeal (hRmsBRefIdeal := hRmsBRefIdeal)
    ∧ quiescent_ResidB (hResidB := hResidB)
    ∧ quiescent_ResidBIdeal (hResidBIdeal := hResidBIdeal)
    ∧ quiescent_ResidBRefIdeal (hResidBRefIdeal := hResidBRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamLora (hAdamLora := hAdamLora)
    ∧ quiescent_AdamLoraIdeal (hAdamLoraIdeal := hAdamLoraIdeal)
    ∧ quiescent_AdamLoraRefIdeal (hAdamLoraRefIdeal := hAdamLoraRefIdeal)
    ∧ quiescent_AdamLoraG (hAdamLoraG := hAdamLoraG)
    ∧ quiescent_AdamLoraGIdeal (hAdamLoraGIdeal := hAdamLoraGIdeal)
    ∧ quiescent_AdamLoraGRefIdeal (hAdamLoraGRefIdeal := hAdamLoraGRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Scan (hScan := hScan)
    ∧ quiescent_ScanIdeal (hScanIdeal := hScanIdeal)
    ∧ preserves_Merge_MergeIdeal
    ∧ algebraic_MergeIdeal_MergeRefIdeal (hMergeIdeal := hMergeIdeal) (hMergeRefIdeal := hMergeRefIdeal)
    ∧ preserves_Swiglu_SwigluIdeal
    ∧ algebraic_SwigluIdeal_SwigluRefIdeal (hSwigluIdeal := hSwigluIdeal) (hSwigluRefIdeal := hSwigluRefIdeal)
    ∧ preserves_DAct_DActIdeal
    ∧ algebraic_DActIdeal_DActRefIdeal (hDActIdeal := hDActIdeal) (hDActRefIdeal := hDActRefIdeal)
    ∧ preserves_DNorm_DNormIdeal
    ∧ algebraic_DNormIdeal_DNormRefIdeal (hDNormIdeal := hDNormIdeal) (hDNormRefIdeal := hDNormRefIdeal)
    ∧ preserves_DBranch_DBranchIdeal
    ∧ algebraic_DBranchIdeal_DBranchRefIdeal (hDBranchIdeal := hDBranchIdeal) (hDBranchRefIdeal := hDBranchRefIdeal)
    ∧ preserves_GDown_GDownIdeal
    ∧ algebraic_GDownIdeal_GDownRefIdeal (hGDownIdeal := hGDownIdeal) (hGDownRefIdeal := hGDownRefIdeal)
    ∧ preserves_GFfn_GFfnIdeal
    ∧ algebraic_GFfnIdeal_GFfnRefIdeal (hGFfnIdeal := hGFfnIdeal) (hGFfnRefIdeal := hGFfnRefIdeal)
    ∧ preserves_GBranch_GBranchIdeal
    ∧ algebraic_GBranchIdeal_GBranchRefIdeal (hGBranchIdeal := hGBranchIdeal) (hGBranchRefIdeal := hGBranchRefIdeal)
    ∧ preserves_GQkv_GQkvIdeal
    ∧ algebraic_GQkvIdeal_GQkvRefIdeal (hGQkvIdeal := hGQkvIdeal) (hGQkvRefIdeal := hGQkvRefIdeal)
    ∧ preserves_GRwkv_GRwkvIdeal
    ∧ algebraic_GRwkvIdeal_GRwkvRefIdeal (hGRwkvIdeal := hGRwkvIdeal) (hGRwkvRefIdeal := hGRwkvRefIdeal)
    ∧ preserves_GGate_GGateIdeal
    ∧ algebraic_GGateIdeal_GGateRefIdeal (hGGateIdeal := hGGateIdeal) (hGGateRefIdeal := hGGateRefIdeal)
    ∧ preserves_DQkv_DQkvIdeal
    ∧ algebraic_DQkvIdeal_DQkvRefIdeal (hDQkvIdeal := hDQkvIdeal) (hDQkvRefIdeal := hDQkvRefIdeal)
    ∧ preserves_DRwkv_DRwkvIdeal
    ∧ algebraic_DRwkvIdeal_DRwkvRefIdeal (hDRwkvIdeal := hDRwkvIdeal) (hDRwkvRefIdeal := hDRwkvRefIdeal)
    ∧ preserves_DGate_DGateIdeal
    ∧ algebraic_DGateIdeal_DGateRefIdeal (hDGateIdeal := hDGateIdeal) (hDGateRefIdeal := hDGateRefIdeal)
    ∧ preserves_Qkv_QkvIdeal
    ∧ algebraic_QkvIdeal_QkvRefIdeal (hQkvIdeal := hQkvIdeal) (hQkvRefIdeal := hQkvRefIdeal)
    ∧ preserves_Rwkv_RwkvIdeal
    ∧ algebraic_RwkvIdeal_RwkvRefIdeal (hRwkvIdeal := hRwkvIdeal) (hRwkvRefIdeal := hRwkvRefIdeal)
    ∧ preserves_Gate_GateIdeal
    ∧ algebraic_GateIdeal_GateRefIdeal (hGateIdeal := hGateIdeal) (hGateRefIdeal := hGateRefIdeal)
    ∧ preserves_Branch_BranchIdeal
    ∧ algebraic_BranchIdeal_BranchRefIdeal (hBranchIdeal := hBranchIdeal) (hBranchRefIdeal := hBranchRefIdeal)
    ∧ preserves_Out_OutIdeal
    ∧ algebraic_OutIdeal_OutRefIdeal (hOutIdeal := hOutIdeal) (hOutRefIdeal := hOutRefIdeal)
    ∧ preserves_Ffn_FfnIdeal
    ∧ algebraic_FfnIdeal_FfnRefIdeal (hFfnIdeal := hFfnIdeal) (hFfnRefIdeal := hFfnRefIdeal)
    ∧ preserves_Down_DownIdeal
    ∧ algebraic_DownIdeal_DownRefIdeal (hDownIdeal := hDownIdeal) (hDownRefIdeal := hDownRefIdeal)
    ∧ preserves_MergeF_MergeFIdeal
    ∧ algebraic_MergeFIdeal_MergeFRefIdeal (hMergeFIdeal := hMergeFIdeal) (hMergeFRefIdeal := hMergeFRefIdeal)
    ∧ preserves_SwigluF_SwigluFIdeal
    ∧ algebraic_SwigluFIdeal_SwigluFRefIdeal (hSwigluFIdeal := hSwigluFIdeal) (hSwigluFRefIdeal := hSwigluFRefIdeal)
    ∧ preserves_RmsF_RmsFIdeal
    ∧ algebraic_RmsFIdeal_RmsFRefIdeal (hRmsFIdeal := hRmsFIdeal) (hRmsFRefIdeal := hRmsFRefIdeal)
    ∧ preserves_ResidF_ResidFIdeal
    ∧ algebraic_ResidFIdeal_ResidFRefIdeal (hResidFIdeal := hResidFIdeal) (hResidFRefIdeal := hResidFRefIdeal)
    ∧ preserves_RmsB_RmsBIdeal
    ∧ algebraic_RmsBIdeal_RmsBRefIdeal (hRmsBIdeal := hRmsBIdeal) (hRmsBRefIdeal := hRmsBRefIdeal)
    ∧ preserves_ResidB_ResidBIdeal
    ∧ algebraic_ResidBIdeal_ResidBRefIdeal (hResidBIdeal := hResidBIdeal) (hResidBRefIdeal := hResidBRefIdeal)
    ∧ preserves_AdamIn_AdamInIdeal
    ∧ algebraic_AdamInIdeal_AdamInRefIdeal (hAdamInIdeal := hAdamInIdeal) (hAdamInRefIdeal := hAdamInRefIdeal)
    ∧ preserves_AdamLora_AdamLoraIdeal
    ∧ algebraic_AdamLoraIdeal_AdamLoraRefIdeal (hAdamLoraIdeal := hAdamLoraIdeal) (hAdamLoraRefIdeal := hAdamLoraRefIdeal)
    ∧ preserves_AdamLoraG_AdamLoraGIdeal
    ∧ algebraic_AdamLoraGIdeal_AdamLoraGRefIdeal (hAdamLoraGIdeal := hAdamLoraGIdeal) (hAdamLoraGRefIdeal := hAdamLoraGRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Scan_ScanIdeal
-- ==== Merge.lean ====
abbrev S4096x8192 : Shape := ⟨2, ![4096, 8192]⟩
abbrev S4096x4096 : Shape := ⟨2, ![4096, 4096]⟩
abbrev S64x4096 : Shape := ⟨2, ![64, 4096]⟩
abbrev S64x8192 : Shape := ⟨2, ![64, 8192]⟩

abbrev nBuf : Space → Nat
  | .hbm => 7
  | .vmem => 16
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x8192, .bf16⟩
  | .hbm, ⟨5, _⟩ => ⟨S4096x4096, .bf16⟩
  | .hbm, ⟨6, _⟩ => ⟨S4096x4096, .bf16⟩
  | .local _ .vmem, ⟨0, _⟩ => ⟨S64x4096, .bf16⟩
  | .local _ .vmem, ⟨1, _⟩ => ⟨S64x4096, .bf16⟩
  | .local _ .vmem, ⟨2, _⟩ => ⟨S64x4096, .bf16⟩
  | .local _ .vmem, ⟨3, _⟩ => ⟨S64x4096, .bf16⟩
  | .local _ .vmem, ⟨4, _⟩ => ⟨S64x4096, .bf16⟩
  | .local _ .vmem, ⟨5, _⟩ => ⟨S64x4096, .bf16⟩
  | .local _ .vmem, ⟨6, _⟩ => ⟨S64x4096, .bf16⟩
  | .local _ .vmem, ⟨7, _⟩ => ⟨S64x4096, .bf16⟩
  | .local _ .vmem, ⟨8, _⟩ => ⟨S64x4096, .bf16⟩
  | .local _ .vmem, ⟨9, _⟩ => ⟨S64x4096, .bf16⟩
  | .local _ .vmem, ⟨10, _⟩ => ⟨S64x8192, .bf16⟩
  | .local _ .vmem, ⟨11, _⟩ => ⟨S64x8192, .bf16⟩
  | .local _ .vmem, ⟨12, _⟩ => ⟨S64x4096, .bf16⟩
  | .local _ .vmem, ⟨13, _⟩ => ⟨S64x4096, .bf16⟩
  | .local _ .vmem, ⟨14, _⟩ => ⟨S64x4096, .bf16⟩
  | .local _ .vmem, ⟨15, _⟩ => ⟨S64x4096, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S4096x8192 : Shape := ⟨2, ![4096, 8192]⟩
abbrev S4096x4096 : Shape := ⟨2, ![4096, 4096]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x8192, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x8192, .f32⟩
  | .hbm, ⟨44, _⟩ => ⟨S4096x8192, .bf16⟩
  | .hbm, ⟨45, _⟩ => ⟨S4096x4096, .bf16⟩
  | .hbm, ⟨46, _⟩ => ⟨S4096x4096, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Swiglu.lean ====
abbrev S4096x11008 : Shape := ⟨2, ![4096, 11008]⟩
abbrev S32x11008 : Shape := ⟨2, ![32, 11008]⟩

abbrev nBuf : Space → Nat
  | .hbm => 5
  | .vmem => 10
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x11008, .bf16⟩
  | .hbm, ⟨3, _⟩ => ⟨S4096x11008, .bf16⟩
  | .hbm, ⟨4, _⟩ => ⟨S4096x11008, .bf16⟩
  | .local _ .vmem, ⟨0, _⟩ => ⟨S32x11008, .bf16⟩
  | .local _ .vmem, ⟨1, _⟩ => ⟨S32x11008, .bf16⟩
  | .local _ .vmem, ⟨2, _⟩ => ⟨S32x11008, .bf16⟩
  | .local _ .vmem, ⟨3, _⟩ => ⟨S32x11008, .bf16⟩
  | .local _ .vmem, ⟨4, _⟩ => ⟨S32x11008, .bf16⟩
  | .local _ .vmem, ⟨5, _⟩ => ⟨S32x11008, .bf16⟩
  | .local _ .vmem, ⟨6, _⟩ => ⟨S32x11008, .bf16⟩
  | .local _ .vmem, ⟨7, _⟩ => ⟨S32x11008, .bf16⟩
  | .local _ .vmem, ⟨8, _⟩ => ⟨S32x11008, .bf16⟩
  | .local _ .vmem, ⟨9, _⟩ => ⟨S32x11008, .bf16⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x11008 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x11008 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x11008 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluRefIdeal.lean ====
abbrev S4096x11008 : Shape := ⟨2, ![4096, 11008]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x11008, .bf16⟩
  | .hbm, ⟨3, _⟩ => ⟨S4096x11008, .f32⟩
  | .hbm, ⟨4, _⟩ => ⟨S4096x11008, .f32⟩
  | .hbm, ⟨5, _⟩ => ⟨S4096x11008, .f32⟩
  | .hbm, ⟨6, _⟩ => ⟨S4096x11008, .f32⟩
  | .hbm, ⟨7, _⟩ => ⟨S_, .f32⟩
  | .hbm, ⟨8, _⟩ => ⟨S4096x11008, .f32⟩
  | .hbm, ⟨9, _⟩ => ⟨S4096x11008, .f32⟩
  | .hbm, ⟨10, _⟩ => ⟨S_, .f32⟩
  | .hbm, ⟨11, _⟩ => ⟨S4096x11008, .f32⟩
  | .hbm, ⟨12, _⟩ => ⟨S4096x11008, .f32⟩
  | .hbm, ⟨13, _⟩ => ⟨S_, .f32⟩
  | .hbm, ⟨14, _⟩ => ⟨S4096x11008, .f32⟩
  | .hbm, ⟨15, _⟩ => ⟨S4096x11008, .f32⟩
  | .hbm, ⟨16, _⟩ => ⟨S4096x11008, .f32⟩
  | .hbm, ⟨17, _⟩ => ⟨S4096x11008, .f32⟩
  | .hbm, ⟨18, _⟩ => ⟨S4096x11008, .f32⟩
  | .hbm, ⟨19, _⟩ => ⟨S4096x11008, .f32⟩
  | .hbm, ⟨20, _⟩ => ⟨S4096x11008, .f32⟩
  | .hbm, ⟨21, _⟩ => ⟨S4096x11008, .f32⟩
  | .hbm, ⟨22, _⟩ => ⟨S4096x11008, .f32⟩
  | .hbm, ⟨23, _⟩ => ⟨S4096x11008, .f32⟩
  | .hbm, ⟨24, _⟩ => ⟨S4096x11008, .f32⟩
  | .hbm, ⟨25, _⟩ => ⟨S4096x11008, .f32⟩
  | .hbm, ⟨26, _⟩ => ⟨S4096x11008, .bf16⟩
  | .hbm, ⟨27, _⟩ => ⟨S4096x11008, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== DAct.lean ====
abbrev S4096x4096 : Shape := ⟨2, ![4096, 4096]⟩
abbrev S11008x4096 : Shape := ⟨2, ![11008, 4096]⟩
abbrev S4096x11008 : Shape := ⟨2, ![4096, 11008]⟩
abbrev S2048x4096 : Shape := ⟨2, ![2048, 4096]⟩
abbrev S256x4096 : Shape := ⟨2, ![256, 4096]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S11008x4096, .bf16⟩
  | .hbm, ⟨2, _⟩ => ⟨S4096x11008, .bf16⟩
  | .local _ .vmem, ⟨0, _⟩ => ⟨S2048x4096, .bf16⟩
  | .local _ .vmem, ⟨1, _⟩ => ⟨S2048x4096, .bf16⟩
  | .local _ .vmem, ⟨2, _⟩ => ⟨S256x4096, .bf16⟩
  | .local _ .vmem, ⟨3, _⟩ => ⟨S256x4096, .bf16⟩
  | .local _ .vmem, ⟨4, _⟩ => ⟨S2048x256, .bf16⟩
  | .local _ .vmem, ⟨5, _⟩ => ⟨S2048x256, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActIdeal.lean ====
abbrev S4096x4096 : Shape := ⟨2, ![4096, 4096]⟩
abbrev S11008x4096 : Shape := ⟨2, ![11008, 4096]⟩
abbrev S4096x11008 : Shape := ⟨2, ![4096, 11008]⟩
abbrev S2048x4096 : Shape := ⟨2, ![2048, 4096]⟩
abbrev S256x4096 : Shape := ⟨2, ![256, 4096]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S11008x4096, .bf16⟩
  | .hbm, ⟨2, _⟩ => ⟨S4096x11008, .bf16⟩
  | .local _ .vmem, ⟨0, _⟩ => ⟨S2048x4096, .bf16⟩
  | .local _ .vmem, ⟨1, _⟩ => ⟨S2048x4096, .bf16⟩
  | .local _ .vmem, ⟨2, _⟩ => ⟨S256x4096, .bf16⟩
  | .local _ .vmem, ⟨3, _⟩ => ⟨S256x4096, .bf16⟩
  | .local _ .vmem, ⟨4, _⟩ => ⟨S2048x256, .bf16⟩
  | .local _ .vmem, ⟨5, _⟩ => ⟨S2048x256, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S4096x4096 : Shape := ⟨2, ![4096, 4096]⟩
abbrev S11008x4096 : Shape := ⟨2, ![11008, 4096]⟩
abbrev S_ : Shape := ⟨0, ![]⟩
abbrev S4096x11008 : Shape := ⟨2, ![4096, 11008]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11008x4096, .bf16⟩
  | .hbm, ⟨2, _⟩ => ⟨S4096x4096, .f32⟩
  | .hbm, ⟨3, _⟩ => ⟨S11008x4096, .f32⟩
  | .hbm, ⟨4, _⟩ => ⟨S_, .f32⟩
  | .hbm, ⟨5, _⟩ => ⟨S4096x11008, .f32⟩
  | .hbm, ⟨6, _⟩ => ⟨S4096x4096, .f32⟩
  | .hbm, ⟨7, _⟩ => ⟨S4096x11008, .f32⟩
  | .hbm, ⟨8, _⟩ => ⟨S4096x11008, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DNorm.lean ====
abbrev S4096x11008 : Shape := ⟨2, ![4096, 11008]⟩
abbrev S4096x4096 : Shape := ⟨2, ![4096, 4096]⟩
abbrev S256x11008 : Shape := ⟨2, ![256, 11008]⟩
abbrev S512x11008 : Shape := ⟨2, ![512, 11008]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x4096, .bf16⟩
  | .local _ .vmem, ⟨0, _⟩ => ⟨S256x11008, .bf16⟩
  | .local _ .vmem, ⟨1, _⟩ => ⟨S256x11008, .bf16⟩
  | .local _ .vmem, ⟨2, _⟩ => ⟨S512x11008, .bf16⟩
  | .local _ .vmem, ⟨3, _⟩ => ⟨S512x11008, .bf16⟩
  | .local _ .vmem, ⟨4, _⟩ => ⟨S256x512, .bf16⟩
  | .local _ .vmem, ⟨5, _⟩ => ⟨S256x512, .bf16⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DNormIdeal.lean ====
abbrev S4096x11008 : Shape := ⟨2, ![4096, 11008]⟩
abbrev S4096x4096 : Shape := ⟨2, ![4096, 4096]⟩
abbrev S256x11008 : Shape := ⟨2, ![256, 11008]⟩
abbrev S512x11008 : Shape := ⟨2, ![512, 11008]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x4096, .bf16⟩
  | .local _ .vmem, ⟨0, _⟩ => ⟨S256x11008, .bf16⟩
  | .local _ .vmem, ⟨1, _⟩ => ⟨S256x11008, .bf16⟩
  | .local _ .vmem, ⟨2, _⟩ => ⟨S512x11008, .bf16⟩
  | .local _ .vmem, ⟨3, _⟩ => ⟨S512x11008, .bf16⟩
  | .local _ .vmem, ⟨4, _⟩ => ⟨S256x512, .bf16⟩
  | .local _ .vmem, ⟨5, _⟩ => ⟨S256x512, .bf16⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DNormRefIdeal.lean ====
abbrev S4096x11008 : Shape := ⟨2, ![4096, 11008]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x11008, .f32⟩
  | .hbm, ⟨3, _⟩ => ⟨S4096x11008, .f32⟩
  | .hbm, ⟨4, _⟩ => ⟨S_, .f32⟩
  | .hbm, ⟨5, _⟩ => ⟨S4096x4096, .f32⟩
  | .hbm, ⟨6, _⟩ => ⟨S4096x11008, .f32⟩
  | .hbm, ⟨7, _⟩ => ⟨S4096x4096, .f32⟩
  | .hbm, ⟨8, _⟩ => ⟨S4096x4096, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DBranch.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchIdeal.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchRefIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GDown.lean ====
abbrev S4096x11008 : Shape := ⟨2, ![4096, 11008]⟩
abbrev S4096x4096 : Shape := ⟨2, ![4096, 4096]⟩
abbrev S11008x4096 : Shape := ⟨2, ![11008, 4096]⟩
abbrev S4096x256 : Shape := ⟨2, ![4096, 256]⟩
abbrev S4096x2048 : Shape := ⟨2, ![4096, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S11008x4096, .bf16⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S4096x2048, .bf16⟩
  | .local _ .vmem, ⟨4, _⟩ => ⟨S256x2048, .bf16⟩
  | .local _ .vmem, ⟨5, _⟩ => ⟨S256x2048, .bf16⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownIdeal.lean ====
abbrev S4096x11008 : Shape := ⟨2, ![4096, 11008]⟩
abbrev S4096x4096 : Shape := ⟨2, ![4096, 4096]⟩
abbrev S11008x4096 : Shape := ⟨2, ![11008, 4096]⟩
abbrev S4096x256 : Shape := ⟨2, ![4096, 256]⟩
abbrev S4096x2048 : Shape := ⟨2, ![4096, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S11008x4096, .bf16⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S4096x2048, .bf16⟩
  | .local _ .vmem, ⟨4, _⟩ => ⟨S256x2048, .bf16⟩
  | .local _ .vmem, ⟨5, _⟩ => ⟨S256x2048, .bf16⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S4096x11008 : Shape := ⟨2, ![4096, 11008]⟩
abbrev S4096x4096 : Shape := ⟨2, ![4096, 4096]⟩
abbrev S_ : Shape := ⟨0, ![]⟩
abbrev S11008x4096 : Shape := ⟨2, ![11008, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S4096x11008, .f32⟩
  | .hbm, ⟨3, _⟩ => ⟨S4096x4096, .f32⟩
  | .hbm, ⟨4, _⟩ => ⟨S_, .f32⟩
  | .hbm, ⟨5, _⟩ => ⟨S11008x4096, .f32⟩
  | .hbm, ⟨6, _⟩ => ⟨S4096x4096, .f32⟩
  | .hbm, ⟨7, _⟩ => ⟨S4096x11008, .f32⟩
  | .hbm, ⟨8, _⟩ => ⟨S11008x4096, .f32⟩
  | .hbm, ⟨9, _⟩ => ⟨S11008x4096, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GFfn.lean ====
abbrev S4096x4096 : Shape := ⟨2, ![4096, 4096]⟩
abbrev S4096x11008 : Shape := ⟨2, ![4096, 11008]⟩
abbrev S4096x2048 : Shape := ⟨2, ![4096, 2048]⟩
abbrev S4096x256 : Shape := ⟨2, ![4096, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S4096x11008, .bf16⟩
  | .local _ .vmem, ⟨0, _⟩ => ⟨S4096x2048, .bf16⟩
  | .local _ .vmem, ⟨1, _⟩ => ⟨S4096x2048, .bf16⟩
  | .local _ .vmem, ⟨2, _⟩ => ⟨S4096x256, .bf16⟩
  | .local _ .vmem, ⟨3, _⟩ => ⟨S4096x256, .bf16⟩
  | .local _ .vmem, ⟨4, _⟩ => ⟨S2048x256, .bf16⟩
  | .local _ .vmem, ⟨5, _⟩ => ⟨S2048x256, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GFfnIdeal.lean ====
abbrev S4096x4096 : Shape := ⟨2, ![4096, 4096]⟩
abbrev S4096x11008 : Shape := ⟨2, ![4096, 11008]⟩
abbrev S4096x2048 : Shape := ⟨2, ![4096, 2048]⟩
abbrev S4096x256 : Shape := ⟨2, ![4096, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S4096x11008, .bf16⟩
  | .local _ .vmem, ⟨0, _⟩ => ⟨S4096x2048, .bf16⟩
  | .local _ .vmem, ⟨1, _⟩ => ⟨S4096x2048, .bf16⟩
  | .local _ .vmem, ⟨2, _⟩ => ⟨S4096x256, .bf16⟩
  | .local _ .vmem, ⟨3, _⟩ => ⟨S4096x256, .bf16⟩
  | .local _ .vmem, ⟨4, _⟩ => ⟨S2048x256, .bf16⟩
  | .local _ .vmem, ⟨5, _⟩ => ⟨S2048x256, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GFfnRefIdeal.lean ====
abbrev S4096x4096 : Shape := ⟨2, ![4096, 4096]⟩
abbrev S4096x11008 : Shape := ⟨2, ![4096, 11008]⟩
abbrev S_ : Shape := ⟨0, ![]⟩
abbrev S11008x4096 : Shape := ⟨2, ![11008, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S4096x4096, .f32⟩
  | .hbm, ⟨3, _⟩ => ⟨S4096x11008, .f32⟩
  | .hbm, ⟨4, _⟩ => ⟨S_, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S4096x11008, .f32⟩
  | .hbm, ⟨9, _⟩ => ⟨S4096x11008, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GBranch.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GBranchIdeal.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GBranchRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GQkv.lean ====
abbrev S4096x4096 : Shape := ⟨2, ![4096, 4096]⟩
abbrev S4096x6144 : Shape := ⟨2, ![4096, 6144]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GQkvIdeal.lean ====
abbrev S4096x4096 : Shape := ⟨2, ![4096, 4096]⟩
abbrev S4096x6144 : Shape := ⟨2, ![4096, 6144]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GQkvRefIdeal.lean ====
abbrev S4096x4096 : Shape := ⟨2, ![4096, 4096]⟩
abbrev S4096x6144 : Shape := ⟨2, ![4096, 6144]⟩
abbrev S_ : Shape := ⟨0, ![]⟩
abbrev S6144x4096 : Shape := ⟨2, ![6144, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x4096, .f32⟩
  | .hbm, ⟨3, _⟩ => ⟨S4096x6144, .f32⟩
  | .hbm, ⟨4, _⟩ => ⟨S_, .f32⟩
  | .hbm, ⟨5, _⟩ => ⟨S4096x6144, .f32⟩
  | .hbm, ⟨6, _⟩ => ⟨S4096x6144, .f32⟩
  | .hbm, ⟨7, _⟩ => ⟨S6144x4096, .f32⟩
  | .hbm, ⟨8, _⟩ => ⟨S4096x6144, .f32⟩
  | .hbm, ⟨9, _⟩ => ⟨S4096x6144, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GRwkv.lean ====
abbrev S4096x4096 : Shape := ⟨2, ![4096, 4096]⟩
abbrev S4096x13056 : Shape := ⟨2, ![4096, 13056]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x13056, .bf16⟩
  | .hbm, ⟨2, _⟩ => ⟨S4096x13056, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GRwkvIdeal.lean ====
abbrev S4096x4096 : Shape := ⟨2, ![4096, 4096]⟩
abbrev S4096x13056 : Shape := ⟨2, ![4096, 13056]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x13056, .bf16⟩
  | .hbm, ⟨2, _⟩ => ⟨S4096x13056, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GRwkvRefIdeal.lean ====
abbrev S4096x4096 : Shape := ⟨2, ![4096, 4096]⟩
abbrev S4096x13056 : Shape := ⟨2, ![4096, 13056]⟩
abbrev S_ : Shape := ⟨0, ![]⟩
abbrev S13056x4096 : Shape := ⟨2, ![13056, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x13056, .bf16⟩
  | .hbm, ⟨2, _⟩ => ⟨S4096x4096, .f32⟩
  | .hbm, ⟨3, _⟩ => ⟨S4096x13056, .f32⟩
  | .hbm, ⟨4, _⟩ => ⟨S_, .f32⟩
  | .hbm, ⟨5, _⟩ => ⟨S4096x13056, .f32⟩
  | .hbm, ⟨6, _⟩ => ⟨S4096x13056, .f32⟩
  | .hbm, ⟨7, _⟩ => ⟨S13056x4096, .f32⟩
  | .hbm, ⟨8, _⟩ => ⟨S4096x13056, .f32⟩
  | .hbm, ⟨9, _⟩ => ⟨S4096x13056, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GGate.lean ====
abbrev S4096x4096 : Shape := ⟨2, ![4096, 4096]⟩
abbrev S4096x8192 : Shape := ⟨2, ![4096, 8192]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GGateIdeal.lean ====
abbrev S4096x4096 : Shape := ⟨2, ![4096, 4096]⟩
abbrev S4096x8192 : Shape := ⟨2, ![4096, 8192]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GGateRefIdeal.lean ====
abbrev S4096x4096 : Shape := ⟨2, ![4096, 4096]⟩
abbrev S4096x8192 : Shape := ⟨2, ![4096, 8192]⟩
abbrev S_ : Shape := ⟨0, ![]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S8192x4096, .f32⟩
  | .hbm, ⟨8, _⟩ => ⟨S4096x8192, .f32⟩
  | .hbm, ⟨9, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DQkv.lean ====
abbrev S4096x6144 : Shape := ⟨2, ![4096, 6144]⟩
abbrev S4096x4096 : Shape := ⟨2, ![4096, 4096]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S4096x6144, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQkvIdeal.lean ====
abbrev S4096x6144 : Shape := ⟨2, ![4096, 6144]⟩
abbrev S4096x4096 : Shape := ⟨2, ![4096, 4096]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S4096x6144, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQkvRefIdeal.lean ====
abbrev S4096x6144 : Shape := ⟨2, ![4096, 6144]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x6144, .bf16⟩
  | .hbm, ⟨2, _⟩ => ⟨S4096x6144, .f32⟩
  | .hbm, ⟨3, _⟩ => ⟨S4096x6144, .f32⟩
  | .hbm, ⟨4, _⟩ => ⟨S_, .f32⟩
  | .hbm, ⟨5, _⟩ => ⟨S4096x4096, .f32⟩
  | .hbm, ⟨6, _⟩ => ⟨S4096x6144, .f32⟩
  | .hbm, ⟨7, _⟩ => ⟨S4096x4096, .f32⟩
  | .hbm, ⟨8, _⟩ => ⟨S4096x4096, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DRwkv.lean ====
abbrev S4096x13056 : Shape := ⟨2, ![4096, 13056]⟩
abbrev S4096x4096 : Shape := ⟨2, ![4096, 4096]⟩
abbrev S512x2176 : Shape := ⟨2, ![512, 2176]⟩
abbrev S2048x2176 : Shape := ⟨2, ![2048, 2176]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x13056, .bf16⟩
  | .hbm, ⟨1, _⟩ => ⟨S4096x13056, .bf16⟩
  | .hbm, ⟨2, _⟩ => ⟨S4096x4096, .bf16⟩
  | .local _ .vmem, ⟨0, _⟩ => ⟨S512x2176, .bf16⟩
  | .local _ .vmem, ⟨1, _⟩ => ⟨S512x2176, .bf16⟩
  | .local _ .vmem, ⟨2, _⟩ => ⟨S2048x2176, .bf16⟩
  | .local _ .vmem, ⟨3, _⟩ => ⟨S2048x2176, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DRwkvIdeal.lean ====
abbrev S4096x13056 : Shape := ⟨2, ![4096, 13056]⟩
abbrev S4096x4096 : Shape := ⟨2, ![4096, 4096]⟩
abbrev S512x2176 : Shape := ⟨2, ![512, 2176]⟩
abbrev S2048x2176 : Shape := ⟨2, ![2048, 2176]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x13056, .bf16⟩
  | .hbm, ⟨1, _⟩ => ⟨S4096x13056, .bf16⟩
  | .hbm, ⟨2, _⟩ => ⟨S4096x4096, .bf16⟩
  | .local _ .vmem, ⟨0, _⟩ => ⟨S512x2176, .bf16⟩
  | .local _ .vmem, ⟨1, _⟩ => ⟨S512x2176, .bf16⟩
  | .local _ .vmem, ⟨2, _⟩ => ⟨S2048x2176, .bf16⟩
  | .local _ .vmem, ⟨3, _⟩ => ⟨S2048x2176, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DRwkvRefIdeal.lean ====
abbrev S4096x13056 : Shape := ⟨2, ![4096, 13056]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x13056, .bf16⟩
  | .hbm, ⟨1, _⟩ => ⟨S4096x13056, .bf16⟩
  | .hbm, ⟨2, _⟩ => ⟨S4096x13056, .f32⟩
  | .hbm, ⟨3, _⟩ => ⟨S4096x13056, .f32⟩
  | .hbm, ⟨4, _⟩ => ⟨S_, .f32⟩
  | .hbm, ⟨5, _⟩ => ⟨S4096x4096, .f32⟩
  | .hbm, ⟨6, _⟩ => ⟨S4096x13056, .f32⟩
  | .hbm, ⟨7, _⟩ => ⟨S4096x4096, .f32⟩
  | .hbm, ⟨8, _⟩ => ⟨S4096x4096, .bf16⟩
  | _, _ => ⟨S4096x13056, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DGate.lean ====
abbrev S4096x8192 : Shape := ⟨2, ![4096, 8192]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DGateIdeal.lean ====
abbrev S4096x8192 : Shape := ⟨2, ![4096, 8192]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DGateRefIdeal.lean ====
abbrev S4096x8192 : Shape := ⟨2, ![4096, 8192]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S4096x4096, .f32⟩
  | .hbm, ⟨6, _⟩ => ⟨S4096x8192, .f32⟩
  | .hbm, ⟨7, _⟩ => ⟨S4096x4096, .f32⟩
  | .hbm, ⟨8, _⟩ => ⟨S4096x4096, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Qkv.lean ====
abbrev S4096x4096 : Shape := ⟨2, ![4096, 4096]⟩
abbrev S4096x6144 : Shape := ⟨2, ![4096, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvIdeal.lean ====
abbrev S4096x4096 : Shape := ⟨2, ![4096, 4096]⟩
abbrev S4096x6144 : Shape := ⟨2, ![4096, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x4096 : Shape := ⟨2, ![4096, 4096]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x4096, .f32⟩
  | .hbm, ⟨3, _⟩ => ⟨S4096x6144, .f32⟩
  | .hbm, ⟨4, _⟩ => ⟨S4096x6144, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Rwkv.lean ====
abbrev S4096x4096 : Shape := ⟨2, ![4096, 4096]⟩
abbrev S4096x13056 : Shape := ⟨2, ![4096, 13056]⟩
abbrev S1024x4096 : Shape := ⟨2, ![1024, 4096]⟩
abbrev S4096x768 : Shape := ⟨2, ![4096, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x13056, .bf16⟩
  | .hbm, ⟨2, _⟩ => ⟨S4096x13056, .f32⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .f32⟩
  | .local _ .vmem, ⟨5, _⟩ => ⟨S1024x768, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwkvIdeal.lean ====
abbrev S4096x4096 : Shape := ⟨2, ![4096, 4096]⟩
abbrev S4096x13056 : Shape := ⟨2, ![4096, 13056]⟩
abbrev S1024x4096 : Shape := ⟨2, ![1024, 4096]⟩
abbrev S4096x768 : Shape := ⟨2, ![4096, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x13056, .bf16⟩
  | .hbm, ⟨2, _⟩ => ⟨S4096x13056, .f32⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .f32⟩
  | .local _ .vmem, ⟨5, _⟩ => ⟨S1024x768, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwkvRefIdeal.lean ====
abbrev S4096x4096 : Shape := ⟨2, ![4096, 4096]⟩
abbrev S4096x13056 : Shape := ⟨2, ![4096, 13056]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x13056, .bf16⟩
  | .hbm, ⟨2, _⟩ => ⟨S4096x4096, .f32⟩
  | .hbm, ⟨3, _⟩ => ⟨S4096x13056, .f32⟩
  | .hbm, ⟨4, _⟩ => ⟨S4096x13056, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gate.lean ====
abbrev S4096x4096 : Shape := ⟨2, ![4096, 4096]⟩
abbrev S4096x8192 : Shape := ⟨2, ![4096, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateIdeal.lean ====
abbrev S4096x4096 : Shape := ⟨2, ![4096, 4096]⟩
abbrev S4096x8192 : Shape := ⟨2, ![4096, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4096x4096 : Shape := ⟨2, ![4096, 4096]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Branch.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchIdeal.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ffn.lean ====
abbrev S4096x4096 : Shape := ⟨2, ![4096, 4096]⟩
abbrev S4096x11008 : Shape := ⟨2, ![4096, 11008]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S4096x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S2048x256, .bf16⟩
  | .local _ .vmem, ⟨5, _⟩ => ⟨S2048x256, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnIdeal.lean ====
abbrev S4096x4096 : Shape := ⟨2, ![4096, 4096]⟩
abbrev S4096x11008 : Shape := ⟨2, ![4096, 11008]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S4096x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S2048x256, .bf16⟩
  | .local _ .vmem, ⟨5, _⟩ => ⟨S2048x256, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnRefIdeal.lean ====
abbrev S4096x4096 : Shape := ⟨2, ![4096, 4096]⟩
abbrev S4096x11008 : Shape := ⟨2, ![4096, 11008]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S4096x4096, .f32⟩
  | .hbm, ⟨3, _⟩ => ⟨S4096x11008, .f32⟩
  | .hbm, ⟨4, _⟩ => ⟨S4096x11008, .f32⟩
  | .hbm, ⟨5, _⟩ => ⟨S4096x11008, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x11008 : Shape := ⟨2, ![4096, 11008]⟩
abbrev S11008x4096 : Shape := ⟨2, ![11008, 4096]⟩
abbrev S4096x4096 : Shape := ⟨2, ![4096, 4096]⟩
abbrev S256x11008 : Shape := ⟨2, ![256, 11008]⟩
abbrev S11008x512 : Shape := ⟨2, ![11008, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .bf16⟩
  | .hbm, ⟨2, _⟩ => ⟨S4096x4096, .f32⟩
  | .local _ .vmem, ⟨0, _⟩ => ⟨S256x11008, .bf16⟩
  | .local _ .vmem, ⟨1, _⟩ => ⟨S256x11008, .bf16⟩
  | .local _ .vmem, ⟨2, _⟩ => ⟨S11008x512, .bf16⟩
  | .local _ .vmem, ⟨3, _⟩ => ⟨S11008x512, .bf16⟩
  | .local _ .vmem, ⟨4, _⟩ => ⟨S256x512, .f32⟩
  | .local _ .vmem, ⟨5, _⟩ => ⟨S256x512, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x11008 : Shape := ⟨2, ![4096, 11008]⟩
abbrev S11008x4096 : Shape := ⟨2, ![11008, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .bf16⟩
  | .hbm, ⟨2, _⟩ => ⟨S4096x11008, .f32⟩
  | .hbm, ⟨3, _⟩ => ⟨S11008x4096, .f32⟩
  | .hbm, ⟨4, _⟩ => ⟨S4096x4096, .f32⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeF.lean ====
abbrev S4096x8192 : Shape := ⟨2, ![4096, 8192]⟩
abbrev S4096x4096 : Shape := ⟨2, ![4096, 4096]⟩
abbrev S128x4096 : Shape := ⟨2, ![128, 4096]⟩

abbrev nBuf : Space → Nat
  | .hbm => 4
  | .vmem => 10
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S128x4096, .bf16⟩
  | .local _ .vmem, ⟨9, _⟩ => ⟨S128x4096, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFRefIdeal.lean ====
abbrev S4096x8192 : Shape := ⟨2, ![4096, 8192]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S4096x4096, .bf16⟩
  | .hbm, ⟨3, _⟩ => ⟨S4096x8192, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== SwigluF.lean ====
abbrev S4096x11008 : Shape := ⟨2, ![4096, 11008]⟩
abbrev S64x11008 : Shape := ⟨2, ![64, 11008]⟩

abbrev nBuf : Space → Nat
  | .hbm => 3
  | .vmem => 6
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x11008, .bf16⟩
  | .local _ .vmem, ⟨0, _⟩ => ⟨S64x11008, .bf16⟩
  | .local _ .vmem, ⟨1, _⟩ => ⟨S64x11008, .bf16⟩
  | .local _ .vmem, ⟨2, _⟩ => ⟨S64x11008, .bf16⟩
  | .local _ .vmem, ⟨3, _⟩ => ⟨S64x11008, .bf16⟩
  | .local _ .vmem, ⟨4, _⟩ => ⟨S64x11008, .bf16⟩
  | .local _ .vmem, ⟨5, _⟩ => ⟨S64x11008, .bf16⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x11008 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluFRefIdeal.lean ====
abbrev S4096x11008 : Shape := ⟨2, ![4096, 11008]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x11008, .f32⟩
  | .hbm, ⟨3, _⟩ => ⟨S4096x11008, .f32⟩
  | .hbm, ⟨4, _⟩ => ⟨S4096x11008, .f32⟩
  | .hbm, ⟨5, _⟩ => ⟨S4096x11008, .f32⟩
  | .hbm, ⟨6, _⟩ => ⟨S_, .f32⟩
  | .hbm, ⟨7, _⟩ => ⟨S4096x11008, .f32⟩
  | .hbm, ⟨8, _⟩ => ⟨S4096x11008, .f32⟩
  | .hbm, ⟨9, _⟩ => ⟨S_, .f32⟩
  | .hbm, ⟨10, _⟩ => ⟨S4096x11008, .f32⟩
  | .hbm, ⟨11, _⟩ => ⟨S4096x11008, .f32⟩
  | .hbm, ⟨12, _⟩ => ⟨S4096x11008, .f32⟩
  | .hbm, ⟨13, _⟩ => ⟨S4096x11008, .f32⟩
  | .hbm, ⟨14, _⟩ => ⟨S4096x11008, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== RmsF.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ResidF.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidFRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== RmsB.lean ====
abbrev S4096x4096 : Shape := ⟨2, ![4096, 4096]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩
abbrev S4096 : Shape := ⟨1, ![4096]⟩

abbrev nBuf : Space → Nat
  | .hbm => 8
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .hbm, ⟨3, _⟩ => ⟨S4096x4096, .bf16⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S1x4096, .f32⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S64x4096, .bf16⟩
  | .local _ .vmem, ⟨4, _⟩ => ⟨S64x4096, .bf16⟩
  | .local _ .vmem, ⟨5, _⟩ => ⟨S64x4096, .bf16⟩
  | .local _ .vmem, ⟨6, _⟩ => ⟨S64x4096, .bf16⟩
  | .local _ .vmem, ⟨7, _⟩ => ⟨S64x4096, .bf16⟩
  | .local _ .vmem, ⟨8, _⟩ => ⟨S64x4096, .bf16⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsBRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .hbm, ⟨3, _⟩ => ⟨S4096x4096, .bf16⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== ResidB.lean ====
abbrev S4096x4096 : Shape := ⟨2, ![4096, 4096]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩
abbrev S4096 : Shape := ⟨1, ![4096]⟩

abbrev nBuf : Space → Nat
  | .hbm => 11
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .bf16⟩
  | .hbm, ⟨3, _⟩ => ⟨S1x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S1x4096, .f32⟩
  | .hbm, ⟨10, _⟩ => ⟨S1x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .bf16⟩
  | .local _ .vmem, ⟨3, _⟩ => ⟨S64x4096, .bf16⟩
  | .local _ .vmem, ⟨4, _⟩ => ⟨S64x4096, .bf16⟩
  | .local _ .vmem, ⟨5, _⟩ => ⟨S64x4096, .bf16⟩
  | .local _ .vmem, ⟨6, _⟩ => ⟨S1x4096, .f32⟩
  | .local _ .vmem, ⟨7, _⟩ => ⟨S64x4096, .f32⟩
  | .local _ .vmem, ⟨8, _⟩ => ⟨S64x4096, .f32⟩
  | .local _ .vmem, ⟨9, _⟩ => ⟨S1x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .bf16⟩
  | .local _ .vmem, ⟨15, _⟩ => ⟨S64x4096, .bf16⟩
  | .local _ .vmem, ⟨16, _⟩ => ⟨S1x4096, .f32⟩
  | .local _ .vmem, ⟨17, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ResidBRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 96
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .bf16⟩
  | .hbm, ⟨3, _⟩ => ⟨S1x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096, .f32⟩
  | .hbm, ⟨75, _⟩ => ⟨S1x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x4096, .f32⟩
  | .hbm, ⟨83, _⟩ => ⟨S4096x4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== AdamIn.lean ====
abbrev S1x4096x6840 : Shape := ⟨3, ![1, 4096, 6840]⟩
abbrev S4096x6840 : Shape := ⟨2, ![4096, 6840]⟩
abbrev S64x6840 : Shape := ⟨2, ![64, 6840]⟩

abbrev nBuf : Space → Nat
  | .hbm => 10
  | .vmem => 14
  | .smem => 0
  | _ => 0

abbrev bufTy : (tb : Table) → Fin (tcTables nBuf tb) → BufTy
  | .hbm, ⟨0, _⟩ => ⟨S1x4096x6840, .f32⟩
  | .hbm, ⟨1, _⟩ => ⟨S4096x6840, .f32⟩
  | .hbm, ⟨2, _⟩ => ⟨S1x4096x6840, .f32⟩
  | .hbm, ⟨3, _⟩ => ⟨S1x4096x6840, .f32⟩
  | .hbm, ⟨4, _⟩ => ⟨S4096x6840, .f32⟩
  | .hbm, ⟨5, _⟩ => ⟨S4096x6840, .f32⟩
  | .hbm, ⟨6, _⟩ => ⟨S4096x6840, .f32⟩
  | .hbm, ⟨7, _⟩ => ⟨S4096x6840, .f32⟩
  | .hbm, ⟨8, _⟩ => ⟨S4096x6840, .f32⟩
  | .hbm, ⟨9, _⟩ => ⟨S4096x6840, .f32⟩
  | .local _ .vmem, ⟨0, _⟩ => ⟨S64x6840, .f32⟩
  | .local _ .vmem, ⟨1, _⟩ => ⟨S64x6840, .f32⟩
  | .local _ .vmem, ⟨2, _⟩ => ⟨S64x6840, .f32⟩
  | .local _ .vmem, ⟨3, _⟩ => ⟨S64x6840, .f32⟩
  | .local _ .vmem, ⟨4, _⟩ => ⟨S64x6840, .f32⟩
  | .local _ .vmem, ⟨5, _⟩ => ⟨S64x6840, .f32⟩
  | .local _ .vmem, ⟨6, _⟩ => ⟨S64x6840, .f32⟩
  | .local _ .vmem, ⟨7, _⟩ => ⟨S64x6840, .f32⟩
  | .local _ .vmem, ⟨8, _⟩ => ⟨S64x6840, .f32⟩
  | .local _ .vmem, ⟨9, _⟩ => ⟨S64x6840, .f32⟩
  | .local _ .vmem, ⟨10, _⟩ => ⟨S64x6840, .f32⟩
  | .local _ .vmem, ⟨11, _⟩ => ⟨S64x6840, .f32⟩
  | .local _ .vmem, ⟨12, _⟩ => ⟨S64x6840, .f32⟩
  | .local _ .vmem, ⟨13, _⟩ => ⟨S64x6840, .f32⟩
  | _, _ => ⟨S1x4096x6840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x6840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x6840 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x6840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x6840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x6840 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x6840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x6840 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1x4096x6840 : Shape := ⟨3, ![1, 4096, 6840]⟩
abbrev S4096x6840 : Shape := ⟨2, ![4096, 6840]⟩
abbrev S64x6840 : Shape := ⟨2, ![64, 6840]⟩

abbrev nBuf : Space → Nat
  | .hbm => 10
  | .vmem => 14
  | .smem => 0
  | _ => 0

abbrev bufTy : (tb : Table) → Fin (tcTables nBuf tb) → BufTy
  | .hbm, ⟨0, _⟩ => ⟨S1x4096x6840, .f32⟩
  | .hbm, ⟨1, _⟩ => ⟨S4096x6840, .f32⟩
  | .hbm, ⟨2, _⟩ => ⟨S1x4096x6840, .f32⟩
  | .hbm, ⟨3, _⟩ => ⟨S1x4096x6840, .f32⟩
  | .hbm, ⟨4, _⟩ => ⟨S4096x6840, .f32⟩
  | .hbm, ⟨5, _⟩ => ⟨S4096x6840, .f32⟩
  | .hbm, ⟨6, _⟩ => ⟨S4096x6840, .f32⟩
  | .hbm, ⟨7, _⟩ => ⟨S4096x6840, .f32⟩
  | .hbm, ⟨8, _⟩ => ⟨S4096x6840, .f32⟩
  | .hbm, ⟨9, _⟩ => ⟨S4096x6840, .f32⟩
  | .local _ .vmem, ⟨0, _⟩ => ⟨S64x6840, .f32⟩
  | .local _ .vmem, ⟨1, _⟩ => ⟨S64x6840, .f32⟩
  | .local _ .vmem, ⟨2, _⟩ => ⟨S64x6840, .f32⟩
  | .local _ .vmem, ⟨3, _⟩ => ⟨S64x6840, .f32⟩
  | .local _ .vmem, ⟨4, _⟩ => ⟨S64x6840, .f32⟩
  | .local _ .vmem, ⟨5, _⟩ => ⟨S64x6840, .f32⟩
  | .local _ .vmem, ⟨6, _⟩ => ⟨S64x6840, .f32⟩
  | .local _ .vmem, ⟨7, _⟩ => ⟨S64x6840, .f32⟩
  | .local _ .vmem, ⟨8, _⟩ => ⟨S64x6840, .f32⟩
  | .local _ .vmem, ⟨9, _⟩ => ⟨S64x6840, .f32⟩
  | .local _ .vmem, ⟨10, _⟩ => ⟨S64x6840, .f32⟩
  | .local _ .vmem, ⟨11, _⟩ => ⟨S64x6840, .f32⟩
  | .local _ .vmem, ⟨12, _⟩ => ⟨S64x6840, .f32⟩
  | .local _ .vmem, ⟨13, _⟩ => ⟨S64x6840, .f32⟩
  | _, _ => ⟨S1x4096x6840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x6840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x6840 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x6840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x6840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x6840 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x6840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x6840 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1x4096x6840 : Shape := ⟨3, ![1, 4096, 6840]⟩
abbrev S4096x6840 : Shape := ⟨2, ![4096, 6840]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x4096x6840, .f32⟩
  | .hbm, ⟨1, _⟩ => ⟨S4096x6840, .f32⟩
  | .hbm, ⟨2, _⟩ => ⟨S1x4096x6840, .f32⟩
  | .hbm, ⟨3, _⟩ => ⟨S1x4096x6840, .f32⟩
  | .hbm, ⟨4, _⟩ => ⟨S4096x6840, .f32⟩
  | .hbm, ⟨5, _⟩ => ⟨S4096x6840, .f32⟩
  | .hbm, ⟨6, _⟩ => ⟨S4096x6840, .f32⟩
  | .hbm, ⟨7, _⟩ => ⟨S_, .f32⟩
  | .hbm, ⟨8, _⟩ => ⟨S4096x6840, .f32⟩
  | .hbm, ⟨9, _⟩ => ⟨S4096x6840, .f32⟩
  | .hbm, ⟨10, _⟩ => ⟨S_, .f32⟩
  | .hbm, ⟨11, _⟩ => ⟨S4096x6840, .f32⟩
  | .hbm, ⟨12, _⟩ => ⟨S4096x6840, .f32⟩
  | .hbm, ⟨13, _⟩ => ⟨S4096x6840, .f32⟩
  | .hbm, ⟨14, _⟩ => ⟨S_, .f32⟩
  | .hbm, ⟨15, _⟩ => ⟨S4096x6840, .f32⟩
  | .hbm, ⟨16, _⟩ => ⟨S4096x6840, .f32⟩
  | .hbm, ⟨17, _⟩ => ⟨S4096x6840, .f32⟩
  | .hbm, ⟨18, _⟩ => ⟨S_, .f32⟩
  | .hbm, ⟨19, _⟩ => ⟨S4096x6840, .f32⟩
  | .hbm, ⟨20, _⟩ => ⟨S4096x6840, .f32⟩
  | .hbm, ⟨21, _⟩ => ⟨S4096x6840, .f32⟩
  | .hbm, ⟨22, _⟩ => ⟨S_, .f32⟩
  | .hbm, ⟨23, _⟩ => ⟨S4096x6840, .f32⟩
  | .hbm, ⟨24, _⟩ => ⟨S4096x6840, .f32⟩
  | .hbm, ⟨25, _⟩ => ⟨S_, .f32⟩
  | .hbm, ⟨26, _⟩ => ⟨S4096x6840, .f32⟩
  | .hbm, ⟨27, _⟩ => ⟨S4096x6840, .f32⟩
  | .hbm, ⟨28, _⟩ => ⟨S4096x6840, .f32⟩
  | .hbm, ⟨29, _⟩ => ⟨S_, .f32⟩
  | .hbm, ⟨30, _⟩ => ⟨S4096x6840, .f32⟩
  | .hbm, ⟨31, _⟩ => ⟨S4096x6840, .f32⟩
  | .hbm, ⟨32, _⟩ => ⟨S4096x6840, .f32⟩
  | .hbm, ⟨33, _⟩ => ⟨S_, .f32⟩
  | .hbm, ⟨34, _⟩ => ⟨S4096x6840, .f32⟩
  | .hbm, ⟨35, _⟩ => ⟨S4096x6840, .f32⟩
  | .hbm, ⟨36, _⟩ => ⟨S4096x6840, .f32⟩
  | .hbm, ⟨37, _⟩ => ⟨S_, .f32⟩
  | .hbm, ⟨38, _⟩ => ⟨S4096x6840, .f32⟩
  | .hbm, ⟨39, _⟩ => ⟨S4096x6840, .f32⟩
  | _, _ => ⟨S1x4096x6840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLora.lean ====
abbrev S1x128x1024 : Shape := ⟨3, ![1, 128, 1024]⟩
abbrev S128x1024 : Shape := ⟨2, ![128, 1024]⟩
abbrev S64x1024 : Shape := ⟨2, ![64, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1x128x1024, .f32⟩
  | .hbm, ⟨1, _⟩ => ⟨S128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLoraIdeal.lean ====
abbrev S1x128x1024 : Shape := ⟨3, ![1, 128, 1024]⟩
abbrev S128x1024 : Shape := ⟨2, ![128, 1024]⟩
abbrev S64x1024 : Shape := ⟨2, ![64, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1x128x1024, .f32⟩
  | .hbm, ⟨1, _⟩ => ⟨S128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLoraRefIdeal.lean ====
abbrev S1x128x1024 : Shape := ⟨3, ![1, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLoraG.lean ====
abbrev S1x480x1024 : Shape := ⟨3, ![1, 480, 1024]⟩
abbrev S480x1024 : Shape := ⟨2, ![480, 1024]⟩
abbrev S32x1024 : Shape := ⟨2, ![32, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1x480x1024, .f32⟩
  | .hbm, ⟨1, _⟩ => ⟨S480x1024, .f32⟩
  | .hbm, ⟨2, _⟩ => ⟨S1x480x1024, .f32⟩
  | .hbm, ⟨3, _⟩ => ⟨S1x480x1024, .f32⟩
  | .hbm, ⟨4, _⟩ => ⟨S480x1024, .f32⟩
  | .hbm, ⟨5, _⟩ => ⟨S480x1024, .f32⟩
  | .hbm, ⟨6, _⟩ => ⟨S480x1024, .f32⟩
  | .hbm, ⟨7, _⟩ => ⟨S480x1024, .f32⟩
  | .hbm, ⟨8, _⟩ => ⟨S480x1024, .f32⟩
  | .hbm, ⟨9, _⟩ => ⟨S480x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S1x480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLoraGIdeal.lean ====
abbrev S1x480x1024 : Shape := ⟨3, ![1, 480, 1024]⟩
abbrev S480x1024 : Shape := ⟨2, ![480, 1024]⟩
abbrev S32x1024 : Shape := ⟨2, ![32, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1x480x1024, .f32⟩
  | .hbm, ⟨1, _⟩ => ⟨S480x1024, .f32⟩
  | .hbm, ⟨2, _⟩ => ⟨S1x480x1024, .f32⟩
  | .hbm, ⟨3, _⟩ => ⟨S1x480x1024, .f32⟩
  | .hbm, ⟨4, _⟩ => ⟨S480x1024, .f32⟩
  | .hbm, ⟨5, _⟩ => ⟨S480x1024, .f32⟩
  | .hbm, ⟨6, _⟩ => ⟨S480x1024, .f32⟩
  | .hbm, ⟨7, _⟩ => ⟨S480x1024, .f32⟩
  | .hbm, ⟨8, _⟩ => ⟨S480x1024, .f32⟩
  | .hbm, ⟨9, _⟩ => ⟨S480x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S1x480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLoraGRefIdeal.lean ====
abbrev S1x480x1024 : Shape := ⟨3, ![1, 480, 1024]⟩
abbrev S480x1024 : Shape := ⟨2, ![480, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x480x1024, .f32⟩
  | .hbm, ⟨1, _⟩ => ⟨S480x1024, .f32⟩
  | .hbm, ⟨2, _⟩ => ⟨S1x480x1024, .f32⟩
  | .hbm, ⟨3, _⟩ => ⟨S1x480x1024, .f32⟩
  | .hbm, ⟨4, _⟩ => ⟨S480x1024, .f32⟩
  | .hbm, ⟨5, _⟩ => ⟨S480x1024, .f32⟩
  | .hbm, ⟨6, _⟩ => ⟨S480x1024, .f32⟩
  | .hbm, ⟨7, _⟩ => ⟨S_, .f32⟩
  | .hbm, ⟨8, _⟩ => ⟨S480x1024, .f32⟩
  | .hbm, ⟨9, _⟩ => ⟨S480x1024, .f32⟩
  | .hbm, ⟨10, _⟩ => ⟨S_, .f32⟩
  | .hbm, ⟨11, _⟩ => ⟨S480x1024, .f32⟩
  | .hbm, ⟨12, _⟩ => ⟨S480x1024, .f32⟩
  | .hbm, ⟨13, _⟩ => ⟨S480x1024, .f32⟩
  | .hbm, ⟨14, _⟩ => ⟨S_, .f32⟩
  | .hbm, ⟨15, _⟩ => ⟨S480x1024, .f32⟩
  | .hbm, ⟨16, _⟩ => ⟨S480x1024, .f32⟩
  | .hbm, ⟨17, _⟩ => ⟨S480x1024, .f32⟩
  | .hbm, ⟨18, _⟩ => ⟨S_, .f32⟩
  | .hbm, ⟨19, _⟩ => ⟨S480x1024, .f32⟩
  | .hbm, ⟨20, _⟩ => ⟨S480x1024, .f32⟩
  | .hbm, ⟨21, _⟩ => ⟨S480x1024, .f32⟩
  | .hbm, ⟨22, _⟩ => ⟨S_, .f32⟩
  | .hbm, ⟨23, _⟩ => ⟨S480x1024, .f32⟩
  | .hbm, ⟨24, _⟩ => ⟨S480x1024, .f32⟩
  | .hbm, ⟨25, _⟩ => ⟨S_, .f32⟩
  | .hbm, ⟨26, _⟩ => ⟨S480x1024, .f32⟩
  | .hbm, ⟨27, _⟩ => ⟨S480x1024, .f32⟩
  | .hbm, ⟨28, _⟩ => ⟨S480x1024, .f32⟩
  | .hbm, ⟨29, _⟩ => ⟨S_, .f32⟩
  | .hbm, ⟨30, _⟩ => ⟨S480x1024, .f32⟩
  | .hbm, ⟨31, _⟩ => ⟨S480x1024, .f32⟩
  | .hbm, ⟨32, _⟩ => ⟨S480x1024, .f32⟩
  | .hbm, ⟨33, _⟩ => ⟨S_, .f32⟩
  | .hbm, ⟨34, _⟩ => ⟨S480x1024, .f32⟩
  | .hbm, ⟨35, _⟩ => ⟨S480x1024, .f32⟩
  | .hbm, ⟨36, _⟩ => ⟨S480x1024, .f32⟩
  | .hbm, ⟨37, _⟩ => ⟨S_, .f32⟩
  | .hbm, ⟨38, _⟩ => ⟨S480x1024, .f32⟩
  | .hbm, ⟨39, _⟩ => ⟨S480x1024, .f32⟩
  | _, _ => ⟨S1x480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSquare.lean ====
abbrev S1x1024x4096 : Shape := ⟨3, ![1, 1024, 4096]⟩
abbrev S1024x4096 : Shape := ⟨2, ![1024, 4096]⟩
abbrev S64x4096 : Shape := ⟨2, ![64, 4096]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x4096, .f32⟩
  | .hbm, ⟨1, _⟩ => ⟨S1024x4096, .f32⟩
  | .hbm, ⟨2, _⟩ => ⟨S1x1024x4096, .f32⟩
  | .hbm, ⟨3, _⟩ => ⟨S1x1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S1024x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareIdeal.lean ====
abbrev S1x1024x4096 : Shape := ⟨3, ![1, 1024, 4096]⟩
abbrev S1024x4096 : Shape := ⟨2, ![1024, 4096]⟩
abbrev S64x4096 : Shape := ⟨2, ![64, 4096]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x4096, .f32⟩
  | .hbm, ⟨1, _⟩ => ⟨S1024x4096, .f32⟩
  | .hbm, ⟨2, _⟩ => ⟨S1x1024x4096, .f32⟩
  | .hbm, ⟨3, _⟩ => ⟨S1x1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S1024x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareRefIdeal.lean ====
abbrev S1x1024x4096 : Shape := ⟨3, ![1, 1024, 4096]⟩
abbrev S1024x4096 : Shape := ⟨2, ![1024, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x4096, .f32⟩
  | .hbm, ⟨1, _⟩ => ⟨S1024x4096, .f32⟩
  | .hbm, ⟨2, _⟩ => ⟨S1x1024x4096, .f32⟩
  | .hbm, ⟨3, _⟩ => ⟨S1x1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024x4096, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S_, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S1024x4096, .f32⟩
  | .hbm, ⟨29, _⟩ => ⟨S_, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S_, .f32⟩
  | .hbm, ⟨34, _⟩ => ⟨S1024x4096, .f32⟩
  | .hbm, ⟨35, _⟩ => ⟨S1024x4096, .f32⟩
  | .hbm, ⟨36, _⟩ => ⟨S1024x4096, .f32⟩
  | .hbm, ⟨37, _⟩ => ⟨S_, .f32⟩
  | .hbm, ⟨38, _⟩ => ⟨S1024x4096, .f32⟩
  | .hbm, ⟨39, _⟩ => ⟨S1024x4096, .f32⟩
  | _, _ => ⟨S1x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUp.lean ====
abbrev S1x4096x2752 : Shape := ⟨3, ![1, 4096, 2752]⟩
abbrev S4096x2752 : Shape := ⟨2, ![4096, 2752]⟩
abbrev S64x2752 : Shape := ⟨2, ![64, 2752]⟩

abbrev nBuf : Space → Nat
  | .hbm => 10
  | .vmem => 14
  | .smem => 0
  | _ => 0

abbrev bufTy : (tb : Table) → Fin (tcTables nBuf tb) → BufTy
  | .hbm, ⟨0, _⟩ => ⟨S1x4096x2752, .f32⟩
  | .hbm, ⟨1, _⟩ => ⟨S4096x2752, .f32⟩
  | .hbm, ⟨2, _⟩ => ⟨S1x4096x2752, .f32⟩
  | .hbm, ⟨3, _⟩ => ⟨S1x4096x2752, .f32⟩
  | .hbm, ⟨4, _⟩ => ⟨S4096x2752, .f32⟩
  | .hbm, ⟨5, _⟩ => ⟨S4096x2752, .f32⟩
  | .hbm, ⟨6, _⟩ => ⟨S4096x2752, .f32⟩
  | .hbm, ⟨7, _⟩ => ⟨S4096x2752, .f32⟩
  | .hbm, ⟨8, _⟩ => ⟨S4096x2752, .f32⟩
  | .hbm, ⟨9, _⟩ => ⟨S4096x2752, .f32⟩
  | .local _ .vmem, ⟨0, _⟩ => ⟨S64x2752, .f32⟩
  | .local _ .vmem, ⟨1, _⟩ => ⟨S64x2752, .f32⟩
  | .local _ .vmem, ⟨2, _⟩ => ⟨S64x2752, .f32⟩
  | .local _ .vmem, ⟨3, _⟩ => ⟨S64x2752, .f32⟩
  | .local _ .vmem, ⟨4, _⟩ => ⟨S64x2752, .f32⟩
  | .local _ .vmem, ⟨5, _⟩ => ⟨S64x2752, .f32⟩
  | .local _ .vmem, ⟨6, _⟩ => ⟨S64x2752, .f32⟩
  | .local _ .vmem, ⟨7, _⟩ => ⟨S64x2752, .f32⟩
  | .local _ .vmem, ⟨8, _⟩ => ⟨S64x2752, .f32⟩
  | .local _ .vmem, ⟨9, _⟩ => ⟨S64x2752, .f32⟩
  | .local _ .vmem, ⟨10, _⟩ => ⟨S64x2752, .f32⟩
  | .local _ .vmem, ⟨11, _⟩ => ⟨S64x2752, .f32⟩
  | .local _ .vmem, ⟨12, _⟩ => ⟨S64x2752, .f32⟩
  | .local _ .vmem, ⟨13, _⟩ => ⟨S64x2752, .f32⟩
  | _, _ => ⟨S1x4096x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2752 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2752 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2752 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2752 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2752 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1x4096x2752 : Shape := ⟨3, ![1, 4096, 2752]⟩
abbrev S4096x2752 : Shape := ⟨2, ![4096, 2752]⟩
abbrev S64x2752 : Shape := ⟨2, ![64, 2752]⟩

abbrev nBuf : Space → Nat
  | .hbm => 10
  | .vmem => 14
  | .smem => 0
  | _ => 0

abbrev bufTy : (tb : Table) → Fin (tcTables nBuf tb) → BufTy
  | .hbm, ⟨0, _⟩ => ⟨S1x4096x2752, .f32⟩
  | .hbm, ⟨1, _⟩ => ⟨S4096x2752, .f32⟩
  | .hbm, ⟨2, _⟩ => ⟨S1x4096x2752, .f32⟩
  | .hbm, ⟨3, _⟩ => ⟨S1x4096x2752, .f32⟩
  | .hbm, ⟨4, _⟩ => ⟨S4096x2752, .f32⟩
  | .hbm, ⟨5, _⟩ => ⟨S4096x2752, .f32⟩
  | .hbm, ⟨6, _⟩ => ⟨S4096x2752, .f32⟩
  | .hbm, ⟨7, _⟩ => ⟨S4096x2752, .f32⟩
  | .hbm, ⟨8, _⟩ => ⟨S4096x2752, .f32⟩
  | .hbm, ⟨9, _⟩ => ⟨S4096x2752, .f32⟩
  | .local _ .vmem, ⟨0, _⟩ => ⟨S64x2752, .f32⟩
  | .local _ .vmem, ⟨1, _⟩ => ⟨S64x2752, .f32⟩
  | .local _ .vmem, ⟨2, _⟩ => ⟨S64x2752, .f32⟩
  | .local _ .vmem, ⟨3, _⟩ => ⟨S64x2752, .f32⟩
  | .local _ .vmem, ⟨4, _⟩ => ⟨S64x2752, .f32⟩
  | .local _ .vmem, ⟨5, _⟩ => ⟨S64x2752, .f32⟩
  | .local _ .vmem, ⟨6, _⟩ => ⟨S64x2752, .f32⟩
  | .local _ .vmem, ⟨7, _⟩ => ⟨S64x2752, .f32⟩
  | .local _ .vmem, ⟨8, _⟩ => ⟨S64x2752, .f32⟩
  | .local _ .vmem, ⟨9, _⟩ => ⟨S64x2752, .f32⟩
  | .local _ .vmem, ⟨10, _⟩ => ⟨S64x2752, .f32⟩
  | .local _ .vmem, ⟨11, _⟩ => ⟨S64x2752, .f32⟩
  | .local _ .vmem, ⟨12, _⟩ => ⟨S64x2752, .f32⟩
  | .local _ .vmem, ⟨13, _⟩ => ⟨S64x2752, .f32⟩
  | _, _ => ⟨S1x4096x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2752 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2752 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2752 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2752 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2752 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1x4096x2752 : Shape := ⟨3, ![1, 4096, 2752]⟩
abbrev S4096x2752 : Shape := ⟨2, ![4096, 2752]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x4096x2752, .f32⟩
  | .hbm, ⟨1, _⟩ => ⟨S4096x2752, .f32⟩
  | .hbm, ⟨2, _⟩ => ⟨S1x4096x2752, .f32⟩
  | .hbm, ⟨3, _⟩ => ⟨S1x4096x2752, .f32⟩
  | .hbm, ⟨4, _⟩ => ⟨S4096x2752, .f32⟩
  | .hbm, ⟨5, _⟩ => ⟨S4096x2752, .f32⟩
  | .hbm, ⟨6, _⟩ => ⟨S4096x2752, .f32⟩
  | .hbm, ⟨7, _⟩ => ⟨S_, .f32⟩
  | .hbm, ⟨8, _⟩ => ⟨S4096x2752, .f32⟩
  | .hbm, ⟨9, _⟩ => ⟨S4096x2752, .f32⟩
  | .hbm, ⟨10, _⟩ => ⟨S_, .f32⟩
  | .hbm, ⟨11, _⟩ => ⟨S4096x2752, .f32⟩
  | .hbm, ⟨12, _⟩ => ⟨S4096x2752, .f32⟩
  | .hbm, ⟨13, _⟩ => ⟨S4096x2752, .f32⟩
  | .hbm, ⟨14, _⟩ => ⟨S_, .f32⟩
  | .hbm, ⟨15, _⟩ => ⟨S4096x2752, .f32⟩
  | .hbm, ⟨16, _⟩ => ⟨S4096x2752, .f32⟩
  | .hbm, ⟨17, _⟩ => ⟨S4096x2752, .f32⟩
  | .hbm, ⟨18, _⟩ => ⟨S_, .f32⟩
  | .hbm, ⟨19, _⟩ => ⟨S4096x2752, .f32⟩
  | .hbm, ⟨20, _⟩ => ⟨S4096x2752, .f32⟩
  | .hbm, ⟨21, _⟩ => ⟨S4096x2752, .f32⟩
  | .hbm, ⟨22, _⟩ => ⟨S_, .f32⟩
  | .hbm, ⟨23, _⟩ => ⟨S4096x2752, .f32⟩
  | .hbm, ⟨24, _⟩ => ⟨S4096x2752, .f32⟩
  | .hbm, ⟨25, _⟩ => ⟨S_, .f32⟩
  | .hbm, ⟨26, _⟩ => ⟨S4096x2752, .f32⟩
  | .hbm, ⟨27, _⟩ => ⟨S4096x2752, .f32⟩
  | .hbm, ⟨28, _⟩ => ⟨S4096x2752, .f32⟩
  | .hbm, ⟨29, _⟩ => ⟨S_, .f32⟩
  | .hbm, ⟨30, _⟩ => ⟨S4096x2752, .f32⟩
  | .hbm, ⟨31, _⟩ => ⟨S4096x2752, .f32⟩
  | .hbm, ⟨32, _⟩ => ⟨S4096x2752, .f32⟩
  | .hbm, ⟨33, _⟩ => ⟨S_, .f32⟩
  | .hbm, ⟨34, _⟩ => ⟨S4096x2752, .f32⟩
  | .hbm, ⟨35, _⟩ => ⟨S4096x2752, .f32⟩
  | .hbm, ⟨36, _⟩ => ⟨S4096x2752, .f32⟩
  | .hbm, ⟨37, _⟩ => ⟨S_, .f32⟩
  | .hbm, ⟨38, _⟩ => ⟨S4096x2752, .f32⟩
  | .hbm, ⟨39, _⟩ => ⟨S4096x2752, .f32⟩
  | _, _ => ⟨S1x4096x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S1x2752x4096 : Shape := ⟨3, ![1, 2752, 4096]⟩
abbrev S2752x4096 : Shape := ⟨2, ![2752, 4096]⟩
abbrev S64x4096 : Shape := ⟨2, ![64, 4096]⟩

abbrev nBuf : Space → Nat
  | .hbm => 10
  | .vmem => 14
  | .smem => 0
  | _ => 0

abbrev bufTy : (tb : Table) → Fin (tcTables nBuf tb) → BufTy
  | .hbm, ⟨0, _⟩ => ⟨S1x2752x4096, .f32⟩
  | .hbm, ⟨1, _⟩ => ⟨S2752x4096, .f32⟩
  | .hbm, ⟨2, _⟩ => ⟨S1x2752x4096, .f32⟩
  | .hbm, ⟨3, _⟩ => ⟨S1x2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .hbm, ⟨8, _⟩ => ⟨S2752x4096, .f32⟩
  | .hbm, ⟨9, _⟩ => ⟨S2752x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S1x2752x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1x2752x4096 : Shape := ⟨3, ![1, 2752, 4096]⟩
abbrev S2752x4096 : Shape := ⟨2, ![2752, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x2752x4096, .f32⟩
  | .hbm, ⟨1, _⟩ => ⟨S2752x4096, .f32⟩
  | .hbm, ⟨2, _⟩ => ⟨S1x2752x4096, .f32⟩
  | .hbm, ⟨3, _⟩ => ⟨S1x2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S_, .f32⟩
  | .hbm, ⟨8, _⟩ => ⟨S2752x4096, .f32⟩
  | .hbm, ⟨9, _⟩ => ⟨S2752x4096, .f32⟩
  | .hbm, ⟨10, _⟩ => ⟨S_, .f32⟩
  | .hbm, ⟨11, _⟩ => ⟨S2752x4096, .f32⟩
  | .hbm, ⟨12, _⟩ => ⟨S2752x4096, .f32⟩
  | .hbm, ⟨13, _⟩ => ⟨S2752x4096, .f32⟩
  | .hbm, ⟨14, _⟩ => ⟨S_, .f32⟩
  | .hbm, ⟨15, _⟩ => ⟨S2752x4096, .f32⟩
  | .hbm, ⟨16, _⟩ => ⟨S2752x4096, .f32⟩
  | .hbm, ⟨17, _⟩ => ⟨S2752x4096, .f32⟩
  | .hbm, ⟨18, _⟩ => ⟨S_, .f32⟩
  | .hbm, ⟨19, _⟩ => ⟨S2752x4096, .f32⟩
  | .hbm, ⟨20, _⟩ => ⟨S2752x4096, .f32⟩
  | .hbm, ⟨21, _⟩ => ⟨S2752x4096, .f32⟩
  | .hbm, ⟨22, _⟩ => ⟨S_, .f32⟩
  | .hbm, ⟨23, _⟩ => ⟨S2752x4096, .f32⟩
  | .hbm, ⟨24, _⟩ => ⟨S2752x4096, .f32⟩
  | .hbm, ⟨25, _⟩ => ⟨S_, .f32⟩
  | .hbm, ⟨26, _⟩ => ⟨S2752x4096, .f32⟩
  | .hbm, ⟨27, _⟩ => ⟨S2752x4096, .f32⟩
  | .hbm, ⟨28, _⟩ => ⟨S2752x4096, .f32⟩
  | .hbm, ⟨29, _⟩ => ⟨S_, .f32⟩
  | .hbm, ⟨30, _⟩ => ⟨S2752x4096, .f32⟩
  | .hbm, ⟨31, _⟩ => ⟨S2752x4096, .f32⟩
  | .hbm, ⟨32, _⟩ => ⟨S2752x4096, .f32⟩
  | .hbm, ⟨33, _⟩ => ⟨S_, .f32⟩
  | .hbm, ⟨34, _⟩ => ⟨S2752x4096, .f32⟩
  | .hbm, ⟨35, _⟩ => ⟨S2752x4096, .f32⟩
  | .hbm, ⟨36, _⟩ => ⟨S2752x4096, .f32⟩
  | .hbm, ⟨37, _⟩ => ⟨S_, .f32⟩
  | .hbm, ⟨38, _⟩ => ⟨S2752x4096, .f32⟩
  | .hbm, ⟨39, _⟩ => ⟨S2752x4096, .f32⟩
  | _, _ => ⟨S1x2752x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S1x4096 : Shape := ⟨2, ![1, 4096]⟩
abbrev S1x6144 : Shape := ⟨2, ![1, 6144]⟩
abbrev S1x32 : Shape := ⟨2, ![1, 32]⟩
abbrev S1x13024 : Shape := ⟨2, ![1, 13024]⟩
abbrev S1x64x64 : Shape := ⟨3, ![1, 64, 64]⟩
abbrev S4096 : Shape := ⟨1, ![4096]⟩
abbrev S6144 : Shape := ⟨1, ![6144]⟩
abbrev S32 : Shape := ⟨1, ![32]⟩
abbrev S13024 : Shape := ⟨1, ![13024]⟩
abbrev S64256 : Shape := ⟨1, ![64256]⟩
abbrev S_ : Shape := ⟨0, ![]⟩
abbrev S64512 : Shape := ⟨1, ![64512]⟩
abbrev S504x128 : Shape := ⟨2, ![504, 128]⟩
abbrev S8x128 : Shape := ⟨2, ![8, 128]⟩

abbrev nBuf : Space → Nat
  | .hbm => 226
  | .vmem => 14
  | .smem => 0
  | _ => 0

abbrev hbmTy0_0 (i : Nat) : BufTy := match i % 128 with
  | 0 => ⟨S1x4096, .f32⟩
  | 1 => ⟨S1x4096, .f32⟩
  | 2 => ⟨S1x4096, .f32⟩
  | 3 => ⟨S1x4096, .f32⟩
  | 4 => ⟨S1x6144, .f32⟩
  | 5 => ⟨S1x32, .f32⟩
  | 6 => ⟨S1x13024, .f32⟩
  | 7 => ⟨S1x4096, .f32⟩
  | 8 => ⟨S1x4096, .f32⟩
  | 9 => ⟨S1x4096, .f32⟩
  | 10 => ⟨S1x4096, .f32⟩
  | 11 => ⟨S1x64x64, .f32⟩
  | 12 => ⟨S1x4096, .f32⟩
  | 13 => ⟨S1x4096, .f32⟩
  | 14 => ⟨S1x4096, .f32⟩
  | 15 => ⟨S1x4096, .f32⟩
  | 16 => ⟨S1x4096, .f32⟩
  | 17 => ⟨S1x4096, .f32⟩
  | 18 => ⟨S1x6144, .f32⟩
  | 19 => ⟨S1x32, .f32⟩
  | 20 => ⟨S1x13024, .f32⟩
  | 21 => ⟨S1x4096, .f32⟩
  | 22 => ⟨S1x4096, .f32⟩
  | 23 => ⟨S1x4096, .f32⟩
  | 24 => ⟨S1x4096, .f32⟩
  | 25 => ⟨S1x64x64, .f32⟩
  | 26 => ⟨S1x4096, .f32⟩
  | 27 => ⟨S1x4096, .f32⟩
  | 28 => ⟨S1x4096, .f32⟩
  | 29 => ⟨S1x4096, .f32⟩
  | 30 => ⟨S1x4096, .f32⟩
  | 31 => ⟨S1x4096, .f32⟩
  | 32 => ⟨S1x6144, .f32⟩
  | 33 => ⟨S1x32, .f32⟩
  | 34 => ⟨S1x13024, .f32⟩
  | 35 => ⟨S1x4096, .f32⟩
  | 36 => ⟨S1x4096, .f32⟩
  | 37 => ⟨S1x4096, .f32⟩
  | 38 => ⟨S1x4096, .f32⟩
  | 39 => ⟨S1x64x64, .f32⟩
  | 40 => ⟨S1x4096, .f32⟩
  | 41 => ⟨S1x4096, .f32⟩
  | 42 => ⟨S1x4096, .f32⟩
  | 43 => ⟨S1x4096, .f32⟩
  | 44 => ⟨S1x4096, .f32⟩
  | 45 => ⟨S1x4096, .f32⟩
  | 46 => ⟨S1x6144, .f32⟩
  | 47 => ⟨S1x32, .f32⟩
  | 48 => ⟨S1x13024, .f32⟩
  | 49 => ⟨S1x4096, .f32⟩
  | 50 => ⟨S1x4096, .f32⟩
  | 51 => ⟨S1x4096, .f32⟩
  | 52 => ⟨S1x4096, .f32⟩
  | 53 => ⟨S1x64x64, .f32⟩
  | 54 => ⟨S1x4096, .f32⟩
  | 55 => ⟨S1x4096, .f32⟩
  | 56 => ⟨S1x4096, .f32⟩
  | 57 => ⟨S4096, .f32⟩
  | 58 => ⟨S4096, .f32⟩
  | 59 => ⟨S4096, .f32⟩
  | 60 => ⟨S4096, .f32⟩
  | 61 => ⟨S6144, .f32⟩
  | 62 => ⟨S32, .f32⟩
  | 63 => ⟨S13024, .f32⟩
  | 64 => ⟨S4096, .f32⟩
  | 65 => ⟨S4096, .f32⟩
  | 66 => ⟨S4096, .f32⟩
  | 67 => ⟨S4096, .f32⟩
  | 68 => ⟨S4096, .f32⟩
  | 69 => ⟨S4096, .f32⟩
  | 70 => ⟨S4096, .f32⟩
  | 71 => ⟨S64256, .f32⟩
  | 72 => ⟨S_, .i32⟩
  | 73 => ⟨S_, .f32⟩
  | 74 => ⟨S64512, .f32⟩
  | 75 => ⟨S504x128, .f32⟩
  | 76 => ⟨S4096, .f32⟩
  | 77 => ⟨S4096, .f32⟩
  | 78 => ⟨S4096, .f32⟩
  | 79 => ⟨S4096, .f32⟩
  | 80 => ⟨S6144, .f32⟩
  | 81 => ⟨S32, .f32⟩
  | 82 => ⟨S13024, .f32⟩
  | 83 => ⟨S4096, .f32⟩
  | 84 => ⟨S4096, .f32⟩
  | 85 => ⟨S4096, .f32⟩
  | 86 => ⟨S4096, .f32⟩
  | 87 => ⟨S4096, .f32⟩
  | 88 => ⟨S4096, .f32⟩
  | 89 => ⟨S4096, .f32⟩
  | 90 => ⟨S64256, .f32⟩
  | 91 => ⟨S_, .i32⟩
  | 92 => ⟨S_, .f32⟩
  | 93 => ⟨S64512, .f32⟩
  | 94 => ⟨S504x128, .f32⟩
  | 95 => ⟨S4096, .f32⟩
  | 96 => ⟨S4096, .f32⟩
  | 97 => ⟨S4096, .f32⟩
  | 98 => ⟨S4096, .f32⟩
  | 99 => ⟨S6144, .f32⟩
  | 100 => ⟨S32, .f32⟩
  | 101 => ⟨S13024, .f32⟩
  | 102 => ⟨S4096, .f32⟩
  | 103 => ⟨S4096, .f32⟩
  | 104 => ⟨S4096, .f32⟩
  | 105 => ⟨S4096, .f32⟩
  | 106 => ⟨S4096, .f32⟩
  | 107 => ⟨S4096, .f32⟩
  | 108 => ⟨S4096, .f32⟩
  | 109 => ⟨S64256, .f32⟩
  | 110 => ⟨S_, .i32⟩
  | 111 => ⟨S_, .f32⟩
  | 112 => ⟨S64512, .f32⟩
  | 113 => ⟨S504x128, .f32⟩
  | 114 => ⟨S4096, .f32⟩
  | 115 => ⟨S4096, .f32⟩
  | 116 => ⟨S4096, .f32⟩
  | 117 => ⟨S4096, .f32⟩
  | 118 => ⟨S6144, .f32⟩
  | 119 => ⟨S32, .f32⟩
  | 120 => ⟨S13024, .f32⟩
  | 121 => ⟨S4096, .f32⟩
  | 122 => ⟨S4096, .f32⟩
  | 123 => ⟨S4096, .f32⟩
  | 124 => ⟨S4096, .f32⟩
  | 125 => ⟨S4096, .f32⟩
  | 126 => ⟨S4096, .f32⟩
  | 127 => ⟨S4096, .f32⟩
  | _ => ⟨S1x4096, .f32⟩

abbrev hbmTy0_1 (i : Nat) : BufTy := match i % 128 with
  | 0 => ⟨S64256, .f32⟩
  | 1 => ⟨S_, .i32⟩
  | 2 => ⟨S_, .f32⟩
  | 3 => ⟨S64512, .f32⟩
  | 4 => ⟨S504x128, .f32⟩
  | 5 => ⟨S504x128, .f32⟩
  | 6 => ⟨S504x128, .f32⟩
  | 7 => ⟨S504x128, .f32⟩
  | 8 => ⟨S64512, .f32⟩
  | 9 => ⟨S4096, .f32⟩
  | 10 => ⟨S1x4096, .f32⟩
  | 11 => ⟨S4096, .f32⟩
  | 12 => ⟨S1x4096, .f32⟩
  | 13 => ⟨S4096, .f32⟩
  | 14 => ⟨S1x4096, .f32⟩
  | 15 => ⟨S4096, .f32⟩
  | 16 => ⟨S1x4096, .f32⟩
  | 17 => ⟨S6144, .f32⟩
  | 18 => ⟨S1x6144, .f32⟩
  | 19 => ⟨S32, .f32⟩
  | 20 => ⟨S1x32, .f32⟩
  | 21 => ⟨S13024, .f32⟩
  | 22 => ⟨S1x13024, .f32⟩
  | 23 => ⟨S4096, .f32⟩
  | 24 => ⟨S1x4096, .f32⟩
  | 25 => ⟨S4096, .f32⟩
  | 26 => ⟨S1x4096, .f32⟩
  | 27 => ⟨S4096, .f32⟩
  | 28 => ⟨S1x4096, .f32⟩
  | 29 => ⟨S4096, .f32⟩
  | 30 => ⟨S1x4096, .f32⟩
  | 31 => ⟨S4096, .f32⟩
  | 32 => ⟨S1x4096, .f32⟩
  | 33 => ⟨S4096, .f32⟩
  | 34 => ⟨S1x4096, .f32⟩
  | 35 => ⟨S4096, .f32⟩
  | 36 => ⟨S1x4096, .f32⟩
  | 37 => ⟨S64512, .f32⟩
  | 38 => ⟨S4096, .f32⟩
  | 39 => ⟨S1x4096, .f32⟩
  | 40 => ⟨S4096, .f32⟩
  | 41 => ⟨S1x4096, .f32⟩
  | 42 => ⟨S4096, .f32⟩
  | 43 => ⟨S1x4096, .f32⟩
  | 44 => ⟨S4096, .f32⟩
  | 45 => ⟨S1x4096, .f32⟩
  | 46 => ⟨S6144, .f32⟩
  | 47 => ⟨S1x6144, .f32⟩
  | 48 => ⟨S32, .f32⟩
  | 49 => ⟨S1x32, .f32⟩
  | 50 => ⟨S13024, .f32⟩
  | 51 => ⟨S1x13024, .f32⟩
  | 52 => ⟨S4096, .f32⟩
  | 53 => ⟨S1x4096, .f32⟩
  | 54 => ⟨S4096, .f32⟩
  | 55 => ⟨S1x4096, .f32⟩
  | 56 => ⟨S4096, .f32⟩
  | 57 => ⟨S1x4096, .f32⟩
  | 58 => ⟨S4096, .f32⟩
  | 59 => ⟨S1x4096, .f32⟩
  | 60 => ⟨S4096, .f32⟩
  | 61 => ⟨S1x4096, .f32⟩
  | 62 => ⟨S4096, .f32⟩
  | 63 => ⟨S1x4096, .f32⟩
  | 64 => ⟨S4096, .f32⟩
  | 65 => ⟨S1x4096, .f32⟩
  | 66 => ⟨S64512, .f32⟩
  | 67 => ⟨S4096, .f32⟩
  | 68 => ⟨S1x4096, .f32⟩
  | 69 => ⟨S4096, .f32⟩
  | 70 => ⟨S1x4096, .f32⟩
  | 71 => ⟨S4096, .f32⟩
  | 72 => ⟨S1x4096, .f32⟩
  | 73 => ⟨S4096, .f32⟩
  | 74 => ⟨S1x4096, .f32⟩
  | 75 => ⟨S6144, .f32⟩
  | 76 => ⟨S1x6144, .f32⟩
  | 77 => ⟨S32, .f32⟩
  | 78 => ⟨S1x32, .f32⟩
  | 79 => ⟨S13024, .f32⟩
  | 80 => ⟨S1x13024, .f32⟩
  | 81 => ⟨S4096, .f32⟩
  | 82 => ⟨S1x4096, .f32⟩
  | 83 => ⟨S4096, .f32⟩
  | 84 => ⟨S1x4096, .f32⟩
  | 85 => ⟨S4096, .f32⟩
  | 86 => ⟨S1x4096, .f32⟩
  | 87 => ⟨S4096, .f32⟩
  | 88 => ⟨S1x4096, .f32⟩
  | 89 => ⟨S4096, .f32⟩
  | 90 => ⟨S1x4096, .f32⟩
  | 91 => ⟨S4096, .f32⟩
  | 92 => ⟨S1x4096, .f32⟩
  | 93 => ⟨S4096, .f32⟩
  | 94 => ⟨S1x4096, .f32⟩
  | 95 => ⟨S1x64x64, .f32⟩
  | 96 => ⟨S1x64x64, .f32⟩
  | 97 => ⟨S1x64x64, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_v0 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_c : Ref sig .tc := ⟨.hbm, 72, rfl⟩
abbrev main_call0_v0 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_c_0 : Ref sig .tc := ⟨.hbm, 91, rfl⟩
abbrev main_call1_v0 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_c_1 : Ref sig .tc := ⟨.hbm, 110, rfl⟩
abbrev main_call2_v0 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_c_2 : Ref sig .tc := ⟨.hbm, 129, rfl⟩
abbrev main_call3_v0 : Ref sig .tc := ⟨.hbm, 130, rfl⟩
abbrev main_v67 : Ref sig .tc := ⟨.hbm, 131, rfl⟩
abbrev main_v68 : Ref sig .tc := ⟨.hbm, 132, rfl⟩
abbrev main_v69_0 : Ref sig .tc := ⟨.hbm, 133, rfl⟩
abbrev main_v69_1 : Ref sig .tc := ⟨.hbm, 134, rfl⟩
abbrev main_v69_2 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![63], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S1x4096 : Shape := ⟨2, ![1, 4096]⟩
abbrev S1x6144 : Shape := ⟨2, ![1, 6144]⟩
abbrev S1x32 : Shape := ⟨2, ![1, 32]⟩
abbrev S1x13024 : Shape := ⟨2, ![1, 13024]⟩
abbrev S1x64x64 : Shape := ⟨3, ![1, 64, 64]⟩
abbrev S_ : Shape := ⟨0, ![]⟩

abbrev nBuf : Space → Nat
  | .hbm => 518
  | .vmem => 0
  | .smem => 0
  | _ => 0

abbrev hbmTy0_0 (i : Nat) : BufTy := match i % 128 with
  | 0 => ⟨S1x4096, .f32⟩
  | 1 => ⟨S1x4096, .f32⟩
  | 2 => ⟨S1x4096, .f32⟩
  | 3 => ⟨S1x4096, .f32⟩
  | 4 => ⟨S1x6144, .f32⟩
  | 5 => ⟨S1x32, .f32⟩
  | 6 => ⟨S1x13024, .f32⟩
  | 7 => ⟨S1x4096, .f32⟩
  | 8 => ⟨S1x4096, .f32⟩
  | 9 => ⟨S1x4096, .f32⟩
  | 10 => ⟨S1x4096, .f32⟩
  | 11 => ⟨S1x64x64, .f32⟩
  | 12 => ⟨S1x4096, .f32⟩
  | 13 => ⟨S1x4096, .f32⟩
  | 14 => ⟨S1x4096, .f32⟩
  | 15 => ⟨S1x4096, .f32⟩
  | 16 => ⟨S1x4096, .f32⟩
  | 17 => ⟨S1x4096, .f32⟩
  | 18 => ⟨S1x6144, .f32⟩
  | 19 => ⟨S1x32, .f32⟩
  | 20 => ⟨S1x13024, .f32⟩
  | 21 => ⟨S1x4096, .f32⟩
  | 22 => ⟨S1x4096, .f32⟩
  | 23 => ⟨S1x4096, .f32⟩
  | 24 => ⟨S1x4096, .f32⟩
  | 25 => ⟨S1x64x64, .f32⟩
  | 26 => ⟨S1x4096, .f32⟩
  | 27 => ⟨S1x4096, .f32⟩
  | 28 => ⟨S1x4096, .f32⟩
  | 29 => ⟨S1x4096, .f32⟩
  | 30 => ⟨S1x4096, .f32⟩
  | 31 => ⟨S1x4096, .f32⟩
  | 32 => ⟨S1x6144, .f32⟩
  | 33 => ⟨S1x32, .f32⟩
  | 34 => ⟨S1x13024, .f32⟩
  | 35 => ⟨S1x4096, .f32⟩
  | 36 => ⟨S1x4096, .f32⟩
  | 37 => ⟨S1x4096, .f32⟩
  | 38 => ⟨S1x4096, .f32⟩
  | 39 => ⟨S1x64x64, .f32⟩
  | 40 => ⟨S1x4096, .f32⟩
  | 41 => ⟨S1x4096, .f32⟩
  | 42 => ⟨S1x4096, .f32⟩
  | 43 => ⟨S1x4096, .f32⟩
  | 44 => ⟨S1x4096, .f32⟩
  | 45 => ⟨S1x4096, .f32⟩
  | 46 => ⟨S1x6144, .f32⟩
  | 47 => ⟨S1x32, .f32⟩
  | 48 => ⟨S1x13024, .f32⟩
  | 49 => ⟨S1x4096, .f32⟩
  | 50 => ⟨S1x4096, .f32⟩
  | 51 => ⟨S1x4096, .f32⟩
  | 52 => ⟨S1x4096, .f32⟩
  | 53 => ⟨S1x64x64, .f32⟩
  | 54 => ⟨S1x4096, .f32⟩
  | 55 => ⟨S1x4096, .f32⟩
  | 56 => ⟨S_, .f32⟩
  | 57 => ⟨S1x4096, .f32⟩
  | 58 => ⟨S1x4096, .f32⟩
  | 59 => ⟨S_, .f32⟩
  | 60 => ⟨S1x4096, .f32⟩
  | 61 => ⟨S1x4096, .f32⟩
  | 62 => ⟨S1x4096, .f32⟩
  | 63 => ⟨S_, .f32⟩
  | 64 => ⟨S1x4096, .f32⟩
  | 65 => ⟨S1x4096, .f32⟩
  | 66 => ⟨S1x4096, .f32⟩
  | 67 => ⟨S_, .f32⟩
  | 68 => ⟨S1x4096, .f32⟩
  | 69 => ⟨S1x4096, .f32⟩
  | 70 => ⟨S1x4096, .f32⟩
  | 71 => ⟨S_, .f32⟩
  | 72 => ⟨S1x4096, .f32⟩
  | 73 => ⟨S1x4096, .f32⟩
  | 74 => ⟨S_, .f32⟩
  | 75 => ⟨S1x4096, .f32⟩
  | 76 => ⟨S1x4096, .f32⟩
  | 77 => ⟨S1x4096, .f32⟩
  | 78 => ⟨S_, .f32⟩
  | 79 => ⟨S1x4096, .f32⟩
  | 80 => ⟨S1x4096, .f32⟩
  | 81 => ⟨S1x4096, .f32⟩
  | 82 => ⟨S_, .f32⟩
  | 83 => ⟨S1x4096, .f32⟩
  | 84 => ⟨S1x4096, .f32⟩
  | 85 => ⟨S1x4096, .f32⟩
  | 86 => ⟨S_, .f32⟩
  | 87 => ⟨S1x4096, .f32⟩
  | 88 => ⟨S1x4096, .f32⟩
  | 89 => ⟨S_, .f32⟩
  | 90 => ⟨S1x4096, .f32⟩
  | 91 => ⟨S1x4096, .f32⟩
  | 92 => ⟨S_, .f32⟩
  | 93 => ⟨S1x4096, .f32⟩
  | 94 => ⟨S1x4096, .f32⟩
  | 95 => ⟨S1x4096, .f32⟩
  | 96 => ⟨S_, .f32⟩
  | 97 => ⟨S1x4096, .f32⟩
  | 98 => ⟨S1x4096, .f32⟩
  | 99 => ⟨S1x4096, .f32⟩
  | 100 => ⟨S_, .f32⟩
  | 101 => ⟨S1x4096, .f32⟩
  | 102 => ⟨S1x4096, .f32⟩
  | 103 => ⟨S1x4096, .f32⟩
  | 104 => ⟨S_, .f32⟩
  | 105 => ⟨S1x4096, .f32⟩
  | 106 => ⟨S1x4096, .f32⟩
  | 107 => ⟨S_, .f32⟩
  | 108 => ⟨S1x4096, .f32⟩
  | 109 => ⟨S1x4096, .f32⟩
  | 110 => ⟨S1x4096, .f32⟩
  | 111 => ⟨S_, .f32⟩
  | 112 => ⟨S1x4096, .f32⟩
  | 113 => ⟨S1x4096, .f32⟩
  | 114 => ⟨S1x4096, .f32⟩
  | 115 => ⟨S_, .f32⟩
  | 116 => ⟨S1x4096, .f32⟩
  | 117 => ⟨S1x4096, .f32⟩
  | 118 => ⟨S1x4096, .f32⟩
  | 119 => ⟨S_, .f32⟩
  | 120 => ⟨S1x4096, .f32⟩
  | 121 => ⟨S1x4096, .f32⟩
  | 122 => ⟨S_, .f32⟩
  | 123 => ⟨S1x4096, .f32⟩
  | 124 => ⟨S1x4096, .f32⟩
  | 125 => ⟨S_, .f32⟩
  | 126 => ⟨S1x4096, .f32⟩
  | 127 => ⟨S1x4096, .f32⟩
  | _ => ⟨S1x4096, .f32⟩

abbrev hbmTy0_1 (i : Nat) : BufTy := match i % 128 with
  | 0 => ⟨S1x4096, .f32⟩
  | 1 => ⟨S_, .f32⟩
  | 2 => ⟨S1x4096, .f32⟩
  | 3 => ⟨S1x4096, .f32⟩
  | 4 => ⟨S1x4096, .f32⟩
  | 5 => ⟨S_, .f32⟩
  | 6 => ⟨S1x4096, .f32⟩
  | 7 => ⟨S1x4096, .f32⟩
  | 8 => ⟨S1x4096, .f32⟩
  | 9 => ⟨S_, .f32⟩
  | 10 => ⟨S1x4096, .f32⟩
  | 11 => ⟨S1x4096, .f32⟩
  | 12 => ⟨S_, .f32⟩
  | 13 => ⟨S1x4096, .f32⟩
  | 14 => ⟨S1x4096, .f32⟩
  | 15 => ⟨S1x4096, .f32⟩
  | 16 => ⟨S_, .f32⟩
  | 17 => ⟨S1x4096, .f32⟩
  | 18 => ⟨S1x4096, .f32⟩
  | 19 => ⟨S1x4096, .f32⟩
  | 20 => ⟨S_, .f32⟩
  | 21 => ⟨S1x4096, .f32⟩
  | 22 => ⟨S1x4096, .f32⟩
  | 23 => ⟨S1x4096, .f32⟩
  | 24 => ⟨S_, .f32⟩
  | 25 => ⟨S1x4096, .f32⟩
  | 26 => ⟨S1x4096, .f32⟩
  | 27 => ⟨S_, .f32⟩
  | 28 => ⟨S1x4096, .f32⟩
  | 29 => ⟨S1x4096, .f32⟩
  | 30 => ⟨S_, .f32⟩
  | 31 => ⟨S1x4096, .f32⟩
  | 32 => ⟨S1x4096, .f32⟩
  | 33 => ⟨S1x4096, .f32⟩
  | 34 => ⟨S_, .f32⟩
  | 35 => ⟨S1x4096, .f32⟩
  | 36 => ⟨S1x4096, .f32⟩
  | 37 => ⟨S1x4096, .f32⟩
  | 38 => ⟨S_, .f32⟩
  | 39 => ⟨S1x4096, .f32⟩
  | 40 => ⟨S1x4096, .f32⟩
  | 41 => ⟨S1x4096, .f32⟩
  | 42 => ⟨S_, .f32⟩
  | 43 => ⟨S1x4096, .f32⟩
  | 44 => ⟨S1x4096, .f32⟩
  | 45 => ⟨S_, .f32⟩
  | 46 => ⟨S1x4096, .f32⟩
  | 47 => ⟨S1x4096, .f32⟩
  | 48 => ⟨S1x4096, .f32⟩
  | 49 => ⟨S_, .f32⟩
  | 50 => ⟨S1x4096, .f32⟩
  | 51 => ⟨S1x4096, .f32⟩
  | 52 => ⟨S1x4096, .f32⟩
  | 53 => ⟨S_, .f32⟩
  | 54 => ⟨S1x4096, .f32⟩
  | 55 => ⟨S1x4096, .f32⟩
  | 56 => ⟨S1x4096, .f32⟩
  | 57 => ⟨S_, .f32⟩
  | 58 => ⟨S1x4096, .f32⟩
  | 59 => ⟨S1x4096, .f32⟩
  | 60 => ⟨S_, .f32⟩
  | 61 => ⟨S1x6144, .f32⟩
  | 62 => ⟨S1x6144, .f32⟩
  | 63 => ⟨S_, .f32⟩
  | 64 => ⟨S1x6144, .f32⟩
  | 65 => ⟨S1x6144, .f32⟩
  | 66 => ⟨S1x6144, .f32⟩
  | 67 => ⟨S_, .f32⟩
  | 68 => ⟨S1x6144, .f32⟩
  | 69 => ⟨S1x6144, .f32⟩
  | 70 => ⟨S1x6144, .f32⟩
  | 71 => ⟨S_, .f32⟩
  | 72 => ⟨S1x6144, .f32⟩
  | 73 => ⟨S1x6144, .f32⟩
  | 74 => ⟨S1x6144, .f32⟩
  | 75 => ⟨S_, .f32⟩
  | 76 => ⟨S1x6144, .f32⟩
  | 77 => ⟨S1x6144, .f32⟩
  | 78 => ⟨S_, .f32⟩
  | 79 => ⟨S1x6144, .f32⟩
  | 80 => ⟨S1x6144, .f32⟩
  | 81 => ⟨S1x6144, .f32⟩
  | 82 => ⟨S_, .f32⟩
  | 83 => ⟨S1x6144, .f32⟩
  | 84 => ⟨S1x6144, .f32⟩
  | 85 => ⟨S1x6144, .f32⟩
  | 86 => ⟨S_, .f32⟩
  | 87 => ⟨S1x6144, .f32⟩
  | 88 => ⟨S1x6144, .f32⟩
  | 89 => ⟨S1x6144, .f32⟩
  | 90 => ⟨S_, .f32⟩
  | 91 => ⟨S1x6144, .f32⟩
  | 92 => ⟨S1x6144, .f32⟩
  | 93 => ⟨S_, .f32⟩
  | 94 => ⟨S1x32, .f32⟩
  | 95 => ⟨S1x32, .f32⟩
  | 96 => ⟨S_, .f32⟩
  | 97 => ⟨S1x32, .f32⟩
  | 98 => ⟨S1x32, .f32⟩
  | 99 => ⟨S1x32, .f32⟩
  | 100 => ⟨S_, .f32⟩
  | 101 => ⟨S1x32, .f32⟩
  | 102 => ⟨S1x32, .f32⟩
  | 103 => ⟨S1x32, .f32⟩
  | 104 => ⟨S_, .f32⟩
  | 105 => ⟨S1x32, .f32⟩
  | 106 => ⟨S1x32, .f32⟩
  | 107 => ⟨S1x32, .f32⟩
  | 108 => ⟨S_, .f32⟩
  | 109 => ⟨S1x32, .f32⟩
  | 110 => ⟨S1x32, .f32⟩
  | 111 => ⟨S_, .f32⟩
  | 112 => ⟨S1x32, .f32⟩
  | 113 => ⟨S1x32, .f32⟩
  | 114 => ⟨S1x32, .f32⟩
  | 115 => ⟨S_, .f32⟩
  | 116 => ⟨S1x32, .f32⟩
  | 117 => ⟨S1x32, .f32⟩
  | 118 => ⟨S1x32, .f32⟩
  | 119 => ⟨S_, .f32⟩
  | 120 => ⟨S1x32, .f32⟩
  | 121 => ⟨S1x32, .f32⟩
  | 122 => ⟨S1x32, .f32⟩
  | 123 => ⟨S_, .f32⟩
  | 124 => ⟨S1x32, .f32⟩
  | 125 => ⟨S1x32, .f32⟩
  | 126 => ⟨S_, .f32⟩
  | 127 => ⟨S1x13024, .f32⟩
  | _ => ⟨S1x4096, .f32⟩

abbrev hbmTy0_2 (i : Nat) : BufTy := match i % 128 with
  | 0 => ⟨S1x13024, .f32⟩
  | 1 => ⟨S_, .f32⟩
  | 2 => ⟨S1x13024, .f32⟩
  | 3 => ⟨S1x13024, .f32⟩
  | 4 => ⟨S1x13024, .f32⟩
  | 5 => ⟨S_, .f32⟩
  | 6 => ⟨S1x13024, .f32⟩
  | 7 => ⟨S1x13024, .f32⟩
  | 8 => ⟨S1x13024, .f32⟩
  | 9 => ⟨S_, .f32⟩
  | 10 => ⟨S1x13024, .f32⟩
  | 11 => ⟨S1x13024, .f32⟩
  | 12 => ⟨S1x13024, .f32⟩
  | 13 => ⟨S_, .f32⟩
  | 14 => ⟨S1x13024, .f32⟩
  | 15 => ⟨S1x13024, .f32⟩
  | 16 => ⟨S_, .f32⟩
  | 17 => ⟨S1x13024, .f32⟩
  | 18 => ⟨S1x13024, .f32⟩
  | 19 => ⟨S1x13024, .f32⟩
  | 20 => ⟨S_, .f32⟩
  | 21 => ⟨S1x13024, .f32⟩
  | 22 => ⟨S1x13024, .f32⟩
  | 23 => ⟨S1x13024, .f32⟩
  | 24 => ⟨S_, .f32⟩
  | 25 => ⟨S1x13024, .f32⟩
  | 26 => ⟨S1x13024, .f32⟩
  | 27 => ⟨S1x13024, .f32⟩
  | 28 => ⟨S_, .f32⟩
  | 29 => ⟨S1x13024, .f32⟩
  | 30 => ⟨S1x13024, .f32⟩
  | 31 => ⟨S_, .f32⟩
  | 32 => ⟨S1x4096, .f32⟩
  | 33 => ⟨S1x4096, .f32⟩
  | 34 => ⟨S_, .f32⟩
  | 35 => ⟨S1x4096, .f32⟩
  | 36 => ⟨S1x4096, .f32⟩
  | 37 => ⟨S1x4096, .f32⟩
  | 38 => ⟨S_, .f32⟩
  | 39 => ⟨S1x4096, .f32⟩
  | 40 => ⟨S1x4096, .f32⟩
  | 41 => ⟨S1x4096, .f32⟩
  | 42 => ⟨S_, .f32⟩
  | 43 => ⟨S1x4096, .f32⟩
  | 44 => ⟨S1x4096, .f32⟩
  | 45 => ⟨S1x4096, .f32⟩
  | 46 => ⟨S_, .f32⟩
  | 47 => ⟨S1x4096, .f32⟩
  | 48 => ⟨S1x4096, .f32⟩
  | 49 => ⟨S_, .f32⟩
  | 50 => ⟨S1x4096, .f32⟩
  | 51 => ⟨S1x4096, .f32⟩
  | 52 => ⟨S1x4096, .f32⟩
  | 53 => ⟨S_, .f32⟩
  | 54 => ⟨S1x4096, .f32⟩
  | 55 => ⟨S1x4096, .f32⟩
  | 56 => ⟨S1x4096, .f32⟩
  | 57 => ⟨S_, .f32⟩
  | 58 => ⟨S1x4096, .f32⟩
  | 59 => ⟨S1x4096, .f32⟩
  | 60 => ⟨S1x4096, .f32⟩
  | 61 => ⟨S_, .f32⟩
  | 62 => ⟨S1x4096, .f32⟩
  | 63 => ⟨S1x4096, .f32⟩
  | 64 => ⟨S_, .f32⟩
  | 65 => ⟨S1x4096, .f32⟩
  | 66 => ⟨S1x4096, .f32⟩
  | 67 => ⟨S_, .f32⟩
  | 68 => ⟨S1x4096, .f32⟩
  | 69 => ⟨S1x4096, .f32⟩
  | 70 => ⟨S1x4096, .f32⟩
  | 71 => ⟨S_, .f32⟩
  | 72 => ⟨S1x4096, .f32⟩
  | 73 => ⟨S1x4096, .f32⟩
  | 74 => ⟨S1x4096, .f32⟩
  | 75 => ⟨S_, .f32⟩
  | 76 => ⟨S1x4096, .f32⟩
  | 77 => ⟨S1x4096, .f32⟩
  | 78 => ⟨S1x4096, .f32⟩
  | 79 => ⟨S_, .f32⟩
  | 80 => ⟨S1x4096, .f32⟩
  | 81 => ⟨S1x4096, .f32⟩
  | 82 => ⟨S_, .f32⟩
  | 83 => ⟨S1x4096, .f32⟩
  | 84 => ⟨S1x4096, .f32⟩
  | 85 => ⟨S1x4096, .f32⟩
  | 86 => ⟨S_, .f32⟩
  | 87 => ⟨S1x4096, .f32⟩
  | 88 => ⟨S1x4096, .f32⟩
  | 89 => ⟨S1x4096, .f32⟩
  | 90 => ⟨S_, .f32⟩
  | 91 => ⟨S1x4096, .f32⟩
  | 92 => ⟨S1x4096, .f32⟩
  | 93 => ⟨S1x4096, .f32⟩
  | 94 => ⟨S_, .f32⟩
  | 95 => ⟨S1x4096, .f32⟩
  | 96 => ⟨S1x4096, .f32⟩
  | 97 => ⟨S_, .f32⟩
  | 98 => ⟨S1x4096, .f32⟩
  | 99 => ⟨S1x4096, .f32⟩
  | 100 => ⟨S_, .f32⟩
  | 101 => ⟨S1x4096, .f32⟩
  | 102 => ⟨S1x4096, .f32⟩
  | 103 => ⟨S1x4096, .f32⟩
  | 104 => ⟨S_, .f32⟩
  | 105 => ⟨S1x4096, .f32⟩
  | 106 => ⟨S1x4096, .f32⟩
  | 107 => ⟨S1x4096, .f32⟩
  | 108 => ⟨S_, .f32⟩
  | 109 => ⟨S1x4096, .f32⟩
  | 110 => ⟨S1x4096, .f32⟩
  | 111 => ⟨S1x4096, .f32⟩
  | 112 => ⟨S_, .f32⟩
  | 113 => ⟨S1x4096, .f32⟩
  | 114 => ⟨S1x4096, .f32⟩
  | 115 => ⟨S_, .f32⟩
  | 116 => ⟨S1x4096, .f32⟩
  | 117 => ⟨S1x4096, .f32⟩
  | 118 => ⟨S1x4096, .f32⟩
  | 119 => ⟨S_, .f32⟩
  | 120 => ⟨S1x4096, .f32⟩
  | 121 => ⟨S1x4096, .f32⟩
  | 122 => ⟨S1x4096, .f32⟩
  | 123 => ⟨S_, .f32⟩
  | 124 => ⟨S1x4096, .f32⟩
  | 125 => ⟨S1x4096, .f32⟩
  | 126 => ⟨S1x4096, .f32⟩
  | 127 => ⟨S_, .f32⟩
  | _ => ⟨S1x4096, .f32⟩

abbrev hbmTy0_3 (i : Nat) : BufTy := match i % 128 with
  | 0 => ⟨S1x4096, .f32⟩
  | 1 => ⟨S1x4096, .f32⟩
  | 2 => ⟨S_, .f32⟩
  | 3 => ⟨S1x4096, .f32⟩
  | 4 => ⟨S1x4096, .f32⟩
  | 5 => ⟨S_, .f32⟩
  | 6 => ⟨S1x4096, .f32⟩
  | 7 => ⟨S1x4096, .f32⟩
  | 8 => ⟨S1x4096, .f32⟩
  | 9 => ⟨S_, .f32⟩
  | 10 => ⟨S1x4096, .f32⟩
  | 11 => ⟨S1x4096, .f32⟩
  | 12 => ⟨S1x4096, .f32⟩
  | 13 => ⟨S_, .f32⟩
  | 14 => ⟨S1x4096, .f32⟩
  | 15 => ⟨S1x4096, .f32⟩
  | 16 => ⟨S1x4096, .f32⟩
  | 17 => ⟨S_, .f32⟩
  | 18 => ⟨S1x4096, .f32⟩
  | 19 => ⟨S1x4096, .f32⟩
  | 20 => ⟨S_, .f32⟩
  | 21 => ⟨S1x4096, .f32⟩
  | 22 => ⟨S1x4096, .f32⟩
  | 23 => ⟨S1x4096, .f32⟩
  | 24 => ⟨S_, .f32⟩
  | 25 => ⟨S1x4096, .f32⟩
  | 26 => ⟨S1x4096, .f32⟩
  | 27 => ⟨S1x4096, .f32⟩
  | 28 => ⟨S_, .f32⟩
  | 29 => ⟨S1x4096, .f32⟩
  | 30 => ⟨S1x4096, .f32⟩
  | 31 => ⟨S1x4096, .f32⟩
  | 32 => ⟨S_, .f32⟩
  | 33 => ⟨S1x4096, .f32⟩
  | 34 => ⟨S1x4096, .f32⟩
  | 35 => ⟨S_, .f32⟩
  | 36 => ⟨S1x64x64, .f32⟩
  | 37 => ⟨S1x64x64, .f32⟩
  | 38 => ⟨S_, .f32⟩
  | 39 => ⟨S1x64x64, .f32⟩
  | 40 => ⟨S1x64x64, .f32⟩
  | 41 => ⟨S1x64x64, .f32⟩
  | 42 => ⟨S_, .f32⟩
  | 43 => ⟨S1x64x64, .f32⟩
  | 44 => ⟨S1x64x64, .f32⟩
  | 45 => ⟨S1x64x64, .f32⟩
  | 46 => ⟨S_, .f32⟩
  | 47 => ⟨S1x64x64, .f32⟩
  | 48 => ⟨S1x64x64, .f32⟩
  | 49 => ⟨S1x64x64, .f32⟩
  | 50 => ⟨S_, .f32⟩
  | 51 => ⟨S1x64x64, .f32⟩
  | 52 => ⟨S1x64x64, .f32⟩
  | 53 => ⟨S_, .f32⟩
  | 54 => ⟨S1x64x64, .f32⟩
  | 55 => ⟨S1x64x64, .f32⟩
  | 56 => ⟨S1x64x64, .f32⟩
  | 57 => ⟨S_, .f32⟩
  | 58 => ⟨S1x64x64, .f32⟩
  | 59 => ⟨S1x64x64, .f32⟩
  | 60 => ⟨S1x64x64, .f32⟩
  | 61 => ⟨S_, .f32⟩
  | 62 => ⟨S1x64x64, .f32⟩
  | 63 => ⟨S1x64x64, .f32⟩
  | 64 => ⟨S1x64x64, .f32⟩
  | 65 => ⟨S_, .f32⟩
  | 66 => ⟨S1x64x64, .f32⟩
  | 67 => ⟨S1x64x64, .f32⟩
  | 68 => ⟨S_, .f32⟩
  | 69 => ⟨S1x4096, .f32⟩
  | 70 => ⟨S1x4096, .f32⟩
  | 71 => ⟨S_, .f32⟩
  | 72 => ⟨S1x4096, .f32⟩
  | 73 => ⟨S1x4096, .f32⟩
  | 74 => ⟨S1x4096, .f32⟩
  | 75 => ⟨S_, .f32⟩
  | 76 => ⟨S1x4096, .f32⟩
  | 77 => ⟨S1x4096, .f32⟩
  | 78 => ⟨S1x4096, .f32⟩
  | 79 => ⟨S_, .f32⟩
  | 80 => ⟨S1x4096, .f32⟩
  | 81 => ⟨S1x4096, .f32⟩
  | 82 => ⟨S1x4096, .f32⟩
  | 83 => ⟨S_, .f32⟩
  | 84 => ⟨S1x4096, .f32⟩
  | 85 => ⟨S1x4096, .f32⟩
  | 86 => ⟨S_, .f32⟩
  | 87 => ⟨S1x4096, .f32⟩
  | 88 => ⟨S1x4096, .f32⟩
  | 89 => ⟨S1x4096, .f32⟩
  | 90 => ⟨S_, .f32⟩
  | 91 => ⟨S1x4096, .f32⟩
  | 92 => ⟨S1x4096, .f32⟩
  | 93 => ⟨S1x4096, .f32⟩
  | 94 => ⟨S_, .f32⟩
  | 95 => ⟨S1x4096, .f32⟩
  | 96 => ⟨S1x4096, .f32⟩
  | 97 => ⟨S1x4096, .f32⟩
  | 98 => ⟨S_, .f32⟩
  | 99 => ⟨S1x4096, .f32⟩
  | 100 => ⟨S1x4096, .f32⟩
  | 101 => ⟨S_, .f32⟩
  | 102 => ⟨S1x4096, .f32⟩
  | 103 => ⟨S1x4096, .f32⟩
  | 104 => ⟨S_, .f32⟩
  | 105 => ⟨S1x4096, .f32⟩
  | 106 => ⟨S1x4096, .f32⟩
  | 107 => ⟨S1x4096, .f32⟩
  | 108 => ⟨S_, .f32⟩
  | 109 => ⟨S1x4096, .f32⟩
  | 110 => ⟨S1x4096, .f32⟩
  | 111 => ⟨S1x4096, .f32⟩
  | 112 => ⟨S_, .f32⟩
  | 113 => ⟨S1x4096, .f32⟩
  | 114 => ⟨S1x4096, .f32⟩
  | 115 => ⟨S1x4096, .f32⟩
  | 116 => ⟨S_, .f32⟩
  | 117 => ⟨S1x4096, .f32⟩
  | 118 => ⟨S1x4096, .f32⟩
  | 119 => ⟨S_, .f32⟩
  | 120 => ⟨S1x4096, .f32⟩
  | 121 => ⟨S1x4096, .f32⟩
  | 122 => ⟨S1x4096, .f32⟩
  | 123 => ⟨S_, .f32⟩
  | 124 => ⟨S1x4096, .f32⟩
  | 125 => ⟨S1x4096, .f32⟩
  | 126 => ⟨S1x4096, .f32⟩
  | 127 => ⟨S_, .f32⟩
  | _ => ⟨S1x4096, .f32⟩

abbrev hbmTy0_4 (i : Nat) : BufTy := match i % 128 with
  | 0 => ⟨S1x4096, .f32⟩
  | 1 => ⟨S1x4096, .f32⟩
  | 2 => ⟨S1x4096, .f32⟩
  | 3 => ⟨S_, .f32⟩
  | 4 => ⟨S1x4096, .f32⟩
  | 5 => ⟨S1x4096, .f32⟩
  | _ => ⟨S1x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_cst : Ref sig .tc := ⟨.hbm, 56, rfl⟩
abbrev main_v0 : Ref sig .tc := ⟨.hbm, 57, rfl⟩
abbrev main_v1 : Ref sig .tc := ⟨.hbm, 58, rfl⟩
abbrev main_cst_0 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_cst_1 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_cst_2 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_cst_3 : Ref sig .tc := ⟨.hbm, 71, rfl⟩
abbrev main_v11 : Ref sig .tc := ⟨.hbm, 72, rfl⟩
abbrev main_v12 : Ref sig .tc := ⟨.hbm, 73, rfl⟩
abbrev main_cst_4 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_cst_5 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_cst_6 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_cst_7 : Ref sig .tc := ⟨.hbm, 86, rfl⟩
abbrev main_v22 : Ref sig .tc := ⟨.hbm, 87, rfl⟩
abbrev main_v23 : Ref sig .tc := ⟨.hbm, 88, rfl⟩
abbrev main_cst_8 : Ref sig .tc := ⟨.hbm, 89, rfl⟩
abbrev main_v24 : Ref sig .tc := ⟨.hbm, 90, rfl⟩
abbrev main_v25 : Ref sig .tc := ⟨.hbm, 91, rfl⟩
abbrev main_cst_9 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_10 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_cst_11 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_cst_12 : Ref sig .tc := ⟨.hbm, 104, rfl⟩
abbrev main_v35 : Ref sig .tc := ⟨.hbm, 105, rfl⟩
abbrev main_v36 : Ref sig .tc := ⟨.hbm, 106, rfl⟩
abbrev main_cst_13 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_14 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_15 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_16 : Ref sig .tc := ⟨.hbm, 119, rfl⟩
abbrev main_v46 : Ref sig .tc := ⟨.hbm, 120, rfl⟩
abbrev main_v47 : Ref sig .tc := ⟨.hbm, 121, rfl⟩
abbrev main_cst_17 : Ref sig .tc := ⟨.hbm, 122, rfl⟩
abbrev main_v48 : Ref sig .tc := ⟨.hbm, 123, rfl⟩
abbrev main_v49 : Ref sig .tc := ⟨.hbm, 124, rfl⟩
abbrev main_cst_18 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_19 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_cst_20 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_cst_21 : Ref sig .tc := ⟨.hbm, 137, rfl⟩
abbrev main_v59 : Ref sig .tc := ⟨.hbm, 138, rfl⟩
abbrev main_v60 : Ref sig .tc := ⟨.hbm, 139, rfl⟩
abbrev main_cst_22 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_23 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_cst_24 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_25 : Ref sig .tc := ⟨.hbm, 152, rfl⟩
abbrev main_v70 : Ref sig .tc := ⟨.hbm, 153, rfl⟩
abbrev main_v71 : Ref sig .tc := ⟨.hbm, 154, rfl⟩
abbrev main_cst_26 : Ref sig .tc := ⟨.hbm, 155, rfl⟩
abbrev main_v72 : Ref sig .tc := ⟨.hbm, 156, rfl⟩
abbrev main_v73 : Ref sig .tc := ⟨.hbm, 157, rfl⟩
abbrev main_cst_27 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_cst_28 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_cst_29 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_30 : Ref sig .tc := ⟨.hbm, 170, rfl⟩
abbrev main_v83 : Ref sig .tc := ⟨.hbm, 171, rfl⟩
abbrev main_v84 : Ref sig .tc := ⟨.hbm, 172, rfl⟩
abbrev main_cst_31 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_cst_32 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_cst_33 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_cst_34 : Ref sig .tc := ⟨.hbm, 185, rfl⟩
abbrev main_v94 : Ref sig .tc := ⟨.hbm, 186, rfl⟩
abbrev main_v95 : Ref sig .tc := ⟨.hbm, 187, rfl⟩
abbrev main_cst_35 : Ref sig .tc := ⟨.hbm, 188, rfl⟩
abbrev main_v96 : Ref sig .tc := ⟨.hbm, 189, rfl⟩
abbrev main_v97 : Ref sig .tc := ⟨.hbm, 190, rfl⟩
abbrev main_cst_36 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_cst_37 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_cst_38 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_cst_39 : Ref sig .tc := ⟨.hbm, 203, rfl⟩
abbrev main_v107 : Ref sig .tc := ⟨.hbm, 204, rfl⟩
abbrev main_v108 : Ref sig .tc := ⟨.hbm, 205, rfl⟩
abbrev main_cst_40 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_41 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_cst_42 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_cst_43 : Ref sig .tc := ⟨.hbm, 218, rfl⟩
abbrev main_v118 : Ref sig .tc := ⟨.hbm, 219, rfl⟩
abbrev main_v119 : Ref sig .tc := ⟨.hbm, 220, rfl⟩
abbrev main_cst_44 : Ref sig .tc := ⟨.hbm, 221, rfl⟩
abbrev main_v120 : Ref sig .tc := ⟨.hbm, 222, rfl⟩
abbrev main_v121 : Ref sig .tc := ⟨.hbm, 223, rfl⟩
abbrev main_cst_45 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_cst_46 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_cst_47 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_cst_48 : Ref sig .tc := ⟨.hbm, 236, rfl⟩
abbrev main_v131 : Ref sig .tc := ⟨.hbm, 237, rfl⟩
abbrev main_v132 : Ref sig .tc := ⟨.hbm, 238, rfl⟩
abbrev main_cst_49 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_cst_50 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_cst_51 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_cst_52 : Ref sig .tc := ⟨.hbm, 251, rfl⟩
abbrev main_v142 : Ref sig .tc := ⟨.hbm, 252, rfl⟩
abbrev main_v143 : Ref sig .tc := ⟨.hbm, 253, rfl⟩
abbrev main_cst_53 : Ref sig .tc := ⟨.hbm, 254, rfl⟩
abbrev main_v144 : Ref sig .tc := ⟨.hbm, 255, rfl⟩
abbrev main_v145 : Ref sig .tc := ⟨.hbm, 256, rfl⟩
abbrev main_cst_54 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_cst_55 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_cst_56 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_cst_57 : Ref sig .tc := ⟨.hbm, 269, rfl⟩
abbrev main_v155 : Ref sig .tc := ⟨.hbm, 270, rfl⟩
abbrev main_v156 : Ref sig .tc := ⟨.hbm, 271, rfl⟩
abbrev main_cst_58 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_cst_59 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_cst_60 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_cst_61 : Ref sig .tc := ⟨.hbm, 284, rfl⟩
abbrev main_v166 : Ref sig .tc := ⟨.hbm, 285, rfl⟩
abbrev main_v167 : Ref sig .tc := ⟨.hbm, 286, rfl⟩
abbrev main_cst_62 : Ref sig .tc := ⟨.hbm, 287, rfl⟩
abbrev main_v168 : Ref sig .tc := ⟨.hbm, 288, rfl⟩
abbrev main_v169 : Ref sig .tc := ⟨.hbm, 289, rfl⟩
abbrev main_cst_63 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_cst_64 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_cst_65 : Ref sig .tc := ⟨.hbm, 298, rfl⟩
abbrev main_v176 : Ref sig .tc := ⟨.hbm, 299, rfl⟩
abbrev main_v177 : Ref sig .tc := ⟨.hbm, 300, rfl⟩
abbrev main_v178 : Ref sig .tc := ⟨.hbm, 301, rfl⟩
abbrev main_cst_66 : Ref sig .tc := ⟨.hbm, 302, rfl⟩
abbrev main_v179 : Ref sig .tc := ⟨.hbm, 303, rfl⟩
abbrev main_v180 : Ref sig .tc := ⟨.hbm, 304, rfl⟩
abbrev main_cst_67 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_cst_68 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_cst_69 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_cst_70 : Ref sig .tc := ⟨.hbm, 317, rfl⟩
abbrev main_v190 : Ref sig .tc := ⟨.hbm, 318, rfl⟩
abbrev main_v191 : Ref sig .tc := ⟨.hbm, 319, rfl⟩
abbrev main_cst_71 : Ref sig .tc := ⟨.hbm, 320, rfl⟩
abbrev main_v192 : Ref sig .tc := ⟨.hbm, 321, rfl⟩
abbrev main_v193 : Ref sig .tc := ⟨.hbm, 322, rfl⟩
abbrev main_cst_72 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_cst_73 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_cst_74 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_cst_75 : Ref sig .tc := ⟨.hbm, 335, rfl⟩
abbrev main_v203 : Ref sig .tc := ⟨.hbm, 336, rfl⟩
abbrev main_v204 : Ref sig .tc := ⟨.hbm, 337, rfl⟩
abbrev main_cst_76 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_cst_77 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_cst_78 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_cst_79 : Ref sig .tc := ⟨.hbm, 350, rfl⟩
abbrev main_v214 : Ref sig .tc := ⟨.hbm, 351, rfl⟩
abbrev main_v215 : Ref sig .tc := ⟨.hbm, 352, rfl⟩
abbrev main_cst_80 : Ref sig .tc := ⟨.hbm, 353, rfl⟩
abbrev main_v216 : Ref sig .tc := ⟨.hbm, 354, rfl⟩
abbrev main_v217 : Ref sig .tc := ⟨.hbm, 355, rfl⟩
abbrev main_cst_81 : Ref sig .tc := ⟨.hbm, 356, rfl⟩
abbrev main_v218 : Ref sig .tc := ⟨.hbm, 357, rfl⟩
abbrev main_v219 : Ref sig .tc := ⟨.hbm, 358, rfl⟩
abbrev main_v220 : Ref sig .tc := ⟨.hbm, 359, rfl⟩
abbrev main_cst_82 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_cst_83 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_cst_84 : Ref sig .tc := ⟨.hbm, 368, rfl⟩
abbrev main_v227 : Ref sig .tc := ⟨.hbm, 369, rfl⟩
abbrev main_v228 : Ref sig .tc := ⟨.hbm, 370, rfl⟩
abbrev main_cst_85 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_cst_86 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_cst_87 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_cst_88 : Ref sig .tc := ⟨.hbm, 383, rfl⟩
abbrev main_v238 : Ref sig .tc := ⟨.hbm, 384, rfl⟩
abbrev main_v239 : Ref sig .tc := ⟨.hbm, 385, rfl⟩
abbrev main_cst_89 : Ref sig .tc := ⟨.hbm, 386, rfl⟩
abbrev main_v240 : Ref sig .tc := ⟨.hbm, 387, rfl⟩
abbrev main_v241 : Ref sig .tc := ⟨.hbm, 388, rfl⟩
abbrev main_cst_90 : Ref sig .tc := ⟨.hbm, 389, rfl⟩
abbrev main_v242 : Ref sig .tc := ⟨.hbm, 390, rfl⟩
abbrev main_v243 : Ref sig .tc := ⟨.hbm, 391, rfl⟩
abbrev main_v244 : Ref sig .tc := ⟨.hbm, 392, rfl⟩
abbrev main_cst_91 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_cst_92 : Ref sig .tc := ⟨.hbm, 397, rfl⟩
abbrev main_v248 : Ref sig .tc := ⟨.hbm, 398, rfl⟩
abbrev main_v249 : Ref sig .tc := ⟨.hbm, 399, rfl⟩
abbrev main_v250 : Ref sig .tc := ⟨.hbm, 400, rfl⟩
abbrev main_cst_93 : Ref sig .tc := ⟨.hbm, 401, rfl⟩
abbrev main_v251 : Ref sig .tc := ⟨.hbm, 402, rfl⟩
abbrev main_v252 : Ref sig .tc := ⟨.hbm, 403, rfl⟩
abbrev main_cst_94 : Ref sig .tc := ⟨.hbm, 404, rfl⟩
abbrev main_v253 : Ref sig .tc := ⟨.hbm, 405, rfl⟩
abbrev main_v254 : Ref sig .tc := ⟨.hbm, 406, rfl⟩
abbrev main_v255 : Ref sig .tc := ⟨.hbm, 407, rfl⟩
abbrev main_cst_95 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_cst_96 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_cst_97 : Ref sig .tc := ⟨.hbm, 416, rfl⟩
abbrev main_v262 : Ref sig .tc := ⟨.hbm, 417, rfl⟩
abbrev main_v263 : Ref sig .tc := ⟨.hbm, 418, rfl⟩
abbrev main_cst_98 : Ref sig .tc := ⟨.hbm, 419, rfl⟩
abbrev main_v264 : Ref sig .tc := ⟨.hbm, 420, rfl⟩
abbrev main_v265 : Ref sig .tc := ⟨.hbm, 421, rfl⟩
abbrev main_cst_99 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_cst_100 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_cst_101 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_cst_102 : Ref sig .tc := ⟨.hbm, 434, rfl⟩
abbrev main_v275 : Ref sig .tc := ⟨.hbm, 435, rfl⟩
abbrev main_v276 : Ref sig .tc := ⟨.hbm, 436, rfl⟩
abbrev main_cst_103 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_cst_104 : Ref sig .tc := ⟨.hbm, 441, rfl⟩
abbrev main_v280 : Ref sig .tc := ⟨.hbm, 442, rfl⟩
abbrev main_v281 : Ref sig .tc := ⟨.hbm, 443, rfl⟩
abbrev main_v282 : Ref sig .tc := ⟨.hbm, 444, rfl⟩
abbrev main_cst_105 : Ref sig .tc := ⟨.hbm, 445, rfl⟩
abbrev main_v283 : Ref sig .tc := ⟨.hbm, 446, rfl⟩
abbrev main_v284 : Ref sig .tc := ⟨.hbm, 447, rfl⟩
abbrev main_v285 : Ref sig .tc := ⟨.hbm, 448, rfl⟩
abbrev main_cst_106 : Ref sig .tc := ⟨.hbm, 449, rfl⟩
abbrev main_v286 : Ref sig .tc := ⟨.hbm, 450, rfl⟩
abbrev main_v287 : Ref sig .tc := ⟨.hbm, 451, rfl⟩
abbrev main_cst_107 : Ref sig .tc := ⟨.hbm, 452, rfl⟩
abbrev main_v288 : Ref sig .tc := ⟨.hbm, 453, rfl⟩
abbrev main_v289 : Ref sig .tc := ⟨.hbm, 454, rfl⟩
abbrev main_cst_108 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_cst_109 : Ref sig .tc := ⟨.hbm, 459, rfl⟩
abbrev main_v293 : Ref sig .tc := ⟨.hbm, 460, rfl⟩
abbrev main_v294 : Ref sig .tc := ⟨.hbm, 461, rfl⟩
abbrev main_v295 : Ref sig .tc := ⟨.hbm, 462, rfl⟩
abbrev main_cst_110 : Ref sig .tc := ⟨.hbm, 463, rfl⟩
abbrev main_v296 : Ref sig .tc := ⟨.hbm, 464, rfl⟩
abbrev main_v297 : Ref sig .tc := ⟨.hbm, 465, rfl⟩
abbrev main_v298 : Ref sig .tc := ⟨.hbm, 466, rfl⟩
abbrev main_cst_111 : Ref sig .tc := ⟨.hbm, 467, rfl⟩
abbrev main_v299 : Ref sig .tc := ⟨.hbm, 468, rfl⟩
abbrev main_v300 : Ref sig .tc := ⟨.hbm, 469, rfl⟩
abbrev main_cst_112 : Ref sig .tc := ⟨.hbm, 470, rfl⟩
abbrev main_v301 : Ref sig .tc := ⟨.hbm, 471, rfl⟩
abbrev main_v302 : Ref sig .tc := ⟨.hbm, 472, rfl⟩
abbrev main_v303 : Ref sig .tc := ⟨.hbm, 473, rfl⟩
abbrev main_cst_113 : Ref sig .tc := ⟨.hbm, 474, rfl⟩
abbrev main_v304 : Ref sig .tc := ⟨.hbm, 475, rfl⟩
abbrev main_v305 : Ref sig .tc := ⟨.hbm, 476, rfl⟩
abbrev main_v306 : Ref sig .tc := ⟨.hbm, 477, rfl⟩
abbrev main_cst_114 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_cst_115 : Ref sig .tc := ⟨.hbm, 482, rfl⟩
abbrev main_v310 : Ref sig .tc := ⟨.hbm, 483, rfl⟩
abbrev main_v311 : Ref sig .tc := ⟨.hbm, 484, rfl⟩
abbrev main_cst_116 : Ref sig .tc := ⟨.hbm, 485, rfl⟩
abbrev main_v312 : Ref sig .tc := ⟨.hbm, 486, rfl⟩
abbrev main_v313 : Ref sig .tc := ⟨.hbm, 487, rfl⟩
abbrev main_cst_117 : Ref sig .tc := ⟨.hbm, 488, rfl⟩
abbrev main_v314 : Ref sig .tc := ⟨.hbm, 489, rfl⟩
abbrev main_v315 : Ref sig .tc := ⟨.hbm, 490, rfl⟩
abbrev main_v316 : Ref sig .tc := ⟨.hbm, 491, rfl⟩
abbrev main_cst_118 : Ref sig .tc := ⟨.hbm, 492, rfl⟩
abbrev main_v317 : Ref sig .tc := ⟨.hbm, 493, rfl⟩
abbrev main_v318 : Ref sig .tc := ⟨.hbm, 494, rfl⟩
abbrev main_v319 : Ref sig .tc := ⟨.hbm, 495, rfl⟩
abbrev main_cst_119 : Ref sig .tc := ⟨.hbm, 496, rfl⟩
abbrev main_v320 : Ref sig .tc := ⟨.hbm, 497, rfl⟩
abbrev main_v321 : Ref sig .tc := ⟨.hbm, 498, rfl⟩
abbrev main_v322 : Ref sig .tc := ⟨.hbm, 499, rfl⟩
abbrev main_cst_120 : Ref sig .tc := ⟨.hbm, 500, rfl⟩
abbrev main_v323 : Ref sig .tc := ⟨.hbm, 501, rfl⟩
abbrev main_v324 : Ref sig .tc := ⟨.hbm, 502, rfl⟩
abbrev main_cst_121 : Ref sig .tc := ⟨.hbm, 503, rfl⟩
abbrev main_v325 : Ref sig .tc := ⟨.hbm, 504, rfl⟩
abbrev main_v326 : Ref sig .tc := ⟨.hbm, 505, rfl⟩
abbrev main_v327 : Ref sig .tc := ⟨.hbm, 506, rfl⟩
abbrev main_cst_122 : Ref sig .tc := ⟨.hbm, 507, rfl⟩
abbrev main_v328 : Ref sig .tc := ⟨.hbm, 508, rfl⟩
abbrev main_v329 : Ref sig .tc := ⟨.hbm, 509, rfl⟩
abbrev main_v330 : Ref sig .tc := ⟨.hbm, 510, rfl⟩
abbrev main_cst_123 : Ref sig .tc := ⟨.hbm, 511, rfl⟩
abbrev main_v331 : Ref sig .tc := ⟨.hbm, 512, rfl⟩
abbrev main_v332 : Ref sig .tc := ⟨.hbm, 513, rfl⟩
abbrev main_v333 : Ref sig .tc := ⟨.hbm, 514, rfl⟩
abbrev main_cst_124 : Ref sig .tc := ⟨.hbm, 515, rfl⟩
abbrev main_v334 : Ref sig .tc := ⟨.hbm, 516, rfl⟩
abbrev main_v335 : Ref sig .tc := ⟨.hbm, 517, rfl⟩

abbrev nD : Nat := 1
abbrev τ : Topo := Topo.v7x

variable {F : FTy → Type} [FloatOps F]
-- ==== Scan.lean ====
abbrev S4096x4096 : Shape := ⟨2, ![4096, 4096]⟩
abbrev S4096x64x128 : Shape := ⟨3, ![4096, 64, 128]⟩
abbrev S4096x32x64x128 : Shape := ⟨4, ![4096, 32, 64, 128]⟩
abbrev S8x4096 : Shape := ⟨2, ![8, 4096]⟩
abbrev S8x64x128 : Shape := ⟨3, ![8, 64, 128]⟩
abbrev S8x32x64x128 : Shape := ⟨4, ![8, 32, 64, 128]⟩
abbrev S1x32x64x128 : Shape := ⟨4, ![1, 32, 64, 128]⟩
abbrev S32x64x128 : Shape := ⟨3, ![32, 64, 128]⟩
abbrev S1x64x128 : Shape := ⟨3, ![1, 64, 128]⟩
abbrev S64x128 : Shape := ⟨2, ![64, 128]⟩
abbrev S1x128 : Shape := ⟨2, ![1, 128]⟩
abbrev S1x1x64x128 : Shape := ⟨4, ![1, 1, 64, 128]⟩
abbrev S128 : Shape := ⟨1, ![128]⟩

abbrev nBuf : Space → Nat
  | .hbm => 15
  | .vmem => 33
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x64x128, .f32⟩
  | .hbm, ⟨6, _⟩ => ⟨S4096x32x64x128, .f32⟩
  | .hbm, ⟨7, _⟩ => ⟨S4096x64x128, .f32⟩
  | .hbm, ⟨8, _⟩ => ⟨S4096x64x128, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x64x128, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | .local _ .vmem, ⟨8, _⟩ => ⟨S8x4096, .f32⟩
  | .local _ .vmem, ⟨9, _⟩ => ⟨S8x4096, .f32⟩
  | .local _ .vmem, ⟨10, _⟩ => ⟨S8x64x128, .f32⟩
  | .local _ .vmem, ⟨11, _⟩ => ⟨S8x64x128, .f32⟩
  | .local _ .vmem, ⟨12, _⟩ => ⟨S8x32x64x128, .f32⟩
  | .local _ .vmem, ⟨13, _⟩ => ⟨S8x32x64x128, .f32⟩
  | .local _ .vmem, ⟨14, _⟩ => ⟨S1x32x64x128, .f32⟩
  | .local _ .vmem, ⟨15, _⟩ => ⟨S1x32x64x128, .f32⟩
  | .local _ .vmem, ⟨16, _⟩ => ⟨S8x64x128, .f32⟩
  | .local _ .vmem, ⟨17, _⟩ => ⟨S8x64x128, .f32⟩
  | .local _ .vmem, ⟨18, _⟩ => ⟨S8x64x128, .f32⟩
  | .local _ .vmem, ⟨19, _⟩ => ⟨S8x64x128, .f32⟩
  | .local _ .vmem, ⟨20, _⟩ => ⟨S8x4096, .f32⟩
  | .local _ .vmem, ⟨21, _⟩ => ⟨S8x4096, .f32⟩
  | .local _ .vmem, ⟨22, _⟩ => ⟨S8x4096, .f32⟩
  | .local _ .vmem, ⟨23, _⟩ => ⟨S8x4096, .f32⟩
  | .local _ .vmem, ⟨24, _⟩ => ⟨S8x4096, .f32⟩
  | .local _ .vmem, ⟨25, _⟩ => ⟨S8x4096, .f32⟩
  | .local _ .vmem, ⟨26, _⟩ => ⟨S8x4096, .f32⟩
  | .local _ .vmem, ⟨27, _⟩ => ⟨S8x4096, .f32⟩
  | .local _ .vmem, ⟨28, _⟩ => ⟨S8x4096, .f32⟩
  | .local _ .vmem, ⟨29, _⟩ => ⟨S8x4096, .f32⟩
  | .local _ .vmem, ⟨30, _⟩ => ⟨S8x64x128, .f32⟩
  | .local _ .vmem, ⟨31, _⟩ => ⟨S8x64x128, .f32⟩
  | .local _ .vmem, ⟨32, _⟩ => ⟨S32x64x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 4 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c511_i32 : BitVec 32 := 511#32
  let v0 : BitVec 32 := Scalar.subi c511_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_8 (i : grid0.Coords) : Fin 3 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c511_i32 : BitVec 32 := 511#32
  let v0 : BitVec 32 := Scalar.subi c511_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x32x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Proof.Products.lean ====
module

public import Idealize.ShloMosaic.PureOps.Ideal.Laws
public import Idealize.ShloMosaic.Lib.ValueIdx
public import Idealize.ShloMosaic.Lib.Pipeline.Value

@[expose] public section

noncomputable section

/-! Matrix products of extended reals, as sums over the contracted coordinate, and their tiles. The three forms differ in which axis of
each operand is contracted: rows by columns, rows by rows, columns by columns. -/

namespace Cert.Products

open Idealize.ShloMosaic Idealize.ShloMosaic.ValueIdx
open scoped BigOperators

/-- The shape of a matrix. -/
abbrev Mat (m n : ℕ) : Shape := ⟨2, ![m, n]⟩

variable {M K N m n : ℕ}

/-- `A · B`. -/
def nn (A : (Mat M K).Idx → EReal) (B : (Mat K N).Idx → EReal) : (Mat M N).Idx → EReal :=
  fun i => ∑ k : Fin K, A (ix2 (i 0) k) * B (ix2 k (i 1))
/-- `A · Bᵀ`. -/
def nt (A : (Mat M K).Idx → EReal) (B : (Mat N K).Idx → EReal) : (Mat M N).Idx → EReal :=
  fun i => ∑ k : Fin K, A (ix2 (i 0) k) * B (ix2 (i 1) k)
/-- `Aᵀ · B`. -/
def tn (A : (Mat K M).Idx → EReal) (B : (Mat K N).Idx → EReal) : (Mat M N).Idx → EReal :=
  fun i => ∑ k : Fin K, A (ix2 k (i 0)) * B (ix2 k (i 1))

/-- A sum over a contraction index that has the one coordinate `Fin K`, over that coordinate. -/
theorem sum_contr {sl sr so : Shape} (D : DotDims sl sr so) (hr : D.contr.rank = 1) (hs : D.contr.size ⟨0, by omega⟩ = K)
    (L : sl.Idx → EReal) (R : sr.Idx → EReal) (j : so.Idx) (l : Fin K → sl.Idx) (r : Fin K → sr.Idx)
    (hl : ∀ q : D.contr.Idx, ∀ k : Fin K, (q ⟨0, by omega⟩).val = k.val → D.lhsIdx j q = l k)
    (hr' : ∀ q : D.contr.Idx, ∀ k : Fin K, (q ⟨0, by omega⟩).val = k.val → D.rhsIdx j q = r k) :
    ∑ q : D.contr.Idx, L (D.lhsIdx j q) * R (D.rhsIdx j q) = ∑ k : Fin K, L (l k) * R (r k) := by
  rw [← Equiv.sum_comp (contrEquiv1 D K hr hs).symm]
  refine Finset.sum_congr rfl fun k _ => ?_
  have hk := contrEquiv1_symm_val D K hr hs k
  rw [hl _ k hk, hr' _ k hk]

/-- The contraction of the second axis of the left operand with the first of the right is `nn`. -/
theorem sum_nn (w) (L : (Mat M K).Idx → EReal) (R : (Mat K N).Idx → EReal) (j : (Mat M N).Idx) :
    ∑ q : (⟨[1], [0], [0], [1], [], [], w⟩ : DotDims (Mat M K) (Mat K N) (Mat M N)).contr.Idx,
      L (DotDims.lhsIdx ⟨[1], [0], [0], [1], [], [], w⟩ j q) * R (DotDims.rhsIdx ⟨[1], [0], [0], [1], [], [], w⟩ j q) = nn L R j :=
  sum_contr (⟨[1], [0], [0], [1], [], [], w⟩ : DotDims (Mat M K) (Mat K N) (Mat M N)) rfl rfl L R j _ _
    (fun q k h => funext fun a => Fin.ext (match a with | ⟨0, _⟩ => rfl | ⟨1, _⟩ => h))
    (fun q k h => funext fun a => Fin.ext (match a with | ⟨0, _⟩ => h | ⟨1, _⟩ => rfl))

/-- The contraction of the second axes of both operands is `nt`. -/
theorem sum_nt (w) (L : (Mat M K).Idx → EReal) (R : (Mat N K).Idx → EReal) (j : (Mat M N).Idx) :
    ∑ q : (⟨[1], [1], [0], [0], [], [], w⟩ : DotDims (Mat M K) (Mat N K) (Mat M N)).contr.Idx,
      L (DotDims.lhsIdx ⟨[1], [1], [0], [0], [], [], w⟩ j q) * R (DotDims.rhsIdx ⟨[1], [1], [0], [0], [], [], w⟩ j q) = nt L R j :=
  sum_contr (⟨[1], [1], [0], [0], [], [], w⟩ : DotDims (Mat M K) (Mat N K) (Mat M N)) rfl rfl L R j _ _
    (fun q k h => funext fun a => Fin.ext (match a with | ⟨0, _⟩ => rfl | ⟨1, _⟩ => h))
    (fun q k h => funext fun a => Fin.ext (match a with | ⟨0, _⟩ => rfl | ⟨1, _⟩ => h))

/-- The contraction of the first axes of both operands is `tn`. -/
theorem sum_tn (w) (L : (Mat K M).Idx → EReal) (R : (Mat K N).Idx → EReal) (j : (Mat M N).Idx) :
    ∑ q : (⟨[0], [0], [1], [1], [], [], w⟩ : DotDims (Mat K M) (Mat K N) (Mat M N)).contr.Idx,
      L (DotDims.lhsIdx ⟨[0], [0], [1], [1], [], [], w⟩ j q) * R (DotDims.rhsIdx ⟨[0], [0], [1], [1], [], [], w⟩ j q) = tn L R j :=
  sum_contr (⟨[0], [0], [1], [1], [], [], w⟩ : DotDims (Mat K M) (Mat K N) (Mat M N)) rfl rfl L R j _ _
    (fun q k h => funext fun a => Fin.ext (match a with | ⟨0, _⟩ => h | ⟨1, _⟩ => rfl))
    (fun q k h => funext fun a => Fin.ext (match a with | ⟨0, _⟩ => h | ⟨1, _⟩ => rfl))

/-- The host's product, element by element. -/
theorem host {sl sr so : Shape} {φ₁ φ₂ : FTy} (D : DotDims sl sr so) (p : Option ContractPrecision) (L : FVec Ideal sl φ₁) (R : FVec Ideal sr φ₂)
    (j : so.Idx) : (Host.dotGeneral D p L R : FVec Ideal so .f32) j = ∑ k : D.contr.Idx, L (D.lhsIdx j k) * R (D.rhsIdx j k) :=
  Ideal.dotGeneral_apply D p _ L R j

/-- `Bᵀ · A` read across the diagonal is `Aᵀ · B`. -/
theorem tn_swap (A : (Mat K M).Idx → EReal) (B : (Mat K N).Idx → EReal) (j : (Mat M N).Idx) : tn B A (ix2 (j 1) (j 0)) = tn A B j :=
  Finset.sum_congr rfl fun _ _ => mul_comm _ _

/-- A product accumulated on zero. -/
theorem acc (x : EReal) : Ideal.ofBits .f32 0x00000000#32 + x = x := by rw [Ideal.ofBits_zero_f32, zero_add]

theorem offs : (![0, 0] : Fin 2 → ℕ) = fun _ => 0 := funext fun a => by fin_cases a <;> rfl

/-! ### Tiles: a product of blocks is the block of the product, when each block holds whole lines of its operand. `ea`, `eb` and `e` place
the blocks of the operands and of the product in their arrays; `i`, `p` and `o` are the blocks' numbers along the two axes. -/

variable {i p o : Fin 2 → ℕ}

theorem nn_blocks (A : (Mat M K).Idx → EReal) (B : (Mat K N).Idx → EReal) (ea : (Mat m K).Idx → (Mat M K).Idx)
    (eb : (Mat K n).Idx → (Mat K N).Idx) (e : (Mat m n).Idx → (Mat M N).Idx)
    (ha : ∀ j a, (ea j a : ℕ) = i a * (Mat m K).size a + 1 * (j a : ℕ)) (hb : ∀ j a, (eb j a : ℕ) = p a * (Mat K n).size a + 1 * (j a : ℕ))
    (he : ∀ j a, (e j a : ℕ) = o a * (Mat m n).size a + 1 * (j a : ℕ)) (h : i 0 = o 0 ∧ i 1 = 0 ∧ p 0 = 0 ∧ p 1 = o 1)
    (j : (Mat m n).Idx) : nn (fun q => A (ea q)) (fun q => B (eb q)) j = nn A B (e j) := by
  obtain ⟨h0, h1, h2, h3⟩ := h
  refine Finset.sum_congr rfl fun k _ => ?_
  have e0 := he j 0; have e1 := he j 1
  refine congrArg₂ (· * ·) (congrArg A (Shape.idx_ext₂ ?_ ?_)) (congrArg B (Shape.idx_ext₂ ?_ ?_))
  · rw [ha, h0]; exact e0.symm
  · rw [ha, h1]; show 0 * K + 1 * (k : ℕ) = k; omega
  · rw [hb, h2]; show 0 * K + 1 * (k : ℕ) = k; omega
  · rw [hb, h3]; exact e1.symm

theorem nt_blocks (A : (Mat M K).Idx → EReal) (B : (Mat N K).Idx → EReal) (ea : (Mat m K).Idx → (Mat M K).Idx)
    (eb : (Mat n K).Idx → (Mat N K).Idx) (e : (Mat m n).Idx → (Mat M N).Idx)
    (ha : ∀ j a, (ea j a : ℕ) = i a * (Mat m K).size a + 1 * (j a : ℕ)) (hb : ∀ j a, (eb j a : ℕ) = p a * (Mat n K).size a + 1 * (j a : ℕ))
    (he : ∀ j a, (e j a : ℕ) = o a * (Mat m n).size a + 1 * (j a : ℕ)) (h : i 0 = o 0 ∧ i 1 = 0 ∧ p 0 = o 1 ∧ p 1 = 0)
    (j : (Mat m n).Idx) : nt (fun q => A (ea q)) (fun q => B (eb q)) j = nt A B (e j) := by
  obtain ⟨h0, h1, h2, h3⟩ := h
  refine Finset.sum_congr rfl fun k _ => ?_
  have e0 := he j 0; have e1 := he j 1
  refine congrArg₂ (· * ·) (congrArg A (Shape.idx_ext₂ ?_ ?_)) (congrArg B (Shape.idx_ext₂ ?_ ?_))
  · rw [ha, h0]; exact e0.symm
  · rw [ha, h1]; show 0 * K + 1 * (k : ℕ) = k; omega
  · rw [hb, h2]; exact e1.symm
  · rw [hb, h3]; show 0 * K + 1 * (k : ℕ) = k; omega

theorem tn_blocks (A : (Mat K M).Idx → EReal) (B : (Mat K N).Idx → EReal) (ea : (Mat K m).Idx → (Mat K M).Idx)
    (eb : (Mat K n).Idx → (Mat K N).Idx) (e : (Mat m n).Idx → (Mat M N).Idx)
    (ha : ∀ j a, (ea j a : ℕ) = i a * (Mat K m).size a + 1 * (j a : ℕ)) (hb : ∀ j a, (eb j a : ℕ) = p a * (Mat K n).size a + 1 * (j a : ℕ))
    (he : ∀ j a, (e j a : ℕ) = o a * (Mat m n).size a + 1 * (j a : ℕ)) (h : i 0 = 0 ∧ i 1 = o 0 ∧ p 0 = 0 ∧ p 1 = o 1)
    (j : (Mat m n).Idx) : tn (fun q => A (ea q)) (fun q => B (eb q)) j = tn A B (e j) := by
  obtain ⟨h0, h1, h2, h3⟩ := h
  refine Finset.sum_congr rfl fun k _ => ?_
  have e0 := he j 0; have e1 := he j 1
  refine congrArg₂ (· * ·) (congrArg A (Shape.idx_ext₂ ?_ ?_)) (congrArg B (Shape.idx_ext₂ ?_ ?_))
  · rw [ha, h0]; show 0 * K + 1 * (k : ℕ) = k; omega
  · rw [ha, h1]; exact e0.symm
  · rw [hb, h2]; show 0 * K + 1 * (k : ℕ) = k; omega
  · rw [hb, h3]; exact e1.symm

/-- A sum over `P` runs of `k` terms. -/
theorem sum_runs {P k : ℕ} (hK : K = P * k) (f : Fin K → EReal) :
    ∑ x, f x = ∑ s : Fin P, ∑ y : Fin k, f ⟨y + k * s, by rw [hK, Nat.mul_comm P k]; exact (finProdFinEquiv (s, y)).isLt.trans_eq (Nat.mul_comm P k)⟩ := by
  subst hK
  rw [← Equiv.sum_comp finProdFinEquiv, Fintype.sum_prod_type]
  rfl

/-- `nt` when the operands are staged in `P` parts along their second axes: the parts' products add up to the block of the product. -/
theorem nt_parts {P k : ℕ} (hK : K = P * k) (A : (Mat M K).Idx → EReal) (B : (Mat N K).Idx → EReal) (i p : Fin P → Fin 2 → ℕ)
    (ea : Fin P → (Mat m k).Idx → (Mat M K).Idx) (eb : Fin P → (Mat n k).Idx → (Mat N K).Idx) (e : (Mat m n).Idx → (Mat M N).Idx)
    (ha : ∀ s j a, (ea s j a : ℕ) = i s a * (Mat m k).size a + 1 * (j a : ℕ)) (hb : ∀ s j a, (eb s j a : ℕ) = p s a * (Mat n k).size a + 1 * (j a : ℕ))
    (he : ∀ j a, (e j a : ℕ) = o a * (Mat m n).size a + 1 * (j a : ℕ)) (h : ∀ s, i s 0 = o 0 ∧ i s 1 = s ∧ p s 0 = o 1 ∧ p s 1 = s)
    (j : (Mat m n).Idx) : ∑ s, nt (fun q => A (ea s q)) (fun q => B (eb s q)) j = nt A B (e j) := by
  refine Eq.trans (Finset.sum_congr rfl fun s _ => ?_) (sum_runs hK fun x => A (ix2 (e j 0) x) * B (ix2 (e j 1) x)).symm
  obtain ⟨h0, h1, h2, h3⟩ := h s
  refine Finset.sum_congr rfl fun y _ => ?_
  have e0 := he j 0; have e1 := he j 1
  refine congrArg₂ (· * ·) (congrArg A (Shape.idx_ext₂ ?_ ?_)) (congrArg B (Shape.idx_ext₂ ?_ ?_))
  · rw [ha, h0]; exact e0.symm
  · rw [ha, h1]; show s * k + 1 * (y : ℕ) = y + k * s; rw [Nat.one_mul, Nat.add_comm, Nat.mul_comm]
  · rw [hb, h2]; exact e1.symm
  · rw [hb, h3]; show s * k + 1 * (y : ℕ) = y + k * s; rw [Nat.one_mul, Nat.add_comm, Nat.mul_comm]

/-- The blocks of a matrix cover it when every pair of block numbers is some point's. -/
theorem cover {Q : Type} {P R : ℕ} (o : Q → Fin 2 → ℕ) (S : Q → (Mat M N).Idx → Prop)
    (hS : ∀ t x, S t x ↔ ∀ a : Fin 2, o t a * (Mat m n).size a ≤ (x a : ℕ) ∧ (x a : ℕ) < o t a * (Mat m n).size a + (Mat m n).size a)
    (hM : M = P * m) (hN : N = R * n) (onto : ∀ u : Fin P, ∀ v : Fin R, ∃ t, o t = ![u.val, v.val]) (x : (Mat M N).Idx) : ∃ t, S t x := by
  have h0 : (x 0 : ℕ) < P * m := hM ▸ (x 0).isLt
  have h1 : (x 1 : ℕ) < R * n := hN ▸ (x 1).isLt
  have hm : 0 < m := Nat.pos_of_ne_zero fun h => by simp [h] at h0
  have hn : 0 < n := Nat.pos_of_ne_zero fun h => by simp [h] at h1
  obtain ⟨t, ht⟩ := onto ⟨(x 0 : ℕ) / m, Nat.div_lt_of_lt_mul (by rwa [Nat.mul_comm] at h0)⟩ ⟨(x 1 : ℕ) / n, Nat.div_lt_of_lt_mul (by rwa [Nat.mul_comm] at h1)⟩
  refine ⟨t, (hS t x).2 fun a => ?_⟩
  rw [ht]
  match a with
  | ⟨0, _⟩ => exact ⟨Nat.div_mul_le_self _ _, Nat.lt_div_mul_add hm⟩
  | ⟨1, _⟩ => exact ⟨Nat.div_mul_le_self _ _, Nat.lt_div_mul_add hn⟩

end Cert.Products

end
-- ==== Proof.GradInput.lean ====
module

public import proofs.«01_k».proof.Proof.Products
public import proofs.«01_k».proof.Defs
public import proofs.«01_k».proof.Proof.Gen.DActIdeal.Value
public import proofs.«01_k».proof.Proof.Gen.DActRefIdeal.Run
public import proofs.«01_k».proof.Proof.Gen.DNormIdeal.Value
public import proofs.«01_k».proof.Proof.Gen.DNormRefIdeal.Run
public import proofs.«01_k».proof.Proof.Gen.DBranchIdeal.Value
public import proofs.«01_k».proof.Proof.Gen.DBranchRefIdeal.Run

@[expose] public section

set_option maxRecDepth 16384

noncomputable section

/-! The gradients of the products in their left factor: `ct · bᵀ`. -/

open Idealize.ShloMosaic Idealize.ShloMosaic.TcCoe Idealize.ShloMosaic.ValueIdx Idealize.SL.Sem

namespace Cert.DActIdeal.Product

open Cert.DActIdeal Cert.DActIdeal.Gen

/-- The blocks that a grid point stages are those of its block of the result. -/
theorem blocks : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, win0_0.index t 0 = win0_2.index t 0 ∧ win0_0.index t 1 = 0 ∧ win0_1.index t 0 = win0_2.index t 1 ∧ win0_1.index t 1 = 0)

/-- Every block of the result is some grid point's. -/
theorem onto : ∀ u : Fin 2, ∀ v : Fin 43, ∃ t : Fin cfg0.N, win0_2.index t = ![u.val, v.val] :=
  (by decide +kernel : ∀ u : Fin 2, ∀ v : Fin 43, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nt (M := 4096) (K := 4096) (N := 11008) (m ((c : Thread nD τ).loc main_arg0)) (m ((c : Thread nD τ).loc main_arg1)) := by
  refine (dats m 0 c).arrAt_eq_of_cover 2 _ (fun t _ => ?_) (fun x => (Products.cover (m := 2048) (n := 256) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nt _ (iblk m c 0 t) (iblk m c 1 t) j).trans ?_)
  exact Products.nt_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal DActRefIdeal.S4096x4096 .bf16) (B : FVec Ideal DActRefIdeal.S11008x4096 .bf16) :
    (truncf .bf16 (Host.dotGeneral DActRefIdeal.dot_S4096x4096_S11008x4096_S4096x11008_1_1_0_0_n_n none (extf .f32 A DActRefIdeal.Gen.bitsLt_bf16_f32) (extf .f32 B DActRefIdeal.Gen.bitsLt_bf16_f32)) DActRefIdeal.Gen.bitsLt_bf16_f32 : FVec Ideal DActRefIdeal.S4096x11008 .bf16) = (Products.nt (M := 4096) (K := 4096) (N := 11008) A B : FVec Ideal DActRefIdeal.S4096x11008 .bf16) :=
  funext fun j => (Products.host _ none _ _ j).trans (Products.sum_nt _ A B j)

/-- The reference runs and keeps its arguments. -/
theorem ref_frame : Cert.quiescent_DActRefIdeal := fun m ρ _ =>
  (θ_run _ _ _).mono (fun r h => ⟨fun c => (h c).2, sem_eq_zero_of_no_sems (by decide) r.2⟩) (DActRefIdeal.Value.run m ρ)

/-- The kernel's result and the reference's are equal, element by element. -/
theorem algebraic : Cert.algebraic_DActIdeal_DActRefIdeal := fun m ρ m' ρ' _ hag =>
  ⟨fun c => Products.nt (M := 4096) (K := 4096) (N := 11008) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (DActRefIdeal.Value.run m' ρ')⟩

end Cert.DActIdeal.Product

namespace Cert.DNormIdeal.Product

open Cert.DNormIdeal Cert.DNormIdeal.Gen

/-- The blocks that a grid point stages are those of its block of the result. -/
theorem blocks : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, win0_0.index t 0 = win0_2.index t 0 ∧ win0_0.index t 1 = 0 ∧ win0_1.index t 0 = win0_2.index t 1 ∧ win0_1.index t 1 = 0)

/-- Every block of the result is some grid point's. -/
theorem onto : ∀ u : Fin 16, ∀ v : Fin 8, ∃ t : Fin cfg0.N, win0_2.index t = ![u.val, v.val] :=
  (by decide +kernel : ∀ u : Fin 16, ∀ v : Fin 8, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nt (M := 4096) (K := 11008) (N := 4096) (m ((c : Thread nD τ).loc main_arg0)) (m ((c : Thread nD τ).loc main_arg1)) := by
  refine (dats m 0 c).arrAt_eq_of_cover 2 _ (fun t _ => ?_) (fun x => (Products.cover (m := 256) (n := 512) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nt _ (iblk m c 0 t) (iblk m c 1 t) j).trans ?_)
  exact Products.nt_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal DNormRefIdeal.S4096x11008 .bf16) (B : FVec Ideal DNormRefIdeal.S4096x11008 .bf16) :
    (truncf .bf16 (Host.dotGeneral DNormRefIdeal.dot_S4096x11008_S4096x11008_S4096x4096_1_1_0_0_n_n none (extf .f32 A DNormRefIdeal.Gen.bitsLt_bf16_f32) (extf .f32 B DNormRefIdeal.Gen.bitsLt_bf16_f32)) DNormRefIdeal.Gen.bitsLt_bf16_f32 : FVec Ideal DNormRefIdeal.S4096x4096 .bf16) = (Products.nt (M := 4096) (K := 11008) (N := 4096) A B : FVec Ideal DNormRefIdeal.S4096x4096 .bf16) :=
  funext fun j => (Products.host _ none _ _ j).trans (Products.sum_nt _ A B j)

/-- The reference runs and keeps its arguments. -/
theorem ref_frame : Cert.quiescent_DNormRefIdeal := fun m ρ _ =>
  (θ_run _ _ _).mono (fun r h => ⟨fun c => (h c).2, sem_eq_zero_of_no_sems (by decide) r.2⟩) (DNormRefIdeal.Value.run m ρ)

/-- The kernel's result and the reference's are equal, element by element. -/
theorem algebraic : Cert.algebraic_DNormIdeal_DNormRefIdeal := fun m ρ m' ρ' _ hag =>
  ⟨fun c => Products.nt (M := 4096) (K := 11008) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (DNormRefIdeal.Value.run m' ρ')⟩

end Cert.DNormIdeal.Product

namespace Cert.DBranchIdeal.Product

open Cert.DBranchIdeal Cert.DBranchIdeal.Gen

/-- The blocks that a grid point stages are those of its block of the result. -/
theorem blocks : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, win0_0.index t 0 = win0_2.index t 0 ∧ win0_0.index t 1 = 0 ∧ win0_1.index t 0 = win0_2.index t 1 ∧ win0_1.index t 1 = 0)

/-- Every block of the result is some grid point's. -/
theorem onto : ∀ u : Fin 4, ∀ v : Fin 4, ∃ t : Fin cfg0.N, win0_2.index t = ![u.val, v.val] :=
  (by decide +kernel : ∀ u : Fin 4, ∀ v : Fin 4, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nt (M := 4096) (K := 4096) (N := 4096) (m ((c : Thread nD τ).loc main_arg0)) (m ((c : Thread nD τ).loc main_arg1)) := by
  refine (dats m 0 c).arrAt_eq_of_cover 2 _ (fun t _ => ?_) (fun x => (Products.cover (m := 1024) (n := 1024) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nt _ (iblk m c 0 t) (iblk m c 1 t) j).trans ?_)
  exact Products.nt_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal DBranchRefIdeal.S4096x4096 .bf16) (B : FVec Ideal DBranchRefIdeal.S4096x4096 .bf16) :
    (truncf .bf16 (Host.dotGeneral DBranchRefIdeal.dot_S4096x4096_S4096x4096_S4096x4096_1_1_0_0_n_n none (extf .f32 A DBranchRefIdeal.Gen.bitsLt_bf16_f32) (extf .f32 B DBranchRefIdeal.Gen.bitsLt_bf16_f32)) DBranchRefIdeal.Gen.bitsLt_bf16_f32 : FVec Ideal DBranchRefIdeal.S4096x4096 .bf16) = (Products.nt (M := 4096) (K := 4096) (N := 4096) A B : FVec Ideal DBranchRefIdeal.S4096x4096 .bf16) :=
  funext fun j => (Products.host _ none _ _ j).trans (Products.sum_nt _ A B j)

/-- The reference runs and keeps its arguments. -/
theorem ref_frame : Cert.quiescent_DBranchRefIdeal := fun m ρ _ =>
  (θ_run _ _ _).mono (fun r h => ⟨fun c => (h c).2, sem_eq_zero_of_no_sems (by decide) r.2⟩) (DBranchRefIdeal.Value.run m ρ)

/-- The kernel's result and the reference's are equal, element by element. -/
theorem algebraic : Cert.algebraic_DBranchIdeal_DBranchRefIdeal := fun m ρ m' ρ' _ hag =>
  ⟨fun c => Products.nt (M := 4096) (K := 4096) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (DBranchRefIdeal.Value.run m' ρ')⟩

end Cert.DBranchIdeal.Product

end
-- ==== Proof.GradWeight.lean ====
module

public import proofs.«01_k».proof.Proof.Products
public import proofs.«01_k».proof.Defs
public import proofs.«01_k».proof.Proof.Gen.GDownIdeal.Value
public import proofs.«01_k».proof.Proof.Gen.GDownRefIdeal.Run
public import proofs.«01_k».proof.Proof.Gen.GFfnIdeal.Value
public import proofs.«01_k».proof.Proof.Gen.GFfnRefIdeal.Run
public import proofs.«01_k».proof.Proof.Gen.GBranchIdeal.Value
public import proofs.«01_k».proof.Proof.Gen.GBranchRefIdeal.Run
public import proofs.«01_k».proof.Proof.Gen.GQkvIdeal.Value
public import proofs.«01_k».proof.Proof.Gen.GQkvRefIdeal.Run
public import proofs.«01_k».proof.Proof.Gen.GRwkvIdeal.Value
public import proofs.«01_k».proof.Proof.Gen.GRwkvRefIdeal.Run
public import proofs.«01_k».proof.Proof.Gen.GGateIdeal.Value
public import proofs.«01_k».proof.Proof.Gen.GGateRefIdeal.Run

@[expose] public section

set_option maxRecDepth 16384

noncomputable section

/-! The gradients of the products in their right factor: `aᵀ · ct`. -/

open Idealize.ShloMosaic Idealize.ShloMosaic.TcCoe Idealize.ShloMosaic.ValueIdx Idealize.SL.Sem

namespace Cert.GDownIdeal.Product

open Cert.GDownIdeal Cert.GDownIdeal.Gen

/-- The blocks that a grid point stages are those of its block of the result. -/
theorem blocks : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, win0_0.index t 0 = 0 ∧ win0_0.index t 1 = win0_2.index t 0 ∧ win0_1.index t 0 = 0 ∧ win0_1.index t 1 = win0_2.index t 1)

/-- Every block of the result is some grid point's. -/
theorem onto : ∀ u : Fin 43, ∀ v : Fin 2, ∃ t : Fin cfg0.N, win0_2.index t = ![u.val, v.val] :=
  (by decide +kernel : ∀ u : Fin 43, ∀ v : Fin 2, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.tn (M := 11008) (K := 4096) (N := 4096) (m ((c : Thread nD τ).loc main_arg0)) (m ((c : Thread nD τ).loc main_arg1)) := by
  refine (dats m 0 c).arrAt_eq_of_cover 2 _ (fun t _ => ?_) (fun x => (Products.cover (m := 256) (n := 2048) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_tn _ (iblk m c 0 t) (iblk m c 1 t) j).trans ?_)
  exact Products.tn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal GDownRefIdeal.S4096x11008 .bf16) (B : FVec Ideal GDownRefIdeal.S4096x4096 .bf16) :
    (truncf .bf16 (transpose GDownRefIdeal.S11008x4096 [1, 0] (Host.dotGeneral GDownRefIdeal.dot_S4096x4096_S4096x11008_S4096x11008_0_0_1_1_n_n none (extf .f32 B GDownRefIdeal.Gen.bitsLt_bf16_f32) (extf .f32 A GDownRefIdeal.Gen.bitsLt_bf16_f32)) GDownRefIdeal.Gen.transposes_S4096x11008_S11008x4096_1_0) GDownRefIdeal.Gen.bitsLt_bf16_f32 : FVec Ideal GDownRefIdeal.S11008x4096 .bf16) = (Products.tn (M := 11008) (K := 4096) (N := 4096) A B : FVec Ideal GDownRefIdeal.S11008x4096 .bf16) :=
  funext fun j => (Products.host _ none _ _ _).trans ((Products.sum_tn _ B A _).trans (Products.tn_swap A B j))

/-- The reference runs and keeps its arguments. -/
theorem ref_frame : Cert.quiescent_GDownRefIdeal := fun m ρ _ =>
  (θ_run _ _ _).mono (fun r h => ⟨fun c => (h c).2, sem_eq_zero_of_no_sems (by decide) r.2⟩) (GDownRefIdeal.Value.run m ρ)

/-- The kernel's result and the reference's are equal, element by element. -/
theorem algebraic : Cert.algebraic_GDownIdeal_GDownRefIdeal := fun m ρ m' ρ' _ hag =>
  ⟨fun c => Products.tn (M := 11008) (K := 4096) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (GDownRefIdeal.Value.run m' ρ')⟩

end Cert.GDownIdeal.Product

namespace Cert.GFfnIdeal.Product

open Cert.GFfnIdeal Cert.GFfnIdeal.Gen

/-- The blocks that a grid point stages are those of its block of the result. -/
theorem blocks : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, win0_0.index t 0 = 0 ∧ win0_0.index t 1 = win0_2.index t 0 ∧ win0_1.index t 0 = 0 ∧ win0_1.index t 1 = win0_2.index t 1)

/-- Every block of the result is some grid point's. -/
theorem onto : ∀ u : Fin 2, ∀ v : Fin 43, ∃ t : Fin cfg0.N, win0_2.index t = ![u.val, v.val] :=
  (by decide +kernel : ∀ u : Fin 2, ∀ v : Fin 43, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.tn (M := 4096) (K := 4096) (N := 11008) (m ((c : Thread nD τ).loc main_arg0)) (m ((c : Thread nD τ).loc main_arg1)) := by
  refine (dats m 0 c).arrAt_eq_of_cover 2 _ (fun t _ => ?_) (fun x => (Products.cover (m := 2048) (n := 256) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_tn _ (iblk m c 0 t) (iblk m c 1 t) j).trans ?_)
  exact Products.tn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal GFfnRefIdeal.S4096x4096 .bf16) (B : FVec Ideal GFfnRefIdeal.S4096x11008 .bf16) :
    (truncf .bf16 (transpose GFfnRefIdeal.S4096x11008 [1, 0] (Host.dotGeneral GFfnRefIdeal.dot_S4096x11008_S4096x4096_S11008x4096_0_0_1_1_n_n none (extf .f32 B GFfnRefIdeal.Gen.bitsLt_bf16_f32) (extf .f32 A GFfnRefIdeal.Gen.bitsLt_bf16_f32)) GFfnRefIdeal.Gen.transposes_S11008x4096_S4096x11008_1_0) GFfnRefIdeal.Gen.bitsLt_bf16_f32 : FVec Ideal GFfnRefIdeal.S4096x11008 .bf16) = (Products.tn (M := 4096) (K := 4096) (N := 11008) A B : FVec Ideal GFfnRefIdeal.S4096x11008 .bf16) :=
  funext fun j => (Products.host _ none _ _ _).trans ((Products.sum_tn _ B A _).trans (Products.tn_swap A B j))

/-- The reference runs and keeps its arguments. -/
theorem ref_frame : Cert.quiescent_GFfnRefIdeal := fun m ρ _ =>
  (θ_run _ _ _).mono (fun r h => ⟨fun c => (h c).2, sem_eq_zero_of_no_sems (by decide) r.2⟩) (GFfnRefIdeal.Value.run m ρ)

/-- The kernel's result and the reference's are equal, element by element. -/
theorem algebraic : Cert.algebraic_GFfnIdeal_GFfnRefIdeal := fun m ρ m' ρ' _ hag =>
  ⟨fun c => Products.tn (M := 4096) (K := 4096) (N := 11008) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (GFfnRefIdeal.Value.run m' ρ')⟩

end Cert.GFfnIdeal.Product

namespace Cert.GBranchIdeal.Product

open Cert.GBranchIdeal Cert.GBranchIdeal.Gen

/-- The blocks that a grid point stages are those of its block of the result. -/
theorem blocks : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, win0_0.index t 0 = 0 ∧ win0_0.index t 1 = win0_2.index t 0 ∧ win0_1.index t 0 = 0 ∧ win0_1.index t 1 = win0_2.index t 1)

/-- Every block of the result is some grid point's. -/
theorem onto : ∀ u : Fin 4, ∀ v : Fin 4, ∃ t : Fin cfg0.N, win0_2.index t = ![u.val, v.val] :=
  (by decide +kernel : ∀ u : Fin 4, ∀ v : Fin 4, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.tn (M := 4096) (K := 4096) (N := 4096) (m ((c : Thread nD τ).loc main_arg0)) (m ((c : Thread nD τ).loc main_arg1)) := by
  refine (dats m 0 c).arrAt_eq_of_cover 2 _ (fun t _ => ?_) (fun x => (Products.cover (m := 1024) (n := 1024) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_tn _ (iblk m c 0 t) (iblk m c 1 t) j).trans ?_)
  exact Products.tn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal GBranchRefIdeal.S4096x4096 .bf16) (B : FVec Ideal GBranchRefIdeal.S4096x4096 .bf16) :
    (truncf .bf16 (transpose GBranchRefIdeal.S4096x4096 [1, 0] (Host.dotGeneral GBranchRefIdeal.dot_S4096x4096_S4096x4096_S4096x4096_0_0_1_1_n_n none (extf .f32 B GBranchRefIdeal.Gen.bitsLt_bf16_f32) (extf .f32 A GBranchRefIdeal.Gen.bitsLt_bf16_f32)) GBranchRefIdeal.Gen.transposes_S4096x4096_S4096x4096_1_0) GBranchRefIdeal.Gen.bitsLt_bf16_f32 : FVec Ideal GBranchRefIdeal.S4096x4096 .bf16) = (Products.tn (M := 4096) (K := 4096) (N := 4096) A B : FVec Ideal GBranchRefIdeal.S4096x4096 .bf16) :=
  funext fun j => (Products.host _ none _ _ _).trans ((Products.sum_tn _ B A _).trans (Products.tn_swap A B j))

/-- The reference runs and keeps its arguments. -/
theorem ref_frame : Cert.quiescent_GBranchRefIdeal := fun m ρ _ =>
  (θ_run _ _ _).mono (fun r h => ⟨fun c => (h c).2, sem_eq_zero_of_no_sems (by decide) r.2⟩) (GBranchRefIdeal.Value.run m ρ)

/-- The kernel's result and the reference's are equal, element by element. -/
theorem algebraic : Cert.algebraic_GBranchIdeal_GBranchRefIdeal := fun m ρ m' ρ' _ hag =>
  ⟨fun c => Products.tn (M := 4096) (K := 4096) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (GBranchRefIdeal.Value.run m' ρ')⟩

end Cert.GBranchIdeal.Product

namespace Cert.GQkvIdeal.Product

open Cert.GQkvIdeal Cert.GQkvIdeal.Gen

/-- The blocks that a grid point stages are those of its block of the result. -/
theorem blocks : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, win0_0.index t 0 = 0 ∧ win0_0.index t 1 = win0_2.index t 0 ∧ win0_1.index t 0 = 0 ∧ win0_1.index t 1 = win0_2.index t 1)

/-- Every block of the result is some grid point's. -/
theorem onto : ∀ u : Fin 4, ∀ v : Fin 6, ∃ t : Fin cfg0.N, win0_2.index t = ![u.val, v.val] :=
  (by decide +kernel : ∀ u : Fin 4, ∀ v : Fin 6, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.tn (M := 4096) (K := 4096) (N := 6144) (m ((c : Thread nD τ).loc main_arg0)) (m ((c : Thread nD τ).loc main_arg1)) := by
  refine (dats m 0 c).arrAt_eq_of_cover 2 _ (fun t _ => ?_) (fun x => (Products.cover (m := 1024) (n := 1024) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_tn _ (iblk m c 0 t) (iblk m c 1 t) j).trans ?_)
  exact Products.tn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal GQkvRefIdeal.S4096x4096 .bf16) (B : FVec Ideal GQkvRefIdeal.S4096x6144 .bf16) :
    (truncf .bf16 (transpose GQkvRefIdeal.S4096x6144 [1, 0] (Host.dotGeneral GQkvRefIdeal.dot_S4096x6144_S4096x4096_S6144x4096_0_0_1_1_n_n none (extf .f32 B GQkvRefIdeal.Gen.bitsLt_bf16_f32) (extf .f32 A GQkvRefIdeal.Gen.bitsLt_bf16_f32)) GQkvRefIdeal.Gen.transposes_S6144x4096_S4096x6144_1_0) GQkvRefIdeal.Gen.bitsLt_bf16_f32 : FVec Ideal GQkvRefIdeal.S4096x6144 .bf16) = (Products.tn (M := 4096) (K := 4096) (N := 6144) A B : FVec Ideal GQkvRefIdeal.S4096x6144 .bf16) :=
  funext fun j => (Products.host _ none _ _ _).trans ((Products.sum_tn _ B A _).trans (Products.tn_swap A B j))

/-- The reference runs and keeps its arguments. -/
theorem ref_frame : Cert.quiescent_GQkvRefIdeal := fun m ρ _ =>
  (θ_run _ _ _).mono (fun r h => ⟨fun c => (h c).2, sem_eq_zero_of_no_sems (by decide) r.2⟩) (GQkvRefIdeal.Value.run m ρ)

/-- The kernel's result and the reference's are equal, element by element. -/
theorem algebraic : Cert.algebraic_GQkvIdeal_GQkvRefIdeal := fun m ρ m' ρ' _ hag =>
  ⟨fun c => Products.tn (M := 4096) (K := 4096) (N := 6144) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (GQkvRefIdeal.Value.run m' ρ')⟩

end Cert.GQkvIdeal.Product

namespace Cert.GRwkvIdeal.Product

open Cert.GRwkvIdeal Cert.GRwkvIdeal.Gen

/-- The blocks that a grid point stages are those of its block of the result. -/
theorem blocks : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, win0_0.index t 0 = 0 ∧ win0_0.index t 1 = win0_2.index t 0 ∧ win0_1.index t 0 = 0 ∧ win0_1.index t 1 = win0_2.index t 1)

/-- Every block of the result is some grid point's. -/
theorem onto : ∀ u : Fin 4, ∀ v : Fin 17, ∃ t : Fin cfg0.N, win0_2.index t = ![u.val, v.val] :=
  (by decide +kernel : ∀ u : Fin 4, ∀ v : Fin 17, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.tn (M := 4096) (K := 4096) (N := 13056) (m ((c : Thread nD τ).loc main_arg0)) (m ((c : Thread nD τ).loc main_arg1)) := by
  refine (dats m 0 c).arrAt_eq_of_cover 2 _ (fun t _ => ?_) (fun x => (Products.cover (m := 1024) (n := 768) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_tn _ (iblk m c 0 t) (iblk m c 1 t) j).trans ?_)
  exact Products.tn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal GRwkvRefIdeal.S4096x4096 .bf16) (B : FVec Ideal GRwkvRefIdeal.S4096x13056 .bf16) :
    (truncf .bf16 (transpose GRwkvRefIdeal.S4096x13056 [1, 0] (Host.dotGeneral GRwkvRefIdeal.dot_S4096x13056_S4096x4096_S13056x4096_0_0_1_1_n_n none (extf .f32 B GRwkvRefIdeal.Gen.bitsLt_bf16_f32) (extf .f32 A GRwkvRefIdeal.Gen.bitsLt_bf16_f32)) GRwkvRefIdeal.Gen.transposes_S13056x4096_S4096x13056_1_0) GRwkvRefIdeal.Gen.bitsLt_bf16_f32 : FVec Ideal GRwkvRefIdeal.S4096x13056 .bf16) = (Products.tn (M := 4096) (K := 4096) (N := 13056) A B : FVec Ideal GRwkvRefIdeal.S4096x13056 .bf16) :=
  funext fun j => (Products.host _ none _ _ _).trans ((Products.sum_tn _ B A _).trans (Products.tn_swap A B j))

/-- The reference runs and keeps its arguments. -/
theorem ref_frame : Cert.quiescent_GRwkvRefIdeal := fun m ρ _ =>
  (θ_run _ _ _).mono (fun r h => ⟨fun c => (h c).2, sem_eq_zero_of_no_sems (by decide) r.2⟩) (GRwkvRefIdeal.Value.run m ρ)

/-- The kernel's result and the reference's are equal, element by element. -/
theorem algebraic : Cert.algebraic_GRwkvIdeal_GRwkvRefIdeal := fun m ρ m' ρ' _ hag =>
  ⟨fun c => Products.tn (M := 4096) (K := 4096) (N := 13056) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (GRwkvRefIdeal.Value.run m' ρ')⟩

end Cert.GRwkvIdeal.Product

namespace Cert.GGateIdeal.Product

open Cert.GGateIdeal Cert.GGateIdeal.Gen

/-- The blocks that a grid point stages are those of its block of the result. -/
theorem blocks : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, win0_0.index t 0 = 0 ∧ win0_0.index t 1 = win0_2.index t 0 ∧ win0_1.index t 0 = 0 ∧ win0_1.index t 1 = win0_2.index t 1)

/-- Every block of the result is some grid point's. -/
theorem onto : ∀ u : Fin 4, ∀ v : Fin 8, ∃ t : Fin cfg0.N, win0_2.index t = ![u.val, v.val] :=
  (by decide +kernel : ∀ u : Fin 4, ∀ v : Fin 8, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.tn (M := 4096) (K := 4096) (N := 8192) (m ((c : Thread nD τ).loc main_arg0)) (m ((c : Thread nD τ).loc main_arg1)) := by
  refine (dats m 0 c).arrAt_eq_of_cover 2 _ (fun t _ => ?_) (fun x => (Products.cover (m := 1024) (n := 1024) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_tn _ (iblk m c 0 t) (iblk m c 1 t) j).trans ?_)
  exact Products.tn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal GGateRefIdeal.S4096x4096 .bf16) (B : FVec Ideal GGateRefIdeal.S4096x8192 .bf16) :
    (truncf .bf16 (transpose GGateRefIdeal.S4096x8192 [1, 0] (Host.dotGeneral GGateRefIdeal.dot_S4096x8192_S4096x4096_S8192x4096_0_0_1_1_n_n none (extf .f32 B GGateRefIdeal.Gen.bitsLt_bf16_f32) (extf .f32 A GGateRefIdeal.Gen.bitsLt_bf16_f32)) GGateRefIdeal.Gen.transposes_S8192x4096_S4096x8192_1_0) GGateRefIdeal.Gen.bitsLt_bf16_f32 : FVec Ideal GGateRefIdeal.S4096x8192 .bf16) = (Products.tn (M := 4096) (K := 4096) (N := 8192) A B : FVec Ideal GGateRefIdeal.S4096x8192 .bf16) :=
  funext fun j => (Products.host _ none _ _ _).trans ((Products.sum_tn _ B A _).trans (Products.tn_swap A B j))

/-- The reference runs and keeps its arguments. -/
theorem ref_frame : Cert.quiescent_GGateRefIdeal := fun m ρ _ =>
  (θ_run _ _ _).mono (fun r h => ⟨fun c => (h c).2, sem_eq_zero_of_no_sems (by decide) r.2⟩) (GGateRefIdeal.Value.run m ρ)

/-- The kernel's result and the reference's are equal, element by element. -/
theorem algebraic : Cert.algebraic_GGateIdeal_GGateRefIdeal := fun m ρ m' ρ' _ hag =>
  ⟨fun c => Products.tn (M := 4096) (K := 4096) (N := 8192) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (GGateRefIdeal.Value.run m' ρ')⟩

end Cert.GGateIdeal.Product

end
-- ==== Proof.Forward.lean ====
module

public import proofs.«01_k».proof.Proof.Products
public import proofs.«01_k».proof.Defs
public import proofs.«01_k».proof.Proof.Gen.QkvIdeal.Value
public import proofs.«01_k».proof.Proof.Gen.QkvRefIdeal.Run
public import proofs.«01_k».proof.Proof.Gen.RwkvIdeal.Value
public import proofs.«01_k».proof.Proof.Gen.RwkvRefIdeal.Run
public import proofs.«01_k».proof.Proof.Gen.GateIdeal.Value
public import proofs.«01_k».proof.Proof.Gen.GateRefIdeal.Run
public import proofs.«01_k».proof.Proof.Gen.BranchIdeal.Value
public import proofs.«01_k».proof.Proof.Gen.BranchRefIdeal.Run
public import proofs.«01_k».proof.Proof.Gen.OutIdeal.Value
public import proofs.«01_k».proof.Proof.Gen.OutRefIdeal.Run
public import proofs.«01_k».proof.Proof.Gen.FfnIdeal.Value
public import proofs.«01_k».proof.Proof.Gen.FfnRefIdeal.Run
public import proofs.«01_k».proof.Proof.Gen.DownIdeal.Value
public import proofs.«01_k».proof.Proof.Gen.DownRefIdeal.Run

@[expose] public section

set_option maxRecDepth 16384

noncomputable section

/-! The forward products: `a · b`. -/

open Idealize.ShloMosaic Idealize.ShloMosaic.TcCoe Idealize.ShloMosaic.ValueIdx Idealize.SL.Sem

namespace Cert.QkvIdeal.Product

open Cert.QkvIdeal Cert.QkvIdeal.Gen

/-- The blocks that a grid point stages are those of its block of the result. -/
theorem blocks : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

/-- Every block of the result is some grid point's. -/
theorem onto : ∀ u : Fin 4, ∀ v : Fin 6, ∃ t : Fin cfg0.N, win0_2.index t = ![u.val, v.val] :=
  (by decide +kernel : ∀ u : Fin 4, ∀ v : Fin 6, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nn (M := 4096) (K := 4096) (N := 6144) (m ((c : Thread nD τ).loc main_arg0)) (m ((c : Thread nD τ).loc main_arg1)) := by
  refine (dats m 0 c).arrAt_eq_of_cover 2 _ (fun t _ => ?_) (fun x => (Products.cover (m := 1024) (n := 1024) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nn _ (iblk m c 0 t) (iblk m c 1 t) j).trans ?_)
  exact Products.nn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal QkvRefIdeal.S4096x4096 .bf16) (B : FVec Ideal QkvRefIdeal.S4096x6144 .bf16) :
    (Host.dotGeneral QkvRefIdeal.dot_S4096x4096_S4096x6144_S4096x6144_1_0_0_1_n_n none (extf .f32 A QkvRefIdeal.Gen.bitsLt_bf16_f32) (extf .f32 B QkvRefIdeal.Gen.bitsLt_bf16_f32) : FVec Ideal QkvRefIdeal.S4096x6144 .f32) = (Products.nn (M := 4096) (K := 4096) (N := 6144) A B : FVec Ideal QkvRefIdeal.S4096x6144 .f32) :=
  funext fun j => (Products.host _ none _ _ j).trans (Products.sum_nn _ A B j)

/-- The reference runs and keeps its arguments. -/
theorem ref_frame : Cert.quiescent_QkvRefIdeal := fun m ρ _ =>
  (θ_run _ _ _).mono (fun r h => ⟨fun c => (h c).2, sem_eq_zero_of_no_sems (by decide) r.2⟩) (QkvRefIdeal.Value.run m ρ)

/-- The kernel's result and the reference's are equal, element by element. -/
theorem algebraic : Cert.algebraic_QkvIdeal_QkvRefIdeal := fun m ρ m' ρ' _ hag =>
  ⟨fun c => Products.nn (M := 4096) (K := 4096) (N := 6144) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (QkvRefIdeal.Value.run m' ρ')⟩

end Cert.QkvIdeal.Product

namespace Cert.RwkvIdeal.Product

open Cert.RwkvIdeal Cert.RwkvIdeal.Gen

/-- The blocks that a grid point stages are those of its block of the result. -/
theorem blocks : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

/-- Every block of the result is some grid point's. -/
theorem onto : ∀ u : Fin 4, ∀ v : Fin 17, ∃ t : Fin cfg0.N, win0_2.index t = ![u.val, v.val] :=
  (by decide +kernel : ∀ u : Fin 4, ∀ v : Fin 17, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nn (M := 4096) (K := 4096) (N := 13056) (m ((c : Thread nD τ).loc main_arg0)) (m ((c : Thread nD τ).loc main_arg1)) := by
  refine (dats m 0 c).arrAt_eq_of_cover 2 _ (fun t _ => ?_) (fun x => (Products.cover (m := 1024) (n := 768) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nn _ (iblk m c 0 t) (iblk m c 1 t) j).trans ?_)
  exact Products.nn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal RwkvRefIdeal.S4096x4096 .bf16) (B : FVec Ideal RwkvRefIdeal.S4096x13056 .bf16) :
    (Host.dotGeneral RwkvRefIdeal.dot_S4096x4096_S4096x13056_S4096x13056_1_0_0_1_n_n none (extf .f32 A RwkvRefIdeal.Gen.bitsLt_bf16_f32) (extf .f32 B RwkvRefIdeal.Gen.bitsLt_bf16_f32) : FVec Ideal RwkvRefIdeal.S4096x13056 .f32) = (Products.nn (M := 4096) (K := 4096) (N := 13056) A B : FVec Ideal RwkvRefIdeal.S4096x13056 .f32) :=
  funext fun j => (Products.host _ none _ _ j).trans (Products.sum_nn _ A B j)

/-- The reference runs and keeps its arguments. -/
theorem ref_frame : Cert.quiescent_RwkvRefIdeal := fun m ρ _ =>
  (θ_run _ _ _).mono (fun r h => ⟨fun c => (h c).2, sem_eq_zero_of_no_sems (by decide) r.2⟩) (RwkvRefIdeal.Value.run m ρ)

/-- The kernel's result and the reference's are equal, element by element. -/
theorem algebraic : Cert.algebraic_RwkvIdeal_RwkvRefIdeal := fun m ρ m' ρ' _ hag =>
  ⟨fun c => Products.nn (M := 4096) (K := 4096) (N := 13056) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (RwkvRefIdeal.Value.run m' ρ')⟩

end Cert.RwkvIdeal.Product

namespace Cert.GateIdeal.Product

open Cert.GateIdeal Cert.GateIdeal.Gen

/-- The blocks that a grid point stages are those of its block of the result. -/
theorem blocks : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

/-- Every block of the result is some grid point's. -/
theorem onto : ∀ u : Fin 4, ∀ v : Fin 8, ∃ t : Fin cfg0.N, win0_2.index t = ![u.val, v.val] :=
  (by decide +kernel : ∀ u : Fin 4, ∀ v : Fin 8, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nn (M := 4096) (K := 4096) (N := 8192) (m ((c : Thread nD τ).loc main_arg0)) (m ((c : Thread nD τ).loc main_arg1)) := by
  refine (dats m 0 c).arrAt_eq_of_cover 2 _ (fun t _ => ?_) (fun x => (Products.cover (m := 1024) (n := 1024) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nn _ (iblk m c 0 t) (iblk m c 1 t) j).trans ?_)
  exact Products.nn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal GateRefIdeal.S4096x4096 .bf16) (B : FVec Ideal GateRefIdeal.S4096x8192 .bf16) :
    (truncf .bf16 (Host.dotGeneral GateRefIdeal.dot_S4096x4096_S4096x8192_S4096x8192_1_0_0_1_n_n none (extf .f32 A GateRefIdeal.Gen.bitsLt_bf16_f32) (extf .f32 B GateRefIdeal.Gen.bitsLt_bf16_f32)) GateRefIdeal.Gen.bitsLt_bf16_f32 : FVec Ideal GateRefIdeal.S4096x8192 .bf16) = (Products.nn (M := 4096) (K := 4096) (N := 8192) A B : FVec Ideal GateRefIdeal.S4096x8192 .bf16) :=
  funext fun j => (Products.host _ none _ _ j).trans (Products.sum_nn _ A B j)

/-- The reference runs and keeps its arguments. -/
theorem ref_frame : Cert.quiescent_GateRefIdeal := fun m ρ _ =>
  (θ_run _ _ _).mono (fun r h => ⟨fun c => (h c).2, sem_eq_zero_of_no_sems (by decide) r.2⟩) (GateRefIdeal.Value.run m ρ)

/-- The kernel's result and the reference's are equal, element by element. -/
theorem algebraic : Cert.algebraic_GateIdeal_GateRefIdeal := fun m ρ m' ρ' _ hag =>
  ⟨fun c => Products.nn (M := 4096) (K := 4096) (N := 8192) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (GateRefIdeal.Value.run m' ρ')⟩

end Cert.GateIdeal.Product

namespace Cert.BranchIdeal.Product

open Cert.BranchIdeal Cert.BranchIdeal.Gen

/-- The blocks that a grid point stages are those of its block of the result. -/
theorem blocks : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

/-- Every block of the result is some grid point's. -/
theorem onto : ∀ u : Fin 4, ∀ v : Fin 4, ∃ t : Fin cfg0.N, win0_2.index t = ![u.val, v.val] :=
  (by decide +kernel : ∀ u : Fin 4, ∀ v : Fin 4, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nn (M := 4096) (K := 4096) (N := 4096) (m ((c : Thread nD τ).loc main_arg0)) (m ((c : Thread nD τ).loc main_arg1)) := by
  refine (dats m 0 c).arrAt_eq_of_cover 2 _ (fun t _ => ?_) (fun x => (Products.cover (m := 1024) (n := 1024) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nn _ (iblk m c 0 t) (iblk m c 1 t) j).trans ?_)
  exact Products.nn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal BranchRefIdeal.S4096x4096 .bf16) (B : FVec Ideal BranchRefIdeal.S4096x4096 .bf16) :
    (truncf .bf16 (Host.dotGeneral BranchRefIdeal.dot_S4096x4096_S4096x4096_S4096x4096_1_0_0_1_n_n none (extf .f32 A BranchRefIdeal.Gen.bitsLt_bf16_f32) (extf .f32 B BranchRefIdeal.Gen.bitsLt_bf16_f32)) BranchRefIdeal.Gen.bitsLt_bf16_f32 : FVec Ideal BranchRefIdeal.S4096x4096 .bf16) = (Products.nn (M := 4096) (K := 4096) (N := 4096) A B : FVec Ideal BranchRefIdeal.S4096x4096 .bf16) :=
  funext fun j => (Products.host _ none _ _ j).trans (Products.sum_nn _ A B j)

/-- The reference runs and keeps its arguments. -/
theorem ref_frame : Cert.quiescent_BranchRefIdeal := fun m ρ _ =>
  (θ_run _ _ _).mono (fun r h => ⟨fun c => (h c).2, sem_eq_zero_of_no_sems (by decide) r.2⟩) (BranchRefIdeal.Value.run m ρ)

/-- The kernel's result and the reference's are equal, element by element. -/
theorem algebraic : Cert.algebraic_BranchIdeal_BranchRefIdeal := fun m ρ m' ρ' _ hag =>
  ⟨fun c => Products.nn (M := 4096) (K := 4096) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (BranchRefIdeal.Value.run m' ρ')⟩

end Cert.BranchIdeal.Product

namespace Cert.OutIdeal.Product

open Cert.OutIdeal Cert.OutIdeal.Gen

/-- The blocks that a grid point stages are those of its block of the result. -/
theorem blocks : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

/-- Every block of the result is some grid point's. -/
theorem onto : ∀ u : Fin 4, ∀ v : Fin 4, ∃ t : Fin cfg0.N, win0_2.index t = ![u.val, v.val] :=
  (by decide +kernel : ∀ u : Fin 4, ∀ v : Fin 4, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nn (M := 4096) (K := 4096) (N := 4096) (m ((c : Thread nD τ).loc main_arg0)) (m ((c : Thread nD τ).loc main_arg1)) := by
  refine (dats m 0 c).arrAt_eq_of_cover 2 _ (fun t _ => ?_) (fun x => (Products.cover (m := 1024) (n := 1024) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nn _ (iblk m c 0 t) (iblk m c 1 t) j).trans ?_)
  exact Products.nn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal OutRefIdeal.S4096x4096 .bf16) (B : FVec Ideal OutRefIdeal.S4096x4096 .bf16) :
    (Host.dotGeneral OutRefIdeal.dot_S4096x4096_S4096x4096_S4096x4096_1_0_0_1_n_n none (extf .f32 A OutRefIdeal.Gen.bitsLt_bf16_f32) (extf .f32 B OutRefIdeal.Gen.bitsLt_bf16_f32) : FVec Ideal OutRefIdeal.S4096x4096 .f32) = (Products.nn (M := 4096) (K := 4096) (N := 4096) A B : FVec Ideal OutRefIdeal.S4096x4096 .f32) :=
  funext fun j => (Products.host _ none _ _ j).trans (Products.sum_nn _ A B j)

/-- The reference runs and keeps its arguments. -/
theorem ref_frame : Cert.quiescent_OutRefIdeal := fun m ρ _ =>
  (θ_run _ _ _).mono (fun r h => ⟨fun c => (h c).2, sem_eq_zero_of_no_sems (by decide) r.2⟩) (OutRefIdeal.Value.run m ρ)

/-- The kernel's result and the reference's are equal, element by element. -/
theorem algebraic : Cert.algebraic_OutIdeal_OutRefIdeal := fun m ρ m' ρ' _ hag =>
  ⟨fun c => Products.nn (M := 4096) (K := 4096) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (OutRefIdeal.Value.run m' ρ')⟩

end Cert.OutIdeal.Product

namespace Cert.FfnIdeal.Product

open Cert.FfnIdeal Cert.FfnIdeal.Gen

/-- The blocks that a grid point stages are those of its block of the result. -/
theorem blocks : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

/-- Every block of the result is some grid point's. -/
theorem onto : ∀ u : Fin 2, ∀ v : Fin 43, ∃ t : Fin cfg0.N, win0_2.index t = ![u.val, v.val] :=
  (by decide +kernel : ∀ u : Fin 2, ∀ v : Fin 43, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nn (M := 4096) (K := 4096) (N := 11008) (m ((c : Thread nD τ).loc main_arg0)) (m ((c : Thread nD τ).loc main_arg1)) := by
  refine (dats m 0 c).arrAt_eq_of_cover 2 _ (fun t _ => ?_) (fun x => (Products.cover (m := 2048) (n := 256) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nn _ (iblk m c 0 t) (iblk m c 1 t) j).trans ?_)
  exact Products.nn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal FfnRefIdeal.S4096x4096 .bf16) (B : FVec Ideal FfnRefIdeal.S4096x11008 .bf16) :
    (truncf .bf16 (Host.dotGeneral FfnRefIdeal.dot_S4096x4096_S4096x11008_S4096x11008_1_0_0_1_n_n none (extf .f32 A FfnRefIdeal.Gen.bitsLt_bf16_f32) (extf .f32 B FfnRefIdeal.Gen.bitsLt_bf16_f32)) FfnRefIdeal.Gen.bitsLt_bf16_f32 : FVec Ideal FfnRefIdeal.S4096x11008 .bf16) = (Products.nn (M := 4096) (K := 4096) (N := 11008) A B : FVec Ideal FfnRefIdeal.S4096x11008 .bf16) :=
  funext fun j => (Products.host _ none _ _ j).trans (Products.sum_nn _ A B j)

/-- The reference runs and keeps its arguments. -/
theorem ref_frame : Cert.quiescent_FfnRefIdeal := fun m ρ _ =>
  (θ_run _ _ _).mono (fun r h => ⟨fun c => (h c).2, sem_eq_zero_of_no_sems (by decide) r.2⟩) (FfnRefIdeal.Value.run m ρ)

/-- The kernel's result and the reference's are equal, element by element. -/
theorem algebraic : Cert.algebraic_FfnIdeal_FfnRefIdeal := fun m ρ m' ρ' _ hag =>
  ⟨fun c => Products.nn (M := 4096) (K := 4096) (N := 11008) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (FfnRefIdeal.Value.run m' ρ')⟩

end Cert.FfnIdeal.Product

namespace Cert.DownIdeal.Product

open Cert.DownIdeal Cert.DownIdeal.Gen

/-- The blocks that a grid point stages are those of its block of the result. -/
theorem blocks : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

/-- Every block of the result is some grid point's. -/
theorem onto : ∀ u : Fin 16, ∀ v : Fin 8, ∃ t : Fin cfg0.N, win0_2.index t = ![u.val, v.val] :=
  (by decide +kernel : ∀ u : Fin 16, ∀ v : Fin 8, ∃ t : Fin grid0.N, win0_2.index t = ![u.val, v.val])

/-- The array that the grid leaves is the product of the arguments. -/
theorem final (m : (ℓ : Loc nD τ sig) → Buf (Elt Ideal) ℓ) (c : Dev nD) :
    (dats m 0 c).arrAt 2 cfg0.N = Products.nn (M := 4096) (K := 11008) (N := 4096) (m ((c : Thread nD τ).loc main_arg0)) (m ((c : Thread nD τ).loc main_arg1)) := by
  refine (dats m 0 c).arrAt_eq_of_cover 2 _ (fun t _ => ?_) (fun x => (Products.cover (m := 256) (n := 512) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs, View.ld_unit_zero Products.offs, View.ld_unit_zero Products.offs]
  funext j
  refine (Products.acc _).trans ((Products.sum_nn _ (iblk m c 0 t) (iblk m c 1 t) j).trans ?_)
  exact Products.nn_blocks _ _ (win0_0.blk t).view.emb (win0_1.blk t).view.emb (win0_2.blk t).view.emb
    (fun _ _ => rfl) (fun _ _ => rfl) (fun _ _ => rfl) (blocks t) j

/-- What the reference computes is the same product. -/
theorem ref_eq (A : FVec Ideal DownRefIdeal.S4096x11008 .bf16) (B : FVec Ideal DownRefIdeal.S11008x4096 .bf16) :
    (Host.dotGeneral DownRefIdeal.dot_S4096x11008_S11008x4096_S4096x4096_1_0_0_1_n_n none (extf .f32 A DownRefIdeal.Gen.bitsLt_bf16_f32) (extf .f32 B DownRefIdeal.Gen.bitsLt_bf16_f32) : FVec Ideal DownRefIdeal.S4096x4096 .f32) = (Products.nn (M := 4096) (K := 11008) (N := 4096) A B : FVec Ideal DownRefIdeal.S4096x4096 .f32) :=
  funext fun j => (Products.host _ none _ _ j).trans (Products.sum_nn _ A B j)

/-- The reference runs and keeps its arguments. -/
theorem ref_frame : Cert.quiescent_DownRefIdeal := fun m ρ _ =>
  (θ_run _ _ _).mono (fun r h => ⟨fun c => (h c).2, sem_eq_zero_of_no_sems (by decide) r.2⟩) (DownRefIdeal.Value.run m ρ)

/-- The kernel's result and the reference's are equal, element by element. -/
theorem algebraic : Cert.algebraic_DownIdeal_DownRefIdeal := fun m ρ m' ρ' _ hag =>
  ⟨fun c => Products.nn (M := 4096) (K := 11008) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (DownRefIdeal.Value.run m' ρ')⟩

end Cert.DownIdeal.Product

end
-- ==== Proof.GradInputSum.lean ====
module

public import proofs.«01_k».proof.Proof.Products
public import proofs.«01_k».proof.Defs
public import proofs.«01_k».proof.Proof.Gen.DQkvIdeal.Value
public import proofs.«01_k».proof.Proof.Gen.DQkvRefIdeal.Run
public import proofs.«01_k».proof.Proof.Gen.DRwkvIdeal.Value
public import proofs.«01_k».proof.Proof.Gen.DRwkvRefIdeal.Run
public import proofs.«01_k».proof.Proof.Gen.DGateIdeal.Value
public import proofs.«01_k».proof.Proof.Gen.DGateRefIdeal.Run
public import Idealize.ShloMosaic.Lib.Tactic

@[expose] public section

set_option maxRecDepth 16384

noncomputable section

/-! The gradients `ct · bᵀ` whose contraction is staged in parts and added up in a scratch buffer. -/

open Idealize.ShloMosaic Idealize.ShloMosaic.TcCoe Idealize.ShloMosaic.ValueIdx Idealize.SL.Sem

namespace Cert.DQkvIdeal.Product

open Cert.DQkvIdeal Cert.DQkvIdeal.Gen

/-- The grid point that takes part `s` of block `q` of the result. -/
abbrev pt (q : Fin 8) (s : Fin 3) : Fin cfg0.N := ⟨3 * q.val + s.val, lt_of_lt_of_eq (by omega) N_0.symm⟩

/-- The blocks that the points of a block of the result stage: the parts, in order, of the rows of that block. -/
theorem blocks : ∀ q : Fin 8, ∀ s : Fin 3, win0_0.index (pt q s) 0 = win0_2.index (pt q 2) 0 ∧ win0_0.index (pt q s) 1 = s
    ∧ win0_1.index (pt q s) 0 = win0_2.index (pt q 2) 1 ∧ win0_1.index (pt q s) 1 = s := by
  decide +kernel

/-- Every block of the result is written back at the last of its points. -/
theorem onto : ∀ u : Fin 4, ∀ v : Fin 2, ∃ q : Fin 8, win0_2.index (pt q 2) = ![u.val, v.val] := by
  decide +kernel

/-- The first point of a block leaves its part in the scratch. -/
theorem first (c : Dev nD) (i : grid0.Coords) (a3 : Memref sig .tc .vmem _ .bf16) (h3 : a3.IsWhole) (a4 : Memref sig .tc .vmem _ .bf16) (h4 : a4.IsWhole)
    (a5 : Memref sig .tc .vmem _ .bf16) (h5 : a5.IsWhole) (a6 : Memref sig .tc .vmem _ .f32) (h6 : a6.IsWhole)
    (hc0 : cond0_0 i) (hc1 : ¬cond0_1 i) (hc2 : ¬cond0_2 i) (x : Vec Ideal _ .bf16) (y : Vec Ideal _ .bf16) : sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero Products.offs]
  simp only [View.readAt_eq_ld, h3.read_unread, h4.read_unread, View.ld_unit_zero (S := S1024x2048) Products.offs, View.ld_unit_zero (S := S2048x2048) Products.offs]

/-- A middle point adds its part. -/
theorem middle (c : Dev nD) (i : grid0.Coords) (a3 : Memref sig .tc .vmem _ .bf16) (h3 : a3.IsWhole) (a4 : Memref sig .tc .vmem _ .bf16) (h4 : a4.IsWhole)
    (a5 : Memref sig .tc .vmem _ .bf16) (h5 : a5.IsWhole) (a6 : Memref sig .tc .vmem _ .f32) (h6 : a6.IsWhole)
    (hc0 : ¬cond0_0 i) (hc1 : cond0_1 i) (hc2 : ¬cond0_2 i) (x : Vec Ideal _ .bf16) (y : Vec Ideal _ .bf16) (z : Vec Ideal _ .f32) : sout0_B_0 c i a3 h3 a4 h4 a5 h5 a6 h6 hc0 hc1 hc2 x y z = k0_pay3 x y z := by
  unfold sout0_B_0
  rw [View.read_writes_eq_canon _ _ _ (scover0_B_0 c i a3 h3 a4 h4 a5 h5 a6 h6 hc0 hc1 hc2 x y z)]
  unfold kernelRun0_B
  dsimp only
  rw [View.canon_unit_zero Products.offs]
  simp only [View.readAt_eq_ld, h3.read_unread, h4.read_unread, h6.read_unread, View.ld_unit_zero (S := S1024x2048) Products.offs, View.ld_unit_zero (S := S2048x2048) Products.offs]

/-- The last point adds its part and leaves the sum in the block of the result. -/
theorem last (c : Dev nD) (i : grid0.Coords) (a3 : Memref sig .tc .vmem _ .bf16) (h3 : a3.IsWhole) (a4 : Memref sig .tc .vmem _ .bf16) (h4 : a4.IsWhole)
    (a5 : Memref sig .tc .vmem _ .bf16) (h5 : a5.IsWhole) (a6 : Memref sig .tc .vmem _ .f32) (h6 : a6.IsWhole)
    (hc0 : ¬cond0_0 i) (hc1 : cond0_1 i) (hc2 : cond0_2 i) (x : Vec Ideal _ .bf16) (y : Vec Ideal _ .bf16) (z : Vec Ideal _ .f32) : out0_C_2 c i a3 h3 a4 h4 a5 h5 a6 h6 hc0 hc1 hc2 x y z = k0_pay4 (k0_pay3 x y z) := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero Products.offs, View.readCov_unit_zero _ Products.offs]
  simp only [View.readAt_eq_ld, h3.read_unread, h4.read_unread, h6.read_unread, View.ld_unit_zero (S := S1024x2048) Products.offs, View.ld_unit_zero (S := S2048x2048) Products.offs]

/-- What is stored, element by element: a first part, a part added to a sum, and the sum at its last cast. -/
theorem stored (x : Vec Ideal S1024x2048 .bf16) (y : Vec Ideal S2048x2048 .bf16) (z : Vec Ideal S1024x2048 .f32) (j : S1024x2048.Idx) :
    k0_pay2 x y j = k0_pay1 x y j ∧ k0_pay3 x y z j = z j + k0_pay1 x y j ∧ k0_pay4 z j = z j :=
  ⟨by unfold k0_pay2; rw [shapeCast_self], by unfold k0_pay3; rw [shapeCast_self]; rfl, rfl⟩

/-- A part, element by element. -/
theorem part (x : Vec Ideal S1024x2048 .bf16) (y : Vec Ideal S2048x2048 .bf16) (j : S1024x2048.Idx) :
    k0_pay1 x y j = Products.nt (M := 1024) (K := 2048) (N := 2048) x y j :=
  (Products.acc _).trans (Products.sum_nt _ x y j)

variable (m : (ℓ : Loc nD τ sig) → Buf (Elt Ideal) ℓ) (c : Dev nD) (q : Fin 8)

theorem after_first (t : Fin cfg0.N) (h0 : t.val % 3 = 0) (h1 : ¬1 ≤ t.val % 3) (h2 : ¬t.val % 3 = 2) :
    (outsAt0 m c t.val t.isLt).2 = k0_pay2 (iblk m c 0 t) (iblk m c 1 t) := by
  rw [outsAt0_A m c t h0 h1 h2]
  dsimp only
  rw [first]

theorem after_middle (t u : Fin cfg0.N) (hu : u.val = t.val - 1) (h0 : ¬t.val % 3 = 0) (h1 : 1 ≤ t.val % 3) (h2 : ¬t.val % 3 = 2) :
    (outsAt0 m c t.val t.isLt).2 = k0_pay3 (iblk m c 0 t) (iblk m c 1 t) (outsAt0 m c u.val u.isLt).2 := by
  obtain ⟨u, h⟩ := u
  obtain rfl : u = t.val - 1 := hu
  rw [outsAt0_B m c t h0 h1 h2]
  dsimp only
  rw [middle]

theorem after_last (t u : Fin cfg0.N) (hu : u.val = t.val - 1) (h0 : ¬t.val % 3 = 0) (h1 : 1 ≤ t.val % 3) (h2 : t.val % 3 = 2) :
    (outsAt0 m c t.val t.isLt).1 = k0_pay4 (k0_pay3 (iblk m c 0 t) (iblk m c 1 t) (outsAt0 m c u.val u.isLt).2) := by
  obtain ⟨u, h⟩ := u
  obtain rfl : u = t.val - 1 := hu
  rw [outsAt0_C m c t h0 h1 h2]
  dsimp only
  rw [last]

/-- The points of a block of the result leave the sum of the parts there. -/
theorem parts (j : S1024x2048.Idx) : (outsAt0 m c (pt q 2).val (pt q 2).isLt).1 j
    = ∑ s : Fin 3, Products.nt (M := 1024) (K := 2048) (N := 2048) (iblk m c 0 (pt q s)) (iblk m c 1 (pt q s)) j := by
  rw [Fin.sum_univ_three, after_last m c (pt q 2) (pt q 1) rfl (by show ¬(3 * q.val + 2) % 3 = 0; omega) (by show 1 ≤ (3 * q.val + 2) % 3; omega) (by show (3 * q.val + 2) % 3 = 2; omega),
    after_middle m c (pt q 1) (pt q 0) rfl (by show ¬(3 * q.val + 1) % 3 = 0; omega) (by show 1 ≤ (3 * q.val + 1) % 3; omega) (by show ¬(3 * q.val + 1) % 3 = 2; omega),
    after_first m c (pt q 0) (by show (3 * q.val + 0) % 3 = 0; omega) (by show ¬1 ≤ (3 * q.val + 0) % 3; omega) (by show ¬(3 * q.val + 0) % 3 = 2; omega),
    (stored (iblk m c 0 (pt q 0)) (iblk m c 1 (pt q 0)) _ j).2.2,
    (stored _ _ _ j).2.1, (stored _ _ _ j).2.1, (stored _ _ (fun _ => 0) j).1, part, part, part]

/-- The array that the grid leaves is the product of the arguments. -/
theorem final : (dats m 0 c).arrAt 2 cfg0.N = Products.nt (M := 4096) (K := 6144) (N := 4096) (m ((c : Thread nD τ).loc main_arg0)) (m ((c : Thread nD τ).loc main_arg1)) := by
  refine (dats m 0 c).arrAt_eq_of_cover 2 _ (fun t hf => ?_) (fun x => (Products.cover (m := 1024) (n := 2048) (fun q => win0_2.index (pt q 2))
    (fun q x => x ∈ ((cfg0.win 2).blk (pt q 2)).view.set)
    (fun q x => by show x ∈ ((View.whole main_v0).slice (win0_2.rect (pt q 2))).set ↔ _; rw [View.set_slice_whole, Rect.mem_set_unit]; exact Iff.rfl) rfl rfl onto x).elim
    fun q hq => ⟨pt q 2, (flush0_2 _).mpr (by show (3 * q.val + 2) % 3 = 2; omega), hq⟩)
  obtain ⟨q, rfl⟩ : ∃ q : Fin 8, t = pt q 2 :=
    ⟨⟨t.val / 3, by have := lt_of_lt_of_eq t.isLt N_0; omega⟩, Fin.ext (by have := (flush0_2 t).mp hf; show t.val = 3 * (t.val / 3) + 2; omega)⟩
  rw [Value.flushed2]
  funext j
  refine (parts m c q j).trans ?_
  exact Products.nt_parts (M := 4096) (K := 6144) (N := 4096) (m := 1024) (n := 2048) (P := 3) (k := 2048) (by norm_num) _ _ _ _ (fun s => (win0_0.blk (pt q s)).view.emb) (fun s => (win0_1.blk (pt q s)).view.emb) (win0_2.blk (pt q 2)).view.emb
    (fun _ _ _ => rfl) (fun _ _ _ => rfl) (fun _ _ => rfl) (blocks q) j

/-- What the reference computes is the same product. -/
theorem ref_eq (A : FVec Ideal DQkvRefIdeal.S4096x6144 .bf16) (B : FVec Ideal DQkvRefIdeal.S4096x6144 .bf16) :
    (truncf .bf16 (Host.dotGeneral DQkvRefIdeal.dot_S4096x6144_S4096x6144_S4096x4096_1_1_0_0_n_n none (extf .f32 A DQkvRefIdeal.Gen.bitsLt_bf16_f32) (extf .f32 B DQkvRefIdeal.Gen.bitsLt_bf16_f32)) DQkvRefIdeal.Gen.bitsLt_bf16_f32 : FVec Ideal DQkvRefIdeal.S4096x4096 .bf16) = (Products.nt (M := 4096) (K := 6144) (N := 4096) A B : FVec Ideal DQkvRefIdeal.S4096x4096 .bf16) :=
  funext fun j => (Products.host _ none _ _ j).trans (Products.sum_nt _ A B j)

/-- The reference runs and keeps its arguments. -/
theorem ref_frame : Cert.quiescent_DQkvRefIdeal := fun m ρ _ =>
  (θ_run _ _ _).mono (fun r h => ⟨fun c => (h c).2, sem_eq_zero_of_no_sems (by decide) r.2⟩) (DQkvRefIdeal.Value.run m ρ)

/-- The kernel's result and the reference's are equal, element by element. -/
theorem algebraic : Cert.algebraic_DQkvIdeal_DQkvRefIdeal := fun m ρ m' ρ' _ hag =>
  ⟨fun c => Products.nt (M := 4096) (K := 6144) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (DQkvRefIdeal.Value.run m' ρ')⟩

end Cert.DQkvIdeal.Product

namespace Cert.DRwkvIdeal.Product

open Cert.DRwkvIdeal Cert.DRwkvIdeal.Gen

/-- The grid point that takes part `s` of block `q` of the result. -/
abbrev pt (q : Fin 16) (s : Fin 6) : Fin cfg0.N := ⟨6 * q.val + s.val, lt_of_lt_of_eq (by omega) N_0.symm⟩

/-- The blocks that the points of a block of the result stage: the parts, in order, of the rows of that block. -/
theorem blocks : ∀ q : Fin 16, ∀ s : Fin 6, win0_0.index (pt q s) 0 = win0_2.index (pt q 5) 0 ∧ win0_0.index (pt q s) 1 = s
    ∧ win0_1.index (pt q s) 0 = win0_2.index (pt q 5) 1 ∧ win0_1.index (pt q s) 1 = s := by
  decide +kernel

/-- Every block of the result is written back at the last of its points. -/
theorem onto : ∀ u : Fin 8, ∀ v : Fin 2, ∃ q : Fin 16, win0_2.index (pt q 5) = ![u.val, v.val] := by
  decide +kernel

/-- The first point of a block leaves its part in the scratch. -/
theorem first (c : Dev nD) (i : grid0.Coords) (a3 : Memref sig .tc .vmem _ .bf16) (h3 : a3.IsWhole) (a4 : Memref sig .tc .vmem _ .bf16) (h4 : a4.IsWhole)
    (a5 : Memref sig .tc .vmem _ .bf16) (h5 : a5.IsWhole) (a6 : Memref sig .tc .vmem _ .f32) (h6 : a6.IsWhole)
    (hc0 : cond0_0 i) (hc1 : ¬cond0_1 i) (hc2 : ¬cond0_2 i) (x : Vec Ideal _ .bf16) (y : Vec Ideal _ .bf16) : sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero Products.offs]
  simp only [View.readAt_eq_ld, h3.read_unread, h4.read_unread, View.ld_unit_zero (S := S512x2176) Products.offs, View.ld_unit_zero (S := S2048x2176) Products.offs, View.ld_unit_zero (S := S512x2048) Products.offs]

/-- A middle point adds its part. -/
theorem middle (c : Dev nD) (i : grid0.Coords) (a3 : Memref sig .tc .vmem _ .bf16) (h3 : a3.IsWhole) (a4 : Memref sig .tc .vmem _ .bf16) (h4 : a4.IsWhole)
    (a5 : Memref sig .tc .vmem _ .bf16) (h5 : a5.IsWhole) (a6 : Memref sig .tc .vmem _ .f32) (h6 : a6.IsWhole)
    (hc0 : ¬cond0_0 i) (hc1 : cond0_1 i) (hc2 : ¬cond0_2 i) (x : Vec Ideal _ .bf16) (y : Vec Ideal _ .bf16) (z : Vec Ideal _ .f32) : sout0_B_0 c i a3 h3 a4 h4 a5 h5 a6 h6 hc0 hc1 hc2 x y z = k0_pay3 x y z := by
  unfold sout0_B_0
  rw [View.read_writes_eq_canon _ _ _ (scover0_B_0 c i a3 h3 a4 h4 a5 h5 a6 h6 hc0 hc1 hc2 x y z)]
  unfold kernelRun0_B
  dsimp only
  rw [View.canon_unit_zero Products.offs]
  simp only [View.readAt_eq_ld, h3.read_unread, h4.read_unread, h6.read_unread, View.ld_unit_zero (S := S512x2176) Products.offs, View.ld_unit_zero (S := S2048x2176) Products.offs, View.ld_unit_zero (S := S512x2048) Products.offs]

/-- The last point adds its part and leaves the sum in the block of the result. -/
theorem last (c : Dev nD) (i : grid0.Coords) (a3 : Memref sig .tc .vmem _ .bf16) (h3 : a3.IsWhole) (a4 : Memref sig .tc .vmem _ .bf16) (h4 : a4.IsWhole)
    (a5 : Memref sig .tc .vmem _ .bf16) (h5 : a5.IsWhole) (a6 : Memref sig .tc .vmem _ .f32) (h6 : a6.IsWhole)
    (hc0 : ¬cond0_0 i) (hc1 : cond0_1 i) (hc2 : cond0_2 i) (x : Vec Ideal _ .bf16) (y : Vec Ideal _ .bf16) (z : Vec Ideal _ .f32) : out0_C_2 c i a3 h3 a4 h4 a5 h5 a6 h6 hc0 hc1 hc2 x y z = k0_pay4 (k0_pay3 x y z) := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero Products.offs, View.readCov_unit_zero _ Products.offs]
  simp only [View.readAt_eq_ld, h3.read_unread, h4.read_unread, h6.read_unread, View.ld_unit_zero (S := S512x2176) Products.offs, View.ld_unit_zero (S := S2048x2176) Products.offs, View.ld_unit_zero (S := S512x2048) Products.offs]

/-- What is stored, element by element: a first part, a part added to a sum, and the sum at its last cast. -/
theorem stored (x : Vec Ideal S512x2176 .bf16) (y : Vec Ideal S2048x2176 .bf16) (z : Vec Ideal S512x2048 .f32) (j : S512x2048.Idx) :
    k0_pay2 x y j = k0_pay1 x y j ∧ k0_pay3 x y z j = z j + k0_pay1 x y j ∧ k0_pay4 z j = z j :=
  ⟨by unfold k0_pay2; rw [shapeCast_self], by unfold k0_pay3; rw [shapeCast_self]; rfl, rfl⟩

/-- A part, element by element. -/
theorem part (x : Vec Ideal S512x2176 .bf16) (y : Vec Ideal S2048x2176 .bf16) (j : S512x2048.Idx) :
    k0_pay1 x y j = Products.nt (M := 512) (K := 2176) (N := 2048) x y j :=
  (Products.acc _).trans (Products.sum_nt _ x y j)

variable (m : (ℓ : Loc nD τ sig) → Buf (Elt Ideal) ℓ) (c : Dev nD) (q : Fin 16)

theorem after_first (t : Fin cfg0.N) (h0 : t.val % 6 = 0) (h1 : ¬1 ≤ t.val % 6) (h2 : ¬t.val % 6 = 5) :
    (outsAt0 m c t.val t.isLt).2 = k0_pay2 (iblk m c 0 t) (iblk m c 1 t) := by
  rw [outsAt0_A m c t h0 h1 h2]
  dsimp only
  rw [first]

theorem after_middle (t u : Fin cfg0.N) (hu : u.val = t.val - 1) (h0 : ¬t.val % 6 = 0) (h1 : 1 ≤ t.val % 6) (h2 : ¬t.val % 6 = 5) :
    (outsAt0 m c t.val t.isLt).2 = k0_pay3 (iblk m c 0 t) (iblk m c 1 t) (outsAt0 m c u.val u.isLt).2 := by
  obtain ⟨u, h⟩ := u
  obtain rfl : u = t.val - 1 := hu
  rw [outsAt0_B m c t h0 h1 h2]
  dsimp only
  rw [middle]

theorem after_last (t u : Fin cfg0.N) (hu : u.val = t.val - 1) (h0 : ¬t.val % 6 = 0) (h1 : 1 ≤ t.val % 6) (h2 : t.val % 6 = 5) :
    (outsAt0 m c t.val t.isLt).1 = k0_pay4 (k0_pay3 (iblk m c 0 t) (iblk m c 1 t) (outsAt0 m c u.val u.isLt).2) := by
  obtain ⟨u, h⟩ := u
  obtain rfl : u = t.val - 1 := hu
  rw [outsAt0_C m c t h0 h1 h2]
  dsimp only
  rw [last]

/-- The points of a block of the result leave the sum of the parts there. -/
theorem parts (j : S512x2048.Idx) : (outsAt0 m c (pt q 5).val (pt q 5).isLt).1 j
    = ∑ s : Fin 6, Products.nt (M := 512) (K := 2176) (N := 2048) (iblk m c 0 (pt q s)) (iblk m c 1 (pt q s)) j := by
  rw [Fin.sum_univ_six, after_last m c (pt q 5) (pt q 4) rfl (by show ¬(6 * q.val + 5) % 6 = 0; omega) (by show 1 ≤ (6 * q.val + 5) % 6; omega) (by show (6 * q.val + 5) % 6 = 5; omega),
    after_middle m c (pt q 4) (pt q 3) rfl (by show ¬(6 * q.val + 4) % 6 = 0; omega) (by show 1 ≤ (6 * q.val + 4) % 6; omega) (by show ¬(6 * q.val + 4) % 6 = 5; omega),
    after_middle m c (pt q 3) (pt q 2) rfl (by show ¬(6 * q.val + 3) % 6 = 0; omega) (by show 1 ≤ (6 * q.val + 3) % 6; omega) (by show ¬(6 * q.val + 3) % 6 = 5; omega),
    after_middle m c (pt q 2) (pt q 1) rfl (by show ¬(6 * q.val + 2) % 6 = 0; omega) (by show 1 ≤ (6 * q.val + 2) % 6; omega) (by show ¬(6 * q.val + 2) % 6 = 5; omega),
    after_middle m c (pt q 1) (pt q 0) rfl (by show ¬(6 * q.val + 1) % 6 = 0; omega) (by show 1 ≤ (6 * q.val + 1) % 6; omega) (by show ¬(6 * q.val + 1) % 6 = 5; omega),
    after_first m c (pt q 0) (by show (6 * q.val + 0) % 6 = 0; omega) (by show ¬1 ≤ (6 * q.val + 0) % 6; omega) (by show ¬(6 * q.val + 0) % 6 = 5; omega),
    (stored (iblk m c 0 (pt q 0)) (iblk m c 1 (pt q 0)) _ j).2.2,
    (stored _ _ _ j).2.1, (stored _ _ _ j).2.1, (stored _ _ _ j).2.1, (stored _ _ _ j).2.1, (stored _ _ _ j).2.1, (stored _ _ (fun _ => 0) j).1, part, part, part, part, part, part]

/-- The array that the grid leaves is the product of the arguments. -/
theorem final : (dats m 0 c).arrAt 2 cfg0.N = Products.nt (M := 4096) (K := 13056) (N := 4096) (m ((c : Thread nD τ).loc main_arg0)) (m ((c : Thread nD τ).loc main_arg1)) := by
  refine (dats m 0 c).arrAt_eq_of_cover 2 _ (fun t hf => ?_) (fun x => (Products.cover (m := 512) (n := 2048) (fun q => win0_2.index (pt q 5))
    (fun q x => x ∈ ((cfg0.win 2).blk (pt q 5)).view.set)
    (fun q x => by show x ∈ ((View.whole main_v0).slice (win0_2.rect (pt q 5))).set ↔ _; rw [View.set_slice_whole, Rect.mem_set_unit]; exact Iff.rfl) rfl rfl onto x).elim
    fun q hq => ⟨pt q 5, (flush0_2 _).mpr (by show (6 * q.val + 5) % 6 = 5; omega), hq⟩)
  obtain ⟨q, rfl⟩ : ∃ q : Fin 16, t = pt q 5 :=
    ⟨⟨t.val / 6, by have := lt_of_lt_of_eq t.isLt N_0; omega⟩, Fin.ext (by have := (flush0_2 t).mp hf; show t.val = 6 * (t.val / 6) + 5; omega)⟩
  rw [Value.flushed2]
  funext j
  refine (parts m c q j).trans ?_
  exact Products.nt_parts (M := 4096) (K := 13056) (N := 4096) (m := 512) (n := 2048) (P := 6) (k := 2176) (by norm_num) _ _ _ _ (fun s => (win0_0.blk (pt q s)).view.emb) (fun s => (win0_1.blk (pt q s)).view.emb) (win0_2.blk (pt q 5)).view.emb
    (fun _ _ _ => rfl) (fun _ _ _ => rfl) (fun _ _ => rfl) (blocks q) j

/-- What the reference computes is the same product. -/
theorem ref_eq (A : FVec Ideal DRwkvRefIdeal.S4096x13056 .bf16) (B : FVec Ideal DRwkvRefIdeal.S4096x13056 .bf16) :
    (truncf .bf16 (Host.dotGeneral DRwkvRefIdeal.dot_S4096x13056_S4096x13056_S4096x4096_1_1_0_0_n_n none (extf .f32 A DRwkvRefIdeal.Gen.bitsLt_bf16_f32) (extf .f32 B DRwkvRefIdeal.Gen.bitsLt_bf16_f32)) DRwkvRefIdeal.Gen.bitsLt_bf16_f32 : FVec Ideal DRwkvRefIdeal.S4096x4096 .bf16) = (Products.nt (M := 4096) (K := 13056) (N := 4096) A B : FVec Ideal DRwkvRefIdeal.S4096x4096 .bf16) :=
  funext fun j => (Products.host _ none _ _ j).trans (Products.sum_nt _ A B j)

/-- The reference runs and keeps its arguments. -/
theorem ref_frame : Cert.quiescent_DRwkvRefIdeal := fun m ρ _ =>
  (θ_run _ _ _).mono (fun r h => ⟨fun c => (h c).2, sem_eq_zero_of_no_sems (by decide) r.2⟩) (DRwkvRefIdeal.Value.run m ρ)

/-- The kernel's result and the reference's are equal, element by element. -/
theorem algebraic : Cert.algebraic_DRwkvIdeal_DRwkvRefIdeal := fun m ρ m' ρ' _ hag =>
  ⟨fun c => Products.nt (M := 4096) (K := 13056) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (DRwkvRefIdeal.Value.run m' ρ')⟩

end Cert.DRwkvIdeal.Product

namespace Cert.DGateIdeal.Product

open Cert.DGateIdeal Cert.DGateIdeal.Gen

/-- The grid point that takes part `s` of block `q` of the result. -/
abbrev pt (q : Fin 16) (s : Fin 2) : Fin cfg0.N := ⟨2 * q.val + s.val, lt_of_lt_of_eq (by omega) N_0.symm⟩

/-- The blocks that the points of a block of the result stage: the parts, in order, of the rows of that block. -/
theorem blocks : ∀ q : Fin 16, ∀ s : Fin 2, win0_0.index (pt q s) 0 = win0_2.index (pt q 1) 0 ∧ win0_0.index (pt q s) 1 = s
    ∧ win0_1.index (pt q s) 0 = win0_2.index (pt q 1) 1 ∧ win0_1.index (pt q s) 1 = s := by
  decide +kernel

/-- Every block of the result is written back at the last of its points. -/
theorem onto : ∀ u : Fin 4, ∀ v : Fin 4, ∃ q : Fin 16, win0_2.index (pt q 1) = ![u.val, v.val] := by
  decide +kernel

/-- The first point of a block leaves its part in the scratch. -/
theorem first (c : Dev nD) (i : grid0.Coords) (a3 : Memref sig .tc .vmem _ .bf16) (h3 : a3.IsWhole) (a4 : Memref sig .tc .vmem _ .bf16) (h4 : a4.IsWhole)
    (a5 : Memref sig .tc .vmem _ .bf16) (h5 : a5.IsWhole) (a6 : Memref sig .tc .vmem _ .f32) (h6 : a6.IsWhole)
    (hc0 : cond0_0 i) (hc1 : ¬cond0_1 i) (hc2 : ¬cond0_2 i) (x : Vec Ideal _ .bf16) (y : Vec Ideal _ .bf16) : sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero Products.offs]
  simp only [View.readAt_eq_ld, h3.read_unread, h4.read_unread, View.ld_unit_zero (S := S1024x4096) Products.offs, View.ld_unit_zero (S := S1024x1024) Products.offs]

/-- The last point adds its part and leaves the sum in the block of the result. -/
theorem last (c : Dev nD) (i : grid0.Coords) (a3 : Memref sig .tc .vmem _ .bf16) (h3 : a3.IsWhole) (a4 : Memref sig .tc .vmem _ .bf16) (h4 : a4.IsWhole)
    (a5 : Memref sig .tc .vmem _ .bf16) (h5 : a5.IsWhole) (a6 : Memref sig .tc .vmem _ .f32) (h6 : a6.IsWhole)
    (hc0 : ¬cond0_0 i) (hc1 : cond0_1 i) (hc2 : cond0_2 i) (x : Vec Ideal _ .bf16) (y : Vec Ideal _ .bf16) (z : Vec Ideal _ .f32) : out0_B_2 c i a3 h3 a4 h4 a5 h5 a6 h6 hc0 hc1 hc2 x y z = k0_pay4 (k0_pay3 x y z) := by
  unfold out0_B_2
  rw [View.read_writes_eq_canon _ _ _ (cover0_B_2 c i a3 h3 a4 h4 a5 h5 a6 h6 hc0 hc1 hc2 x y z)]
  unfold kernelRun0_B
  dsimp only
  sl_unfold_words
  rw [View.canon_unit_zero Products.offs, View.readCov_unit_zero _ Products.offs]
  simp only [View.readAt_eq_ld, h3.read_unread, h4.read_unread, h6.read_unread, View.ld_unit_zero (S := S1024x4096) Products.offs, View.ld_unit_zero (S := S1024x1024) Products.offs]

/-- What is stored, element by element: a first part, a part added to a sum, and the sum at its last cast. -/
theorem stored (x : Vec Ideal S1024x4096 .bf16) (y : Vec Ideal S1024x4096 .bf16) (z : Vec Ideal S1024x1024 .f32) (j : S1024x1024.Idx) :
    k0_pay2 x y j = k0_pay1 x y j ∧ k0_pay3 x y z j = z j + k0_pay1 x y j ∧ k0_pay4 z j = z j :=
  ⟨by unfold k0_pay2; rw [shapeCast_self], by unfold k0_pay3; rw [shapeCast_self]; rfl, rfl⟩

/-- A part, element by element. -/
theorem part (x : Vec Ideal S1024x4096 .bf16) (y : Vec Ideal S1024x4096 .bf16) (j : S1024x1024.Idx) :
    k0_pay1 x y j = Products.nt (M := 1024) (K := 4096) (N := 1024) x y j :=
  (Products.acc _).trans (Products.sum_nt _ x y j)

variable (m : (ℓ : Loc nD τ sig) → Buf (Elt Ideal) ℓ) (c : Dev nD) (q : Fin 16)

theorem after_first (t : Fin cfg0.N) (h0 : t.val % 2 = 0) (h1 : ¬t.val % 2 = 1) (h2 : ¬t.val % 2 = 1) :
    (outsAt0 m c t.val t.isLt).2 = k0_pay2 (iblk m c 0 t) (iblk m c 1 t) := by
  rw [outsAt0_A m c t h0 h1 h2]
  dsimp only
  rw [first]

theorem after_last (t u : Fin cfg0.N) (hu : u.val = t.val - 1) (h0 : ¬t.val % 2 = 0) (h1 : t.val % 2 = 1) (h2 : t.val % 2 = 1) :
    (outsAt0 m c t.val t.isLt).1 = k0_pay4 (k0_pay3 (iblk m c 0 t) (iblk m c 1 t) (outsAt0 m c u.val u.isLt).2) := by
  obtain ⟨u, h⟩ := u
  obtain rfl : u = t.val - 1 := hu
  rw [outsAt0_B m c t h0 h1 h2]
  dsimp only
  rw [last]

/-- The points of a block of the result leave the sum of the parts there. -/
theorem parts (j : S1024x1024.Idx) : (outsAt0 m c (pt q 1).val (pt q 1).isLt).1 j
    = ∑ s : Fin 2, Products.nt (M := 1024) (K := 4096) (N := 1024) (iblk m c 0 (pt q s)) (iblk m c 1 (pt q s)) j := by
  rw [Fin.sum_univ_two, after_last m c (pt q 1) (pt q 0) rfl (by show ¬(2 * q.val + 1) % 2 = 0; omega) (by show (2 * q.val + 1) % 2 = 1; omega) (by show (2 * q.val + 1) % 2 = 1; omega),
    after_first m c (pt q 0) (by show (2 * q.val + 0) % 2 = 0; omega) (by show ¬(2 * q.val + 0) % 2 = 1; omega) (by show ¬(2 * q.val + 0) % 2 = 1; omega),
    (stored (iblk m c 0 (pt q 0)) (iblk m c 1 (pt q 0)) _ j).2.2,
    (stored _ _ _ j).2.1, (stored _ _ (fun _ => 0) j).1, part, part]

/-- The array that the grid leaves is the product of the arguments. -/
theorem final : (dats m 0 c).arrAt 2 cfg0.N = Products.nt (M := 4096) (K := 8192) (N := 4096) (m ((c : Thread nD τ).loc main_arg0)) (m ((c : Thread nD τ).loc main_arg1)) := by
  refine (dats m 0 c).arrAt_eq_of_cover 2 _ (fun t hf => ?_) (fun x => (Products.cover (m := 1024) (n := 1024) (fun q => win0_2.index (pt q 1))
    (fun q x => x ∈ ((cfg0.win 2).blk (pt q 1)).view.set)
    (fun q x => by show x ∈ ((View.whole main_v0).slice (win0_2.rect (pt q 1))).set ↔ _; rw [View.set_slice_whole, Rect.mem_set_unit]; exact Iff.rfl) rfl rfl onto x).elim
    fun q hq => ⟨pt q 1, (flush0_2 _).mpr (by show (2 * q.val + 1) % 2 = 1; omega), hq⟩)
  obtain ⟨q, rfl⟩ : ∃ q : Fin 16, t = pt q 1 :=
    ⟨⟨t.val / 2, by have := lt_of_lt_of_eq t.isLt N_0; omega⟩, Fin.ext (by have := (flush0_2 t).mp hf; show t.val = 2 * (t.val / 2) + 1; omega)⟩
  rw [Value.flushed2]
  funext j
  refine (parts m c q j).trans ?_
  exact Products.nt_parts (M := 4096) (K := 8192) (N := 4096) (m := 1024) (n := 1024) (P := 2) (k := 4096) (by norm_num) _ _ _ _ (fun s => (win0_0.blk (pt q s)).view.emb) (fun s => (win0_1.blk (pt q s)).view.emb) (win0_2.blk (pt q 1)).view.emb
    (fun _ _ _ => rfl) (fun _ _ _ => rfl) (fun _ _ => rfl) (blocks q) j

/-- What the reference computes is the same product. -/
theorem ref_eq (A : FVec Ideal DGateRefIdeal.S4096x8192 .bf16) (B : FVec Ideal DGateRefIdeal.S4096x8192 .bf16) :
    (truncf .bf16 (Host.dotGeneral DGateRefIdeal.dot_S4096x8192_S4096x8192_S4096x4096_1_1_0_0_n_n none (extf .f32 A DGateRefIdeal.Gen.bitsLt_bf16_f32) (extf .f32 B DGateRefIdeal.Gen.bitsLt_bf16_f32)) DGateRefIdeal.Gen.bitsLt_bf16_f32 : FVec Ideal DGateRefIdeal.S4096x4096 .bf16) = (Products.nt (M := 4096) (K := 8192) (N := 4096) A B : FVec Ideal DGateRefIdeal.S4096x4096 .bf16) :=
  funext fun j => (Products.host _ none _ _ j).trans (Products.sum_nt _ A B j)

/-- The reference runs and keeps its arguments. -/
theorem ref_frame : Cert.quiescent_DGateRefIdeal := fun m ρ _ =>
  (θ_run _ _ _).mono (fun r h => ⟨fun c => (h c).2, sem_eq_zero_of_no_sems (by decide) r.2⟩) (DGateRefIdeal.Value.run m ρ)

/-- The kernel's result and the reference's are equal, element by element. -/
theorem algebraic : Cert.algebraic_DGateIdeal_DGateRefIdeal := fun m ρ m' ρ' _ hag =>
  ⟨fun c => Products.nt (M := 4096) (K := 8192) (N := 4096) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((ref_eq _ _).trans (by rw [(hag c).1, (hag c).2])), (h c).2⟩)
      (DGateRefIdeal.Value.run m' ρ')⟩

end Cert.DGateIdeal.Product

end
-- ==== Proof.Merging.lean ====
module

public import proofs.«01_k».proof.Proof.Products
public import proofs.«01_k».proof.Defs
public import proofs.«01_k».proof.Proof.Gen.MergeIdeal.Value
public import proofs.«01_k».proof.Proof.Gen.MergeRefIdeal.Run
public import Idealize.ShloMosaic.Lib.Tactic

@[expose] public section

set_option maxRecDepth 16384

noncomputable section

/-! The gradient of the gated merge `σ(ga) · ab + σ(gr) · rb` of two branches. The gates `ga` and `gr` are the halves of one array, and so
are their gradients. -/

open Idealize.ShloMosaic Idealize.ShloMosaic.TcCoe Idealize.ShloMosaic.ValueIdx Idealize.SL.Sem

namespace Cert.MergeIdeal.Gate

open Cert.MergeIdeal Cert.MergeIdeal.Gen

/-- The gradient in a gate `x`, from the branch `b` it weighs and the gradient `d` of the merged array. -/
def inGate (x b d : EReal) : EReal := d * b * (Ideal.logistic x * (Ideal.ofBits .f32 0x3F800000#32 - Ideal.logistic x))
/-- The gradient in a branch, from its gate `x`. -/
def inBranch (x d : EReal) : EReal := Ideal.logistic x * d

/-- An element of the gates' array, in the branch that it weighs. -/
def fold (i : S4096x8192.Idx) : S4096x4096.Idx := ix2 (i 0) (⟨(i 1 : ℕ) % 4096, Nat.mod_lt _ (by norm_num)⟩ : Fin 4096)
/-- The gates of the first branch. -/
def left (i : S4096x4096.Idx) : S4096x8192.Idx := ix2 (i 0) (⟨(i 1 : ℕ), lt_trans (i 1).isLt (by norm_num)⟩ : Fin 8192)
/-- The gates of the second branch. -/
def right (i : S4096x4096.Idx) : S4096x8192.Idx := ix2 (i 0) (⟨4096 + (i 1 : ℕ), (by have h : (i 1 : ℕ) < 4096 := (i 1).isLt; omega)⟩ : Fin 8192)

/-- The gradient in the gates' array. -/
def gates (g : S4096x8192.Idx → EReal) (a b d : S4096x4096.Idx → EReal) : S4096x8192.Idx → EReal :=
  fun i => inGate (g i) (if (i 1 : ℕ) < 4096 then a (fold i) else b (fold i)) (d (fold i))
theorem gates_left (g : S4096x8192.Idx → EReal) (a b d : S4096x4096.Idx → EReal) (i) (h : (i 1 : ℕ) < 4096) :
    gates g a b d i = inGate (g i) (a (fold i)) (d (fold i)) := by unfold gates; rw [if_pos h]

theorem gates_right (g : S4096x8192.Idx → EReal) (a b d : S4096x4096.Idx → EReal) (i) (h : ¬(i 1 : ℕ) < 4096) :
    gates g a b d i = inGate (g i) (b (fold i)) (d (fold i)) := by unfold gates; rw [if_neg h]

/-- The gradient in the first branch. -/
def first (g : S4096x8192.Idx → EReal) (d : S4096x4096.Idx → EReal) : S4096x4096.Idx → EReal := fun i => inBranch (g (left i)) (d i)
/-- The gradient in the second branch. -/
def second (g : S4096x8192.Idx → EReal) (d : S4096x4096.Idx → EReal) : S4096x4096.Idx → EReal := fun i => inBranch (g (right i)) (d i)

/-- Grid point `t` works on the `t`-th band of rows of every array. -/
theorem bands : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem onto5 : ∀ u : Fin 64, ∀ v : Fin 1, ∃ t : Fin cfg0.N, win0_5.index t = ![u.val, v.val] := by decide +kernel
theorem onto6 : ∀ u : Fin 64, ∀ v : Fin 1, ∃ t : Fin cfg0.N, win0_6.index t = ![u.val, v.val] := by decide +kernel
theorem onto7 : ∀ u : Fin 64, ∀ v : Fin 1, ∃ t : Fin cfg0.N, win0_7.index t = ![u.val, v.val] := by decide +kernel

/-- The place of an element of a band, from the band's number. -/
theorem place {o : Fin 2 → ℕ} {m n : ℕ} {p q : ℕ} (h : o = ![p, q]) (j : (Products.Mat m n).Idx) (a : Fin 2) :
    o a * (Products.Mat m n).size a + 1 * (j a : ℕ) = ![p * m, q * n] a + (j a : ℕ) := by
  subst h
  match a with
  | ⟨0, _⟩ => show p * m + 1 * _ = p * m + _; rw [Nat.one_mul]
  | ⟨1, _⟩ => show q * n + 1 * _ = q * n + _; rw [Nat.one_mul]

variable (m : (ℓ : Loc nD τ sig) → Buf (Elt Ideal) ℓ) (c : Dev nD)

/-- The grid leaves the gradient in the first branch. -/
theorem final6 : (dats m 0 c).arrAt 6 cfg0.N = first (m ((c : Thread nD τ).loc main_arg0)) (m ((c : Thread nD τ).loc main_arg3)) := by
  refine (dats m 0 c).arrAt_eq_of_cover 6 _ (fun t _ => ?_) (fun x => (Products.cover (m := 64) (n := 4096) win0_6.index
    (fun t x => x ∈ ((cfg0.win 6).blk t).view.set)
    (fun t x => by show x ∈ ((View.whole main_v0_1).slice (win0_6.rect t)).set ↔ _; rw [View.set_slice_whole, Rect.mem_set_unit]; exact Iff.rfl) rfl rfl onto6 x).imp fun t ht => ⟨flush0_6 t, ht⟩)
  rw [Value.flushed6]
  unfold out0_6
  rw [View.canon_unit_zero Products.offs]
  simp only [View.ld_unit_zero (S := S64x4096) Products.offs]
  obtain ⟨h0, -, -, -, h4, -, h6, -⟩ := bands t
  funext j
  show inBranch (m ((c : Thread nD τ).loc main_arg0) ((win0_0.blk t).view.emb j)) (m ((c : Thread nD τ).loc main_arg3) ((win0_4.blk t).view.emb j))
    = inBranch (m ((c : Thread nD τ).loc main_arg0) (left ((win0_6.blk t).view.emb j))) (m ((c : Thread nD τ).loc main_arg3) ((win0_6.blk t).view.emb j))
  have e (a) : ((win0_6.blk t).view.emb j a : ℕ) = _ := place (m := 64) (n := 4096) h6 j a
  have e0 (a) : ((win0_0.blk t).view.emb j a : ℕ) = _ := place (m := 64) (n := 4096) h0 j a
  have e4 (a) : ((win0_4.blk t).view.emb j a : ℕ) = _ := place (m := 64) (n := 4096) h4 j a
  refine congrArg₂ inBranch (congrArg _ (Shape.idx_ext₂ ?_ ?_)) (congrArg _ (Shape.idx_ext₂ ?_ ?_))
  · exact (e0 0).trans (e 0).symm
  · exact (e0 1).trans (e 1).symm
  · exact (e4 0).trans (e 0).symm
  · exact (e4 1).trans (e 1).symm

/-- The grid leaves the gradient in the second branch. -/
theorem final7 : (dats m 0 c).arrAt 7 cfg0.N = second (m ((c : Thread nD τ).loc main_arg0)) (m ((c : Thread nD τ).loc main_arg3)) := by
  refine (dats m 0 c).arrAt_eq_of_cover 7 _ (fun t _ => ?_) (fun x => (Products.cover (m := 64) (n := 4096) win0_7.index
    (fun t x => x ∈ ((cfg0.win 7).blk t).view.set)
    (fun t x => by show x ∈ ((View.whole main_v0_2).slice (win0_7.rect t)).set ↔ _; rw [View.set_slice_whole, Rect.mem_set_unit]; exact Iff.rfl) rfl rfl onto7 x).imp fun t ht => ⟨flush0_7 t, ht⟩)
  rw [Value.flushed7]
  unfold out0_7
  rw [View.canon_unit_zero Products.offs]
  simp only [View.ld_unit_zero (S := S64x4096) Products.offs]
  obtain ⟨-, h1, -, -, h4, -, -, h7⟩ := bands t
  funext j
  show inBranch (m ((c : Thread nD τ).loc main_arg0) ((win0_1.blk t).view.emb j)) (m ((c : Thread nD τ).loc main_arg3) ((win0_4.blk t).view.emb j))
    = inBranch (m ((c : Thread nD τ).loc main_arg0) (right ((win0_7.blk t).view.emb j))) (m ((c : Thread nD τ).loc main_arg3) ((win0_7.blk t).view.emb j))
  have e (a) : ((win0_7.blk t).view.emb j a : ℕ) = _ := place (m := 64) (n := 4096) h7 j a
  have e1 (a) : ((win0_1.blk t).view.emb j a : ℕ) = _ := place (m := 64) (n := 4096) h1 j a
  have e4 (a) : ((win0_4.blk t).view.emb j a : ℕ) = _ := place (m := 64) (n := 4096) h4 j a
  refine congrArg₂ inBranch (congrArg _ (Shape.idx_ext₂ ?_ ?_)) (congrArg _ (Shape.idx_ext₂ ?_ ?_))
  · exact (e1 0).trans (e 0).symm
  · refine (e1 1).trans ?_
    show 1 * 4096 + (j 1 : ℕ) = 4096 + ((win0_7.blk t).view.emb j 1 : ℕ)
    have h := e 1
    have h' : (![t.val * 64, 0 * 4096] : Fin 2 → ℕ) 1 = 0 := rfl
    omega
  · exact (e4 0).trans (e 0).symm
  · exact (e4 1).trans (e 1).symm

/-- The grid leaves the gradient in the gates. -/
theorem final5 : (dats m 0 c).arrAt 5 cfg0.N = gates (m ((c : Thread nD τ).loc main_arg0)) (m ((c : Thread nD τ).loc main_arg1))
    (m ((c : Thread nD τ).loc main_arg2)) (m ((c : Thread nD τ).loc main_arg3)) := by
  refine (dats m 0 c).arrAt_eq_of_cover 5 _ (fun t _ => ?_) (fun x => (Products.cover (m := 64) (n := 8192) win0_5.index
    (fun t x => x ∈ ((cfg0.win 5).blk t).view.set)
    (fun t x => by show x ∈ ((View.whole main_v0_0).slice (win0_5.rect t)).set ↔ _; rw [View.set_slice_whole, Rect.mem_set_unit]; exact Iff.rfl) rfl rfl onto5 x).imp fun t ht => ⟨flush0_5 t, ht⟩)
  rw [Value.flushed5]
  unfold out0_5
  simp only [View.ld_unit_zero (S := S64x4096) Products.offs]
  obtain ⟨h0, h1, h2, h3, h4, h5, -, -⟩ := bands t
  have p5 (y : S64x8192.Idx) (a) : ((win0_5.blk t).view.emb y a : ℕ) = _ := place (m := 64) (n := 8192) h5 y a
  have p0 (x : S64x4096.Idx) (a) : ((win0_0.blk t).view.emb x a : ℕ) = _ := place (m := 64) (n := 4096) h0 x a
  have p1 (x : S64x4096.Idx) (a) : ((win0_1.blk t).view.emb x a : ℕ) = _ := place (m := 64) (n := 4096) h1 x a
  have p2 (x : S64x4096.Idx) (a) : ((win0_2.blk t).view.emb x a : ℕ) = _ := place (m := 64) (n := 4096) h2 x a
  have p3 (x : S64x4096.Idx) (a) : ((win0_3.blk t).view.emb x a : ℕ) = _ := place (m := 64) (n := 4096) h3 x a
  have p4 (x : S64x4096.Idx) (a) : ((win0_4.blk t).view.emb x a : ℕ) = _ := place (m := 64) (n := 4096) h4 x a
  funext y
  refine View.canon_apply_of_pieces (Val := Elt Ideal) (e := .bf16) (S := S64x8192) (fun y => gates (m ((c : Thread nD τ).loc main_arg0)) (m ((c : Thread nD τ).loc main_arg1))
    (m ((c : Thread nD τ).loc main_arg2)) (m ((c : Thread nD τ).loc main_arg3)) ((win0_5.blk t).view.emb y)) _ ?_ y ?_
  · intro p hp x
    rcases List.mem_cons.mp hp with rfl | hp
    · have q := fun a => p5 (r0_2.emb x) a
      have q0 : ((win0_5.blk t).view.emb (r0_2.emb x) 0 : ℕ) = t.val * 64 + (x 0 : ℕ) := (q 0).trans (by show t.val * 64 + (0 + 1 * (x 0 : ℕ)) = t.val * 64 + (x 0 : ℕ); omega)
      have q1 : ((win0_5.blk t).view.emb (r0_2.emb x) 1 : ℕ) = 4096 + (x 1 : ℕ) := (q 1).trans (by show 0 * 8192 + (4096 + 1 * (x 1 : ℕ)) = 4096 + (x 1 : ℕ); omega)
      have hx : (x 1 : ℕ) < 4096 := (x 1).isLt
      refine Eq.trans ?_ (gates_right _ _ _ _ _ (by rw [q1]; omega)).symm
      show inGate (m ((c : Thread nD τ).loc main_arg0) ((win0_1.blk t).view.emb x)) (m ((c : Thread nD τ).loc main_arg2) ((win0_3.blk t).view.emb x))
        (m ((c : Thread nD τ).loc main_arg3) ((win0_4.blk t).view.emb x)) = inGate (m ((c : Thread nD τ).loc main_arg0) ((win0_5.blk t).view.emb (r0_2.emb x)))
        (m ((c : Thread nD τ).loc main_arg2) (fold ((win0_5.blk t).view.emb (r0_2.emb x)))) (m ((c : Thread nD τ).loc main_arg3) (fold ((win0_5.blk t).view.emb (r0_2.emb x))))
      have f0 : (fold ((win0_5.blk t).view.emb (r0_2.emb x)) 0 : ℕ) = t.val * 64 + (x 0 : ℕ) := q0
      have f1 : (fold ((win0_5.blk t).view.emb (r0_2.emb x)) 1 : ℕ) = (x 1 : ℕ) := by
        show ((win0_5.blk t).view.emb (r0_2.emb x) 1 : ℕ) % 4096 = (x 1 : ℕ); rw [q1]; omega
      have e : (win0_1.blk t).view.emb x = (win0_5.blk t).view.emb (r0_2.emb x) := Shape.idx_ext₂ ((p1 x 0).trans q0.symm) ((p1 x 1).trans q1.symm)
      have e3 : (win0_3.blk t).view.emb x = fold ((win0_5.blk t).view.emb (r0_2.emb x)) := Shape.idx_ext₂ ((p3 x 0).trans f0.symm)
        ((p3 x 1).trans ((by show 0 * 4096 + (x 1 : ℕ) = (x 1 : ℕ); omega : _ = (x 1 : ℕ)).trans f1.symm))
      have e4 : (win0_4.blk t).view.emb x = fold ((win0_5.blk t).view.emb (r0_2.emb x)) := Shape.idx_ext₂ ((p4 x 0).trans f0.symm)
        ((p4 x 1).trans ((by show 0 * 4096 + (x 1 : ℕ) = (x 1 : ℕ); omega : _ = (x 1 : ℕ)).trans f1.symm))
      rw [e, e3, e4]
    · obtain rfl := List.mem_singleton.mp hp
      have q := fun a => p5 (r0_1.emb x) a
      have q0 : ((win0_5.blk t).view.emb (r0_1.emb x) 0 : ℕ) = t.val * 64 + (x 0 : ℕ) := (q 0).trans (by show t.val * 64 + (0 + 1 * (x 0 : ℕ)) = t.val * 64 + (x 0 : ℕ); omega)
      have q1 : ((win0_5.blk t).view.emb (r0_1.emb x) 1 : ℕ) = (x 1 : ℕ) := (q 1).trans (by show 0 * 8192 + (0 + 1 * (x 1 : ℕ)) = (x 1 : ℕ); omega)
      have hx : (x 1 : ℕ) < 4096 := (x 1).isLt
      refine Eq.trans ?_ (gates_left _ _ _ _ _ (by rw [q1]; omega)).symm
      show inGate (m ((c : Thread nD τ).loc main_arg0) ((win0_0.blk t).view.emb x)) (m ((c : Thread nD τ).loc main_arg1) ((win0_2.blk t).view.emb x))
        (m ((c : Thread nD τ).loc main_arg3) ((win0_4.blk t).view.emb x)) = inGate (m ((c : Thread nD τ).loc main_arg0) ((win0_5.blk t).view.emb (r0_1.emb x)))
        (m ((c : Thread nD τ).loc main_arg1) (fold ((win0_5.blk t).view.emb (r0_1.emb x)))) (m ((c : Thread nD τ).loc main_arg3) (fold ((win0_5.blk t).view.emb (r0_1.emb x))))
      have f0 : (fold ((win0_5.blk t).view.emb (r0_1.emb x)) 0 : ℕ) = t.val * 64 + (x 0 : ℕ) := q0
      have f1 : (fold ((win0_5.blk t).view.emb (r0_1.emb x)) 1 : ℕ) = (x 1 : ℕ) := by
        show ((win0_5.blk t).view.emb (r0_1.emb x) 1 : ℕ) % 4096 = (x 1 : ℕ); rw [q1]; omega
      have e : (win0_0.blk t).view.emb x = (win0_5.blk t).view.emb (r0_1.emb x) := Shape.idx_ext₂ ((p0 x 0).trans q0.symm)
        ((p0 x 1).trans ((by show 0 * 4096 + (x 1 : ℕ) = (x 1 : ℕ); omega : _ = (x 1 : ℕ)).trans q1.symm))
      have e2 : (win0_2.blk t).view.emb x = fold ((win0_5.blk t).view.emb (r0_1.emb x)) := Shape.idx_ext₂ ((p2 x 0).trans f0.symm)
        ((p2 x 1).trans ((by show 0 * 4096 + (x 1 : ℕ) = (x 1 : ℕ); omega : _ = (x 1 : ℕ)).trans f1.symm))
      have e4 : (win0_4.blk t).view.emb x = fold ((win0_5.blk t).view.emb (r0_1.emb x)) := Shape.idx_ext₂ ((p4 x 0).trans f0.symm)
        ((p4 x 1).trans ((by show 0 * 4096 + (x 1 : ℕ) = (x 1 : ℕ); omega : _ = (x 1 : ℕ)).trans f1.symm))
      rw [e, e2, e4]
  · have hy0 : (y 0 : ℕ) < 64 := (y 0).isLt
    have hy1 : (y 1 : ℕ) < 8192 := (y 1).isLt
    by_cases h : (y 1 : ℕ) < 4096
    · refine ⟨_, List.mem_cons_of_mem _ List.mem_cons_self, (Rect.mem_set_unit (inb := inb_S64x8192_S64x4096_0_0)).2 fun a => ?_⟩
      match a with
      | ⟨0, _⟩ => exact ⟨Nat.zero_le _, by show (y 0 : ℕ) < 0 + 64; omega⟩
      | ⟨1, _⟩ => exact ⟨Nat.zero_le _, by show (y 1 : ℕ) < 0 + 4096; omega⟩
    · refine ⟨_, List.mem_cons_self, (Rect.mem_set_unit (inb := inb_S64x8192_S64x4096_0_4096)).2 fun a => ?_⟩
      match a with
      | ⟨0, _⟩ => exact ⟨Nat.zero_le _, by show (y 0 : ℕ) < 0 + 64; omega⟩
      | ⟨1, _⟩ => exact ⟨by show 4096 ≤ (y 1 : ℕ); omega, by show (y 1 : ℕ) < 4096 + 4096; omega⟩

/-- The word of one is one. -/
theorem one : Ideal.ofBits .f32 0x3F800000#32 = 1 := by simp [Ideal.ofBits, Ideal.ieee, -EReal.coe_mul]; norm_num

/-- The sigmoid as the reference writes it out. -/
theorem sigmoid (x : EReal) : Ideal.div (Ideal.ofBits .f32 0x3F800000#32) (Ideal.ofBits .f32 0x3F800000#32 + Ideal.exp (-x)) = Ideal.logistic x := by
  rw [one]; rfl

end Cert.MergeIdeal.Gate

namespace Cert.MergeRefIdeal.Gate

open Cert.MergeRefIdeal Cert.MergeRefIdeal.Gen
open Cert.MergeIdeal.Gate (gates first second sigmoid inGate inBranch fold left right)

/-- What the reference computes for the gates. -/
theorem gates_eq (g : FVec Ideal S4096x8192 .bf16) (a b d : FVec Ideal S4096x4096 .bf16) : (truncf .bf16 (concatenate S4096x8192 1 [⟨S4096x4096, (mulf (mulf (extf .f32 d bitsLt_bf16_f32) (extf .f32 a bitsLt_bf16_f32)) (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 0] (extf .f32 g bitsLt_bf16_f32) slices_S4096x8192_S4096x4096_0_0))))) (subf (broadcastInDim S4096x4096 ![] bcast_S_S4096x4096 (constant S_ .f32 0x3F800000#32)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 0] (extf .f32 g bitsLt_bf16_f32) slices_S4096x8192_S4096x4096_0_0))))))))⟩, ⟨S4096x4096, (mulf (mulf (extf .f32 d bitsLt_bf16_f32) (extf .f32 b bitsLt_bf16_f32)) (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 4096] (extf .f32 g bitsLt_bf16_f32) slices_S4096x8192_S4096x4096_0_4096))))) (subf (broadcastInDim S4096x4096 ![] bcast_S_S4096x4096 (constant S_ .f32 0x3F800000#32)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 4096] (extf .f32 g bitsLt_bf16_f32) slices_S4096x8192_S4096x4096_0_4096))))))))⟩] concatenates_S4096x4096_S4096x4096_S4096x8192_d1) bitsLt_bf16_f32 : FVec Ideal S4096x8192 .bf16) = gates g a b d := by
  funext i
  have hi : (i 1 : ℕ) < 8192 := (i 1).isLt
  by_cases h : (i 1 : ℕ) < 4096
  · refine Eq.trans (concatenate_pair_apply_left (α := EReal) (t := S4096x8192) (s₁ := S4096x4096) (s₂ := S4096x4096) 1 _ _ concatenates_S4096x4096_S4096x4096_S4096x8192_d1 i rfl (fold i) fun b => ?_) ?_
    · match b with
      | ⟨0, _⟩ => rfl
      | ⟨1, _⟩ => exact Nat.mod_eq_of_lt h
    · show d (fold i) * a (fold i) * (Ideal.div (Ideal.ofBits .f32 0x3F800000#32) (Ideal.ofBits .f32 0x3F800000#32 + Ideal.exp (-(g _)))
        * (Ideal.ofBits .f32 0x3F800000#32 - Ideal.div (Ideal.ofBits .f32 0x3F800000#32) (Ideal.ofBits .f32 0x3F800000#32 + Ideal.exp (-(g _))))) = inGate (g i) (if _ then _ else _) (d (fold i))
      rw [if_pos h, sigmoid]
      refine congrArg (fun x => inGate (g x) _ _) (Shape.idx_ext₂ ?_ ?_)
      · show 0 + (i 0 : ℕ) = i 0; omega
      · show 0 + (i 1 : ℕ) % 4096 = i 1; omega
  · refine Eq.trans (concatenate_pair_apply_right (α := EReal) (t := S4096x8192) (s₁ := S4096x4096) (s₂ := S4096x4096) 1 _ _ concatenates_S4096x4096_S4096x4096_S4096x8192_d1 i rfl rfl (fold i) (fun b hb => ?_) ?_) ?_
    · match b, hb with
      | ⟨0, _⟩, _ => rfl
      | ⟨1, _⟩, hb => exact absurd rfl hb
    · show (i 1 : ℕ) % 4096 + 4096 = i 1; omega
    · show d (fold i) * b (fold i) * (Ideal.div (Ideal.ofBits .f32 0x3F800000#32) (Ideal.ofBits .f32 0x3F800000#32 + Ideal.exp (-(g _)))
        * (Ideal.ofBits .f32 0x3F800000#32 - Ideal.div (Ideal.ofBits .f32 0x3F800000#32) (Ideal.ofBits .f32 0x3F800000#32 + Ideal.exp (-(g _))))) = inGate (g i) (if _ then _ else _) (d (fold i))
      rw [if_neg h, sigmoid]
      refine congrArg (fun x => inGate (g x) _ _) (Shape.idx_ext₂ ?_ ?_)
      · show 0 + (i 0 : ℕ) = i 0; omega
      · show 4096 + (i 1 : ℕ) % 4096 = i 1; omega

/-- What the reference computes for the first branch. -/
theorem first_eq (g : FVec Ideal S4096x8192 .bf16) (d : FVec Ideal S4096x4096 .bf16) : (truncf .bf16 (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 0] (extf .f32 g bitsLt_bf16_f32) slices_S4096x8192_S4096x4096_0_0))))) (extf .f32 d bitsLt_bf16_f32)) bitsLt_bf16_f32 : FVec Ideal S4096x4096 .bf16) = first g d := by
  funext i
  show Ideal.div (Ideal.ofBits .f32 0x3F800000#32) (Ideal.ofBits .f32 0x3F800000#32 + Ideal.exp (-(g _))) * d i = inBranch (g (left i)) (d i)
  rw [sigmoid]
  refine congrArg (fun x => inBranch (g x) _) (Shape.idx_ext₂ ?_ ?_)
  · show 0 + (i 0 : ℕ) = i 0; omega
  · show 0 + (i 1 : ℕ) = i 1; omega

/-- What the reference computes for the second branch. -/
theorem second_eq (g : FVec Ideal S4096x8192 .bf16) (d : FVec Ideal S4096x4096 .bf16) : (truncf .bf16 (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 4096] (extf .f32 g bitsLt_bf16_f32) slices_S4096x8192_S4096x4096_0_4096))))) (extf .f32 d bitsLt_bf16_f32)) bitsLt_bf16_f32 : FVec Ideal S4096x4096 .bf16) = second g d := by
  funext i
  show Ideal.div (Ideal.ofBits .f32 0x3F800000#32) (Ideal.ofBits .f32 0x3F800000#32 + Ideal.exp (-(g _))) * d i = inBranch (g (right i)) (d i)
  rw [sigmoid]
  refine congrArg (fun x => inBranch (g x) _) (Shape.idx_ext₂ ?_ ?_)
  · show 0 + (i 0 : ℕ) = i 0; omega
  · rfl

end Cert.MergeRefIdeal.Gate

namespace Cert.MergeIdeal.Gate

/-- The reference runs and keeps its arguments. -/
theorem ref_frame : Cert.quiescent_MergeRefIdeal := fun m ρ _ =>
  (θ_run _ _ _).mono (fun r h => ⟨fun c => (h c).2.2.2, sem_eq_zero_of_no_sems (by decide) r.2⟩) (MergeRefIdeal.Value.run m ρ)

/-- The kernel's three gradients are the reference's, element by element. -/
theorem algebraic : Cert.algebraic_MergeIdeal_MergeRefIdeal := fun m ρ m' ρ' _ hag => by
  refine ⟨fun c => gates (m ((c : Thread MergeIdeal.nD MergeIdeal.τ).loc MergeIdeal.main_arg0)) (m ((c : Thread MergeIdeal.nD MergeIdeal.τ).loc MergeIdeal.main_arg1))
      (m ((c : Thread MergeIdeal.nD MergeIdeal.τ).loc MergeIdeal.main_arg2)) (m ((c : Thread MergeIdeal.nD MergeIdeal.τ).loc MergeIdeal.main_arg3)),
    fun c => first (m ((c : Thread MergeIdeal.nD MergeIdeal.τ).loc MergeIdeal.main_arg0)) (m ((c : Thread MergeIdeal.nD MergeIdeal.τ).loc MergeIdeal.main_arg3)),
    fun c => second (m ((c : Thread MergeIdeal.nD MergeIdeal.τ).loc MergeIdeal.main_arg0)) (m ((c : Thread MergeIdeal.nD MergeIdeal.τ).loc MergeIdeal.main_arg3)),
    (θ_run _ _ _).mono (fun _ h c => ⟨(h c).1.trans (final5 m c), (h c).2.1.trans (final6 m c), (h c).2.2.1.trans (final7 m c), (h c).2.2.2⟩)
      (Value.run_blocks m ρ),
    (θ_run _ _ _).mono (fun _ h c => ?_) (MergeRefIdeal.Value.run m' ρ')⟩
  obtain ⟨a0, a1, a2, a3⟩ := hag c
  exact ⟨(h c).1.trans ((MergeRefIdeal.Gate.gates_eq _ _ _ _).trans (by rw [a0, a1, a2, a3])),
    (h c).2.1.trans ((MergeRefIdeal.Gate.first_eq _ _).trans (by rw [a0, a3])),
    (h c).2.2.1.trans ((MergeRefIdeal.Gate.second_eq _ _).trans (by rw [a0, a3])), (h c).2.2.2⟩

end Cert.MergeIdeal.Gate

end
-- ==== Proof.Activation.lean ====
module

public import proofs.«01_k».proof.Proof.Merging
public import proofs.«01_k».proof.Proof.Gen.SwigluIdeal.Value
public import proofs.«01_k».proof.Proof.Gen.SwigluRefIdeal.Run
public import proofs.«01_k».proof.Proof.Gen.SwigluFIdeal.Value
public import proofs.«01_k».proof.Proof.Gen.SwigluFRefIdeal.Run
public import proofs.«01_k».proof.Proof.Gen.MergeFIdeal.Value
public import proofs.«01_k».proof.Proof.Gen.MergeFRefIdeal.Run

@[expose] public section

set_option maxRecDepth 16384

noncomputable section

/-! The activation of the channel mixer, forward and backward, and the forward of the gated merge: element by element the kernel and the
reference compute the same, the reference with the sigmoid written out. -/

open Idealize.ShloMosaic Idealize.ShloMosaic.TcCoe Idealize.ShloMosaic.ValueIdx Idealize.SL.Sem

namespace Cert.Activation

/-- The sigmoid as the reference writes it out. -/
abbrev long (x : EReal) : EReal := Ideal.div (Ideal.ofBits .f32 0x3F800000#32) (Ideal.ofBits .f32 0x3F800000#32 + Ideal.exp (-x))

theorem long_eq (x : EReal) : long x = Ideal.logistic x := Cert.MergeIdeal.Gate.sigmoid x

end Cert.Activation

namespace Cert.SwigluIdeal.Activation

open Cert.SwigluIdeal Cert.SwigluIdeal.Gen Cert.Activation

/-- The reference runs and keeps its arguments. -/
theorem ref_frame : Cert.quiescent_SwigluRefIdeal := fun m ρ _ =>
  (θ_run _ _ _).mono (fun r h => ⟨fun c => (h c).2.2, sem_eq_zero_of_no_sems (by decide) r.2⟩) (SwigluRefIdeal.Value.run m ρ)

/-- The gradients in the gate and in the other factor are the reference's. -/
theorem algebraic : Cert.algebraic_SwigluIdeal_SwigluRefIdeal := fun m ρ m' ρ' _ hag =>
  ⟨fun c => Value.G3 (m ((c : Thread nD τ).loc main_arg0)) (m ((c : Thread nD τ).loc main_arg1)) (m ((c : Thread nD τ).loc main_arg2)),
    fun c => Value.G4 (m ((c : Thread nD τ).loc main_arg0)) (m ((c : Thread nD τ).loc main_arg2)), Value.run m ρ,
    (θ_run _ _ _).mono (fun _ h c => by
      obtain ⟨r0, r1, keep⟩ := h c
      obtain ⟨a0, a1, a2⟩ := hag c
      refine ⟨r0.trans ?_, r1.trans ?_, keep⟩
      · rw [a0, a1, a2]
        let g : FVec Ideal _ .bf16 := m ((c : Thread nD τ).loc main_arg0)
        let u : FVec Ideal _ .bf16 := m ((c : Thread nD τ).loc main_arg1)
        let d : FVec Ideal _ .bf16 := m ((c : Thread nD τ).loc main_arg2)
        funext i
        have step (x g u d : EReal) (h : x = Ideal.logistic g) : d * u * x + g * (d * u) * (x * (Ideal.ofBits .f32 0x3F800000#32 - x))
            = d * u * Ideal.logistic g + g * (d * u) * (Ideal.logistic g * (Ideal.ofBits .f32 0x3F800000#32 - Ideal.logistic g)) := by rw [h]
        exact step (long (g i)) (g i) (u i) (d i) (long_eq (g i))
      · rw [a0, a2]
        let g : FVec Ideal _ .bf16 := m ((c : Thread nD τ).loc main_arg0)
        let d : FVec Ideal _ .bf16 := m ((c : Thread nD τ).loc main_arg2)
        funext i
        have step (x g d : EReal) (h : x = Ideal.logistic g) : g * x * d = g * Ideal.logistic g * d := by rw [h]
        exact step (long (g i)) (g i) (d i) (long_eq (g i))) (SwigluRefIdeal.Value.run m' ρ')⟩

end Cert.SwigluIdeal.Activation

namespace Cert.SwigluFIdeal.Activation

open Cert.SwigluFIdeal Cert.SwigluFIdeal.Gen Cert.Activation

/-- The reference runs and keeps its arguments. -/
theorem ref_frame : Cert.quiescent_SwigluFRefIdeal := fun m ρ _ =>
  (θ_run _ _ _).mono (fun r h => ⟨fun c => (h c).2, sem_eq_zero_of_no_sems (by decide) r.2⟩) (SwigluFRefIdeal.Value.run m ρ)

/-- The activation is the reference's. -/
theorem algebraic : Cert.algebraic_SwigluFIdeal_SwigluFRefIdeal := fun m ρ m' ρ' _ hag =>
  ⟨fun c => Value.G2 (m ((c : Thread nD τ).loc main_arg0)) (m ((c : Thread nD τ).loc main_arg1)), Value.run m ρ,
    (θ_run _ _ _).mono (fun _ h c => by
      obtain ⟨r0, keep⟩ := h c
      obtain ⟨a0, a1⟩ := hag c
      refine ⟨r0.trans ?_, keep⟩
      rw [a0, a1]
      let g : FVec Ideal _ .bf16 := m ((c : Thread nD τ).loc main_arg0)
      let u : FVec Ideal _ .bf16 := m ((c : Thread nD τ).loc main_arg1)
      funext i
      have step (x g u : EReal) (h : x = Ideal.logistic g) : g * x * u = g * Ideal.logistic g * u := by rw [h]
      exact step (long (g i)) (g i) (u i) (long_eq (g i))) (SwigluFRefIdeal.Value.run m' ρ')⟩

end Cert.SwigluFIdeal.Activation

namespace Cert.MergeFIdeal.Activation

open Cert.MergeFIdeal Cert.MergeFIdeal.Gen Cert.Activation

/-- The reference runs and keeps its arguments. -/
theorem ref_frame : Cert.quiescent_MergeFRefIdeal := fun m ρ _ =>
  (θ_run _ _ _).mono (fun r h => ⟨fun c => (h c).2, sem_eq_zero_of_no_sems (by decide) r.2⟩) (MergeFRefIdeal.Value.run m ρ)

/-- The columns that the reference cuts off are those the kernel reads. -/
theorem left_eq (i : S4096x4096.Idx) (j : S4096x8192.Idx) (h0 : (j 0 : ℕ) = 0 + (i 0 : ℕ)) (h1 : (j 1 : ℕ) = 0 + (i 1 : ℕ)) : j = Value.inIdx4_0 i :=
  Shape.idx_ext₂ (by show (j 0 : ℕ) = (Value.inIdx4_0 i 0 : ℕ); rw [h0]; show 0 + (i 0 : ℕ) = i 0; omega) (by show (j 1 : ℕ) = (Value.inIdx4_0 i 1 : ℕ); rw [h1]; show 0 + (i 1 : ℕ) = i 1; omega)
theorem right_eq (i : S4096x4096.Idx) (j : S4096x8192.Idx) (h0 : (j 0 : ℕ) = 0 + (i 0 : ℕ)) (h1 : (j 1 : ℕ) = 4096 + (i 1 : ℕ)) : j = Value.inIdx4_1 i :=
  Shape.idx_ext₂ (by show (j 0 : ℕ) = (Value.inIdx4_1 i 0 : ℕ); rw [h0]; show 0 + (i 0 : ℕ) = i 0; omega) (by show (j 1 : ℕ) = (Value.inIdx4_1 i 1 : ℕ); rw [h1]; show 4096 + (i 1 : ℕ) = i 1 + 4096; omega)

/-- The merge is the reference's. -/
theorem algebraic : Cert.algebraic_MergeFIdeal_MergeFRefIdeal := fun m ρ m' ρ' _ hag =>
  ⟨fun c => Value.G4 (m ((c : Thread nD τ).loc main_arg0)) (m ((c : Thread nD τ).loc main_arg0)) (m ((c : Thread nD τ).loc main_arg1)) (m ((c : Thread nD τ).loc main_arg2)),
    Value.run m ρ,
    (θ_run _ _ _).mono (fun _ h c => by
      obtain ⟨r0, keep⟩ := h c
      obtain ⟨a0, a1, a2⟩ := hag c
      refine ⟨r0.trans ?_, keep⟩
      rw [a0, a1, a2]
      let g : FVec Ideal _ .bf16 := m ((c : Thread nD τ).loc main_arg0)
      let a : FVec Ideal _ .bf16 := m ((c : Thread nD τ).loc main_arg1)
      let b : FVec Ideal _ .bf16 := m ((c : Thread nD τ).loc main_arg2)
      funext i
      have step (x y p q a b : EReal) (hx : x = Ideal.logistic p) (hy : y = Ideal.logistic q) :
          x * a + y * b = Ideal.logistic p * a + Ideal.logistic q * b := by rw [hx, hy]
      refine step _ _ _ _ (a i) (b i) ((long_eq (g _)).trans (congrArg (fun j => Ideal.logistic (g j)) (left_eq i _ rfl rfl)))
        ((long_eq (g _)).trans (congrArg (fun j => Ideal.logistic (g j)) (right_eq i _ rfl rfl)))) (MergeFRefIdeal.Value.run m' ρ')⟩

end Cert.MergeFIdeal.Activation

end
-- ==== Proof.Updates.lean ====
module

public import proofs.«01_k».proof.Proof.Products
public import proofs.«01_k».proof.Defs
public import proofs.«01_k».proof.Proof.Gen.AdamInIdeal.Value
public import proofs.«01_k».proof.Proof.Gen.AdamInRefIdeal.Run
public import proofs.«01_k».proof.Proof.Gen.AdamLoraIdeal.Value
public import proofs.«01_k».proof.Proof.Gen.AdamLoraRefIdeal.Run
public import proofs.«01_k».proof.Proof.Gen.AdamLoraGIdeal.Value
public import proofs.«01_k».proof.Proof.Gen.AdamLoraGRefIdeal.Run
public import proofs.«01_k».proof.Proof.Gen.AdamSquareIdeal.Value
public import proofs.«01_k».proof.Proof.Gen.AdamSquareRefIdeal.Run
public import proofs.«01_k».proof.Proof.Gen.AdamUpIdeal.Value
public import proofs.«01_k».proof.Proof.Gen.AdamUpRefIdeal.Run
public import proofs.«01_k».proof.Proof.Gen.AdamDownIdeal.Value
public import proofs.«01_k».proof.Proof.Gen.AdamDownRefIdeal.Run
public import Idealize.ShloMosaic.Lib.Tactic

@[expose] public section

set_option maxRecDepth 16384

noncomputable section

/-! The optimiser's update of a weight: the change of the weight and its two new moments, from the weight, its gradient and its moments,
element by element. -/

open Idealize.ShloMosaic Idealize.ShloMosaic.TcCoe Idealize.ShloMosaic.ValueIdx Idealize.SL.Sem

namespace Cert.Update

/-- The new first moment. -/
def first (g m : EReal) : EReal := Ideal.ofBits .f32 0x3F666666#32 * m + Ideal.ofBits .f32 0x3DCCCCCD#32 * g
/-- The new second moment. -/
def second (g v : EReal) : EReal := Ideal.ofBits .f32 0x3F7FBE77#32 * v + Ideal.ofBits .f32 0x3A83126F#32 * (g * g)
/-- The change of the weight `w`: the first moment over the root of the second, both rid of their bias, and the decay of the weight. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

variable {M N m n : ℕ} {i o : Fin 2 → ℕ}

theorem congr4 {w w' g g' a a' b b' : EReal} (hw : w = w') (hg : g = g') (ha : a = a') (hb : b = b') : change w g a b = change w' g' a' b' := by
  rw [hw, hg, ha, hb]

/-- Two placements of blocks of one size that have the same number are the same. -/
theorem same {e e' : (Products.Mat m n).Idx → (Products.Mat M N).Idx} (he : ∀ j a, (e j a : ℕ) = i a * (Products.Mat m n).size a + 1 * (j a : ℕ))
    (he' : ∀ j a, (e' j a : ℕ) = o a * (Products.Mat m n).size a + 1 * (j a : ℕ)) (h : i = o) : e = e' := by
  subst h
  exact funext fun j => Shape.idx_ext₂ ((he j 0).trans (he' j 0).symm) ((he j 1).trans (he' j 1).symm)

end Cert.Update

namespace Cert.AdamInIdeal.Update

open Cert.AdamInIdeal Cert.AdamInIdeal.Gen Cert.Update

/-- All the windows of a grid point are of the same block. -/
theorem bands : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem onto4 : ∀ u : Fin 64, ∀ v : Fin 1, ∃ t : Fin cfg0.N, win0_4.index t = ![u.val, v.val] := by decide +kernel
theorem onto5 : ∀ u : Fin 64, ∀ v : Fin 1, ∃ t : Fin cfg0.N, win0_5.index t = ![u.val, v.val] := by decide +kernel
theorem onto6 : ∀ u : Fin 64, ∀ v : Fin 1, ∃ t : Fin cfg0.N, win0_6.index t = ![u.val, v.val] := by decide +kernel

/-- What a block is given, element by element. -/
theorem pay1 (g a : FVec Ideal S64x6840 .f32) : k0_pay1 (F := Ideal) g a = fun j => first (g j) (a j) := by
  unfold k0_pay1; simp only [shapeCast_self]; rfl
theorem pay2 (g b : FVec Ideal S64x6840 .f32) : k0_pay2 (F := Ideal) g b = fun j => second (g j) (b j) := by
  unfold k0_pay2; simp only [shapeCast_self]; rfl
theorem pay3 (g a b w : FVec Ideal S64x6840 .f32) : k0_pay3 (F := Ideal) g a b w = fun j => change (w j) (g j) (a j) (b j) := by
  unfold k0_pay3; simp only [shapeCast_self, pay1, pay2]; rfl

variable (m : (ℓ : Loc nD τ sig) → Buf (Elt Ideal) ℓ) (c : Dev nD)

/-- The weight that the grid finds, without its leading axis; and its moments. -/
theorem weight : V m c main_v0 = (shapeCast S4096x6840 (m ((c : Thread nD τ).loc main_arg0)) shapeCasts_S1x4096x6840_S4096x6840) := by unfold V; after_results_simp <;> rfl
theorem mom1 : V m c main_v1 = (shapeCast S4096x6840 (m ((c : Thread nD τ).loc main_arg2)) shapeCasts_S1x4096x6840_S4096x6840) := by unfold V; after_results_simp <;> rfl
theorem mom2 : V m c main_v2 = (shapeCast S4096x6840 (m ((c : Thread nD τ).loc main_arg3)) shapeCasts_S1x4096x6840_S4096x6840) := by unfold V; after_results_simp <;> rfl

/-- The grid leaves the new first moment. -/
theorem final5 : (dats m 0 c).arrAt 5 cfg0.N = fun i => first ((m ((c : Thread nD τ).loc main_arg1)) i) ((shapeCast S4096x6840 (m ((c : Thread nD τ).loc main_arg2)) shapeCasts_S1x4096x6840_S4096x6840) i) := by
  refine (dats m 0 c).arrAt_eq_of_cover 5 _ (fun t _ => ?_) (fun x => (Products.cover (m := 64) (n := 6840) win0_5.index
    (fun t x => x ∈ ((cfg0.win 5).blk t).view.set)
    (fun t x => by show x ∈ ((View.whole main_v3_1).slice (win0_5.rect t)).set ↔ _; rw [View.set_slice_whole, Rect.mem_set_unit]; exact Iff.rfl) rfl rfl onto5 x).imp fun t ht => ⟨flush0_5 t, ht⟩)
  rw [Value.flushed5]
  unfold out0_5
  rw [View.canon_unit_zero Products.offs]
  simp only [View.ld_unit_zero (S := S64x6840) Products.offs, ← mom1, pay1]
  obtain ⟨h0, h1, h2, h3, h5, h6⟩ := bands t
  funext j
  show first (V m c main_arg1 ((win0_1.blk t).view.emb j)) (V m c main_v1 ((win0_2.blk t).view.emb j)) = first (V m c main_arg1 ((win0_5.blk t).view.emb j)) (V m c main_v1 ((win0_5.blk t).view.emb j))
  exact congrArg₂ first (congrArg (V m c main_arg1) (congrFun (same (m := 64) (n := 6840) (M := 4096) (N := 6840) (e := (win0_1.blk t).view.emb) (e' := (win0_5.blk t).view.emb) (i := win0_1.index t) (o := win0_5.index t) (fun _ _ => rfl) (fun _ _ => rfl) (h1.trans h5.symm)) j)) (congrArg (V m c main_v1) (congrFun (same (m := 64) (n := 6840) (M := 4096) (N := 6840) (e := (win0_2.blk t).view.emb) (e' := (win0_5.blk t).view.emb) (i := win0_2.index t) (o := win0_5.index t) (fun _ _ => rfl) (fun _ _ => rfl) (h2.trans h5.symm)) j))

/-- The grid leaves the new second moment. -/
theorem final6 : (dats m 0 c).arrAt 6 cfg0.N = fun i => second ((m ((c : Thread nD τ).loc main_arg1)) i) ((shapeCast S4096x6840 (m ((c : Thread nD τ).loc main_arg3)) shapeCasts_S1x4096x6840_S4096x6840) i) := by
  refine (dats m 0 c).arrAt_eq_of_cover 6 _ (fun t _ => ?_) (fun x => (Products.cover (m := 64) (n := 6840) win0_6.index
    (fun t x => x ∈ ((cfg0.win 6).blk t).view.set)
    (fun t x => by show x ∈ ((View.whole main_v3_2).slice (win0_6.rect t)).set ↔ _; rw [View.set_slice_whole, Rect.mem_set_unit]; exact Iff.rfl) rfl rfl onto6 x).imp fun t ht => ⟨flush0_6 t, ht⟩)
  rw [Value.flushed6]
  unfold out0_6
  rw [View.canon_unit_zero Products.offs]
  simp only [View.ld_unit_zero (S := S64x6840) Products.offs, ← mom2, pay2]
  obtain ⟨h0, h1, h2, h3, h5, h6⟩ := bands t
  funext j
  show second (V m c main_arg1 ((win0_1.blk t).view.emb j)) (V m c main_v2 ((win0_3.blk t).view.emb j)) = second (V m c main_arg1 ((win0_6.blk t).view.emb j)) (V m c main_v2 ((win0_6.blk t).view.emb j))
  exact congrArg₂ second (congrArg (V m c main_arg1) (congrFun (same (m := 64) (n := 6840) (M := 4096) (N := 6840) (e := (win0_1.blk t).view.emb) (e' := (win0_6.blk t).view.emb) (i := win0_1.index t) (o := win0_6.index t) (fun _ _ => rfl) (fun _ _ => rfl) (h1.trans h6.symm)) j)) (congrArg (V m c main_v2) (congrFun (same (m := 64) (n := 6840) (M := 4096) (N := 6840) (e := (win0_3.blk t).view.emb) (e' := (win0_6.blk t).view.emb) (i := win0_3.index t) (o := win0_6.index t) (fun _ _ => rfl) (fun _ _ => rfl) (h3.trans h6.symm)) j))

/-- The grid leaves the change of the weight. -/
theorem final4 : (dats m 0 c).arrAt 4 cfg0.N = fun i => change ((shapeCast S4096x6840 (m ((c : Thread nD τ).loc main_arg0)) shapeCasts_S1x4096x6840_S4096x6840) i) ((m ((c : Thread nD τ).loc main_arg1)) i) ((shapeCast S4096x6840 (m ((c : Thread nD τ).loc main_arg2)) shapeCasts_S1x4096x6840_S4096x6840) i) ((shapeCast S4096x6840 (m ((c : Thread nD τ).loc main_arg3)) shapeCasts_S1x4096x6840_S4096x6840) i) := by
  refine (dats m 0 c).arrAt_eq_of_cover 4 _ (fun t _ => ?_) (fun x => (Products.cover (m := 64) (n := 6840) win0_4.index
    (fun t x => x ∈ ((cfg0.win 4).blk t).view.set)
    (fun t x => by show x ∈ ((View.whole main_v3_0).slice (win0_4.rect t)).set ↔ _; rw [View.set_slice_whole, Rect.mem_set_unit]; exact Iff.rfl) rfl rfl onto4 x).imp fun t ht => ⟨flush0_4 t, ht⟩)
  rw [Value.flushed4]
  unfold out0_4
  rw [View.canon_unit_zero Products.offs]
  simp only [View.ld_unit_zero (S := S64x6840) Products.offs, ← weight, ← mom1, ← mom2, pay3]
  obtain ⟨h0, h1, h2, h3, h5, h6⟩ := bands t
  funext j
  show change (V m c main_v0 ((win0_0.blk t).view.emb j)) (V m c main_arg1 ((win0_1.blk t).view.emb j)) (V m c main_v1 ((win0_2.blk t).view.emb j)) (V m c main_v2 ((win0_3.blk t).view.emb j)) = change (V m c main_v0 ((win0_4.blk t).view.emb j)) (V m c main_arg1 ((win0_4.blk t).view.emb j)) (V m c main_v1 ((win0_4.blk t).view.emb j)) (V m c main_v2 ((win0_4.blk t).view.emb j))
  exact congr4 (congrArg (V m c main_v0) (congrFun (same (m := 64) (n := 6840) (M := 4096) (N := 6840) (e := (win0_0.blk t).view.emb) (e' := (win0_4.blk t).view.emb) (i := win0_0.index t) (o := win0_4.index t) (fun _ _ => rfl) (fun _ _ => rfl) (h0.trans rfl)) j)) (congrArg (V m c main_arg1) (congrFun (same (m := 64) (n := 6840) (M := 4096) (N := 6840) (e := (win0_1.blk t).view.emb) (e' := (win0_4.blk t).view.emb) (i := win0_1.index t) (o := win0_4.index t) (fun _ _ => rfl) (fun _ _ => rfl) (h1.trans rfl)) j)) (congrArg (V m c main_v1) (congrFun (same (m := 64) (n := 6840) (M := 4096) (N := 6840) (e := (win0_2.blk t).view.emb) (e' := (win0_4.blk t).view.emb) (i := win0_2.index t) (o := win0_4.index t) (fun _ _ => rfl) (fun _ _ => rfl) (h2.trans rfl)) j)) (congrArg (V m c main_v2) (congrFun (same (m := 64) (n := 6840) (M := 4096) (N := 6840) (e := (win0_3.blk t).view.emb) (e' := (win0_4.blk t).view.emb) (i := win0_3.index t) (o := win0_4.index t) (fun _ _ => rfl) (fun _ _ => rfl) (h3.trans rfl)) j))

/-- The reference runs and keeps its arguments. -/
theorem ref_frame : Cert.quiescent_AdamInRefIdeal := fun m ρ _ =>
  (θ_run _ _ _).mono (fun r h => ⟨fun c => (h c).2.2.2, sem_eq_zero_of_no_sems (by decide) r.2⟩) (AdamInRefIdeal.Value.run m ρ)

/-- The kernel's three results and the reference's are equal, element by element. -/
theorem algebraic : Cert.algebraic_AdamInIdeal_AdamInRefIdeal := fun m ρ m' ρ' _ hag =>
  ⟨fun c i => change ((shapeCast S4096x6840 (m ((c : Thread nD τ).loc main_arg0)) shapeCasts_S1x4096x6840_S4096x6840) i) ((m ((c : Thread nD τ).loc main_arg1)) i) ((shapeCast S4096x6840 (m ((c : Thread nD τ).loc main_arg2)) shapeCasts_S1x4096x6840_S4096x6840) i) ((shapeCast S4096x6840 (m ((c : Thread nD τ).loc main_arg3)) shapeCasts_S1x4096x6840_S4096x6840) i), fun c i => first ((m ((c : Thread nD τ).loc main_arg1)) i) ((shapeCast S4096x6840 (m ((c : Thread nD τ).loc main_arg2)) shapeCasts_S1x4096x6840_S4096x6840) i), fun c i => second ((m ((c : Thread nD τ).loc main_arg1)) i) ((shapeCast S4096x6840 (m ((c : Thread nD τ).loc main_arg3)) shapeCasts_S1x4096x6840_S4096x6840) i),
    (θ_run _ _ _).mono (fun _ h c => ⟨(h c).1.trans (final4 m c), (h c).2.1.trans (final5 m c), (h c).2.2.1.trans (final6 m c), (h c).2.2.2⟩)
      (Value.run_blocks m ρ),
    (θ_run _ _ _).mono (fun _ h c => by
      obtain ⟨r0, r1, r2, keep⟩ := h c
      obtain ⟨a0, a1, a2, a3⟩ := hag c
      refine ⟨r0.trans ?_, r1.trans ?_, r2.trans ?_, keep⟩
      · rw [a0, a1, a2, a3]; rfl
      · rw [a1, a2]; rfl
      · rw [a1, a3]; rfl) (AdamInRefIdeal.Value.run m' ρ')⟩

end Cert.AdamInIdeal.Update

namespace Cert.AdamLoraIdeal.Update

open Cert.AdamLoraIdeal Cert.AdamLoraIdeal.Gen Cert.Update

/-- All the windows of a grid point are of the same block. -/
theorem bands : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem onto4 : ∀ u : Fin 2, ∀ v : Fin 1, ∃ t : Fin cfg0.N, win0_4.index t = ![u.val, v.val] := by decide +kernel
theorem onto5 : ∀ u : Fin 2, ∀ v : Fin 1, ∃ t : Fin cfg0.N, win0_5.index t = ![u.val, v.val] := by decide +kernel
theorem onto6 : ∀ u : Fin 2, ∀ v : Fin 1, ∃ t : Fin cfg0.N, win0_6.index t = ![u.val, v.val] := by decide +kernel

/-- What a block is given, element by element. -/
theorem pay1 (g a : FVec Ideal S64x1024 .f32) : k0_pay1 (F := Ideal) g a = fun j => first (g j) (a j) := by
  unfold k0_pay1; simp only [shapeCast_self]; rfl
theorem pay2 (g b : FVec Ideal S64x1024 .f32) : k0_pay2 (F := Ideal) g b = fun j => second (g j) (b j) := by
  unfold k0_pay2; simp only [shapeCast_self]; rfl
theorem pay3 (g a b w : FVec Ideal S64x1024 .f32) : k0_pay3 (F := Ideal) g a b w = fun j => change (w j) (g j) (a j) (b j) := by
  unfold k0_pay3; simp only [shapeCast_self, pay1, pay2]; rfl

variable (m : (ℓ : Loc nD τ sig) → Buf (Elt Ideal) ℓ) (c : Dev nD)

/-- The weight that the grid finds, without its leading axis; and its moments. -/
theorem weight : V m c main_v0 = (shapeCast S128x1024 (m ((c : Thread nD τ).loc main_arg0)) shapeCasts_S1x128x1024_S128x1024) := by unfold V; after_results_simp <;> rfl
theorem mom1 : V m c main_v1 = (shapeCast S128x1024 (m ((c : Thread nD τ).loc main_arg2)) shapeCasts_S1x128x1024_S128x1024) := by unfold V; after_results_simp <;> rfl
theorem mom2 : V m c main_v2 = (shapeCast S128x1024 (m ((c : Thread nD τ).loc main_arg3)) shapeCasts_S1x128x1024_S128x1024) := by unfold V; after_results_simp <;> rfl

/-- The grid leaves the new first moment. -/
theorem final5 : (dats m 0 c).arrAt 5 cfg0.N = fun i => first ((m ((c : Thread nD τ).loc main_arg1)) i) ((shapeCast S128x1024 (m ((c : Thread nD τ).loc main_arg2)) shapeCasts_S1x128x1024_S128x1024) i) := by
  refine (dats m 0 c).arrAt_eq_of_cover 5 _ (fun t _ => ?_) (fun x => (Products.cover (m := 64) (n := 1024) win0_5.index
    (fun t x => x ∈ ((cfg0.win 5).blk t).view.set)
    (fun t x => by show x ∈ ((View.whole main_v3_1).slice (win0_5.rect t)).set ↔ _; rw [View.set_slice_whole, Rect.mem_set_unit]; exact Iff.rfl) rfl rfl onto5 x).imp fun t ht => ⟨flush0_5 t, ht⟩)
  rw [Value.flushed5]
  unfold out0_5
  rw [View.canon_unit_zero Products.offs]
  simp only [View.ld_unit_zero (S := S64x1024) Products.offs, ← mom1, pay1]
  obtain ⟨h0, h1, h2, h3, h5, h6⟩ := bands t
  funext j
  show first (V m c main_arg1 ((win0_1.blk t).view.emb j)) (V m c main_v1 ((win0_2.blk t).view.emb j)) = first (V m c main_arg1 ((win0_5.blk t).view.emb j)) (V m c main_v1 ((win0_5.blk t).view.emb j))
  exact congrArg₂ first (congrArg (V m c main_arg1) (congrFun (same (m := 64) (n := 1024) (M := 128) (N := 1024) (e := (win0_1.blk t).view.emb) (e' := (win0_5.blk t).view.emb) (i := win0_1.index t) (o := win0_5.index t) (fun _ _ => rfl) (fun _ _ => rfl) (h1.trans h5.symm)) j)) (congrArg (V m c main_v1) (congrFun (same (m := 64) (n := 1024) (M := 128) (N := 1024) (e := (win0_2.blk t).view.emb) (e' := (win0_5.blk t).view.emb) (i := win0_2.index t) (o := win0_5.index t) (fun _ _ => rfl) (fun _ _ => rfl) (h2.trans h5.symm)) j))

/-- The grid leaves the new second moment. -/
theorem final6 : (dats m 0 c).arrAt 6 cfg0.N = fun i => second ((m ((c : Thread nD τ).loc main_arg1)) i) ((shapeCast S128x1024 (m ((c : Thread nD τ).loc main_arg3)) shapeCasts_S1x128x1024_S128x1024) i) := by
  refine (dats m 0 c).arrAt_eq_of_cover 6 _ (fun t _ => ?_) (fun x => (Products.cover (m := 64) (n := 1024) win0_6.index
    (fun t x => x ∈ ((cfg0.win 6).blk t).view.set)
    (fun t x => by show x ∈ ((View.whole main_v3_2).slice (win0_6.rect t)).set ↔ _; rw [View.set_slice_whole, Rect.mem_set_unit]; exact Iff.rfl) rfl rfl onto6 x).imp fun t ht => ⟨flush0_6 t, ht⟩)
  rw [Value.flushed6]
  unfold out0_6
  rw [View.canon_unit_zero Products.offs]
  simp only [View.ld_unit_zero (S := S64x1024) Products.offs, ← mom2, pay2]
  obtain ⟨h0, h1, h2, h3, h5, h6⟩ := bands t
  funext j
  show second (V m c main_arg1 ((win0_1.blk t).view.emb j)) (V m c main_v2 ((win0_3.blk t).view.emb j)) = second (V m c main_arg1 ((win0_6.blk t).view.emb j)) (V m c main_v2 ((win0_6.blk t).view.emb j))
  exact congrArg₂ second (congrArg (V m c main_arg1) (congrFun (same (m := 64) (n := 1024) (M := 128) (N := 1024) (e := (win0_1.blk t).view.emb) (e' := (win0_6.blk t).view.emb) (i := win0_1.index t) (o := win0_6.index t) (fun _ _ => rfl) (fun _ _ => rfl) (h1.trans h6.symm)) j)) (congrArg (V m c main_v2) (congrFun (same (m := 64) (n := 1024) (M := 128) (N := 1024) (e := (win0_3.blk t).view.emb) (e' := (win0_6.blk t).view.emb) (i := win0_3.index t) (o := win0_6.index t) (fun _ _ => rfl) (fun _ _ => rfl) (h3.trans h6.symm)) j))

/-- The grid leaves the change of the weight. -/
theorem final4 : (dats m 0 c).arrAt 4 cfg0.N = fun i => change ((shapeCast S128x1024 (m ((c : Thread nD τ).loc main_arg0)) shapeCasts_S1x128x1024_S128x1024) i) ((m ((c : Thread nD τ).loc main_arg1)) i) ((shapeCast S128x1024 (m ((c : Thread nD τ).loc main_arg2)) shapeCasts_S1x128x1024_S128x1024) i) ((shapeCast S128x1024 (m ((c : Thread nD τ).loc main_arg3)) shapeCasts_S1x128x1024_S128x1024) i) := by
  refine (dats m 0 c).arrAt_eq_of_cover 4 _ (fun t _ => ?_) (fun x => (Products.cover (m := 64) (n := 1024) win0_4.index
    (fun t x => x ∈ ((cfg0.win 4).blk t).view.set)
    (fun t x => by show x ∈ ((View.whole main_v3_0).slice (win0_4.rect t)).set ↔ _; rw [View.set_slice_whole, Rect.mem_set_unit]; exact Iff.rfl) rfl rfl onto4 x).imp fun t ht => ⟨flush0_4 t, ht⟩)
  rw [Value.flushed4]
  unfold out0_4
  rw [View.canon_unit_zero Products.offs]
  simp only [View.ld_unit_zero (S := S64x1024) Products.offs, ← weight, ← mom1, ← mom2, pay3]
  obtain ⟨h0, h1, h2, h3, h5, h6⟩ := bands t
  funext j
  show change (V m c main_v0 ((win0_0.blk t).view.emb j)) (V m c main_arg1 ((win0_1.blk t).view.emb j)) (V m c main_v1 ((win0_2.blk t).view.emb j)) (V m c main_v2 ((win0_3.blk t).view.emb j)) = change (V m c main_v0 ((win0_4.blk t).view.emb j)) (V m c main_arg1 ((win0_4.blk t).view.emb j)) (V m c main_v1 ((win0_4.blk t).view.emb j)) (V m c main_v2 ((win0_4.blk t).view.emb j))
  exact congr4 (congrArg (V m c main_v0) (congrFun (same (m := 64) (n := 1024) (M := 128) (N := 1024) (e := (win0_0.blk t).view.emb) (e' := (win0_4.blk t).view.emb) (i := win0_0.index t) (o := win0_4.index t) (fun _ _ => rfl) (fun _ _ => rfl) (h0.trans rfl)) j)) (congrArg (V m c main_arg1) (congrFun (same (m := 64) (n := 1024) (M := 128) (N := 1024) (e := (win0_1.blk t).view.emb) (e' := (win0_4.blk t).view.emb) (i := win0_1.index t) (o := win0_4.index t) (fun _ _ => rfl) (fun _ _ => rfl) (h1.trans rfl)) j)) (congrArg (V m c main_v1) (congrFun (same (m := 64) (n := 1024) (M := 128) (N := 1024) (e := (win0_2.blk t).view.emb) (e' := (win0_4.blk t).view.emb) (i := win0_2.index t) (o := win0_4.index t) (fun _ _ => rfl) (fun _ _ => rfl) (h2.trans rfl)) j)) (congrArg (V m c main_v2) (congrFun (same (m := 64) (n := 1024) (M := 128) (N := 1024) (e := (win0_3.blk t).view.emb) (e' := (win0_4.blk t).view.emb) (i := win0_3.index t) (o := win0_4.index t) (fun _ _ => rfl) (fun _ _ => rfl) (h3.trans rfl)) j))

/-- The reference runs and keeps its arguments. -/
theorem ref_frame : Cert.quiescent_AdamLoraRefIdeal := fun m ρ _ =>
  (θ_run _ _ _).mono (fun r h => ⟨fun c => (h c).2.2.2, sem_eq_zero_of_no_sems (by decide) r.2⟩) (AdamLoraRefIdeal.Value.run m ρ)

/-- The kernel's three results and the reference's are equal, element by element. -/
theorem algebraic : Cert.algebraic_AdamLoraIdeal_AdamLoraRefIdeal := fun m ρ m' ρ' _ hag =>
  ⟨fun c i => change ((shapeCast S128x1024 (m ((c : Thread nD τ).loc main_arg0)) shapeCasts_S1x128x1024_S128x1024) i) ((m ((c : Thread nD τ).loc main_arg1)) i) ((shapeCast S128x1024 (m ((c : Thread nD τ).loc main_arg2)) shapeCasts_S1x128x1024_S128x1024) i) ((shapeCast S128x1024 (m ((c : Thread nD τ).loc main_arg3)) shapeCasts_S1x128x1024_S128x1024) i), fun c i => first ((m ((c : Thread nD τ).loc main_arg1)) i) ((shapeCast S128x1024 (m ((c : Thread nD τ).loc main_arg2)) shapeCasts_S1x128x1024_S128x1024) i), fun c i => second ((m ((c : Thread nD τ).loc main_arg1)) i) ((shapeCast S128x1024 (m ((c : Thread nD τ).loc main_arg3)) shapeCasts_S1x128x1024_S128x1024) i),
    (θ_run _ _ _).mono (fun _ h c => ⟨(h c).1.trans (final4 m c), (h c).2.1.trans (final5 m c), (h c).2.2.1.trans (final6 m c), (h c).2.2.2⟩)
      (Value.run_blocks m ρ),
    (θ_run _ _ _).mono (fun _ h c => by
      obtain ⟨r0, r1, r2, keep⟩ := h c
      obtain ⟨a0, a1, a2, a3⟩ := hag c
      refine ⟨r0.trans ?_, r1.trans ?_, r2.trans ?_, keep⟩
      · rw [a0, a1, a2, a3]; rfl
      · rw [a1, a2]; rfl
      · rw [a1, a3]; rfl) (AdamLoraRefIdeal.Value.run m' ρ')⟩

end Cert.AdamLoraIdeal.Update

namespace Cert.AdamLoraGIdeal.Update

open Cert.AdamLoraGIdeal Cert.AdamLoraGIdeal.Gen Cert.Update

/-- All the windows of a grid point are of the same block. -/
theorem bands : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem onto4 : ∀ u : Fin 15, ∀ v : Fin 1, ∃ t : Fin cfg0.N, win0_4.index t = ![u.val, v.val] := by decide +kernel
theorem onto5 : ∀ u : Fin 15, ∀ v : Fin 1, ∃ t : Fin cfg0.N, win0_5.index t = ![u.val, v.val] := by decide +kernel
theorem onto6 : ∀ u : Fin 15, ∀ v : Fin 1, ∃ t : Fin cfg0.N, win0_6.index t = ![u.val, v.val] := by decide +kernel

/-- What a block is given, element by element. -/
theorem pay1 (g a : FVec Ideal S32x1024 .f32) : k0_pay1 (F := Ideal) g a = fun j => first (g j) (a j) := by
  unfold k0_pay1; simp only [shapeCast_self]; rfl
theorem pay2 (g b : FVec Ideal S32x1024 .f32) : k0_pay2 (F := Ideal) g b = fun j => second (g j) (b j) := by
  unfold k0_pay2; simp only [shapeCast_self]; rfl
theorem pay3 (g a b w : FVec Ideal S32x1024 .f32) : k0_pay3 (F := Ideal) g a b w = fun j => change (w j) (g j) (a j) (b j) := by
  unfold k0_pay3; simp only [shapeCast_self, pay1, pay2]; rfl

variable (m : (ℓ : Loc nD τ sig) → Buf (Elt Ideal) ℓ) (c : Dev nD)

/-- The weight that the grid finds, without its leading axis; and its moments. -/
theorem weight : V m c main_v0 = (shapeCast S480x1024 (m ((c : Thread nD τ).loc main_arg0)) shapeCasts_S1x480x1024_S480x1024) := by unfold V; after_results_simp <;> rfl
theorem mom1 : V m c main_v1 = (shapeCast S480x1024 (m ((c : Thread nD τ).loc main_arg2)) shapeCasts_S1x480x1024_S480x1024) := by unfold V; after_results_simp <;> rfl
theorem mom2 : V m c main_v2 = (shapeCast S480x1024 (m ((c : Thread nD τ).loc main_arg3)) shapeCasts_S1x480x1024_S480x1024) := by unfold V; after_results_simp <;> rfl

/-- The grid leaves the new first moment. -/
theorem final5 : (dats m 0 c).arrAt 5 cfg0.N = fun i => first ((m ((c : Thread nD τ).loc main_arg1)) i) ((shapeCast S480x1024 (m ((c : Thread nD τ).loc main_arg2)) shapeCasts_S1x480x1024_S480x1024) i) := by
  refine (dats m 0 c).arrAt_eq_of_cover 5 _ (fun t _ => ?_) (fun x => (Products.cover (m := 32) (n := 1024) win0_5.index
    (fun t x => x ∈ ((cfg0.win 5).blk t).view.set)
    (fun t x => by show x ∈ ((View.whole main_v3_1).slice (win0_5.rect t)).set ↔ _; rw [View.set_slice_whole, Rect.mem_set_unit]; exact Iff.rfl) rfl rfl onto5 x).imp fun t ht => ⟨flush0_5 t, ht⟩)
  rw [Value.flushed5]
  unfold out0_5
  rw [View.canon_unit_zero Products.offs]
  simp only [View.ld_unit_zero (S := S32x1024) Products.offs, ← mom1, pay1]
  obtain ⟨h0, h1, h2, h3, h5, h6⟩ := bands t
  funext j
  show first (V m c main_arg1 ((win0_1.blk t).view.emb j)) (V m c main_v1 ((win0_2.blk t).view.emb j)) = first (V m c main_arg1 ((win0_5.blk t).view.emb j)) (V m c main_v1 ((win0_5.blk t).view.emb j))
  exact congrArg₂ first (congrArg (V m c main_arg1) (congrFun (same (m := 32) (n := 1024) (M := 480) (N := 1024) (e := (win0_1.blk t).view.emb) (e' := (win0_5.blk t).view.emb) (i := win0_1.index t) (o := win0_5.index t) (fun _ _ => rfl) (fun _ _ => rfl) (h1.trans h5.symm)) j)) (congrArg (V m c main_v1) (congrFun (same (m := 32) (n := 1024) (M := 480) (N := 1024) (e := (win0_2.blk t).view.emb) (e' := (win0_5.blk t).view.emb) (i := win0_2.index t) (o := win0_5.index t) (fun _ _ => rfl) (fun _ _ => rfl) (h2.trans h5.symm)) j))

/-- The grid leaves the new second moment. -/
theorem final6 : (dats m 0 c).arrAt 6 cfg0.N = fun i => second ((m ((c : Thread nD τ).loc main_arg1)) i) ((shapeCast S480x1024 (m ((c : Thread nD τ).loc main_arg3)) shapeCasts_S1x480x1024_S480x1024) i) := by
  refine (dats m 0 c).arrAt_eq_of_cover 6 _ (fun t _ => ?_) (fun x => (Products.cover (m := 32) (n := 1024) win0_6.index
    (fun t x => x ∈ ((cfg0.win 6).blk t).view.set)
    (fun t x => by show x ∈ ((View.whole main_v3_2).slice (win0_6.rect t)).set ↔ _; rw [View.set_slice_whole, Rect.mem_set_unit]; exact Iff.rfl) rfl rfl onto6 x).imp fun t ht => ⟨flush0_6 t, ht⟩)
  rw [Value.flushed6]
  unfold out0_6
  rw [View.canon_unit_zero Products.offs]
  simp only [View.ld_unit_zero (S := S32x1024) Products.offs, ← mom2, pay2]
  obtain ⟨h0, h1, h2, h3, h5, h6⟩ := bands t
  funext j
  show second (V m c main_arg1 ((win0_1.blk t).view.emb j)) (V m c main_v2 ((win0_3.blk t).view.emb j)) = second (V m c main_arg1 ((win0_6.blk t).view.emb j)) (V m c main_v2 ((win0_6.blk t).view.emb j))
  exact congrArg₂ second (congrArg (V m c main_arg1) (congrFun (same (m := 32) (n := 1024) (M := 480) (N := 1024) (e := (win0_1.blk t).view.emb) (e' := (win0_6.blk t).view.emb) (i := win0_1.index t) (o := win0_6.index t) (fun _ _ => rfl) (fun _ _ => rfl) (h1.trans h6.symm)) j)) (congrArg (V m c main_v2) (congrFun (same (m := 32) (n := 1024) (M := 480) (N := 1024) (e := (win0_3.blk t).view.emb) (e' := (win0_6.blk t).view.emb) (i := win0_3.index t) (o := win0_6.index t) (fun _ _ => rfl) (fun _ _ => rfl) (h3.trans h6.symm)) j))

/-- The grid leaves the change of the weight. -/
theorem final4 : (dats m 0 c).arrAt 4 cfg0.N = fun i => change ((shapeCast S480x1024 (m ((c : Thread nD τ).loc main_arg0)) shapeCasts_S1x480x1024_S480x1024) i) ((m ((c : Thread nD τ).loc main_arg1)) i) ((shapeCast S480x1024 (m ((c : Thread nD τ).loc main_arg2)) shapeCasts_S1x480x1024_S480x1024) i) ((shapeCast S480x1024 (m ((c : Thread nD τ).loc main_arg3)) shapeCasts_S1x480x1024_S480x1024) i) := by
  refine (dats m 0 c).arrAt_eq_of_cover 4 _ (fun t _ => ?_) (fun x => (Products.cover (m := 32) (n := 1024) win0_4.index
    (fun t x => x ∈ ((cfg0.win 4).blk t).view.set)
    (fun t x => by show x ∈ ((View.whole main_v3_0).slice (win0_4.rect t)).set ↔ _; rw [View.set_slice_whole, Rect.mem_set_unit]; exact Iff.rfl) rfl rfl onto4 x).imp fun t ht => ⟨flush0_4 t, ht⟩)
  rw [Value.flushed4]
  unfold out0_4
  rw [View.canon_unit_zero Products.offs]
  simp only [View.ld_unit_zero (S := S32x1024) Products.offs, ← weight, ← mom1, ← mom2, pay3]
  obtain ⟨h0, h1, h2, h3, h5, h6⟩ := bands t
  funext j
  show change (V m c main_v0 ((win0_0.blk t).view.emb j)) (V m c main_arg1 ((win0_1.blk t).view.emb j)) (V m c main_v1 ((win0_2.blk t).view.emb j)) (V m c main_v2 ((win0_3.blk t).view.emb j)) = change (V m c main_v0 ((win0_4.blk t).view.emb j)) (V m c main_arg1 ((win0_4.blk t).view.emb j)) (V m c main_v1 ((win0_4.blk t).view.emb j)) (V m c main_v2 ((win0_4.blk t).view.emb j))
  exact congr4 (congrArg (V m c main_v0) (congrFun (same (m := 32) (n := 1024) (M := 480) (N := 1024) (e := (win0_0.blk t).view.emb) (e' := (win0_4.blk t).view.emb) (i := win0_0.index t) (o := win0_4.index t) (fun _ _ => rfl) (fun _ _ => rfl) (h0.trans rfl)) j)) (congrArg (V m c main_arg1) (congrFun (same (m := 32) (n := 1024) (M := 480) (N := 1024) (e := (win0_1.blk t).view.emb) (e' := (win0_4.blk t).view.emb) (i := win0_1.index t) (o := win0_4.index t) (fun _ _ => rfl) (fun _ _ => rfl) (h1.trans rfl)) j)) (congrArg (V m c main_v1) (congrFun (same (m := 32) (n := 1024) (M := 480) (N := 1024) (e := (win0_2.blk t).view.emb) (e' := (win0_4.blk t).view.emb) (i := win0_2.index t) (o := win0_4.index t) (fun _ _ => rfl) (fun _ _ => rfl) (h2.trans rfl)) j)) (congrArg (V m c main_v2) (congrFun (same (m := 32) (n := 1024) (M := 480) (N := 1024) (e := (win0_3.blk t).view.emb) (e' := (win0_4.blk t).view.emb) (i := win0_3.index t) (o := win0_4.index t) (fun _ _ => rfl) (fun _ _ => rfl) (h3.trans rfl)) j))

/-- The reference runs and keeps its arguments. -/
theorem ref_frame : Cert.quiescent_AdamLoraGRefIdeal := fun m ρ _ =>
  (θ_run _ _ _).mono (fun r h => ⟨fun c => (h c).2.2.2, sem_eq_zero_of_no_sems (by decide) r.2⟩) (AdamLoraGRefIdeal.Value.run m ρ)

/-- The kernel's three results and the reference's are equal, element by element. -/
theorem algebraic : Cert.algebraic_AdamLoraGIdeal_AdamLoraGRefIdeal := fun m ρ m' ρ' _ hag =>
  ⟨fun c i => change ((shapeCast S480x1024 (m ((c : Thread nD τ).loc main_arg0)) shapeCasts_S1x480x1024_S480x1024) i) ((m ((c : Thread nD τ).loc main_arg1)) i) ((shapeCast S480x1024 (m ((c : Thread nD τ).loc main_arg2)) shapeCasts_S1x480x1024_S480x1024) i) ((shapeCast S480x1024 (m ((c : Thread nD τ).loc main_arg3)) shapeCasts_S1x480x1024_S480x1024) i), fun c i => first ((m ((c : Thread nD τ).loc main_arg1)) i) ((shapeCast S480x1024 (m ((c : Thread nD τ).loc main_arg2)) shapeCasts_S1x480x1024_S480x1024) i), fun c i => second ((m ((c : Thread nD τ).loc main_arg1)) i) ((shapeCast S480x1024 (m ((c : Thread nD τ).loc main_arg3)) shapeCasts_S1x480x1024_S480x1024) i),
    (θ_run _ _ _).mono (fun _ h c => ⟨(h c).1.trans (final4 m c), (h c).2.1.trans (final5 m c), (h c).2.2.1.trans (final6 m c), (h c).2.2.2⟩)
      (Value.run_blocks m ρ),
    (θ_run _ _ _).mono (fun _ h c => by
      obtain ⟨r0, r1, r2, keep⟩ := h c
      obtain ⟨a0, a1, a2, a3⟩ := hag c
      refine ⟨r0.trans ?_, r1.trans ?_, r2.trans ?_, keep⟩
      · rw [a0, a1, a2, a3]; rfl
      · rw [a1, a2]; rfl
      · rw [a1, a3]; rfl) (AdamLoraGRefIdeal.Value.run m' ρ')⟩

end Cert.AdamLoraGIdeal.Update

namespace Cert.AdamSquareIdeal.Update

open Cert.AdamSquareIdeal Cert.AdamSquareIdeal.Gen Cert.Update

/-- All the windows of a grid point are of the same block. -/
theorem bands : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem onto4 : ∀ u : Fin 16, ∀ v : Fin 1, ∃ t : Fin cfg0.N, win0_4.index t = ![u.val, v.val] := by decide +kernel
theorem onto5 : ∀ u : Fin 16, ∀ v : Fin 1, ∃ t : Fin cfg0.N, win0_5.index t = ![u.val, v.val] := by decide +kernel
theorem onto6 : ∀ u : Fin 16, ∀ v : Fin 1, ∃ t : Fin cfg0.N, win0_6.index t = ![u.val, v.val] := by decide +kernel

/-- What a block is given, element by element. -/
theorem pay1 (g a : FVec Ideal S64x4096 .f32) : k0_pay1 (F := Ideal) g a = fun j => first (g j) (a j) := by
  unfold k0_pay1; simp only [shapeCast_self]; rfl
theorem pay2 (g b : FVec Ideal S64x4096 .f32) : k0_pay2 (F := Ideal) g b = fun j => second (g j) (b j) := by
  unfold k0_pay2; simp only [shapeCast_self]; rfl
theorem pay3 (g a b w : FVec Ideal S64x4096 .f32) : k0_pay3 (F := Ideal) g a b w = fun j => change (w j) (g j) (a j) (b j) := by
  unfold k0_pay3; simp only [shapeCast_self, pay1, pay2]; rfl

variable (m : (ℓ : Loc nD τ sig) → Buf (Elt Ideal) ℓ) (c : Dev nD)

/-- The weight that the grid finds, without its leading axis; and its moments. -/
theorem weight : V m c main_v0 = (shapeCast S1024x4096 (m ((c : Thread nD τ).loc main_arg0)) shapeCasts_S1x1024x4096_S1024x4096) := by unfold V; after_results_simp <;> rfl
theorem mom1 : V m c main_v1 = (shapeCast S1024x4096 (m ((c : Thread nD τ).loc main_arg2)) shapeCasts_S1x1024x4096_S1024x4096) := by unfold V; after_results_simp <;> rfl
theorem mom2 : V m c main_v2 = (shapeCast S1024x4096 (m ((c : Thread nD τ).loc main_arg3)) shapeCasts_S1x1024x4096_S1024x4096) := by unfold V; after_results_simp <;> rfl

/-- The grid leaves the new first moment. -/
theorem final5 : (dats m 0 c).arrAt 5 cfg0.N = fun i => first ((m ((c : Thread nD τ).loc main_arg1)) i) ((shapeCast S1024x4096 (m ((c : Thread nD τ).loc main_arg2)) shapeCasts_S1x1024x4096_S1024x4096) i) := by
  refine (dats m 0 c).arrAt_eq_of_cover 5 _ (fun t _ => ?_) (fun x => (Products.cover (m := 64) (n := 4096) win0_5.index
    (fun t x => x ∈ ((cfg0.win 5).blk t).view.set)
    (fun t x => by show x ∈ ((View.whole main_v3_1).slice (win0_5.rect t)).set ↔ _; rw [View.set_slice_whole, Rect.mem_set_unit]; exact Iff.rfl) rfl rfl onto5 x).imp fun t ht => ⟨flush0_5 t, ht⟩)
  rw [Value.flushed5]
  unfold out0_5
  rw [View.canon_unit_zero Products.offs]
  simp only [View.ld_unit_zero (S := S64x4096) Products.offs, ← mom1, pay1]
  obtain ⟨h0, h1, h2, h3, h5, h6⟩ := bands t
  funext j
  show first (V m c main_arg1 ((win0_1.blk t).view.emb j)) (V m c main_v1 ((win0_2.blk t).view.emb j)) = first (V m c main_arg1 ((win0_5.blk t).view.emb j)) (V m c main_v1 ((win0_5.blk t).view.emb j))
  exact congrArg₂ first (congrArg (V m c main_arg1) (congrFun (same (m := 64) (n := 4096) (M := 1024) (N := 4096) (e := (win0_1.blk t).view.emb) (e' := (win0_5.blk t).view.emb) (i := win0_1.index t) (o := win0_5.index t) (fun _ _ => rfl) (fun _ _ => rfl) (h1.trans h5.symm)) j)) (congrArg (V m c main_v1) (congrFun (same (m := 64) (n := 4096) (M := 1024) (N := 4096) (e := (win0_2.blk t).view.emb) (e' := (win0_5.blk t).view.emb) (i := win0_2.index t) (o := win0_5.index t) (fun _ _ => rfl) (fun _ _ => rfl) (h2.trans h5.symm)) j))

/-- The grid leaves the new second moment. -/
theorem final6 : (dats m 0 c).arrAt 6 cfg0.N = fun i => second ((m ((c : Thread nD τ).loc main_arg1)) i) ((shapeCast S1024x4096 (m ((c : Thread nD τ).loc main_arg3)) shapeCasts_S1x1024x4096_S1024x4096) i) := by
  refine (dats m 0 c).arrAt_eq_of_cover 6 _ (fun t _ => ?_) (fun x => (Products.cover (m := 64) (n := 4096) win0_6.index
    (fun t x => x ∈ ((cfg0.win 6).blk t).view.set)
    (fun t x => by show x ∈ ((View.whole main_v3_2).slice (win0_6.rect t)).set ↔ _; rw [View.set_slice_whole, Rect.mem_set_unit]; exact Iff.rfl) rfl rfl onto6 x).imp fun t ht => ⟨flush0_6 t, ht⟩)
  rw [Value.flushed6]
  unfold out0_6
  rw [View.canon_unit_zero Products.offs]
  simp only [View.ld_unit_zero (S := S64x4096) Products.offs, ← mom2, pay2]
  obtain ⟨h0, h1, h2, h3, h5, h6⟩ := bands t
  funext j
  show second (V m c main_arg1 ((win0_1.blk t).view.emb j)) (V m c main_v2 ((win0_3.blk t).view.emb j)) = second (V m c main_arg1 ((win0_6.blk t).view.emb j)) (V m c main_v2 ((win0_6.blk t).view.emb j))
  exact congrArg₂ second (congrArg (V m c main_arg1) (congrFun (same (m := 64) (n := 4096) (M := 1024) (N := 4096) (e := (win0_1.blk t).view.emb) (e' := (win0_6.blk t).view.emb) (i := win0_1.index t) (o := win0_6.index t) (fun _ _ => rfl) (fun _ _ => rfl) (h1.trans h6.symm)) j)) (congrArg (V m c main_v2) (congrFun (same (m := 64) (n := 4096) (M := 1024) (N := 4096) (e := (win0_3.blk t).view.emb) (e' := (win0_6.blk t).view.emb) (i := win0_3.index t) (o := win0_6.index t) (fun _ _ => rfl) (fun _ _ => rfl) (h3.trans h6.symm)) j))

/-- The grid leaves the change of the weight. -/
theorem final4 : (dats m 0 c).arrAt 4 cfg0.N = fun i => change ((shapeCast S1024x4096 (m ((c : Thread nD τ).loc main_arg0)) shapeCasts_S1x1024x4096_S1024x4096) i) ((m ((c : Thread nD τ).loc main_arg1)) i) ((shapeCast S1024x4096 (m ((c : Thread nD τ).loc main_arg2)) shapeCasts_S1x1024x4096_S1024x4096) i) ((shapeCast S1024x4096 (m ((c : Thread nD τ).loc main_arg3)) shapeCasts_S1x1024x4096_S1024x4096) i) := by
  refine (dats m 0 c).arrAt_eq_of_cover 4 _ (fun t _ => ?_) (fun x => (Products.cover (m := 64) (n := 4096) win0_4.index
    (fun t x => x ∈ ((cfg0.win 4).blk t).view.set)
    (fun t x => by show x ∈ ((View.whole main_v3_0).slice (win0_4.rect t)).set ↔ _; rw [View.set_slice_whole, Rect.mem_set_unit]; exact Iff.rfl) rfl rfl onto4 x).imp fun t ht => ⟨flush0_4 t, ht⟩)
  rw [Value.flushed4]
  unfold out0_4
  rw [View.canon_unit_zero Products.offs]
  simp only [View.ld_unit_zero (S := S64x4096) Products.offs, ← weight, ← mom1, ← mom2, pay3]
  obtain ⟨h0, h1, h2, h3, h5, h6⟩ := bands t
  funext j
  show change (V m c main_v0 ((win0_0.blk t).view.emb j)) (V m c main_arg1 ((win0_1.blk t).view.emb j)) (V m c main_v1 ((win0_2.blk t).view.emb j)) (V m c main_v2 ((win0_3.blk t).view.emb j)) = change (V m c main_v0 ((win0_4.blk t).view.emb j)) (V m c main_arg1 ((win0_4.blk t).view.emb j)) (V m c main_v1 ((win0_4.blk t).view.emb j)) (V m c main_v2 ((win0_4.blk t).view.emb j))
  exact congr4 (congrArg (V m c main_v0) (congrFun (same (m := 64) (n := 4096) (M := 1024) (N := 4096) (e := (win0_0.blk t).view.emb) (e' := (win0_4.blk t).view.emb) (i := win0_0.index t) (o := win0_4.index t) (fun _ _ => rfl) (fun _ _ => rfl) (h0.trans rfl)) j)) (congrArg (V m c main_arg1) (congrFun (same (m := 64) (n := 4096) (M := 1024) (N := 4096) (e := (win0_1.blk t).view.emb) (e' := (win0_4.blk t).view.emb) (i := win0_1.index t) (o := win0_4.index t) (fun _ _ => rfl) (fun _ _ => rfl) (h1.trans rfl)) j)) (congrArg (V m c main_v1) (congrFun (same (m := 64) (n := 4096) (M := 1024) (N := 4096) (e := (win0_2.blk t).view.emb) (e' := (win0_4.blk t).view.emb) (i := win0_2.index t) (o := win0_4.index t) (fun _ _ => rfl) (fun _ _ => rfl) (h2.trans rfl)) j)) (congrArg (V m c main_v2) (congrFun (same (m := 64) (n := 4096) (M := 1024) (N := 4096) (e := (win0_3.blk t).view.emb) (e' := (win0_4.blk t).view.emb) (i := win0_3.index t) (o := win0_4.index t) (fun _ _ => rfl) (fun _ _ => rfl) (h3.trans rfl)) j))

/-- The reference runs and keeps its arguments. -/
theorem ref_frame : Cert.quiescent_AdamSquareRefIdeal := fun m ρ _ =>
  (θ_run _ _ _).mono (fun r h => ⟨fun c => (h c).2.2.2, sem_eq_zero_of_no_sems (by decide) r.2⟩) (AdamSquareRefIdeal.Value.run m ρ)

/-- The kernel's three results and the reference's are equal, element by element. -/
theorem algebraic : Cert.algebraic_AdamSquareIdeal_AdamSquareRefIdeal := fun m ρ m' ρ' _ hag =>
  ⟨fun c i => change ((shapeCast S1024x4096 (m ((c : Thread nD τ).loc main_arg0)) shapeCasts_S1x1024x4096_S1024x4096) i) ((m ((c : Thread nD τ).loc main_arg1)) i) ((shapeCast S1024x4096 (m ((c : Thread nD τ).loc main_arg2)) shapeCasts_S1x1024x4096_S1024x4096) i) ((shapeCast S1024x4096 (m ((c : Thread nD τ).loc main_arg3)) shapeCasts_S1x1024x4096_S1024x4096) i), fun c i => first ((m ((c : Thread nD τ).loc main_arg1)) i) ((shapeCast S1024x4096 (m ((c : Thread nD τ).loc main_arg2)) shapeCasts_S1x1024x4096_S1024x4096) i), fun c i => second ((m ((c : Thread nD τ).loc main_arg1)) i) ((shapeCast S1024x4096 (m ((c : Thread nD τ).loc main_arg3)) shapeCasts_S1x1024x4096_S1024x4096) i),
    (θ_run _ _ _).mono (fun _ h c => ⟨(h c).1.trans (final4 m c), (h c).2.1.trans (final5 m c), (h c).2.2.1.trans (final6 m c), (h c).2.2.2⟩)
      (Value.run_blocks m ρ),
    (θ_run _ _ _).mono (fun _ h c => by
      obtain ⟨r0, r1, r2, keep⟩ := h c
      obtain ⟨a0, a1, a2, a3⟩ := hag c
      refine ⟨r0.trans ?_, r1.trans ?_, r2.trans ?_, keep⟩
      · rw [a0, a1, a2, a3]; rfl
      · rw [a1, a2]; rfl
      · rw [a1, a3]; rfl) (AdamSquareRefIdeal.Value.run m' ρ')⟩

end Cert.AdamSquareIdeal.Update

namespace Cert.AdamUpIdeal.Update

open Cert.AdamUpIdeal Cert.AdamUpIdeal.Gen Cert.Update

/-- All the windows of a grid point are of the same block. -/
theorem bands : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem onto4 : ∀ u : Fin 64, ∀ v : Fin 1, ∃ t : Fin cfg0.N, win0_4.index t = ![u.val, v.val] := by decide +kernel
theorem onto5 : ∀ u : Fin 64, ∀ v : Fin 1, ∃ t : Fin cfg0.N, win0_5.index t = ![u.val, v.val] := by decide +kernel
theorem onto6 : ∀ u : Fin 64, ∀ v : Fin 1, ∃ t : Fin cfg0.N, win0_6.index t = ![u.val, v.val] := by decide +kernel

/-- What a block is given, element by element. -/
theorem pay1 (g a : FVec Ideal S64x2752 .f32) : k0_pay1 (F := Ideal) g a = fun j => first (g j) (a j) := by
  unfold k0_pay1; simp only [shapeCast_self]; rfl
theorem pay2 (g b : FVec Ideal S64x2752 .f32) : k0_pay2 (F := Ideal) g b = fun j => second (g j) (b j) := by
  unfold k0_pay2; simp only [shapeCast_self]; rfl
theorem pay3 (g a b w : FVec Ideal S64x2752 .f32) : k0_pay3 (F := Ideal) g a b w = fun j => change (w j) (g j) (a j) (b j) := by
  unfold k0_pay3; simp only [shapeCast_self, pay1, pay2]; rfl

variable (m : (ℓ : Loc nD τ sig) → Buf (Elt Ideal) ℓ) (c : Dev nD)

/-- The weight that the grid finds, without its leading axis; and its moments. -/
theorem weight : V m c main_v0 = (shapeCast S4096x2752 (m ((c : Thread nD τ).loc main_arg0)) shapeCasts_S1x4096x2752_S4096x2752) := by unfold V; after_results_simp <;> rfl
theorem mom1 : V m c main_v1 = (shapeCast S4096x2752 (m ((c : Thread nD τ).loc main_arg2)) shapeCasts_S1x4096x2752_S4096x2752) := by unfold V; after_results_simp <;> rfl
theorem mom2 : V m c main_v2 = (shapeCast S4096x2752 (m ((c : Thread nD τ).loc main_arg3)) shapeCasts_S1x4096x2752_S4096x2752) := by unfold V; after_results_simp <;> rfl

/-- The grid leaves the new first moment. -/
theorem final5 : (dats m 0 c).arrAt 5 cfg0.N = fun i => first ((m ((c : Thread nD τ).loc main_arg1)) i) ((shapeCast S4096x2752 (m ((c : Thread nD τ).loc main_arg2)) shapeCasts_S1x4096x2752_S4096x2752) i) := by
  refine (dats m 0 c).arrAt_eq_of_cover 5 _ (fun t _ => ?_) (fun x => (Products.cover (m := 64) (n := 2752) win0_5.index
    (fun t x => x ∈ ((cfg0.win 5).blk t).view.set)
    (fun t x => by show x ∈ ((View.whole main_v3_1).slice (win0_5.rect t)).set ↔ _; rw [View.set_slice_whole, Rect.mem_set_unit]; exact Iff.rfl) rfl rfl onto5 x).imp fun t ht => ⟨flush0_5 t, ht⟩)
  rw [Value.flushed5]
  unfold out0_5
  rw [View.canon_unit_zero Products.offs]
  simp only [View.ld_unit_zero (S := S64x2752) Products.offs, ← mom1, pay1]
  obtain ⟨h0, h1, h2, h3, h5, h6⟩ := bands t
  funext j
  show first (V m c main_arg1 ((win0_1.blk t).view.emb j)) (V m c main_v1 ((win0_2.blk t).view.emb j)) = first (V m c main_arg1 ((win0_5.blk t).view.emb j)) (V m c main_v1 ((win0_5.blk t).view.emb j))
  exact congrArg₂ first (congrArg (V m c main_arg1) (congrFun (same (m := 64) (n := 2752) (M := 4096) (N := 2752) (e := (win0_1.blk t).view.emb) (e' := (win0_5.blk t).view.emb) (i := win0_1.index t) (o := win0_5.index t) (fun _ _ => rfl) (fun _ _ => rfl) (h1.trans h5.symm)) j)) (congrArg (V m c main_v1) (congrFun (same (m := 64) (n := 2752) (M := 4096) (N := 2752) (e := (win0_2.blk t).view.emb) (e' := (win0_5.blk t).view.emb) (i := win0_2.index t) (o := win0_5.index t) (fun _ _ => rfl) (fun _ _ => rfl) (h2.trans h5.symm)) j))

/-- The grid leaves the new second moment. -/
theorem final6 : (dats m 0 c).arrAt 6 cfg0.N = fun i => second ((m ((c : Thread nD τ).loc main_arg1)) i) ((shapeCast S4096x2752 (m ((c : Thread nD τ).loc main_arg3)) shapeCasts_S1x4096x2752_S4096x2752) i) := by
  refine (dats m 0 c).arrAt_eq_of_cover 6 _ (fun t _ => ?_) (fun x => (Products.cover (m := 64) (n := 2752) win0_6.index
    (fun t x => x ∈ ((cfg0.win 6).blk t).view.set)
    (fun t x => by show x ∈ ((View.whole main_v3_2).slice (win0_6.rect t)).set ↔ _; rw [View.set_slice_whole, Rect.mem_set_unit]; exact Iff.rfl) rfl rfl onto6 x).imp fun t ht => ⟨flush0_6 t, ht⟩)
  rw [Value.flushed6]
  unfold out0_6
  rw [View.canon_unit_zero Products.offs]
  simp only [View.ld_unit_zero (S := S64x2752) Products.offs, ← mom2, pay2]
  obtain ⟨h0, h1, h2, h3, h5, h6⟩ := bands t
  funext j
  show second (V m c main_arg1 ((win0_1.blk t).view.emb j)) (V m c main_v2 ((win0_3.blk t).view.emb j)) = second (V m c main_arg1 ((win0_6.blk t).view.emb j)) (V m c main_v2 ((win0_6.blk t).view.emb j))
  exact congrArg₂ second (congrArg (V m c main_arg1) (congrFun (same (m := 64) (n := 2752) (M := 4096) (N := 2752) (e := (win0_1.blk t).view.emb) (e' := (win0_6.blk t).view.emb) (i := win0_1.index t) (o := win0_6.index t) (fun _ _ => rfl) (fun _ _ => rfl) (h1.trans h6.symm)) j)) (congrArg (V m c main_v2) (congrFun (same (m := 64) (n := 2752) (M := 4096) (N := 2752) (e := (win0_3.blk t).view.emb) (e' := (win0_6.blk t).view.emb) (i := win0_3.index t) (o := win0_6.index t) (fun _ _ => rfl) (fun _ _ => rfl) (h3.trans h6.symm)) j))

/-- The grid leaves the change of the weight. -/
theorem final4 : (dats m 0 c).arrAt 4 cfg0.N = fun i => change ((shapeCast S4096x2752 (m ((c : Thread nD τ).loc main_arg0)) shapeCasts_S1x4096x2752_S4096x2752) i) ((m ((c : Thread nD τ).loc main_arg1)) i) ((shapeCast S4096x2752 (m ((c : Thread nD τ).loc main_arg2)) shapeCasts_S1x4096x2752_S4096x2752) i) ((shapeCast S4096x2752 (m ((c : Thread nD τ).loc main_arg3)) shapeCasts_S1x4096x2752_S4096x2752) i) := by
  refine (dats m 0 c).arrAt_eq_of_cover 4 _ (fun t _ => ?_) (fun x => (Products.cover (m := 64) (n := 2752) win0_4.index
    (fun t x => x ∈ ((cfg0.win 4).blk t).view.set)
    (fun t x => by show x ∈ ((View.whole main_v3_0).slice (win0_4.rect t)).set ↔ _; rw [View.set_slice_whole, Rect.mem_set_unit]; exact Iff.rfl) rfl rfl onto4 x).imp fun t ht => ⟨flush0_4 t, ht⟩)
  rw [Value.flushed4]
  unfold out0_4
  rw [View.canon_unit_zero Products.offs]
  simp only [View.ld_unit_zero (S := S64x2752) Products.offs, ← weight, ← mom1, ← mom2, pay3]
  obtain ⟨h0, h1, h2, h3, h5, h6⟩ := bands t
  funext j
  show change (V m c main_v0 ((win0_0.blk t).view.emb j)) (V m c main_arg1 ((win0_1.blk t).view.emb j)) (V m c main_v1 ((win0_2.blk t).view.emb j)) (V m c main_v2 ((win0_3.blk t).view.emb j)) = change (V m c main_v0 ((win0_4.blk t).view.emb j)) (V m c main_arg1 ((win0_4.blk t).view.emb j)) (V m c main_v1 ((win0_4.blk t).view.emb j)) (V m c main_v2 ((win0_4.blk t).view.emb j))
  exact congr4 (congrArg (V m c main_v0) (congrFun (same (m := 64) (n := 2752) (M := 4096) (N := 2752) (e := (win0_0.blk t).view.emb) (e' := (win0_4.blk t).view.emb) (i := win0_0.index t) (o := win0_4.index t) (fun _ _ => rfl) (fun _ _ => rfl) (h0.trans rfl)) j)) (congrArg (V m c main_arg1) (congrFun (same (m := 64) (n := 2752) (M := 4096) (N := 2752) (e := (win0_1.blk t).view.emb) (e' := (win0_4.blk t).view.emb) (i := win0_1.index t) (o := win0_4.index t) (fun _ _ => rfl) (fun _ _ => rfl) (h1.trans rfl)) j)) (congrArg (V m c main_v1) (congrFun (same (m := 64) (n := 2752) (M := 4096) (N := 2752) (e := (win0_2.blk t).view.emb) (e' := (win0_4.blk t).view.emb) (i := win0_2.index t) (o := win0_4.index t) (fun _ _ => rfl) (fun _ _ => rfl) (h2.trans rfl)) j)) (congrArg (V m c main_v2) (congrFun (same (m := 64) (n := 2752) (M := 4096) (N := 2752) (e := (win0_3.blk t).view.emb) (e' := (win0_4.blk t).view.emb) (i := win0_3.index t) (o := win0_4.index t) (fun _ _ => rfl) (fun _ _ => rfl) (h3.trans rfl)) j))

/-- The reference runs and keeps its arguments. -/
theorem ref_frame : Cert.quiescent_AdamUpRefIdeal := fun m ρ _ =>
  (θ_run _ _ _).mono (fun r h => ⟨fun c => (h c).2.2.2, sem_eq_zero_of_no_sems (by decide) r.2⟩) (AdamUpRefIdeal.Value.run m ρ)

/-- The kernel's three results and the reference's are equal, element by element. -/
theorem algebraic : Cert.algebraic_AdamUpIdeal_AdamUpRefIdeal := fun m ρ m' ρ' _ hag =>
  ⟨fun c i => change ((shapeCast S4096x2752 (m ((c : Thread nD τ).loc main_arg0)) shapeCasts_S1x4096x2752_S4096x2752) i) ((m ((c : Thread nD τ).loc main_arg1)) i) ((shapeCast S4096x2752 (m ((c : Thread nD τ).loc main_arg2)) shapeCasts_S1x4096x2752_S4096x2752) i) ((shapeCast S4096x2752 (m ((c : Thread nD τ).loc main_arg3)) shapeCasts_S1x4096x2752_S4096x2752) i), fun c i => first ((m ((c : Thread nD τ).loc main_arg1)) i) ((shapeCast S4096x2752 (m ((c : Thread nD τ).loc main_arg2)) shapeCasts_S1x4096x2752_S4096x2752) i), fun c i => second ((m ((c : Thread nD τ).loc main_arg1)) i) ((shapeCast S4096x2752 (m ((c : Thread nD τ).loc main_arg3)) shapeCasts_S1x4096x2752_S4096x2752) i),
    (θ_run _ _ _).mono (fun _ h c => ⟨(h c).1.trans (final4 m c), (h c).2.1.trans (final5 m c), (h c).2.2.1.trans (final6 m c), (h c).2.2.2⟩)
      (Value.run_blocks m ρ),
    (θ_run _ _ _).mono (fun _ h c => by
      obtain ⟨r0, r1, r2, keep⟩ := h c
      obtain ⟨a0, a1, a2, a3⟩ := hag c
      refine ⟨r0.trans ?_, r1.trans ?_, r2.trans ?_, keep⟩
      · rw [a0, a1, a2, a3]; rfl
      · rw [a1, a2]; rfl
      · rw [a1, a3]; rfl) (AdamUpRefIdeal.Value.run m' ρ')⟩

end Cert.AdamUpIdeal.Update

namespace Cert.AdamDownIdeal.Update

open Cert.AdamDownIdeal Cert.AdamDownIdeal.Gen Cert.Update

/-- All the windows of a grid point are of the same block. -/
theorem bands : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem onto4 : ∀ u : Fin 43, ∀ v : Fin 1, ∃ t : Fin cfg0.N, win0_4.index t = ![u.val, v.val] := by decide +kernel
theorem onto5 : ∀ u : Fin 43, ∀ v : Fin 1, ∃ t : Fin cfg0.N, win0_5.index t = ![u.val, v.val] := by decide +kernel
theorem onto6 : ∀ u : Fin 43, ∀ v : Fin 1, ∃ t : Fin cfg0.N, win0_6.index t = ![u.val, v.val] := by decide +kernel

/-- What a block is given, element by element. -/
theorem pay1 (g a : FVec Ideal S64x4096 .f32) : k0_pay1 (F := Ideal) g a = fun j => first (g j) (a j) := by
  unfold k0_pay1; simp only [shapeCast_self]; rfl
theorem pay2 (g b : FVec Ideal S64x4096 .f32) : k0_pay2 (F := Ideal) g b = fun j => second (g j) (b j) := by
  unfold k0_pay2; simp only [shapeCast_self]; rfl
theorem pay3 (g a b w : FVec Ideal S64x4096 .f32) : k0_pay3 (F := Ideal) g a b w = fun j => change (w j) (g j) (a j) (b j) := by
  unfold k0_pay3; simp only [shapeCast_self, pay1, pay2]; rfl

variable (m : (ℓ : Loc nD τ sig) → Buf (Elt Ideal) ℓ) (c : Dev nD)

/-- The weight that the grid finds, without its leading axis; and its moments. -/
theorem weight : V m c main_v0 = (shapeCast S2752x4096 (m ((c : Thread nD τ).loc main_arg0)) shapeCasts_S1x2752x4096_S2752x4096) := by unfold V; after_results_simp <;> rfl
theorem mom1 : V m c main_v1 = (shapeCast S2752x4096 (m ((c : Thread nD τ).loc main_arg2)) shapeCasts_S1x2752x4096_S2752x4096) := by unfold V; after_results_simp <;> rfl
theorem mom2 : V m c main_v2 = (shapeCast S2752x4096 (m ((c : Thread nD τ).loc main_arg3)) shapeCasts_S1x2752x4096_S2752x4096) := by unfold V; after_results_simp <;> rfl

/-- The grid leaves the new first moment. -/
theorem final5 : (dats m 0 c).arrAt 5 cfg0.N = fun i => first ((m ((c : Thread nD τ).loc main_arg1)) i) ((shapeCast S2752x4096 (m ((c : Thread nD τ).loc main_arg2)) shapeCasts_S1x2752x4096_S2752x4096) i) := by
  refine (dats m 0 c).arrAt_eq_of_cover 5 _ (fun t _ => ?_) (fun x => (Products.cover (m := 64) (n := 4096) win0_5.index
    (fun t x => x ∈ ((cfg0.win 5).blk t).view.set)
    (fun t x => by show x ∈ ((View.whole main_v3_1).slice (win0_5.rect t)).set ↔ _; rw [View.set_slice_whole, Rect.mem_set_unit]; exact Iff.rfl) rfl rfl onto5 x).imp fun t ht => ⟨flush0_5 t, ht⟩)
  rw [Value.flushed5]
  unfold out0_5
  rw [View.canon_unit_zero Products.offs]
  simp only [View.ld_unit_zero (S := S64x4096) Products.offs, ← mom1, pay1]
  obtain ⟨h0, h1, h2, h3, h5, h6⟩ := bands t
  funext j
  show first (V m c main_arg1 ((win0_1.blk t).view.emb j)) (V m c main_v1 ((win0_2.blk t).view.emb j)) = first (V m c main_arg1 ((win0_5.blk t).view.emb j)) (V m c main_v1 ((win0_5.blk t).view.emb j))
  exact congrArg₂ first (congrArg (V m c main_arg1) (congrFun (same (m := 64) (n := 4096) (M := 2752) (N := 4096) (e := (win0_1.blk t).view.emb) (e' := (win0_5.blk t).view.emb) (i := win0_1.index t) (o := win0_5.index t) (fun _ _ => rfl) (fun _ _ => rfl) (h1.trans h5.symm)) j)) (congrArg (V m c main_v1) (congrFun (same (m := 64) (n := 4096) (M := 2752) (N := 4096) (e := (win0_2.blk t).view.emb) (e' := (win0_5.blk t).view.emb) (i := win0_2.index t) (o := win0_5.index t) (fun _ _ => rfl) (fun _ _ => rfl) (h2.trans h5.symm)) j))

/-- The grid leaves the new second moment. -/
theorem final6 : (dats m 0 c).arrAt 6 cfg0.N = fun i => second ((m ((c : Thread nD τ).loc main_arg1)) i) ((shapeCast S2752x4096 (m ((c : Thread nD τ).loc main_arg3)) shapeCasts_S1x2752x4096_S2752x4096) i) := by
  refine (dats m 0 c).arrAt_eq_of_cover 6 _ (fun t _ => ?_) (fun x => (Products.cover (m := 64) (n := 4096) win0_6.index
    (fun t x => x ∈ ((cfg0.win 6).blk t).view.set)
    (fun t x => by show x ∈ ((View.whole main_v3_2).slice (win0_6.rect t)).set ↔ _; rw [View.set_slice_whole, Rect.mem_set_unit]; exact Iff.rfl) rfl rfl onto6 x).imp fun t ht => ⟨flush0_6 t, ht⟩)
  rw [Value.flushed6]
  unfold out0_6
  rw [View.canon_unit_zero Products.offs]
  simp only [View.ld_unit_zero (S := S64x4096) Products.offs, ← mom2, pay2]
  obtain ⟨h0, h1, h2, h3, h5, h6⟩ := bands t
  funext j
  show second (V m c main_arg1 ((win0_1.blk t).view.emb j)) (V m c main_v2 ((win0_3.blk t).view.emb j)) = second (V m c main_arg1 ((win0_6.blk t).view.emb j)) (V m c main_v2 ((win0_6.blk t).view.emb j))
  exact congrArg₂ second (congrArg (V m c main_arg1) (congrFun (same (m := 64) (n := 4096) (M := 2752) (N := 4096) (e := (win0_1.blk t).view.emb) (e' := (win0_6.blk t).view.emb) (i := win0_1.index t) (o := win0_6.index t) (fun _ _ => rfl) (fun _ _ => rfl) (h1.trans h6.symm)) j)) (congrArg (V m c main_v2) (congrFun (same (m := 64) (n := 4096) (M := 2752) (N := 4096) (e := (win0_3.blk t).view.emb) (e' := (win0_6.blk t).view.emb) (i := win0_3.index t) (o := win0_6.index t) (fun _ _ => rfl) (fun _ _ => rfl) (h3.trans h6.symm)) j))

/-- The grid leaves the change of the weight. -/
theorem final4 : (dats m 0 c).arrAt 4 cfg0.N = fun i => change ((shapeCast S2752x4096 (m ((c : Thread nD τ).loc main_arg0)) shapeCasts_S1x2752x4096_S2752x4096) i) ((m ((c : Thread nD τ).loc main_arg1)) i) ((shapeCast S2752x4096 (m ((c : Thread nD τ).loc main_arg2)) shapeCasts_S1x2752x4096_S2752x4096) i) ((shapeCast S2752x4096 (m ((c : Thread nD τ).loc main_arg3)) shapeCasts_S1x2752x4096_S2752x4096) i) := by
  refine (dats m 0 c).arrAt_eq_of_cover 4 _ (fun t _ => ?_) (fun x => (Products.cover (m := 64) (n := 4096) win0_4.index
    (fun t x => x ∈ ((cfg0.win 4).blk t).view.set)
    (fun t x => by show x ∈ ((View.whole main_v3_0).slice (win0_4.rect t)).set ↔ _; rw [View.set_slice_whole, Rect.mem_set_unit]; exact Iff.rfl) rfl rfl onto4 x).imp fun t ht => ⟨flush0_4 t, ht⟩)
  rw [Value.flushed4]
  unfold out0_4
  rw [View.canon_unit_zero Products.offs]
  simp only [View.ld_unit_zero (S := S64x4096) Products.offs, ← weight, ← mom1, ← mom2, pay3]
  obtain ⟨h0, h1, h2, h3, h5, h6⟩ := bands t
  funext j
  show change (V m c main_v0 ((win0_0.blk t).view.emb j)) (V m c main_arg1 ((win0_1.blk t).view.emb j)) (V m c main_v1 ((win0_2.blk t).view.emb j)) (V m c main_v2 ((win0_3.blk t).view.emb j)) = change (V m c main_v0 ((win0_4.blk t).view.emb j)) (V m c main_arg1 ((win0_4.blk t).view.emb j)) (V m c main_v1 ((win0_4.blk t).view.emb j)) (V m c main_v2 ((win0_4.blk t).view.emb j))
  exact congr4 (congrArg (V m c main_v0) (congrFun (same (m := 64) (n := 4096) (M := 2752) (N := 4096) (e := (win0_0.blk t).view.emb) (e' := (win0_4.blk t).view.emb) (i := win0_0.index t) (o := win0_4.index t) (fun _ _ => rfl) (fun _ _ => rfl) (h0.trans rfl)) j)) (congrArg (V m c main_arg1) (congrFun (same (m := 64) (n := 4096) (M := 2752) (N := 4096) (e := (win0_1.blk t).view.emb) (e' := (win0_4.blk t).view.emb) (i := win0_1.index t) (o := win0_4.index t) (fun _ _ => rfl) (fun _ _ => rfl) (h1.trans rfl)) j)) (congrArg (V m c main_v1) (congrFun (same (m := 64) (n := 4096) (M := 2752) (N := 4096) (e := (win0_2.blk t).view.emb) (e' := (win0_4.blk t).view.emb) (i := win0_2.index t) (o := win0_4.index t) (fun _ _ => rfl) (fun _ _ => rfl) (h2.trans rfl)) j)) (congrArg (V m c main_v2) (congrFun (same (m := 64) (n := 4096) (M := 2752) (N := 4096) (e := (win0_3.blk t).view.emb) (e' := (win0_4.blk t).view.emb) (i := win0_3.index t) (o := win0_4.index t) (fun _ _ => rfl) (fun _ _ => rfl) (h3.trans rfl)) j))

/-- The reference runs and keeps its arguments. -/
theorem ref_frame : Cert.quiescent_AdamDownRefIdeal := fun m ρ _ =>
  (θ_run _ _ _).mono (fun r h => ⟨fun c => (h c).2.2.2, sem_eq_zero_of_no_sems (by decide) r.2⟩) (AdamDownRefIdeal.Value.run m ρ)

/-- The kernel's three results and the reference's are equal, element by element. -/
theorem algebraic : Cert.algebraic_AdamDownIdeal_AdamDownRefIdeal := fun m ρ m' ρ' _ hag =>
  ⟨fun c i => change ((shapeCast S2752x4096 (m ((c : Thread nD τ).loc main_arg0)) shapeCasts_S1x2752x4096_S2752x4096) i) ((m ((c : Thread nD τ).loc main_arg1)) i) ((shapeCast S2752x4096 (m ((c : Thread nD τ).loc main_arg2)) shapeCasts_S1x2752x4096_S2752x4096) i) ((shapeCast S2752x4096 (m ((c : Thread nD τ).loc main_arg3)) shapeCasts_S1x2752x4096_S2752x4096) i), fun c i => first ((m ((c : Thread nD τ).loc main_arg1)) i) ((shapeCast S2752x4096 (m ((c : Thread nD τ).loc main_arg2)) shapeCasts_S1x2752x4096_S2752x4096) i), fun c i => second ((m ((c : Thread nD τ).loc main_arg1)) i) ((shapeCast S2752x4096 (m ((c : Thread nD τ).loc main_arg3)) shapeCasts_S1x2752x4096_S2752x4096) i),
    (θ_run _ _ _).mono (fun _ h c => ⟨(h c).1.trans (final4 m c), (h c).2.1.trans (final5 m c), (h c).2.2.1.trans (final6 m c), (h c).2.2.2⟩)
      (Value.run_blocks m ρ),
    (θ_run _ _ _).mono (fun _ h c => by
      obtain ⟨r0, r1, r2, keep⟩ := h c
      obtain ⟨a0, a1, a2, a3⟩ := hag c
      refine ⟨r0.trans ?_, r1.trans ?_, r2.trans ?_, keep⟩
      · rw [a0, a1, a2, a3]; rfl
      · rw [a1, a2]; rfl
      · rw [a1, a3]; rfl) (AdamDownRefIdeal.Value.run m' ρ')⟩

end Cert.AdamDownIdeal.Update

end
-- ==== Proof.Norms.lean ====
module

public import proofs.«01_k».proof.Proof.Merging
public import proofs.«01_k».proof.Proof.Gen.RmsFIdeal.Value
public import proofs.«01_k».proof.Proof.Gen.RmsFRefIdeal.Run
public import proofs.«01_k».proof.Proof.Gen.ResidFIdeal.Value
public import proofs.«01_k».proof.Proof.Gen.ResidFRefIdeal.Run
public import Idealize.ShloMosaic.Lib.Pointwise
public import Idealize.ShloMosaic.Lib.Tactic

@[expose] public section

set_option maxRecDepth 16384

noncomputable section

/-! The root mean square norm of each row, alone and after a residual: a block of rows is normalised as the rows of the array are. -/

open Idealize.ShloMosaic Idealize.ShloMosaic.TcCoe Idealize.SL.Sem

namespace Cert.Norm

/-- The mean of the squares of a row, and the small number added to it. -/
def mean (x : Fin 4096 → EReal) : EReal := Ideal.div (∑ k, x k * x k) (Ideal.ofBits .f32 0x45800000#32) + Ideal.ofBits .f32 0x358637BD#32

/-- A row over the root of its mean square, times the gain. -/
def norm (x g : Fin 4096 → EReal) (k : Fin 4096) : EReal := x k * Ideal.rsqrt (mean x) * g k

/-- A row of an array. -/
abbrev row {M : ℕ} (a : (Products.Mat M 4096).Idx → EReal) (r : Fin M) : Fin 4096 → EReal := fun k => a (ix2 r k)

theorem at_row {M : ℕ} (a : (Products.Mat M 4096).Idx → EReal) (j : (Products.Mat M 4096).Idx) : a j = row a (j 0) (j 1) := congrArg a (Shape.idx_ext₂ rfl rfl)

variable {M m : ℕ} {i o : Fin 2 → ℕ} {e e' : (Products.Mat m 4096).Idx → (Products.Mat M 4096).Idx}

/-- A block of whole rows has the rows of the array. -/
theorem lines (he : ∀ j a, (e j a : ℕ) = i a * (Products.Mat m 4096).size a + 1 * (j a : ℕ)) (he' : ∀ j a, (e' j a : ℕ) = o a * (Products.Mat m 4096).size a + 1 * (j a : ℕ))
    (h : i 0 = o 0) (h1 : i 1 = 0) (j : (Products.Mat m 4096).Idx) (k : Fin 4096) : e (ix2 (j 0) k) = ix2 (e' j 0) k := by
  refine Shape.idx_ext₂ ?_ ?_
  · exact (he _ 0).trans ((congrArg (fun n => n * m + 1 * (j 0 : ℕ)) h).trans (he' j 0).symm)
  · exact (he _ 1).trans ((congrArg (fun n => n * 4096 + 1 * (k : ℕ)) h1).trans (by omega : 0 * 4096 + 1 * (k : ℕ) = (k : ℕ)))

/-- And each of its columns is that of the array. -/
theorem column (he' : ∀ j a, (e' j a : ℕ) = o a * (Products.Mat m 4096).size a + 1 * (j a : ℕ)) (h1 : o 1 = 0) (j : (Products.Mat m 4096).Idx) : e' j 1 = j 1 :=
  Fin.ext ((he' j 1).trans ((congrArg (fun n => n * 4096 + 1 * (j 1 : ℕ)) h1).trans (by omega)))

/-- The gain, which a block has whole. -/
theorem whole {f : (Products.Mat 1 4096).Idx → (Products.Mat 1 4096).Idx} {i : Fin 2 → ℕ} (hf : ∀ j a, (f j a : ℕ) = i a * (Products.Mat 1 4096).size a + 1 * (j a : ℕ))
    (h0 : i 0 = 0) (h1 : i 1 = 0) (k : Fin 4096) : f (ix2 0 k) = ix2 0 k := by
  refine Shape.idx_ext₂ ?_ ?_
  · exact (hf _ 0).trans ((congrArg (fun n => n * 1 + 1 * 0) h0).trans rfl)
  · exact (hf _ 1).trans ((congrArg (fun n => n * 4096 + 1 * (k : ℕ)) h1).trans (by omega : 0 * 4096 + 1 * (k : ℕ) = (k : ℕ)))

end Cert.Norm

namespace Cert.RmsFIdeal.Norm

open Cert.RmsFIdeal Cert.RmsFIdeal.Gen Cert.Norm

/-- What a block is given, element by element. -/
theorem pay1 (x : FVec Ideal S128x4096 .f32) (g : FVec Ideal S1x4096 .f32) : k0_pay1 (F := Ideal) x g = fun j => norm (row x (j 0)) (row g 0) (j 1) := by
  funext j
  unfold k0_pay1
  pointwise
  rw [at_row x j]; rfl

/-- The rows that a grid point has. -/
theorem bands : ∀ t : Fin cfg0.N, win0_0.index t 0 = win0_2.index t 0 ∧ win0_0.index t 1 = 0 ∧ win0_1.index t 0 = 0 ∧ win0_1.index t 1 = 0 ∧ win0_2.index t 1 = 0 := by
  decide +kernel

theorem onto : ∀ u : Fin 32, ∀ v : Fin 1, ∃ t : Fin cfg0.N, win0_2.index t = ![u.val, v.val] := by decide +kernel

variable (m : (ℓ : Loc nD τ sig) → Buf (Elt Ideal) ℓ) (c : Dev nD)

/-- The array that the grid leaves has the norms of the rows. -/
theorem final : (dats m 0 c).arrAt 2 cfg0.N = fun i => norm (row (m ((c : Thread nD τ).loc main_arg0)) (i 0)) (row (m ((c : Thread nD τ).loc main_arg1)) 0) (i 1) := by
  refine (dats m 0 c).arrAt_eq_of_cover 2 _ (fun t _ => ?_) (fun x => (Products.cover (m := 128) (n := 4096) win0_2.index
    (fun t x => x ∈ ((cfg0.win 2).blk t).view.set)
    (fun t x => by show x ∈ ((View.whole main_v0).slice (win0_2.rect t)).set ↔ _; rw [View.set_slice_whole, Rect.mem_set_unit]; exact Iff.rfl) rfl rfl onto x).imp fun t ht => ⟨flush0_2 t, ht⟩)
  rw [Value.flushed2]
  unfold out0_2
  rw [View.canon_unit_zero Products.offs]
  simp only [View.ld_unit_zero (S := S128x4096) Products.offs, View.ld_unit_zero (S := S1x4096) Products.offs, pay1]
  obtain ⟨h0, h1, h2, h3, h4⟩ := bands t
  funext j
  show norm (fun k => V m c main_arg0 ((win0_0.blk t).view.emb (ix2 (j 0) k))) (fun k => V m c main_arg1 ((win0_1.blk t).view.emb (ix2 0 k))) (j 1)
    = norm (row (V m c main_arg0) ((win0_2.blk t).view.emb j 0)) (row (V m c main_arg1) 0) ((win0_2.blk t).view.emb j 1)
  have rows (k) : (win0_0.blk t).view.emb (ix2 (j 0) k) = ix2 ((win0_2.blk t).view.emb j 0) k :=
    lines (M := 4096) (m := 128) (i := win0_0.index t) (o := win0_2.index t) (fun _ _ => rfl) (fun _ _ => rfl) h0 h1 j k
  have gain (k) : (win0_1.blk t).view.emb (ix2 0 k) = ix2 0 k := whole (i := win0_1.index t) (fun _ _ => rfl) h2 h3 k
  have col : (win0_2.blk t).view.emb j 1 = j 1 := column (M := 4096) (m := 128) (o := win0_2.index t) (fun _ _ => rfl) h4 j
  simp only [rows, gain, col]
  rfl

/-- The reference runs and keeps its arguments. -/
theorem ref_frame : Cert.quiescent_RmsFRefIdeal := fun m ρ _ =>
  (θ_run _ _ _).mono (fun r h => ⟨fun c => (h c).2, sem_eq_zero_of_no_sems (by decide) r.2⟩) (RmsFRefIdeal.Value.run m ρ)

/-- The kernel's norms are the reference's. -/
theorem algebraic : Cert.algebraic_RmsFIdeal_RmsFRefIdeal := fun m ρ m' ρ' _ hag =>
  ⟨fun c i => norm (row (m ((c : Thread nD τ).loc main_arg0)) (i 0)) (row (m ((c : Thread nD τ).loc main_arg1)) 0) (i 1),
    (θ_run _ _ _).mono (fun _ h c => ⟨(h c).1.trans (final m c), (h c).2⟩) (Value.run_blocks m ρ),
    (θ_run _ _ _).mono (fun _ h c => by
      obtain ⟨r0, keep⟩ := h c
      obtain ⟨a0, a1⟩ := hag c
      refine ⟨r0.trans ?_, keep⟩
      rw [a0, a1]
      have step (x : FVec Ideal S4096x4096 .f32) (g : FVec Ideal S1x4096 .f32) (y : FVec Ideal S4096x4096 .bf16)
          (hy : ∀ i, y i = x i * Ideal.rsqrt (mean (row x (i 0))) * row g 0 (i 1)) : y = fun i => norm (row x (i 0)) (row g 0) (i 1) :=
        funext fun i => (hy i).trans (by rw [at_row x i]; rfl)
      refine step _ _ _ fun i => ?_
      pointwise
      rfl) (RmsFRefIdeal.Value.run m' ρ')⟩

end Cert.RmsFIdeal.Norm

namespace Cert.ResidFIdeal.Norm

open Cert.ResidFIdeal Cert.ResidFIdeal.Gen Cert.Norm

/-- The row after the residual. -/
def resid (x y g : Fin 4096 → EReal) (k : Fin 4096) : EReal := x k + norm y g k

/-- What the two blocks are given, element by element. -/
theorem pay1 (x y : FVec Ideal S128x4096 .f32) (g : FVec Ideal S1x4096 .f32) : k0_pay1 (F := Ideal) x y g = fun j => resid (row x (j 0)) (row y (j 0)) (row g 0) (j 1) := by
  funext j
  unfold k0_pay1
  pointwise
  rw [at_row x j, at_row y j]; rfl
theorem pay2 (x y : FVec Ideal S128x4096 .f32) (g h : FVec Ideal S1x4096 .f32) :
    k0_pay2 (F := Ideal) x y g h = fun j => norm (resid (row x (j 0)) (row y (j 0)) (row g 0)) (row h 0) (j 1) := by
  funext j
  unfold k0_pay2
  simp only [pay1]
  pointwise
  rfl

/-- The rows that a grid point has. -/
theorem bands : ∀ t : Fin cfg0.N, win0_0.index t 0 = win0_4.index t 0 ∧ win0_0.index t 1 = 0 ∧ win0_1.index t 0 = win0_4.index t 0 ∧ win0_1.index t 1 = 0
    ∧ win0_2.index t 0 = 0 ∧ win0_2.index t 1 = 0 ∧ win0_3.index t 0 = 0 ∧ win0_3.index t 1 = 0 ∧ win0_4.index t 1 = 0 ∧ win0_5.index t = win0_4.index t := by
  decide +kernel

theorem onto4 : ∀ u : Fin 32, ∀ v : Fin 1, ∃ t : Fin cfg0.N, win0_4.index t = ![u.val, v.val] := by decide +kernel
theorem onto5 : ∀ u : Fin 32, ∀ v : Fin 1, ∃ t : Fin cfg0.N, win0_5.index t = ![u.val, v.val] := by decide +kernel

variable (m : (ℓ : Loc nD τ sig) → Buf (Elt Ideal) ℓ) (c : Dev nD)

/-- The grid leaves the rows after the residual -/
theorem final4 : (dats m 0 c).arrAt 4 cfg0.N = fun i => resid (row (m ((c : Thread nD τ).loc main_arg0)) (i 0)) (row (m ((c : Thread nD τ).loc main_arg1)) (i 0)) (row (m ((c : Thread nD τ).loc main_arg2)) 0) (i 1) := by
  refine (dats m 0 c).arrAt_eq_of_cover 4 _ (fun t _ => ?_) (fun x => (Products.cover (m := 128) (n := 4096) win0_4.index
    (fun t x => x ∈ ((cfg0.win 4).blk t).view.set)
    (fun t x => by show x ∈ ((View.whole main_v0_0).slice (win0_4.rect t)).set ↔ _; rw [View.set_slice_whole, Rect.mem_set_unit]; exact Iff.rfl) rfl rfl onto4 x).imp fun t ht => ⟨flush0_4 t, ht⟩)
  rw [Value.flushed4]
  unfold out0_4
  rw [View.canon_unit_zero Products.offs]
  simp only [View.ld_unit_zero (S := S128x4096) Products.offs, View.ld_unit_zero (S := S1x4096) Products.offs, pay1]
  obtain ⟨h0, h0', h1, h1', h2, h2', h3, h3', h4, h5⟩ := bands t
  funext j
  show resid (fun k => V m c main_arg0 ((win0_0.blk t).view.emb (ix2 (j 0) k))) (fun k => V m c main_arg1 ((win0_1.blk t).view.emb (ix2 (j 0) k))) (fun k => V m c main_arg2 ((win0_2.blk t).view.emb (ix2 0 k))) (j 1)
    = resid (row (V m c main_arg0) ((win0_4.blk t).view.emb j 0)) (row (V m c main_arg1) ((win0_4.blk t).view.emb j 0)) (row (V m c main_arg2) 0) ((win0_4.blk t).view.emb j 1)
  have rows0 (k) : (win0_0.blk t).view.emb (ix2 (j 0) k) = ix2 ((win0_4.blk t).view.emb j 0) k :=
    lines (M := 4096) (m := 128) (i := win0_0.index t) (o := win0_4.index t) (fun _ _ => rfl) (fun _ _ => rfl) h0 h0' j k
  have rows1 (k) : (win0_1.blk t).view.emb (ix2 (j 0) k) = ix2 ((win0_4.blk t).view.emb j 0) k :=
    lines (M := 4096) (m := 128) (i := win0_1.index t) (o := win0_4.index t) (fun _ _ => rfl) (fun _ _ => rfl) h1 h1' j k
  have gain2 (k) : (win0_2.blk t).view.emb (ix2 0 k) = ix2 0 k := whole (i := win0_2.index t) (fun _ _ => rfl) h2 h2' k
  have gain3 (k) : (win0_3.blk t).view.emb (ix2 0 k) = ix2 0 k := whole (i := win0_3.index t) (fun _ _ => rfl) h3 h3' k
  have col : (win0_4.blk t).view.emb j 1 = j 1 := column (M := 4096) (m := 128) (o := win0_4.index t) (fun _ _ => rfl) h4 j
  simp only [rows0, rows1, gain2, col]
  rfl

/-- and their norms. -/
theorem final5 : (dats m 0 c).arrAt 5 cfg0.N = fun i => norm (resid (row (m ((c : Thread nD τ).loc main_arg0)) (i 0)) (row (m ((c : Thread nD τ).loc main_arg1)) (i 0)) (row (m ((c : Thread nD τ).loc main_arg2)) 0)) (row (m ((c : Thread nD τ).loc main_arg3)) 0) (i 1) := by
  refine (dats m 0 c).arrAt_eq_of_cover 5 _ (fun t _ => ?_) (fun x => (Products.cover (m := 128) (n := 4096) win0_5.index
    (fun t x => x ∈ ((cfg0.win 5).blk t).view.set)
    (fun t x => by show x ∈ ((View.whole main_v0_1).slice (win0_5.rect t)).set ↔ _; rw [View.set_slice_whole, Rect.mem_set_unit]; exact Iff.rfl) rfl rfl onto5 x).imp fun t ht => ⟨flush0_5 t, ht⟩)
  rw [Value.flushed5]
  unfold out0_5
  rw [View.canon_unit_zero Products.offs]
  simp only [View.ld_unit_zero (S := S128x4096) Products.offs, View.ld_unit_zero (S := S1x4096) Products.offs, pay2]
  obtain ⟨h0, h0', h1, h1', h2, h2', h3, h3', h4, h5⟩ := bands t
  funext j
  show norm (resid (fun k => V m c main_arg0 ((win0_0.blk t).view.emb (ix2 (j 0) k))) (fun k => V m c main_arg1 ((win0_1.blk t).view.emb (ix2 (j 0) k))) (fun k => V m c main_arg2 ((win0_2.blk t).view.emb (ix2 0 k)))) (fun k => V m c main_arg3 ((win0_3.blk t).view.emb (ix2 0 k))) (j 1)
    = norm (resid (row (V m c main_arg0) ((win0_5.blk t).view.emb j 0)) (row (V m c main_arg1) ((win0_5.blk t).view.emb j 0)) (row (V m c main_arg2) 0)) (row (V m c main_arg3) 0) ((win0_5.blk t).view.emb j 1)
  have rows0 (k) : (win0_0.blk t).view.emb (ix2 (j 0) k) = ix2 ((win0_5.blk t).view.emb j 0) k :=
    lines (M := 4096) (m := 128) (i := win0_0.index t) (o := win0_5.index t) (fun _ _ => rfl) (fun _ _ => rfl) (h0.trans (congrFun h5 0).symm) h0' j k
  have rows1 (k) : (win0_1.blk t).view.emb (ix2 (j 0) k) = ix2 ((win0_5.blk t).view.emb j 0) k :=
    lines (M := 4096) (m := 128) (i := win0_1.index t) (o := win0_5.index t) (fun _ _ => rfl) (fun _ _ => rfl) (h1.trans (congrFun h5 0).symm) h1' j k
  have gain2 (k) : (win0_2.blk t).view.emb (ix2 0 k) = ix2 0 k := whole (i := win0_2.index t) (fun _ _ => rfl) h2 h2' k
  have gain3 (k) : (win0_3.blk t).view.emb (ix2 0 k) = ix2 0 k := whole (i := win0_3.index t) (fun _ _ => rfl) h3 h3' k
  have col : (win0_5.blk t).view.emb j 1 = j 1 := column (M := 4096) (m := 128) (o := win0_5.index t) (fun _ _ => rfl) ((congrFun h5 1).trans h4) j
  simp only [rows0, rows1, gain2, gain3, col]
  rfl

/-- The reference runs and keeps its arguments. -/
theorem ref_frame : Cert.quiescent_ResidFRefIdeal := fun m ρ _ =>
  (θ_run _ _ _).mono (fun r h => ⟨fun c => (h c).2.2, sem_eq_zero_of_no_sems (by decide) r.2⟩) (ResidFRefIdeal.Value.run m ρ)

/-- The kernel's rows and norms are the reference's. -/
theorem algebraic : Cert.algebraic_ResidFIdeal_ResidFRefIdeal := fun m ρ m' ρ' _ hag =>
  ⟨fun c i => resid (row (m ((c : Thread nD τ).loc main_arg0)) (i 0)) (row (m ((c : Thread nD τ).loc main_arg1)) (i 0)) (row (m ((c : Thread nD τ).loc main_arg2)) 0) (i 1), fun c i => norm (resid (row (m ((c : Thread nD τ).loc main_arg0)) (i 0)) (row (m ((c : Thread nD τ).loc main_arg1)) (i 0)) (row (m ((c : Thread nD τ).loc main_arg2)) 0)) (row (m ((c : Thread nD τ).loc main_arg3)) 0) (i 1),
    (θ_run _ _ _).mono (fun _ h c => ⟨(h c).1.trans (final4 m c), (h c).2.1.trans (final5 m c), (h c).2.2⟩) (Value.run_blocks m ρ),
    (θ_run _ _ _).mono (fun _ h c => by
      obtain ⟨r0, r1, keep⟩ := h c
      obtain ⟨a0, a1, a2, a3⟩ := hag c
      refine ⟨r0.trans ?_, r1.trans ?_, keep⟩
      · rw [a0, a1, a2]
        have step (x y : FVec Ideal S4096x4096 .f32) (g : FVec Ideal S1x4096 .f32) (z : FVec Ideal S4096x4096 .f32)
            (hz : ∀ i, z i = x i + y i * Ideal.rsqrt (mean (row y (i 0))) * row g 0 (i 1)) : z = fun i => resid (row x (i 0)) (row y (i 0)) (row g 0) (i 1) :=
          funext fun i => (hz i).trans (by rw [at_row x i, at_row y i]; rfl)
        refine step _ _ _ _ fun i => ?_
        pointwise
        rfl
      · rw [a0, a1, a2, a3]
        have step (x y : FVec Ideal S4096x4096 .f32) (g h : FVec Ideal S1x4096 .f32) (z : FVec Ideal S4096x4096 .bf16)
            (hz : ∀ i, z i = (x i + y i * Ideal.rsqrt (mean (row y (i 0))) * row g 0 (i 1))
              * Ideal.rsqrt (mean (resid (row x (i 0)) (row y (i 0)) (row g 0))) * row h 0 (i 1)) :
            z = fun i => norm (resid (row x (i 0)) (row y (i 0)) (row g 0)) (row h 0) (i 1) :=
          funext fun i => (hz i).trans (by rw [at_row x i, at_row y i]; rfl)
        refine step _ _ _ _ _ fun i => ?_
        pointwise
        rfl) (ResidFRefIdeal.Value.run m' ρ')⟩

end Cert.ResidFIdeal.Norm

end
-- ==== Proof.Packed.lean ====
module

public import proofs.«01_k».proof.Proof.Updates
public import Idealize.ShloMosaic.Lib.Pipeline.Value
public import Idealize.ShloMosaic.Lib.KernelVsHost
public import Idealize.ShloMosaic.Lib.Pointwise.Reshape

@[expose] public section

set_option maxRecDepth 16384

noncomputable section

/-! Several small weights laid one after the other in one long line, the line filled up and folded into a matrix; and what an update of
the matrix, element by element, is for each of the weights. -/

open Idealize.ShloMosaic Idealize.ShloMosaic.TcCoe Idealize.SL.Sem

namespace Cert.Packed

open Cert.Update

/-- The shape of a line of `n` numbers. -/
abbrev Line (n : ℕ) : Shape := ⟨1, ![n]⟩

variable {n total len off hi : ℕ} {t s u : Shape}

/-- The pieces `xs`, one after the other, the line filled up with `v` and folded. -/
def pack (t : Shape) (xs : List ((s : Shape) × (s.Idx → EReal))) (h : Shape.Concatenates (xs.map (·.1)) (Line total) 0) (v : u.Idx → EReal)
    (hp : (Line total).Pads (![0] : Fin 1 → Nat) ![hi] ![0] (Line len)) (hu : 0 < u.numel) (ht : (Line len).ShapeCasts t) : t.Idx → EReal :=
  shapeCast t (pad (Line len) ![0] ![hi] ![0] (concatenate (Line total) 0 xs h) v hp hu) ht

/-- The `n` numbers from the place `off` on of a folded line, in the shape `s`. -/
def own (s : Shape) (off : ℕ) (x : t.Idx → EReal) (ht : t.ShapeCasts (Line len)) (ho : (Line len).Slices ![off] (Line n))
    (hs : (Line n).ShapeCasts s) : s.Idx → EReal :=
  shapeCast s (extractStridedSlice (Line n) ![off] (shapeCast (Line len) x ht) ho) hs

/-- From the place where a piece was laid one reads the piece. -/
theorem own_pack {xs : List ((s : Shape) × (s.Idx → EReal))} {h : Shape.Concatenates (xs.map (·.1)) (Line total) 0} {v : u.Idx → EReal}
    {hp : (Line total).Pads (![0] : Fin 1 → Nat) ![hi] ![0] (Line len)} {hu : 0 < u.numel} {ht : (Line len).ShapeCasts t}
    {ht' : t.ShapeCasts (Line len)} {ho : (Line len).Slices ![off] (Line n)} {hs : (Line n).ShapeCasts s} (k : ℕ) (hk : k < xs.length)
    (a : s.Idx → EReal) (ha : s.ShapeCasts (Line n)) (hx : xs[k] = ⟨Line n, shapeCast (Line n) a ha⟩)
    {ns : List ℕ} (hn : (xs.map (·.1)).map (fun s => if h : s.rank = (Line total).rank then s.size ((0 : Fin 1).cast h.symm) else 0) = ns)
    (hpre : (ns.take k).sum = off)
    (hb : off + n ≤ total) :
    own s off (pack t xs h v hp hu ht) ht' ho hs = a := by
  have read : extractStridedSlice (Line n) ![off] (pad (Line len) ![0] ![hi] ![0] (concatenate (Line total) 0 xs h) v hp hu) ho
      = shapeCast (Line n) a ha := by
    funext j
    refine (pad_apply_of_inside _ _ _ _ v hp hu _ (fun b => ⟨off + (j 0).val, (Subsingleton.elim 0 b) ▸
      (Nat.lt_of_lt_of_le (Nat.add_lt_add_left (j 0).isLt _) hb : off + (j 0).val < (Line total).size 0)⟩) (fun b => ?_)).trans ?_
    · obtain rfl : b = 0 := Subsingleton.elim _ _
      show off + (j 0).val = 0 + (off + (j 0).val) * (0 + 1)
      omega
    · exact concatenate_apply_piece 0 xs h _ k hk _ _ hx rfl off (by rw [List.map_take, List.map_take, hn]; exact hpre) j (fun b hb => absurd (Subsingleton.elim b 0) hb) rfl
  unfold own pack
  rw [shapeCast_shapeCast, read, shapeCast_shapeCast]

variable {w g m v : t.Idx → EReal} {w' g' m' v' : s.Idx → EReal}
    {ht : t.ShapeCasts (Line len)} {ho : (Line len).Slices ![off] (Line n)} {hs : (Line n).ShapeCasts s}

/-- The new first moment of the whole is that of each weight. -/
theorem own_first (hg : own s off g ht ho hs = g') (hm : own s off m ht ho hs = m') :
    own s off (fun i => first (g i) (m i)) ht ho hs = fun j => first (g' j) (m' j) := by
  subst hg hm; rfl

/-- The new second moment of the whole is that of each weight. -/
theorem own_second (hg : own s off g ht ho hs = g') (hv : own s off v ht ho hs = v') :
    own s off (fun i => second (g i) (v i)) ht ho hs = fun j => second (g' j) (v' j) := by
  subst hg hv; rfl

/-- The change of the whole is that of each weight. -/
theorem own_change (hw : own s off w ht ho hs = w') (hg : own s off g ht ho hs = g') (hm : own s off m ht ho hs = m')
    (hv : own s off v ht ho hs = v') :
    own s off (fun i => change (w i) (g i) (m i) (v i)) ht ho hs = fun j => change (w' j) (g' j) (m' j) (v' j) := by
  subst hw hg hm hv; rfl

end Cert.Packed
-- ==== Proof.Small.lean ====
module

public import proofs.«01_k».proof.Proof.Packed
public import proofs.«01_k».proof.Defs
public import proofs.«01_k».proof.Proof.Gen.AdamSmallIdeal.Frame
public import proofs.«01_k».proof.Proof.Gen.AdamSmallRefIdeal.Run
public import Idealize.ShloMosaic.Lib.StableHlo.RunRead
public import Idealize.ShloMosaic.Lib.Tactic

@[expose] public section

set_option maxRecDepth 16384

noncomputable section

/-! The optimiser's update of the small weights, which are laid into one array, updated together and taken apart again. -/

open Idealize.ShloMosaic Idealize.ShloMosaic.TcCoe Idealize.ShloMosaic.ValueIdx Idealize.SL.Sem

namespace Cert.AdamSmallIdeal.Update

open Cert.AdamSmallIdeal Cert.AdamSmallIdeal.Gen Cert.Update Cert.Packed

/-- One array for each of the small weights. -/
structure Small where
  a0 : FVec Ideal S1x4096 .f32
  a1 : FVec Ideal S1x4096 .f32
  a2 : FVec Ideal S1x4096 .f32
  a3 : FVec Ideal S1x4096 .f32
  a4 : FVec Ideal S1x6144 .f32
  a5 : FVec Ideal S1x32 .f32
  a6 : FVec Ideal S1x13024 .f32
  a7 : FVec Ideal S1x4096 .f32
  a8 : FVec Ideal S1x4096 .f32
  a9 : FVec Ideal S1x4096 .f32
  a10 : FVec Ideal S1x4096 .f32
  a11 : FVec Ideal S1x64x64 .f32
  a12 : FVec Ideal S1x4096 .f32
  a13 : FVec Ideal S1x4096 .f32

/-- The new first moments. -/
def firsts (g m : Small) : Small :=
  ⟨fun j => first (g.a0 j) (m.a0 j), fun j => first (g.a1 j) (m.a1 j), fun j => first (g.a2 j) (m.a2 j), fun j => first (g.a3 j) (m.a3 j), fun j => first (g.a4 j) (m.a4 j), fun j => first (g.a5 j) (m.a5 j), fun j => first (g.a6 j) (m.a6 j), fun j => first (g.a7 j) (m.a7 j), fun j => first (g.a8 j) (m.a8 j), fun j => first (g.a9 j) (m.a9 j), fun j => first (g.a10 j) (m.a10 j), fun j => first (g.a11 j) (m.a11 j), fun j => first (g.a12 j) (m.a12 j), fun j => first (g.a13 j) (m.a13 j)⟩
/-- The new second moments. -/
def seconds (g v : Small) : Small :=
  ⟨fun j => second (g.a0 j) (v.a0 j), fun j => second (g.a1 j) (v.a1 j), fun j => second (g.a2 j) (v.a2 j), fun j => second (g.a3 j) (v.a3 j), fun j => second (g.a4 j) (v.a4 j), fun j => second (g.a5 j) (v.a5 j), fun j => second (g.a6 j) (v.a6 j), fun j => second (g.a7 j) (v.a7 j), fun j => second (g.a8 j) (v.a8 j), fun j => second (g.a9 j) (v.a9 j), fun j => second (g.a10 j) (v.a10 j), fun j => second (g.a11 j) (v.a11 j), fun j => second (g.a12 j) (v.a12 j), fun j => second (g.a13 j) (v.a13 j)⟩
/-- The changes of the weights. -/
def changes (w g m v : Small) : Small :=
  ⟨fun j => change (w.a0 j) (g.a0 j) (m.a0 j) (v.a0 j), fun j => change (w.a1 j) (g.a1 j) (m.a1 j) (v.a1 j), fun j => change (w.a2 j) (g.a2 j) (m.a2 j) (v.a2 j), fun j => change (w.a3 j) (g.a3 j) (m.a3 j) (v.a3 j), fun j => change (w.a4 j) (g.a4 j) (m.a4 j) (v.a4 j), fun j => change (w.a5 j) (g.a5 j) (m.a5 j) (v.a5 j), fun j => change (w.a6 j) (g.a6 j) (m.a6 j) (v.a6 j), fun j => change (w.a7 j) (g.a7 j) (m.a7 j) (v.a7 j), fun j => change (w.a8 j) (g.a8 j) (m.a8 j) (v.a8 j), fun j => change (w.a9 j) (g.a9 j) (m.a9 j) (v.a9 j), fun j => change (w.a10 j) (g.a10 j) (m.a10 j) (v.a10 j), fun j => change (w.a11 j) (g.a11 j) (m.a11 j) (v.a11 j), fun j => change (w.a12 j) (g.a12 j) (m.a12 j) (v.a12 j), fun j => change (w.a13 j) (g.a13 j) (m.a13 j) (v.a13 j)⟩

/-- The arrays one after the other, each as a line. -/
abbrev lines (p : Small) : List ((s : Shape) × (s.Idx → EReal)) :=
  [⟨S4096, shapeCast S4096 p.a0 shapeCasts_S1x4096_S4096⟩, ⟨S4096, shapeCast S4096 p.a1 shapeCasts_S1x4096_S4096⟩, ⟨S4096, shapeCast S4096 p.a2 shapeCasts_S1x4096_S4096⟩, ⟨S4096, shapeCast S4096 p.a3 shapeCasts_S1x4096_S4096⟩, ⟨S6144, shapeCast S6144 p.a4 shapeCasts_S1x6144_S6144⟩, ⟨S32, shapeCast S32 p.a5 shapeCasts_S1x32_S32⟩, ⟨S13024, shapeCast S13024 p.a6 shapeCasts_S1x13024_S13024⟩, ⟨S4096, shapeCast S4096 p.a7 shapeCasts_S1x4096_S4096⟩, ⟨S4096, shapeCast S4096 p.a8 shapeCasts_S1x4096_S4096⟩, ⟨S4096, shapeCast S4096 p.a9 shapeCasts_S1x4096_S4096⟩, ⟨S4096, shapeCast S4096 p.a10 shapeCasts_S1x4096_S4096⟩, ⟨S4096, shapeCast S4096 p.a11 shapeCasts_S1x64x64_S4096⟩, ⟨S4096, shapeCast S4096 p.a12 shapeCasts_S1x4096_S4096⟩, ⟨S4096, shapeCast S4096 p.a13 shapeCasts_S1x4096_S4096⟩]

/-- The one array they are laid into. -/
abbrev folded (p : Small) : S504x128.Idx → EReal :=
  pack (total := 64256) (len := 64512) (hi := 256) S504x128 (lines p) concatenates_S4096_S4096_S4096_S4096_S6144_S32_S13024_S4096_S4096_S4096_S4096_S4096_S4096_S4096_S64256_d0
    (sitofp (F := Ideal) .f32 (constantI S_ 32 0#32)) pads_S64256_S64512_02560 h_S_ shapeCasts_S64512_S504x128

/-- At the places of the small weights the one array `x` has `p`. -/
def Is (x : S504x128.Idx → EReal) (p : Small) : Prop :=
  own (len := 64512) (n := 4096) S1x4096 0 x shapeCasts_S504x128_S64512 slices_S64512_S4096_0 shapeCasts_S4096_S1x4096 = p.a0
  ∧ own (len := 64512) (n := 4096) S1x4096 4096 x shapeCasts_S504x128_S64512 slices_S64512_S4096_4096 shapeCasts_S4096_S1x4096 = p.a1
  ∧ own (len := 64512) (n := 4096) S1x4096 8192 x shapeCasts_S504x128_S64512 slices_S64512_S4096_8192 shapeCasts_S4096_S1x4096 = p.a2
  ∧ own (len := 64512) (n := 4096) S1x4096 12288 x shapeCasts_S504x128_S64512 slices_S64512_S4096_12288 shapeCasts_S4096_S1x4096 = p.a3
  ∧ own (len := 64512) (n := 6144) S1x6144 16384 x shapeCasts_S504x128_S64512 slices_S64512_S6144_16384 shapeCasts_S6144_S1x6144 = p.a4
  ∧ own (len := 64512) (n := 32) S1x32 22528 x shapeCasts_S504x128_S64512 slices_S64512_S32_22528 shapeCasts_S32_S1x32 = p.a5
  ∧ own (len := 64512) (n := 13024) S1x13024 22560 x shapeCasts_S504x128_S64512 slices_S64512_S13024_22560 shapeCasts_S13024_S1x13024 = p.a6
  ∧ own (len := 64512) (n := 4096) S1x4096 35584 x shapeCasts_S504x128_S64512 slices_S64512_S4096_35584 shapeCasts_S4096_S1x4096 = p.a7
  ∧ own (len := 64512) (n := 4096) S1x4096 39680 x shapeCasts_S504x128_S64512 slices_S64512_S4096_39680 shapeCasts_S4096_S1x4096 = p.a8
  ∧ own (len := 64512) (n := 4096) S1x4096 43776 x shapeCasts_S504x128_S64512 slices_S64512_S4096_43776 shapeCasts_S4096_S1x4096 = p.a9
  ∧ own (len := 64512) (n := 4096) S1x4096 47872 x shapeCasts_S504x128_S64512 slices_S64512_S4096_47872 shapeCasts_S4096_S1x4096 = p.a10
  ∧ own (len := 64512) (n := 4096) S1x64x64 51968 x shapeCasts_S504x128_S64512 slices_S64512_S4096_51968 (Eq.symm shapeCasts_S1x64x64_S4096) = p.a11
  ∧ own (len := 64512) (n := 4096) S1x4096 56064 x shapeCasts_S504x128_S64512 slices_S64512_S4096_56064 shapeCasts_S4096_S1x4096 = p.a12
  ∧ own (len := 64512) (n := 4096) S1x4096 60160 x shapeCasts_S504x128_S64512 slices_S64512_S4096_60160 shapeCasts_S4096_S1x4096 = p.a13

/-- Pieces that are the arrays, each as a line, make the one array of them. -/
theorem laid {p : Small} {x0 : S4096.Idx → EReal} {x1 : S4096.Idx → EReal} {x2 : S4096.Idx → EReal} {x3 : S4096.Idx → EReal} {x4 : S6144.Idx → EReal} {x5 : S32.Idx → EReal} {x6 : S13024.Idx → EReal} {x7 : S4096.Idx → EReal} {x8 : S4096.Idx → EReal} {x9 : S4096.Idx → EReal} {x10 : S4096.Idx → EReal} {x11 : S4096.Idx → EReal} {x12 : S4096.Idx → EReal} {x13 : S4096.Idx → EReal}
    (e0 : x0 = shapeCast S4096 p.a0 shapeCasts_S1x4096_S4096) (e1 : x1 = shapeCast S4096 p.a1 shapeCasts_S1x4096_S4096) (e2 : x2 = shapeCast S4096 p.a2 shapeCasts_S1x4096_S4096) (e3 : x3 = shapeCast S4096 p.a3 shapeCasts_S1x4096_S4096) (e4 : x4 = shapeCast S6144 p.a4 shapeCasts_S1x6144_S6144) (e5 : x5 = shapeCast S32 p.a5 shapeCasts_S1x32_S32) (e6 : x6 = shapeCast S13024 p.a6 shapeCasts_S1x13024_S13024) (e7 : x7 = shapeCast S4096 p.a7 shapeCasts_S1x4096_S4096) (e8 : x8 = shapeCast S4096 p.a8 shapeCasts_S1x4096_S4096) (e9 : x9 = shapeCast S4096 p.a9 shapeCasts_S1x4096_S4096) (e10 : x10 = shapeCast S4096 p.a10 shapeCasts_S1x4096_S4096) (e11 : x11 = shapeCast S4096 p.a11 shapeCasts_S1x64x64_S4096) (e12 : x12 = shapeCast S4096 p.a12 shapeCasts_S1x4096_S4096) (e13 : x13 = shapeCast S4096 p.a13 shapeCasts_S1x4096_S4096) :
    shapeCast S504x128 (pad S64512 ![0] ![256] ![0] (concatenate S64256 0 [⟨S4096, x0⟩, ⟨S4096, x1⟩, ⟨S4096, x2⟩, ⟨S4096, x3⟩, ⟨S6144, x4⟩, ⟨S32, x5⟩, ⟨S13024, x6⟩, ⟨S4096, x7⟩, ⟨S4096, x8⟩, ⟨S4096, x9⟩, ⟨S4096, x10⟩, ⟨S4096, x11⟩, ⟨S4096, x12⟩, ⟨S4096, x13⟩] concatenates_S4096_S4096_S4096_S4096_S6144_S32_S13024_S4096_S4096_S4096_S4096_S4096_S4096_S4096_S64256_d0)
      (sitofp (F := Ideal) .f32 (constantI S_ 32 0#32)) pads_S64256_S64512_02560 h_S_) shapeCasts_S64512_S504x128 = folded p := by
  subst e0 e1 e2 e3 e4 e5 e6 e7 e8 e9 e10 e11 e12 e13; rfl

/-- The lengths of the pieces. -/
theorem lengths (p : Small) : ((lines p).map (·.1)).map (fun s => if h : s.rank = (Line 64256).rank then s.size ((0 : Fin 1).cast h.symm) else 0)
    = [4096, 4096, 4096, 4096, 6144, 32, 13024, 4096, 4096, 4096, 4096, 4096, 4096, 4096] := rfl

/-- What was laid into the one array is at its places. -/
theorem is_folded (p : Small) : Is (folded p) p :=
  ⟨own_pack (xs := lines p) (n := 4096) (total := 64256) 0 (show 0 < 14 by decide) p.a0 shapeCasts_S1x4096_S4096 rfl (lengths p) (by decide +kernel) (by decide +kernel),
    own_pack (xs := lines p) (n := 4096) (total := 64256) 1 (show 1 < 14 by decide) p.a1 shapeCasts_S1x4096_S4096 rfl (lengths p) (by decide +kernel) (by decide +kernel),
    own_pack (xs := lines p) (n := 4096) (total := 64256) 2 (show 2 < 14 by decide) p.a2 shapeCasts_S1x4096_S4096 rfl (lengths p) (by decide +kernel) (by decide +kernel),
    own_pack (xs := lines p) (n := 4096) (total := 64256) 3 (show 3 < 14 by decide) p.a3 shapeCasts_S1x4096_S4096 rfl (lengths p) (by decide +kernel) (by decide +kernel),
    own_pack (xs := lines p) (n := 6144) (total := 64256) 4 (show 4 < 14 by decide) p.a4 shapeCasts_S1x6144_S6144 rfl (lengths p) (by decide +kernel) (by decide +kernel),
    own_pack (xs := lines p) (n := 32) (total := 64256) 5 (show 5 < 14 by decide) p.a5 shapeCasts_S1x32_S32 rfl (lengths p) (by decide +kernel) (by decide +kernel),
    own_pack (xs := lines p) (n := 13024) (total := 64256) 6 (show 6 < 14 by decide) p.a6 shapeCasts_S1x13024_S13024 rfl (lengths p) (by decide +kernel) (by decide +kernel),
    own_pack (xs := lines p) (n := 4096) (total := 64256) 7 (show 7 < 14 by decide) p.a7 shapeCasts_S1x4096_S4096 rfl (lengths p) (by decide +kernel) (by decide +kernel),
    own_pack (xs := lines p) (n := 4096) (total := 64256) 8 (show 8 < 14 by decide) p.a8 shapeCasts_S1x4096_S4096 rfl (lengths p) (by decide +kernel) (by decide +kernel),
    own_pack (xs := lines p) (n := 4096) (total := 64256) 9 (show 9 < 14 by decide) p.a9 shapeCasts_S1x4096_S4096 rfl (lengths p) (by decide +kernel) (by decide +kernel),
    own_pack (xs := lines p) (n := 4096) (total := 64256) 10 (show 10 < 14 by decide) p.a10 shapeCasts_S1x4096_S4096 rfl (lengths p) (by decide +kernel) (by decide +kernel),
    own_pack (xs := lines p) (n := 4096) (total := 64256) 11 (show 11 < 14 by decide) p.a11 shapeCasts_S1x64x64_S4096 rfl (lengths p) (by decide +kernel) (by decide +kernel),
    own_pack (xs := lines p) (n := 4096) (total := 64256) 12 (show 12 < 14 by decide) p.a12 shapeCasts_S1x4096_S4096 rfl (lengths p) (by decide +kernel) (by decide +kernel),
    own_pack (xs := lines p) (n := 4096) (total := 64256) 13 (show 13 < 14 by decide) p.a13 shapeCasts_S1x4096_S4096 rfl (lengths p) (by decide +kernel) (by decide +kernel)⟩

variable {w g a b : S504x128.Idx → EReal} {w' g' a' b' : Small}

theorem is_firsts (hg : Is g g') (ha : Is a a') : Is (fun i => first (g i) (a i)) (firsts g' a') := by
  unfold Is at *
  refine ⟨?_, ?_, ?_, ?_, ?_, ?_, ?_, ?_, ?_, ?_, ?_, ?_, ?_, ?_⟩ <;> refine own_first ?_ ?_ <;> simp only [hg, ha]

theorem is_seconds (hg : Is g g') (hb : Is b b') : Is (fun i => second (g i) (b i)) (seconds g' b') := by
  unfold Is at *
  refine ⟨?_, ?_, ?_, ?_, ?_, ?_, ?_, ?_, ?_, ?_, ?_, ?_, ?_, ?_⟩ <;> refine own_second ?_ ?_ <;> simp only [hg, hb]

theorem is_changes (hw : Is w w') (hg : Is g g') (ha : Is a a') (hb : Is b b') :
    Is (fun i => change (w i) (g i) (a i) (b i)) (changes w' g' a' b') := by
  unfold Is at *
  refine ⟨?_, ?_, ?_, ?_, ?_, ?_, ?_, ?_, ?_, ?_, ?_, ?_, ?_, ?_⟩ <;> refine own_change ?_ ?_ ?_ ?_ <;> simp only [hw, hg, ha, hb]

/-- All the windows of a grid point are of the same block. -/
theorem bands : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem onto4 : ∀ u : Fin 63, ∀ v : Fin 1, ∃ t : Fin cfg0.N, win0_4.index t = ![u.val, v.val] := by decide +kernel
theorem onto5 : ∀ u : Fin 63, ∀ v : Fin 1, ∃ t : Fin cfg0.N, win0_5.index t = ![u.val, v.val] := by decide +kernel
theorem onto6 : ∀ u : Fin 63, ∀ v : Fin 1, ∃ t : Fin cfg0.N, win0_6.index t = ![u.val, v.val] := by decide +kernel

/-- What a block is given, element by element. -/
theorem pay1 (g : FVec Ideal S8x128 .f32) : k0_pay1 (F := Ideal) g = g := by
  unfold k0_pay1; simp only [shapeCast_self]
theorem pay2 (g a : FVec Ideal S8x128 .f32) : k0_pay2 (F := Ideal) g a = fun j => first (g j) (a j) := by
  unfold k0_pay2; simp only [shapeCast_self, pay1]; rfl
theorem pay3 (g b : FVec Ideal S8x128 .f32) : k0_pay3 (F := Ideal) g b = fun j => second (g j) (b j) := by
  unfold k0_pay3; simp only [shapeCast_self, pay1]; rfl
theorem pay4 (g a b w : FVec Ideal S8x128 .f32) : k0_pay4 (F := Ideal) g a b w = fun j => change (w j) (g j) (a j) (b j) := by
  unfold k0_pay4; simp only [shapeCast_self, pay2, pay3]; rfl

/-- The windows' arrays are apart. -/
theorem apart : Function.Injective (Pipeline.arrRef spec0) :=
  fun w w' => (by decide : ∀ w w' : Fin 7, Pipeline.arrRef spec0 w = Pipeline.arrRef spec0 w' → w = w') w w'

variable (m : (ℓ : Loc nD τ sig) → Buf (Elt Ideal) ℓ) (c : Dev nD)

/-- The four one-arrays when the grid begins. -/
abbrev pw : FVec Ideal S504x128 .f32 := V m c main_v17
abbrev pg : FVec Ideal S504x128 .f32 := V m c main_v34
abbrev pa : FVec Ideal S504x128 .f32 := V m c main_v51
abbrev pb : FVec Ideal S504x128 .f32 := V m c main_v68

/-- The grid leaves the new first moments. -/
theorem final5 : (dats m 0 c).arrAt 5 cfg0.N = fun i => first (pg m c i) (pa m c i) := by
  refine (dats m 0 c).arrAt_eq_of_cover 5 _ (fun t _ => ?_) (fun x => (Products.cover (m := 8) (n := 128) win0_5.index
    (fun t x => x ∈ ((cfg0.win 5).blk t).view.set)
    (fun t x => by show x ∈ ((View.whole main_v69_1).slice (win0_5.rect t)).set ↔ _; rw [View.set_slice_whole, Rect.mem_set_unit]; exact Iff.rfl) rfl rfl onto5 x).imp fun t ht => ⟨flush0_5 t, ht⟩)
  show (cfg0.win 5).cut (grid0.coords t) ((dats m 0 c).after 5 t) = _
  rw [after0_5]
  unfold out0_5
  rw [View.canon_unit_zero Products.offs]
  simp only [View.ld_unit_zero (S := S8x128) Products.offs, pay2]
  obtain ⟨h0, h1, h2, h3, h5, h6⟩ := bands t
  funext j
  show first (pg m c ((win0_1.blk t).view.emb j)) (pa m c ((win0_2.blk t).view.emb j)) = first (pg m c ((win0_5.blk t).view.emb j)) (pa m c ((win0_5.blk t).view.emb j))
  exact congrArg₂ first (congrArg (pg m c) (congrFun (same (m := 8) (n := 128) (M := 504) (N := 128) (e := (win0_1.blk t).view.emb) (e' := (win0_5.blk t).view.emb) (i := win0_1.index t) (o := win0_5.index t) (fun _ _ => rfl) (fun _ _ => rfl) (h1.trans h5.symm)) j)) (congrArg (pa m c) (congrFun (same (m := 8) (n := 128) (M := 504) (N := 128) (e := (win0_2.blk t).view.emb) (e' := (win0_5.blk t).view.emb) (i := win0_2.index t) (o := win0_5.index t) (fun _ _ => rfl) (fun _ _ => rfl) (h2.trans h5.symm)) j))

/-- The grid leaves the new second moments. -/
theorem final6 : (dats m 0 c).arrAt 6 cfg0.N = fun i => second (pg m c i) (pb m c i) := by
  refine (dats m 0 c).arrAt_eq_of_cover 6 _ (fun t _ => ?_) (fun x => (Products.cover (m := 8) (n := 128) win0_6.index
    (fun t x => x ∈ ((cfg0.win 6).blk t).view.set)
    (fun t x => by show x ∈ ((View.whole main_v69_2).slice (win0_6.rect t)).set ↔ _; rw [View.set_slice_whole, Rect.mem_set_unit]; exact Iff.rfl) rfl rfl onto6 x).imp fun t ht => ⟨flush0_6 t, ht⟩)
  show (cfg0.win 6).cut (grid0.coords t) ((dats m 0 c).after 6 t) = _
  rw [after0_6]
  unfold out0_6
  rw [View.canon_unit_zero Products.offs]
  simp only [View.ld_unit_zero (S := S8x128) Products.offs, pay3]
  obtain ⟨h0, h1, h2, h3, h5, h6⟩ := bands t
  funext j
  show second (pg m c ((win0_1.blk t).view.emb j)) (pb m c ((win0_3.blk t).view.emb j)) = second (pg m c ((win0_6.blk t).view.emb j)) (pb m c ((win0_6.blk t).view.emb j))
  exact congrArg₂ second (congrArg (pg m c) (congrFun (same (m := 8) (n := 128) (M := 504) (N := 128) (e := (win0_1.blk t).view.emb) (e' := (win0_6.blk t).view.emb) (i := win0_1.index t) (o := win0_6.index t) (fun _ _ => rfl) (fun _ _ => rfl) (h1.trans h6.symm)) j)) (congrArg (pb m c) (congrFun (same (m := 8) (n := 128) (M := 504) (N := 128) (e := (win0_3.blk t).view.emb) (e' := (win0_6.blk t).view.emb) (i := win0_3.index t) (o := win0_6.index t) (fun _ _ => rfl) (fun _ _ => rfl) (h3.trans h6.symm)) j))

/-- The grid leaves the changes. -/
theorem final4 : (dats m 0 c).arrAt 4 cfg0.N = fun i => change (pw m c i) (pg m c i) (pa m c i) (pb m c i) := by
  refine (dats m 0 c).arrAt_eq_of_cover 4 _ (fun t _ => ?_) (fun x => (Products.cover (m := 8) (n := 128) win0_4.index
    (fun t x => x ∈ ((cfg0.win 4).blk t).view.set)
    (fun t x => by show x ∈ ((View.whole main_v69_0).slice (win0_4.rect t)).set ↔ _; rw [View.set_slice_whole, Rect.mem_set_unit]; exact Iff.rfl) rfl rfl onto4 x).imp fun t ht => ⟨flush0_4 t, ht⟩)
  show (cfg0.win 4).cut (grid0.coords t) ((dats m 0 c).after 4 t) = _
  rw [after0_4]
  unfold out0_4
  rw [View.canon_unit_zero Products.offs]
  simp only [View.ld_unit_zero (S := S8x128) Products.offs, pay4]
  obtain ⟨h0, h1, h2, h3, h5, h6⟩ := bands t
  funext j
  show change (pw m c ((win0_0.blk t).view.emb j)) (pg m c ((win0_1.blk t).view.emb j)) (pa m c ((win0_2.blk t).view.emb j)) (pb m c ((win0_3.blk t).view.emb j)) = change (pw m c ((win0_4.blk t).view.emb j)) (pg m c ((win0_4.blk t).view.emb j)) (pa m c ((win0_4.blk t).view.emb j)) (pb m c ((win0_4.blk t).view.emb j))
  exact congr4 (congrArg (pw m c) (congrFun (same (m := 8) (n := 128) (M := 504) (N := 128) (e := (win0_0.blk t).view.emb) (e' := (win0_4.blk t).view.emb) (i := win0_0.index t) (o := win0_4.index t) (fun _ _ => rfl) (fun _ _ => rfl) (h0.trans rfl)) j)) (congrArg (pg m c) (congrFun (same (m := 8) (n := 128) (M := 504) (N := 128) (e := (win0_1.blk t).view.emb) (e' := (win0_4.blk t).view.emb) (i := win0_1.index t) (o := win0_4.index t) (fun _ _ => rfl) (fun _ _ => rfl) (h1.trans rfl)) j)) (congrArg (pa m c) (congrFun (same (m := 8) (n := 128) (M := 504) (N := 128) (e := (win0_2.blk t).view.emb) (e' := (win0_4.blk t).view.emb) (i := win0_2.index t) (o := win0_4.index t) (fun _ _ => rfl) (fun _ _ => rfl) (h2.trans rfl)) j)) (congrArg (pb m c) (congrFun (same (m := 8) (n := 128) (M := 504) (N := 128) (e := (win0_3.blk t).view.emb) (e' := (win0_4.blk t).view.emb) (i := win0_3.index t) (o := win0_4.index t) (fun _ _ => rfl) (fun _ _ => rfl) (h3.trans rfl)) j))

/-- The weights that the program is given. -/
def weights : Small :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13)⟩
/-- The gradients that the program is given. -/
def grads : Small :=
  ⟨m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27)⟩
/-- The first moments that the program is given. -/
def moms1 : Small :=
  ⟨m ((c : Thread nD τ).loc main_arg28), m ((c : Thread nD τ).loc main_arg29), m ((c : Thread nD τ).loc main_arg30), m ((c : Thread nD τ).loc main_arg31), m ((c : Thread nD τ).loc main_arg32), m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41)⟩
/-- The second moments that the program is given. -/
def moms2 : Small :=
  ⟨m ((c : Thread nD τ).loc main_arg42), m ((c : Thread nD τ).loc main_arg43), m ((c : Thread nD τ).loc main_arg44), m ((c : Thread nD τ).loc main_arg45), m ((c : Thread nD τ).loc main_arg46), m ((c : Thread nD τ).loc main_arg47), m ((c : Thread nD τ).loc main_arg48), m ((c : Thread nD τ).loc main_arg49), m ((c : Thread nD τ).loc main_arg50), m ((c : Thread nD τ).loc main_arg51), m ((c : Thread nD τ).loc main_arg52), m ((c : Thread nD τ).loc main_arg53), m ((c : Thread nD τ).loc main_arg54), m ((c : Thread nD τ).loc main_arg55)⟩
/-- The grid finds the weights laid into one array. -/
theorem laid_weights : pw m c = folded (weights m c) := by
  unfold pw V; after_reads_simp; dsimp only [Matrix.cons_val]
  exact laid (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl)
/-- The grid finds the grads laid into one array. -/
theorem laid_grads : pg m c = folded (grads m c) := by
  unfold pg V; after_reads_simp; dsimp only [Matrix.cons_val]
  exact laid (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl)
/-- The grid finds the moms1 laid into one array. -/
theorem laid_moms1 : pa m c = folded (moms1 m c) := by
  unfold pa V; after_reads_simp; dsimp only [Matrix.cons_val]
  exact laid (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl)
/-- The grid finds the moms2 laid into one array. -/
theorem laid_moms2 : pb m c = folded (moms2 m c) := by
  unfold pb V; after_reads_simp; dsimp only [Matrix.cons_val]
  exact laid (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl) (by after_reads_simp; rfl)

/-- The changes that are taken out of the grid's array. -/
theorem tail0 (v : Valuation τ sig (Elt Ideal)) (p : Small) (h : Is (v (Proc.devRef .tc main_v69_0)) p) :
    StableHlo.after hostOps1 v (Proc.devRef .tc main_v72) = p.a0
    ∧ StableHlo.after hostOps1 v (Proc.devRef .tc main_v74) = p.a1
    ∧ StableHlo.after hostOps1 v (Proc.devRef .tc main_v76) = p.a2
    ∧ StableHlo.after hostOps1 v (Proc.devRef .tc main_v78) = p.a3
    ∧ StableHlo.after hostOps1 v (Proc.devRef .tc main_v80) = p.a4
    ∧ StableHlo.after hostOps1 v (Proc.devRef .tc main_v82) = p.a5
    ∧ StableHlo.after hostOps1 v (Proc.devRef .tc main_v84) = p.a6
    ∧ StableHlo.after hostOps1 v (Proc.devRef .tc main_v86) = p.a7
    ∧ StableHlo.after hostOps1 v (Proc.devRef .tc main_v88) = p.a8
    ∧ StableHlo.after hostOps1 v (Proc.devRef .tc main_v90) = p.a9
    ∧ StableHlo.after hostOps1 v (Proc.devRef .tc main_v92) = p.a10
    ∧ StableHlo.after hostOps1 v (Proc.devRef .tc main_v157) = p.a11
    ∧ StableHlo.after hostOps1 v (Proc.devRef .tc main_v96) = p.a12
    ∧ StableHlo.after hostOps1 v (Proc.devRef .tc main_v98) = p.a13 := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · rw [← h0]; after_reads_simp; rfl
  · rw [← h1]; after_reads_simp; rfl
  · rw [← h2]; after_reads_simp; rfl
  · rw [← h3]; after_reads_simp; rfl
  · rw [← h4]; after_reads_simp; rfl
  · rw [← h5]; after_reads_simp; rfl
  · rw [← h6]; after_reads_simp; rfl
  · rw [← h7]; after_reads_simp; rfl
  · rw [← h8]; after_reads_simp; rfl
  · rw [← h9]; after_reads_simp; rfl
  · rw [← h10]; after_reads_simp; rfl
  · rw [← h11]; after_reads_simp; exact shapeCast_comp _ _ _
  · rw [← h12]; after_reads_simp; rfl
  · rw [← h13]; after_reads_simp; rfl

/-- The new first moments that are taken out of the grid's array. -/
theorem tail1 (v : Valuation τ sig (Elt Ideal)) (p : Small) (h : Is (v (Proc.devRef .tc main_v69_1)) p) :
    StableHlo.after hostOps1 v (Proc.devRef .tc main_v101) = p.a0
    ∧ StableHlo.after hostOps1 v (Proc.devRef .tc main_v103) = p.a1
    ∧ StableHlo.after hostOps1 v (Proc.devRef .tc main_v105) = p.a2
    ∧ StableHlo.after hostOps1 v (Proc.devRef .tc main_v107) = p.a3
    ∧ StableHlo.after hostOps1 v (Proc.devRef .tc main_v109) = p.a4
    ∧ StableHlo.after hostOps1 v (Proc.devRef .tc main_v111) = p.a5
    ∧ StableHlo.after hostOps1 v (Proc.devRef .tc main_v113) = p.a6
    ∧ StableHlo.after hostOps1 v (Proc.devRef .tc main_v115) = p.a7
    ∧ StableHlo.after hostOps1 v (Proc.devRef .tc main_v117) = p.a8
    ∧ StableHlo.after hostOps1 v (Proc.devRef .tc main_v119) = p.a9
    ∧ StableHlo.after hostOps1 v (Proc.devRef .tc main_v121) = p.a10
    ∧ StableHlo.after hostOps1 v (Proc.devRef .tc main_v158) = p.a11
    ∧ StableHlo.after hostOps1 v (Proc.devRef .tc main_v125) = p.a12
    ∧ StableHlo.after hostOps1 v (Proc.devRef .tc main_v127) = p.a13 := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · rw [← h0]; after_reads_simp; rfl
  · rw [← h1]; after_reads_simp; rfl
  · rw [← h2]; after_reads_simp; rfl
  · rw [← h3]; after_reads_simp; rfl
  · rw [← h4]; after_reads_simp; rfl
  · rw [← h5]; after_reads_simp; rfl
  · rw [← h6]; after_reads_simp; rfl
  · rw [← h7]; after_reads_simp; rfl
  · rw [← h8]; after_reads_simp; rfl
  · rw [← h9]; after_reads_simp; rfl
  · rw [← h10]; after_reads_simp; rfl
  · rw [← h11]; after_reads_simp; exact shapeCast_comp _ _ _
  · rw [← h12]; after_reads_simp; rfl
  · rw [← h13]; after_reads_simp; rfl

/-- The new second moments that are taken out of the grid's array. -/
theorem tail2 (v : Valuation τ sig (Elt Ideal)) (p : Small) (h : Is (v (Proc.devRef .tc main_v69_2)) p) :
    StableHlo.after hostOps1 v (Proc.devRef .tc main_v130) = p.a0
    ∧ StableHlo.after hostOps1 v (Proc.devRef .tc main_v132) = p.a1
    ∧ StableHlo.after hostOps1 v (Proc.devRef .tc main_v134) = p.a2
    ∧ StableHlo.after hostOps1 v (Proc.devRef .tc main_v136) = p.a3
    ∧ StableHlo.after hostOps1 v (Proc.devRef .tc main_v138) = p.a4
    ∧ StableHlo.after hostOps1 v (Proc.devRef .tc main_v140) = p.a5
    ∧ StableHlo.after hostOps1 v (Proc.devRef .tc main_v142) = p.a6
    ∧ StableHlo.after hostOps1 v (Proc.devRef .tc main_v144) = p.a7
    ∧ StableHlo.after hostOps1 v (Proc.devRef .tc main_v146) = p.a8
    ∧ StableHlo.after hostOps1 v (Proc.devRef .tc main_v148) = p.a9
    ∧ StableHlo.after hostOps1 v (Proc.devRef .tc main_v150) = p.a10
    ∧ StableHlo.after hostOps1 v (Proc.devRef .tc main_v159) = p.a11
    ∧ StableHlo.after hostOps1 v (Proc.devRef .tc main_v154) = p.a12
    ∧ StableHlo.after hostOps1 v (Proc.devRef .tc main_v156) = p.a13 := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · rw [← h0]; after_reads_simp; rfl
  · rw [← h1]; after_reads_simp; rfl
  · rw [← h2]; after_reads_simp; rfl
  · rw [← h3]; after_reads_simp; rfl
  · rw [← h4]; after_reads_simp; rfl
  · rw [← h5]; after_reads_simp; rfl
  · rw [← h6]; after_reads_simp; rfl
  · rw [← h7]; after_reads_simp; rfl
  · rw [← h8]; after_reads_simp; rfl
  · rw [← h9]; after_reads_simp; rfl
  · rw [← h10]; after_reads_simp; rfl
  · rw [← h11]; after_reads_simp; exact shapeCast_comp _ _ _
  · rw [← h12]; after_reads_simp; rfl
  · rw [← h13]; after_reads_simp; rfl

/-- After the grid its array has the changes of the weights' arrays. -/
theorem leaves4 : Is (Pipeline.withArrays spec0 c (V0 m c) (fun w => (dats m 0 c).arrAt w cfg0.N) (Proc.devRef .tc main_v69_0)) (changes (weights m c) (grads m c) (moms1 m c) (moms2 m c)) := by
  rw [show Pipeline.withArrays spec0 c (V0 m c) (fun w => (dats m 0 c).arrAt w cfg0.N) (Proc.devRef .tc main_v69_0) = (dats m 0 c).arrAt 4 cfg0.N
    from Pipeline.withArrays_arr spec0 apart c (V0 m c) (fun w => (dats m 0 c).arrAt w cfg0.N) 4, final4]
  exact is_changes ((laid_weights m c).symm ▸ is_folded _) ((laid_grads m c).symm ▸ is_folded _) ((laid_moms1 m c).symm ▸ is_folded _) ((laid_moms2 m c).symm ▸ is_folded _)

/-- What the program leaves of the changes. -/
theorem outs0 : Pipeline.afterTail₀ cfgs (dats m) 0 (V0 m) [hostOps1] c main_v72 = (changes (weights m c) (grads m c) (moms1 m c) (moms2 m c)).a0
    ∧ Pipeline.afterTail₀ cfgs (dats m) 0 (V0 m) [hostOps1] c main_v74 = (changes (weights m c) (grads m c) (moms1 m c) (moms2 m c)).a1
    ∧ Pipeline.afterTail₀ cfgs (dats m) 0 (V0 m) [hostOps1] c main_v76 = (changes (weights m c) (grads m c) (moms1 m c) (moms2 m c)).a2
    ∧ Pipeline.afterTail₀ cfgs (dats m) 0 (V0 m) [hostOps1] c main_v78 = (changes (weights m c) (grads m c) (moms1 m c) (moms2 m c)).a3
    ∧ Pipeline.afterTail₀ cfgs (dats m) 0 (V0 m) [hostOps1] c main_v80 = (changes (weights m c) (grads m c) (moms1 m c) (moms2 m c)).a4
    ∧ Pipeline.afterTail₀ cfgs (dats m) 0 (V0 m) [hostOps1] c main_v82 = (changes (weights m c) (grads m c) (moms1 m c) (moms2 m c)).a5
    ∧ Pipeline.afterTail₀ cfgs (dats m) 0 (V0 m) [hostOps1] c main_v84 = (changes (weights m c) (grads m c) (moms1 m c) (moms2 m c)).a6
    ∧ Pipeline.afterTail₀ cfgs (dats m) 0 (V0 m) [hostOps1] c main_v86 = (changes (weights m c) (grads m c) (moms1 m c) (moms2 m c)).a7
    ∧ Pipeline.afterTail₀ cfgs (dats m) 0 (V0 m) [hostOps1] c main_v88 = (changes (weights m c) (grads m c) (moms1 m c) (moms2 m c)).a8
    ∧ Pipeline.afterTail₀ cfgs (dats m) 0 (V0 m) [hostOps1] c main_v90 = (changes (weights m c) (grads m c) (moms1 m c) (moms2 m c)).a9
    ∧ Pipeline.afterTail₀ cfgs (dats m) 0 (V0 m) [hostOps1] c main_v92 = (changes (weights m c) (grads m c) (moms1 m c) (moms2 m c)).a10
    ∧ Pipeline.afterTail₀ cfgs (dats m) 0 (V0 m) [hostOps1] c main_v157 = (changes (weights m c) (grads m c) (moms1 m c) (moms2 m c)).a11
    ∧ Pipeline.afterTail₀ cfgs (dats m) 0 (V0 m) [hostOps1] c main_v96 = (changes (weights m c) (grads m c) (moms1 m c) (moms2 m c)).a12
    ∧ Pipeline.afterTail₀ cfgs (dats m) 0 (V0 m) [hostOps1] c main_v98 = (changes (weights m c) (grads m c) (moms1 m c) (moms2 m c)).a13 := by
  unfold Pipeline.afterTail₀
  rw [List.flatten_cons, List.flatten_nil, List.append_nil]
  exact tail0 _ _ (leaves4 m c)

/-- After the grid its array has the firsts of the weights' arrays. -/
theorem leaves5 : Is (Pipeline.withArrays spec0 c (V0 m c) (fun w => (dats m 0 c).arrAt w cfg0.N) (Proc.devRef .tc main_v69_1)) (firsts (grads m c) (moms1 m c)) := by
  rw [show Pipeline.withArrays spec0 c (V0 m c) (fun w => (dats m 0 c).arrAt w cfg0.N) (Proc.devRef .tc main_v69_1) = (dats m 0 c).arrAt 5 cfg0.N
    from Pipeline.withArrays_arr spec0 apart c (V0 m c) (fun w => (dats m 0 c).arrAt w cfg0.N) 5, final5]
  exact is_firsts ((laid_grads m c).symm ▸ is_folded _) ((laid_moms1 m c).symm ▸ is_folded _)

/-- What the program leaves of the firsts. -/
theorem outs1 : Pipeline.afterTail₀ cfgs (dats m) 0 (V0 m) [hostOps1] c main_v101 = (firsts (grads m c) (moms1 m c)).a0
    ∧ Pipeline.afterTail₀ cfgs (dats m) 0 (V0 m) [hostOps1] c main_v103 = (firsts (grads m c) (moms1 m c)).a1
    ∧ Pipeline.afterTail₀ cfgs (dats m) 0 (V0 m) [hostOps1] c main_v105 = (firsts (grads m c) (moms1 m c)).a2
    ∧ Pipeline.afterTail₀ cfgs (dats m) 0 (V0 m) [hostOps1] c main_v107 = (firsts (grads m c) (moms1 m c)).a3
    ∧ Pipeline.afterTail₀ cfgs (dats m) 0 (V0 m) [hostOps1] c main_v109 = (firsts (grads m c) (moms1 m c)).a4
    ∧ Pipeline.afterTail₀ cfgs (dats m) 0 (V0 m) [hostOps1] c main_v111 = (firsts (grads m c) (moms1 m c)).a5
    ∧ Pipeline.afterTail₀ cfgs (dats m) 0 (V0 m) [hostOps1] c main_v113 = (firsts (grads m c) (moms1 m c)).a6
    ∧ Pipeline.afterTail₀ cfgs (dats m) 0 (V0 m) [hostOps1] c main_v115 = (firsts (grads m c) (moms1 m c)).a7
    ∧ Pipeline.afterTail₀ cfgs (dats m) 0 (V0 m) [hostOps1] c main_v117 = (firsts (grads m c) (moms1 m c)).a8
    ∧ Pipeline.afterTail₀ cfgs (dats m) 0 (V0 m) [hostOps1] c main_v119 = (firsts (grads m c) (moms1 m c)).a9
    ∧ Pipeline.afterTail₀ cfgs (dats m) 0 (V0 m) [hostOps1] c main_v121 = (firsts (grads m c) (moms1 m c)).a10
    ∧ Pipeline.afterTail₀ cfgs (dats m) 0 (V0 m) [hostOps1] c main_v158 = (firsts (grads m c) (moms1 m c)).a11
    ∧ Pipeline.afterTail₀ cfgs (dats m) 0 (V0 m) [hostOps1] c main_v125 = (firsts (grads m c) (moms1 m c)).a12
    ∧ Pipeline.afterTail₀ cfgs (dats m) 0 (V0 m) [hostOps1] c main_v127 = (firsts (grads m c) (moms1 m c)).a13 := by
  unfold Pipeline.afterTail₀
  rw [List.flatten_cons, List.flatten_nil, List.append_nil]
  exact tail1 _ _ (leaves5 m c)

/-- After the grid its array has the seconds of the weights' arrays. -/
theorem leaves6 : Is (Pipeline.withArrays spec0 c (V0 m c) (fun w => (dats m 0 c).arrAt w cfg0.N) (Proc.devRef .tc main_v69_2)) (seconds (grads m c) (moms2 m c)) := by
  rw [show Pipeline.withArrays spec0 c (V0 m c) (fun w => (dats m 0 c).arrAt w cfg0.N) (Proc.devRef .tc main_v69_2) = (dats m 0 c).arrAt 6 cfg0.N
    from Pipeline.withArrays_arr spec0 apart c (V0 m c) (fun w => (dats m 0 c).arrAt w cfg0.N) 6, final6]
  exact is_seconds ((laid_grads m c).symm ▸ is_folded _) ((laid_moms2 m c).symm ▸ is_folded _)

/-- What the program leaves of the seconds. -/
theorem outs2 : Pipeline.afterTail₀ cfgs (dats m) 0 (V0 m) [hostOps1] c main_v130 = (seconds (grads m c) (moms2 m c)).a0
    ∧ Pipeline.afterTail₀ cfgs (dats m) 0 (V0 m) [hostOps1] c main_v132 = (seconds (grads m c) (moms2 m c)).a1
    ∧ Pipeline.afterTail₀ cfgs (dats m) 0 (V0 m) [hostOps1] c main_v134 = (seconds (grads m c) (moms2 m c)).a2
    ∧ Pipeline.afterTail₀ cfgs (dats m) 0 (V0 m) [hostOps1] c main_v136 = (seconds (grads m c) (moms2 m c)).a3
    ∧ Pipeline.afterTail₀ cfgs (dats m) 0 (V0 m) [hostOps1] c main_v138 = (seconds (grads m c) (moms2 m c)).a4
    ∧ Pipeline.afterTail₀ cfgs (dats m) 0 (V0 m) [hostOps1] c main_v140 = (seconds (grads m c) (moms2 m c)).a5
    ∧ Pipeline.afterTail₀ cfgs (dats m) 0 (V0 m) [hostOps1] c main_v142 = (seconds (grads m c) (moms2 m c)).a6
    ∧ Pipeline.afterTail₀ cfgs (dats m) 0 (V0 m) [hostOps1] c main_v144 = (seconds (grads m c) (moms2 m c)).a7
    ∧ Pipeline.afterTail₀ cfgs (dats m) 0 (V0 m) [hostOps1] c main_v146 = (seconds (grads m c) (moms2 m c)).a8
    ∧ Pipeline.afterTail₀ cfgs (dats m) 0 (V0 m) [hostOps1] c main_v148 = (seconds (grads m c) (moms2 m c)).a9
    ∧ Pipeline.afterTail₀ cfgs (dats m) 0 (V0 m) [hostOps1] c main_v150 = (seconds (grads m c) (moms2 m c)).a10
    ∧ Pipeline.afterTail₀ cfgs (dats m) 0 (V0 m) [hostOps1] c main_v159 = (seconds (grads m c) (moms2 m c)).a11
    ∧ Pipeline.afterTail₀ cfgs (dats m) 0 (V0 m) [hostOps1] c main_v154 = (seconds (grads m c) (moms2 m c)).a12
    ∧ Pipeline.afterTail₀ cfgs (dats m) 0 (V0 m) [hostOps1] c main_v156 = (seconds (grads m c) (moms2 m c)).a13 := by
  unfold Pipeline.afterTail₀
  rw [List.flatten_cons, List.flatten_nil, List.append_nil]
  exact tail2 _ _ (leaves6 m c)

/-- The weights that the reference is given. -/
def given_weights (m : (ℓ : Loc AdamSmallRefIdeal.nD AdamSmallRefIdeal.τ AdamSmallRefIdeal.sig) → Buf (Elt Ideal) ℓ) (c : Dev nD) : Small :=
  ⟨m ((c.tc : Thread AdamSmallRefIdeal.nD AdamSmallRefIdeal.τ).loc AdamSmallRefIdeal.main_arg0), m ((c.tc : Thread AdamSmallRefIdeal.nD AdamSmallRefIdeal.τ).loc AdamSmallRefIdeal.main_arg1), m ((c.tc : Thread AdamSmallRefIdeal.nD AdamSmallRefIdeal.τ).loc AdamSmallRefIdeal.main_arg2), m ((c.tc : Thread AdamSmallRefIdeal.nD AdamSmallRefIdeal.τ).loc AdamSmallRefIdeal.main_arg3), m ((c.tc : Thread AdamSmallRefIdeal.nD AdamSmallRefIdeal.τ).loc AdamSmallRefIdeal.main_arg4), m ((c.tc : Thread AdamSmallRefIdeal.nD AdamSmallRefIdeal.τ).loc AdamSmallRefIdeal.main_arg5), m ((c.tc : Thread AdamSmallRefIdeal.nD AdamSmallRefIdeal.τ).loc AdamSmallRefIdeal.main_arg6), m ((c.tc : Thread AdamSmallRefIdeal.nD AdamSmallRefIdeal.τ).loc AdamSmallRefIdeal.main_arg7), m ((c.tc : Thread AdamSmallRefIdeal.nD AdamSmallRefIdeal.τ).loc AdamSmallRefIdeal.main_arg8), m ((c.tc : Thread AdamSmallRefIdeal.nD AdamSmallRefIdeal.τ).loc AdamSmallRefIdeal.main_arg9), m ((c.tc : Thread AdamSmallRefIdeal.nD AdamSmallRefIdeal.τ).loc AdamSmallRefIdeal.main_arg10), m ((c.tc : Thread AdamSmallRefIdeal.nD AdamSmallRefIdeal.τ).loc AdamSmallRefIdeal.main_arg11), m ((c.tc : Thread AdamSmallRefIdeal.nD AdamSmallRefIdeal.τ).loc AdamSmallRefIdeal.main_arg12), m ((c.tc : Thread AdamSmallRefIdeal.nD AdamSmallRefIdeal.τ).loc AdamSmallRefIdeal.main_arg13)⟩

/-- The gradients that the reference is given. -/
def given_grads (m : (ℓ : Loc AdamSmallRefIdeal.nD AdamSmallRefIdeal.τ AdamSmallRefIdeal.sig) → Buf (Elt Ideal) ℓ) (c : Dev nD) : Small :=
  ⟨m ((c.tc : Thread AdamSmallRefIdeal.nD AdamSmallRefIdeal.τ).loc AdamSmallRefIdeal.main_arg14), m ((c.tc : Thread AdamSmallRefIdeal.nD AdamSmallRefIdeal.τ).loc AdamSmallRefIdeal.main_arg15), m ((c.tc : Thread AdamSmallRefIdeal.nD AdamSmallRefIdeal.τ).loc AdamSmallRefIdeal.main_arg16), m ((c.tc : Thread AdamSmallRefIdeal.nD AdamSmallRefIdeal.τ).loc AdamSmallRefIdeal.main_arg17), m ((c.tc : Thread AdamSmallRefIdeal.nD AdamSmallRefIdeal.τ).loc AdamSmallRefIdeal.main_arg18), m ((c.tc : Thread AdamSmallRefIdeal.nD AdamSmallRefIdeal.τ).loc AdamSmallRefIdeal.main_arg19), m ((c.tc : Thread AdamSmallRefIdeal.nD AdamSmallRefIdeal.τ).loc AdamSmallRefIdeal.main_arg20), m ((c.tc : Thread AdamSmallRefIdeal.nD AdamSmallRefIdeal.τ).loc AdamSmallRefIdeal.main_arg21), m ((c.tc : Thread AdamSmallRefIdeal.nD AdamSmallRefIdeal.τ).loc AdamSmallRefIdeal.main_arg22), m ((c.tc : Thread AdamSmallRefIdeal.nD AdamSmallRefIdeal.τ).loc AdamSmallRefIdeal.main_arg23), m ((c.tc : Thread AdamSmallRefIdeal.nD AdamSmallRefIdeal.τ).loc AdamSmallRefIdeal.main_arg24), m ((c.tc : Thread AdamSmallRefIdeal.nD AdamSmallRefIdeal.τ).loc AdamSmallRefIdeal.main_arg25), m ((c.tc : Thread AdamSmallRefIdeal.nD AdamSmallRefIdeal.τ).loc AdamSmallRefIdeal.main_arg26), m ((c.tc : Thread AdamSmallRefIdeal.nD AdamSmallRefIdeal.τ).loc AdamSmallRefIdeal.main_arg27)⟩

/-- The first moments that the reference is given. -/
def given_moms1 (m : (ℓ : Loc AdamSmallRefIdeal.nD AdamSmallRefIdeal.τ AdamSmallRefIdeal.sig) → Buf (Elt Ideal) ℓ) (c : Dev nD) : Small :=
  ⟨m ((c.tc : Thread AdamSmallRefIdeal.nD AdamSmallRefIdeal.τ).loc AdamSmallRefIdeal.main_arg28), m ((c.tc : Thread AdamSmallRefIdeal.nD AdamSmallRefIdeal.τ).loc AdamSmallRefIdeal.main_arg29), m ((c.tc : Thread AdamSmallRefIdeal.nD AdamSmallRefIdeal.τ).loc AdamSmallRefIdeal.main_arg30), m ((c.tc : Thread AdamSmallRefIdeal.nD AdamSmallRefIdeal.τ).loc AdamSmallRefIdeal.main_arg31), m ((c.tc : Thread AdamSmallRefIdeal.nD AdamSmallRefIdeal.τ).loc AdamSmallRefIdeal.main_arg32), m ((c.tc : Thread AdamSmallRefIdeal.nD AdamSmallRefIdeal.τ).loc AdamSmallRefIdeal.main_arg33), m ((c.tc : Thread AdamSmallRefIdeal.nD AdamSmallRefIdeal.τ).loc AdamSmallRefIdeal.main_arg34), m ((c.tc : Thread AdamSmallRefIdeal.nD AdamSmallRefIdeal.τ).loc AdamSmallRefIdeal.main_arg35), m ((c.tc : Thread AdamSmallRefIdeal.nD AdamSmallRefIdeal.τ).loc AdamSmallRefIdeal.main_arg36), m ((c.tc : Thread AdamSmallRefIdeal.nD AdamSmallRefIdeal.τ).loc AdamSmallRefIdeal.main_arg37), m ((c.tc : Thread AdamSmallRefIdeal.nD AdamSmallRefIdeal.τ).loc AdamSmallRefIdeal.main_arg38), m ((c.tc : Thread AdamSmallRefIdeal.nD AdamSmallRefIdeal.τ).loc AdamSmallRefIdeal.main_arg39), m ((c.tc : Thread AdamSmallRefIdeal.nD AdamSmallRefIdeal.τ).loc AdamSmallRefIdeal.main_arg40), m ((c.tc : Thread AdamSmallRefIdeal.nD AdamSmallRefIdeal.τ).loc AdamSmallRefIdeal.main_arg41)⟩

/-- The second moments that the reference is given. -/
def given_moms2 (m : (ℓ : Loc AdamSmallRefIdeal.nD AdamSmallRefIdeal.τ AdamSmallRefIdeal.sig) → Buf (Elt Ideal) ℓ) (c : Dev nD) : Small :=
  ⟨m ((c.tc : Thread AdamSmallRefIdeal.nD AdamSmallRefIdeal.τ).loc AdamSmallRefIdeal.main_arg42), m ((c.tc : Thread AdamSmallRefIdeal.nD AdamSmallRefIdeal.τ).loc AdamSmallRefIdeal.main_arg43), m ((c.tc : Thread AdamSmallRefIdeal.nD AdamSmallRefIdeal.τ).loc AdamSmallRefIdeal.main_arg44), m ((c.tc : Thread AdamSmallRefIdeal.nD AdamSmallRefIdeal.τ).loc AdamSmallRefIdeal.main_arg45), m ((c.tc : Thread AdamSmallRefIdeal.nD AdamSmallRefIdeal.τ).loc AdamSmallRefIdeal.main_arg46), m ((c.tc : Thread AdamSmallRefIdeal.nD AdamSmallRefIdeal.τ).loc AdamSmallRefIdeal.main_arg47), m ((c.tc : Thread AdamSmallRefIdeal.nD AdamSmallRefIdeal.τ).loc AdamSmallRefIdeal.main_arg48), m ((c.tc : Thread AdamSmallRefIdeal.nD AdamSmallRefIdeal.τ).loc AdamSmallRefIdeal.main_arg49), m ((c.tc : Thread AdamSmallRefIdeal.nD AdamSmallRefIdeal.τ).loc AdamSmallRefIdeal.main_arg50), m ((c.tc : Thread AdamSmallRefIdeal.nD AdamSmallRefIdeal.τ).loc AdamSmallRefIdeal.main_arg51), m ((c.tc : Thread AdamSmallRefIdeal.nD AdamSmallRefIdeal.τ).loc AdamSmallRefIdeal.main_arg52), m ((c.tc : Thread AdamSmallRefIdeal.nD AdamSmallRefIdeal.τ).loc AdamSmallRefIdeal.main_arg53), m ((c.tc : Thread AdamSmallRefIdeal.nD AdamSmallRefIdeal.τ).loc AdamSmallRefIdeal.main_arg54), m ((c.tc : Thread AdamSmallRefIdeal.nD AdamSmallRefIdeal.τ).loc AdamSmallRefIdeal.main_arg55)⟩

/-- Arrays that are equal one by one. -/
theorem alike {x0 y0 : FVec Ideal S1x4096 .f32} {x1 y1 : FVec Ideal S1x4096 .f32} {x2 y2 : FVec Ideal S1x4096 .f32} {x3 y3 : FVec Ideal S1x4096 .f32} {x4 y4 : FVec Ideal S1x6144 .f32} {x5 y5 : FVec Ideal S1x32 .f32} {x6 y6 : FVec Ideal S1x13024 .f32} {x7 y7 : FVec Ideal S1x4096 .f32} {x8 y8 : FVec Ideal S1x4096 .f32} {x9 y9 : FVec Ideal S1x4096 .f32} {x10 y10 : FVec Ideal S1x4096 .f32} {x11 y11 : FVec Ideal S1x64x64 .f32} {x12 y12 : FVec Ideal S1x4096 .f32} {x13 y13 : FVec Ideal S1x4096 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    (⟨x0, x1, x2, x3, x4, x5, x6, x7, x8, x9, x10, x11, x12, x13⟩ : Small) = ⟨y0, y1, y2, y3, y4, y5, y6, y7, y8, y9, y10, y11, y12, y13⟩ := by
  subst h0 h1 h2 h3 h4 h5 h6 h7 h8 h9 h10 h11 h12 h13; rfl

/-- The reference runs and keeps its arguments. -/
theorem ref_frame : Cert.quiescent_AdamSmallRefIdeal := fun m ρ _ =>
  (θ_run _ _ _).mono (fun r h => ⟨fun c => (h c).2.2.2.2.2.2.2.2.2.2.2.2.2.2.2.2.2.2.2.2.2.2.2.2.2.2.2.2.2.2.2.2.2.2.2.2.2.2.2.2.2.2, sem_eq_zero_of_no_sems (by decide) r.2⟩) (AdamSmallRefIdeal.Value.run m ρ)

/-- The kernel's results and the reference's are equal, element by element. -/
theorem algebraic : Cert.algebraic_AdamSmallIdeal_AdamSmallRefIdeal := fun m ρ m' ρ' _ hag =>
  ⟨fun c => (changes (weights m c) (grads m c) (moms1 m c) (moms2 m c)).a0,
    fun c => (changes (weights m c) (grads m c) (moms1 m c) (moms2 m c)).a1,
    fun c => (changes (weights m c) (grads m c) (moms1 m c) (moms2 m c)).a2,
    fun c => (changes (weights m c) (grads m c) (moms1 m c) (moms2 m c)).a3,
    fun c => (changes (weights m c) (grads m c) (moms1 m c) (moms2 m c)).a4,
    fun c => (changes (weights m c) (grads m c) (moms1 m c) (moms2 m c)).a5,
    fun c => (changes (weights m c) (grads m c) (moms1 m c) (moms2 m c)).a6,
    fun c => (changes (weights m c) (grads m c) (moms1 m c) (moms2 m c)).a7,
    fun c => (changes (weights m c) (grads m c) (moms1 m c) (moms2 m c)).a8,
    fun c => (changes (weights m c) (grads m c) (moms1 m c) (moms2 m c)).a9,
    fun c => (changes (weights m c) (grads m c) (moms1 m c) (moms2 m c)).a10,
    fun c => (changes (weights m c) (grads m c) (moms1 m c) (moms2 m c)).a11,
    fun c => (changes (weights m c) (grads m c) (moms1 m c) (moms2 m c)).a12,
    fun c => (changes (weights m c) (grads m c) (moms1 m c) (moms2 m c)).a13,
    fun c => (firsts (grads m c) (moms1 m c)).a0,
    fun c => (firsts (grads m c) (moms1 m c)).a1,
    fun c => (firsts (grads m c) (moms1 m c)).a2,
    fun c => (firsts (grads m c) (moms1 m c)).a3,
    fun c => (firsts (grads m c) (moms1 m c)).a4,
    fun c => (firsts (grads m c) (moms1 m c)).a5,
    fun c => (firsts (grads m c) (moms1 m c)).a6,
    fun c => (firsts (grads m c) (moms1 m c)).a7,
    fun c => (firsts (grads m c) (moms1 m c)).a8,
    fun c => (firsts (grads m c) (moms1 m c)).a9,
    fun c => (firsts (grads m c) (moms1 m c)).a10,
    fun c => (firsts (grads m c) (moms1 m c)).a11,
    fun c => (firsts (grads m c) (moms1 m c)).a12,
    fun c => (firsts (grads m c) (moms1 m c)).a13,
    fun c => (seconds (grads m c) (moms2 m c)).a0,
    fun c => (seconds (grads m c) (moms2 m c)).a1,
    fun c => (seconds (grads m c) (moms2 m c)).a2,
    fun c => (seconds (grads m c) (moms2 m c)).a3,
    fun c => (seconds (grads m c) (moms2 m c)).a4,
    fun c => (seconds (grads m c) (moms2 m c)).a5,
    fun c => (seconds (grads m c) (moms2 m c)).a6,
    fun c => (seconds (grads m c) (moms2 m c)).a7,
    fun c => (seconds (grads m c) (moms2 m c)).a8,
    fun c => (seconds (grads m c) (moms2 m c)).a9,
    fun c => (seconds (grads m c) (moms2 m c)).a10,
    fun c => (seconds (grads m c) (moms2 m c)).a11,
    fun c => (seconds (grads m c) (moms2 m c)).a12,
    fun c => (seconds (grads m c) (moms2 m c)).a13,
    (θ_run _ _ _).mono (fun r h c => by
      obtain ⟨h, keep⟩ := h
      have left : ∀ b ∈ Pipeline.restRefs sig spec0, _ := (h.1 c).2
      have d := outs0 m c
      have e := outs1 m c
      have f := outs2 m c
      exact ⟨(left main_v72 (Pipeline.mem_restRefs_of main_v72 (by decide) (by decide))).trans d.1,
        (left main_v74 (Pipeline.mem_restRefs_of main_v74 (by decide) (by decide))).trans d.2.1,
        (left main_v76 (Pipeline.mem_restRefs_of main_v76 (by decide) (by decide))).trans d.2.2.1,
        (left main_v78 (Pipeline.mem_restRefs_of main_v78 (by decide) (by decide))).trans d.2.2.2.1,
        (left main_v80 (Pipeline.mem_restRefs_of main_v80 (by decide) (by decide))).trans d.2.2.2.2.1,
        (left main_v82 (Pipeline.mem_restRefs_of main_v82 (by decide) (by decide))).trans d.2.2.2.2.2.1,
        (left main_v84 (Pipeline.mem_restRefs_of main_v84 (by decide) (by decide))).trans d.2.2.2.2.2.2.1,
        (left main_v86 (Pipeline.mem_restRefs_of main_v86 (by decide) (by decide))).trans d.2.2.2.2.2.2.2.1,
        (left main_v88 (Pipeline.mem_restRefs_of main_v88 (by decide) (by decide))).trans d.2.2.2.2.2.2.2.2.1,
        (left main_v90 (Pipeline.mem_restRefs_of main_v90 (by decide) (by decide))).trans d.2.2.2.2.2.2.2.2.2.1,
        (left main_v92 (Pipeline.mem_restRefs_of main_v92 (by decide) (by decide))).trans d.2.2.2.2.2.2.2.2.2.2.1,
        (left main_v157 (Pipeline.mem_restRefs_of main_v157 (by decide) (by decide))).trans d.2.2.2.2.2.2.2.2.2.2.2.1,
        (left main_v96 (Pipeline.mem_restRefs_of main_v96 (by decide) (by decide))).trans d.2.2.2.2.2.2.2.2.2.2.2.2.1,
        (left main_v98 (Pipeline.mem_restRefs_of main_v98 (by decide) (by decide))).trans d.2.2.2.2.2.2.2.2.2.2.2.2.2,
        (left main_v101 (Pipeline.mem_restRefs_of main_v101 (by decide) (by decide))).trans e.1,
        (left main_v103 (Pipeline.mem_restRefs_of main_v103 (by decide) (by decide))).trans e.2.1,
        (left main_v105 (Pipeline.mem_restRefs_of main_v105 (by decide) (by decide))).trans e.2.2.1,
        (left main_v107 (Pipeline.mem_restRefs_of main_v107 (by decide) (by decide))).trans e.2.2.2.1,
        (left main_v109 (Pipeline.mem_restRefs_of main_v109 (by decide) (by decide))).trans e.2.2.2.2.1,
        (left main_v111 (Pipeline.mem_restRefs_of main_v111 (by decide) (by decide))).trans e.2.2.2.2.2.1,
        (left main_v113 (Pipeline.mem_restRefs_of main_v113 (by decide) (by decide))).trans e.2.2.2.2.2.2.1,
        (left main_v115 (Pipeline.mem_restRefs_of main_v115 (by decide) (by decide))).trans e.2.2.2.2.2.2.2.1,
        (left main_v117 (Pipeline.mem_restRefs_of main_v117 (by decide) (by decide))).trans e.2.2.2.2.2.2.2.2.1,
        (left main_v119 (Pipeline.mem_restRefs_of main_v119 (by decide) (by decide))).trans e.2.2.2.2.2.2.2.2.2.1,
        (left main_v121 (Pipeline.mem_restRefs_of main_v121 (by decide) (by decide))).trans e.2.2.2.2.2.2.2.2.2.2.1,
        (left main_v158 (Pipeline.mem_restRefs_of main_v158 (by decide) (by decide))).trans e.2.2.2.2.2.2.2.2.2.2.2.1,
        (left main_v125 (Pipeline.mem_restRefs_of main_v125 (by decide) (by decide))).trans e.2.2.2.2.2.2.2.2.2.2.2.2.1,
        (left main_v127 (Pipeline.mem_restRefs_of main_v127 (by decide) (by decide))).trans e.2.2.2.2.2.2.2.2.2.2.2.2.2,
        (left main_v130 (Pipeline.mem_restRefs_of main_v130 (by decide) (by decide))).trans f.1,
        (left main_v132 (Pipeline.mem_restRefs_of main_v132 (by decide) (by decide))).trans f.2.1,
        (left main_v134 (Pipeline.mem_restRefs_of main_v134 (by decide) (by decide))).trans f.2.2.1,
        (left main_v136 (Pipeline.mem_restRefs_of main_v136 (by decide) (by decide))).trans f.2.2.2.1,
        (left main_v138 (Pipeline.mem_restRefs_of main_v138 (by decide) (by decide))).trans f.2.2.2.2.1,
        (left main_v140 (Pipeline.mem_restRefs_of main_v140 (by decide) (by decide))).trans f.2.2.2.2.2.1,
        (left main_v142 (Pipeline.mem_restRefs_of main_v142 (by decide) (by decide))).trans f.2.2.2.2.2.2.1,
        (left main_v144 (Pipeline.mem_restRefs_of main_v144 (by decide) (by decide))).trans f.2.2.2.2.2.2.2.1,
        (left main_v146 (Pipeline.mem_restRefs_of main_v146 (by decide) (by decide))).trans f.2.2.2.2.2.2.2.2.1,
        (left main_v148 (Pipeline.mem_restRefs_of main_v148 (by decide) (by decide))).trans f.2.2.2.2.2.2.2.2.2.1,
        (left main_v150 (Pipeline.mem_restRefs_of main_v150 (by decide) (by decide))).trans f.2.2.2.2.2.2.2.2.2.2.1,
        (left main_v159 (Pipeline.mem_restRefs_of main_v159 (by decide) (by decide))).trans f.2.2.2.2.2.2.2.2.2.2.2.1,
        (left main_v154 (Pipeline.mem_restRefs_of main_v154 (by decide) (by decide))).trans f.2.2.2.2.2.2.2.2.2.2.2.2.1,
        (left main_v156 (Pipeline.mem_restRefs_of main_v156 (by decide) (by decide))).trans f.2.2.2.2.2.2.2.2.2.2.2.2.2,
        keep.1 c⟩)
      (θ_run_and (run_main_quiescent m ρ) (Gen.frame m ρ)),
    (θ_run _ _ _).mono (fun _ h c => by
      replace h := h c
      obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55⟩ := hag c
      have hw : given_weights m' c = weights m c := alike a0 a1 a2 a3 a4 a5 a6 a7 a8 a9 a10 a11 a12 a13
      have hg : given_grads m' c = grads m c := alike a14 a15 a16 a17 a18 a19 a20 a21 a22 a23 a24 a25 a26 a27
      have hm : given_moms1 m' c = moms1 m c := alike a28 a29 a30 a31 a32 a33 a34 a35 a36 a37 a38 a39 a40 a41
      have hv : given_moms2 m' c = moms2 m c := alike a42 a43 a44 a45 a46 a47 a48 a49 a50 a51 a52 a53 a54 a55
      have d : changes (given_weights m' c) (given_grads m' c) (given_moms1 m' c) (given_moms2 m' c)
          = changes (weights m c) (grads m c) (moms1 m c) (moms2 m c) := by rw [hw, hg, hm, hv]
      have e : firsts (given_grads m' c) (given_moms1 m' c) = firsts (grads m c) (moms1 m c) := by rw [hg, hm]
      have f : seconds (given_grads m' c) (given_moms2 m' c) = seconds (grads m c) (moms2 m c) := by rw [hg, hv]
      exact ⟨h.1.trans (congrArg Small.a0 d),
        h.2.1.trans (congrArg Small.a1 d),
        h.2.2.1.trans (congrArg Small.a2 d),
        h.2.2.2.1.trans (congrArg Small.a3 d),
        h.2.2.2.2.1.trans (congrArg Small.a4 d),
        h.2.2.2.2.2.1.trans (congrArg Small.a5 d),
        h.2.2.2.2.2.2.1.trans (congrArg Small.a6 d),
        h.2.2.2.2.2.2.2.1.trans (congrArg Small.a7 d),
        h.2.2.2.2.2.2.2.2.1.trans (congrArg Small.a8 d),
        h.2.2.2.2.2.2.2.2.2.1.trans (congrArg Small.a9 d),
        h.2.2.2.2.2.2.2.2.2.2.1.trans (congrArg Small.a10 d),
        h.2.2.2.2.2.2.2.2.2.2.2.1.trans (congrArg Small.a11 d),
        h.2.2.2.2.2.2.2.2.2.2.2.2.1.trans (congrArg Small.a12 d),
        h.2.2.2.2.2.2.2.2.2.2.2.2.2.1.trans (congrArg Small.a13 d),
        h.2.2.2.2.2.2.2.2.2.2.2.2.2.2.1.trans (congrArg Small.a0 e),
        h.2.2.2.2.2.2.2.2.2.2.2.2.2.2.2.1.trans (congrArg Small.a1 e),
        h.2.2.2.2.2.2.2.2.2.2.2.2.2.2.2.2.1.trans (congrArg Small.a2 e),
        h.2.2.2.2.2.2.2.2.2.2.2.2.2.2.2.2.2.1.trans (congrArg Small.a3 e),
        h.2.2.2.2.2.2.2.2.2.2.2.2.2.2.2.2.2.2.1.trans (congrArg Small.a4 e),
        h.2.2.2.2.2.2.2.2.2.2.2.2.2.2.2.2.2.2.2.1.trans (congrArg Small.a5 e),
        h.2.2.2.2.2.2.2.2.2.2.2.2.2.2.2.2.2.2.2.2.1.trans (congrArg Small.a6 e),
        h.2.2.2.2.2.2.2.2.2.2.2.2.2.2.2.2.2.2.2.2.2.1.trans (congrArg Small.a7 e),
        h.2.2.2.2.2.2.2.2.2.2.2.2.2.2.2.2.2.2.2.2.2.2.1.trans (congrArg Small.a8 e),
        h.2.2.2.2.2.2.2.2.2.2.2.2.2.2.2.2.2.2.2.2.2.2.2.1.trans (congrArg Small.a9 e),
        h.2.2.2.2.2.2.2.2.2.2.2.2.2.2.2.2.2.2.2.2.2.2.2.2.1.trans (congrArg Small.a10 e),
        h.2.2.2.2.2.2.2.2.2.2.2.2.2.2.2.2.2.2.2.2.2.2.2.2.2.1.trans (congrArg Small.a11 e),
        h.2.2.2.2.2.2.2.2.2.2.2.2.2.2.2.2.2.2.2.2.2.2.2.2.2.2.1.trans (congrArg Small.a12 e),
        h.2.2.2.2.2.2.2.2.2.2.2.2.2.2.2.2.2.2.2.2.2.2.2.2.2.2.2.1.trans (congrArg Small.a13 e),
        h.2.2.2.2.2.2.2.2.2.2.2.2.2.2.2.2.2.2.2.2.2.2.2.2.2.2.2.2.1.trans (congrArg Small.a0 f),
        h.2.2.2.2.2.2.2.2.2.2.2.2.2.2.2.2.2.2.2.2.2.2.2.2.2.2.2.2.2.1.trans (congrArg Small.a1 f),
        h.2.2.2.2.2.2.2.2.2.2.2.2.2.2.2.2.2.2.2.2.2.2.2.2.2.2.2.2.2.2.1.trans (congrArg Small.a2 f),
        h.2.2.2.2.2.2.2.2.2.2.2.2.2.2.2.2.2.2.2.2.2.2.2.2.2.2.2.2.2.2.2.1.trans (congrArg Small.a3 f),
        h.2.2.2.2.2.2.2.2.2.2.2.2.2.2.2.2.2.2.2.2.2.2.2.2.2.2.2.2.2.2.2.2.1.trans (congrArg Small.a4 f),
        h.2.2.2.2.2.2.2.2.2.2.2.2.2.2.2.2.2.2.2.2.2.2.2.2.2.2.2.2.2.2.2.2.2.1.trans (congrArg Small.a5 f),
        h.2.2.2.2.2.2.2.2.2.2.2.2.2.2.2.2.2.2.2.2.2.2.2.2.2.2.2.2.2.2.2.2.2.2.1.trans (congrArg Small.a6 f),
        h.2.2.2.2.2.2.2.2.2.2.2.2.2.2.2.2.2.2.2.2.2.2.2.2.2.2.2.2.2.2.2.2.2.2.2.1.trans (congrArg Small.a7 f),
        h.2.2.2.2.2.2.2.2.2.2.2.2.2.2.2.2.2.2.2.2.2.2.2.2.2.2.2.2.2.2.2.2.2.2.2.2.1.trans (congrArg Small.a8 f),
        h.2.2.2.2.2.2.2.2.2.2.2.2.2.2.2.2.2.2.2.2.2.2.2.2.2.2.2.2.2.2.2.2.2.2.2.2.2.1.trans (congrArg Small.a9 f),
        h.2.2.2.2.2.2.2.2.2.2.2.2.2.2.2.2.2.2.2.2.2.2.2.2.2.2.2.2.2.2.2.2.2.2.2.2.2.2.1.trans (congrArg Small.a10 f),
        h.2.2.2.2.2.2.2.2.2.2.2.2.2.2.2.2.2.2.2.2.2.2.2.2.2.2.2.2.2.2.2.2.2.2.2.2.2.2.2.1.trans (congrArg Small.a11 f),
        h.2.2.2.2.2.2.2.2.2.2.2.2.2.2.2.2.2.2.2.2.2.2.2.2.2.2.2.2.2.2.2.2.2.2.2.2.2.2.2.2.1.trans (congrArg Small.a12 f),
        h.2.2.2.2.2.2.2.2.2.2.2.2.2.2.2.2.2.2.2.2.2.2.2.2.2.2.2.2.2.2.2.2.2.2.2.2.2.2.2.2.2.1.trans (congrArg Small.a13 f), h.2.2.2.2.2.2.2.2.2.2.2.2.2.2.2.2.2.2.2.2.2.2.2.2.2.2.2.2.2.2.2.2.2.2.2.2.2.2.2.2.2.2⟩)
      (AdamSmallRefIdeal.Value.run m' ρ')⟩

end Cert.AdamSmallIdeal.Update
-- ==== Proof.NormGrads.lean ====
module

public import proofs.«01_k».proof.Proof.Norms
public import proofs.«01_k».proof.Proof.Gen.RmsBIdeal.Value
public import proofs.«01_k».proof.Proof.Gen.RmsBRefIdeal.Run
public import Idealize.ShloMosaic.Lib.Pointwise
public import Idealize.ShloMosaic.Lib.Tactic

@[expose] public section

set_option maxRecDepth 16384

noncomputable section

/-! The gradients of the norm of each row: that in the row, which is also the gradient in the step's input, and that in the gain, which is
added up over the blocks of rows. -/

open Idealize.ShloMosaic Idealize.ShloMosaic.TcCoe Idealize.SL.Sem

namespace Cert.Norm

/-- How much of the row itself its gradient has, twice over: the part that comes through the mean square. -/
def slope (x g d : Fin 4096 → EReal) : EReal :=
  ∑ _u : Fin 1, Ideal.div ((∑ k, x k * (d k * g k)) * (Ideal.ofBits .f32 0xBF000000#32 * Ideal.div (Ideal.rsqrt (mean x)) (mean x)))
    (Ideal.ofBits .f32 0x45800000#32)

/-- The gradient in the row `x`, where `d` comes back to the norm of the row under the gain `g`. -/
def back (x g d : Fin 4096 → EReal) (k : Fin 4096) : EReal := d k * g k * Ideal.rsqrt (mean x) + x k * slope x g d + slope x g d * x k

/-- What the row gives to the gradient in the gain. -/
def give (x d : Fin 4096 → EReal) (k : Fin 4096) : EReal := x k * Ideal.rsqrt (mean x) * d k

/-- The sum of the three gradients that come back. -/
def come (a b d : Fin 4096 → EReal) (k : Fin 4096) : EReal := a k + b k + d k

/-- Where the rows of the block number `s` are. -/
theorem place {e : (Products.Mat 64 4096).Idx → (Products.Mat 4096 4096).Idx} {i : Fin 2 → ℕ} {s : Fin 64}
    (he : ∀ j a, (e j a : ℕ) = i a * (Products.Mat 64 4096).size a + 1 * (j a : ℕ)) (hi : i = ![s.val, 0]) (r : Fin 64) (k : Fin 4096) :
    e (ix2 r k) = ix2 ⟨r + 64 * s, by omega⟩ k := by
  subst hi
  refine Shape.idx_ext₂ ?_ ?_
  · exact (he _ 0).trans (by show s.val * 64 + 1 * (r : ℕ) = (r : ℕ) + 64 * s.val; omega)
  · exact (he _ 1).trans (by show 0 * 4096 + 1 * (k : ℕ) = (k : ℕ); omega)

end Cert.Norm

namespace Cert.RmsBIdeal.NormGrad

open Cert.RmsBIdeal Cert.RmsBIdeal.Gen Cert.Norm

/-- What a block is given, element by element: the residual's gradient and that of the norm. -/
theorem pay1 (x : FVec Ideal S64x4096 .f32) (g : FVec Ideal S1x4096 .f32) (a b d : FVec Ideal S64x4096 .bf16) (r : FVec Ideal S64x4096 .f32) :
    k0_pay1 (F := Ideal) x (k0_pay9 x g a b d) (k0_pay10 x g a b d) r
      = fun j => r j + back (row x (j 0)) (row g 0) (come (row a (j 0)) (row b (j 0)) (row d (j 0))) (j 1) := by
  funext j
  unfold k0_pay1 k0_pay9 k0_pay10 k0_pay8 k0_pay6 k0_pay5 k0_pay4
  pointwise
  rw [at_row x j, at_row a j, at_row b j, at_row d j]; rfl

/-- What a block gives to the gradient in the gain. -/
theorem pay7 (x : FVec Ideal S64x4096 .f32) (a b d : FVec Ideal S64x4096 .bf16) :
    k0_pay7 (F := Ideal) x a b d = fun j => ∑ r : Fin 64, give (row x r) (come (row a r) (row b r) (row d r)) (j 1) := by
  funext j
  unfold k0_pay7 k0_pay6 k0_pay5 k0_pay4
  pointwise
  rfl

/-- It is added to what is there; at first there is nothing. -/
theorem pay2 (x z : FVec Ideal S1x4096 .f32) : k0_pay2 (F := Ideal) x z = fun j => z j + x j := by
  unfold k0_pay2; simp only [shapeCast_self]; rfl
theorem pay3 : k0_pay3 (F := Ideal) = fun _ => 0 := by
  unfold k0_pay3; exact funext fun _ => Ideal.ofBits_zero_f32

/-- The first point leaves the gradient in its rows. -/
theorem first6 (c : Dev nD) (i : grid0.Coords) (a1 : Memref sig .tc .vmem S64x4096 .f32) (h1 : a1.IsWhole) (a2 : Memref sig .tc .vmem S1x4096 .f32) (h2 : a2.IsWhole) (a3 : Memref sig .tc .vmem S64x4096 .bf16) (h3 : a3.IsWhole) (a4 : Memref sig .tc .vmem S64x4096 .bf16) (h4 : a4.IsWhole) (a5 : Memref sig .tc .vmem S64x4096 .bf16) (h5 : a5.IsWhole) (a6 : Memref sig .tc .vmem S64x4096 .f32) (h6 : a6.IsWhole) (a7 : Memref sig .tc .vmem S64x4096 .f32) (h7 : a7.IsWhole) (a8 : Memref sig .tc .vmem S1x4096 .f32) (h8 : a8.IsWhole) (hc0 : cond0_0 i)
    (x : Vec Ideal S64x4096 .f32) (g : Vec Ideal S1x4096 .f32) (a b d : Vec Ideal S64x4096 .bf16) (r : Vec Ideal S64x4096 .f32) :
    out0_A_6 c i a1 h1 a2 h2 a3 h3 a4 h4 a5 h5 a6 h6 a7 h7 a8 h8 hc0 x g a b d r = k0_pay1 x (k0_pay9 x g a b d) (k0_pay10 x g a b d) r := by
  unfold out0_A_6
  rw [View.read_writes_eq_canon _ _ _ (cover0_A_6 c i a1 h1 a2 h2 a3 h3 a4 h4 a5 h5 a6 h6 a7 h7 a8 h8 hc0 x g a b d r)]
  unfold kernelRun0_A
  dsimp only
  sl_unfold_words
  rw [View.canon_unit_zero Products.offs]
  simp only [View.readAt_eq_ld, h1.read_unread, h2.read_unread, h3.read_unread, h4.read_unread, h5.read_unread, h6.read_unread,
    View.ld_unit_zero (S := S64x4096) Products.offs, View.ld_unit_zero (S := S1x4096) Products.offs]

/-- And its part of the gradient in the gain. -/
theorem first7 (c : Dev nD) (i : grid0.Coords) (a1 : Memref sig .tc .vmem S64x4096 .f32) (h1 : a1.IsWhole) (a2 : Memref sig .tc .vmem S1x4096 .f32) (h2 : a2.IsWhole) (a3 : Memref sig .tc .vmem S64x4096 .bf16) (h3 : a3.IsWhole) (a4 : Memref sig .tc .vmem S64x4096 .bf16) (h4 : a4.IsWhole) (a5 : Memref sig .tc .vmem S64x4096 .bf16) (h5 : a5.IsWhole) (a6 : Memref sig .tc .vmem S64x4096 .f32) (h6 : a6.IsWhole) (a7 : Memref sig .tc .vmem S64x4096 .f32) (h7 : a7.IsWhole) (a8 : Memref sig .tc .vmem S1x4096 .f32) (h8 : a8.IsWhole) (hc0 : cond0_0 i)
    (x : Vec Ideal S64x4096 .f32) (g : Vec Ideal S1x4096 .f32) (a b d : Vec Ideal S64x4096 .bf16) (r : Vec Ideal S64x4096 .f32) :
    out0_A_7 c i a1 h1 a2 h2 a3 h3 a4 h4 a5 h5 a6 h6 a7 h7 a8 h8 hc0 x g a b d r = k0_pay2 (k0_pay7 x a b d) (k0_pay3 (F := Ideal)) := by
  unfold out0_A_7
  rw [View.read_writes_eq_canon _ _ _ (cover0_A_7 c i a1 h1 a2 h2 a3 h3 a4 h4 a5 h5 a6 h6 a7 h7 a8 h8 hc0 x g a b d r)]
  unfold kernelRun0_A
  dsimp only
  sl_unfold_words
  rw [View.canon_cons_unit_zero (S := S1x4096) Products.offs, View.readCov_unit_zero _ Products.offs]
  simp only [View.readAt_eq_ld, h1.read_unread, h2.read_unread, h3.read_unread, h4.read_unread, h5.read_unread, h6.read_unread,
    View.ld_unit_zero (S := S64x4096) Products.offs, View.ld_unit_zero (S := S1x4096) Products.offs]

/-- A later point leaves the gradient in its rows. -/
theorem later6 (c : Dev nD) (i : grid0.Coords) (a1 : Memref sig .tc .vmem S64x4096 .f32) (h1 : a1.IsWhole) (a2 : Memref sig .tc .vmem S1x4096 .f32) (h2 : a2.IsWhole) (a3 : Memref sig .tc .vmem S64x4096 .bf16) (h3 : a3.IsWhole) (a4 : Memref sig .tc .vmem S64x4096 .bf16) (h4 : a4.IsWhole) (a5 : Memref sig .tc .vmem S64x4096 .bf16) (h5 : a5.IsWhole) (a6 : Memref sig .tc .vmem S64x4096 .f32) (h6 : a6.IsWhole) (a7 : Memref sig .tc .vmem S64x4096 .f32) (h7 : a7.IsWhole) (a8 : Memref sig .tc .vmem S1x4096 .f32) (h8 : a8.IsWhole) (hc0 : ¬cond0_0 i)
    (x : Vec Ideal S64x4096 .f32) (g : Vec Ideal S1x4096 .f32) (a b d : Vec Ideal S64x4096 .bf16) (r : Vec Ideal S64x4096 .f32) (z : Vec Ideal S1x4096 .f32) :
    out0_B_6 c i a1 h1 a2 h2 a3 h3 a4 h4 a5 h5 a6 h6 a7 h7 a8 h8 hc0 x g a b d r z = k0_pay1 x (k0_pay9 x g a b d) (k0_pay10 x g a b d) r := by
  unfold out0_B_6
  rw [View.read_writes_eq_canon _ _ _ (cover0_B_6 c i a1 h1 a2 h2 a3 h3 a4 h4 a5 h5 a6 h6 a7 h7 a8 h8 hc0 x g a b d r z)]
  unfold kernelRun0_B
  dsimp only
  sl_unfold_words
  rw [View.canon_unit_zero Products.offs]
  simp only [View.readAt_eq_ld, h1.read_unread, h2.read_unread, h3.read_unread, h4.read_unread, h5.read_unread, h6.read_unread, h8.read_unread,
    View.ld_unit_zero (S := S64x4096) Products.offs, View.ld_unit_zero (S := S1x4096) Products.offs]

/-- And adds its part of the gradient in the gain. -/
theorem later7 (c : Dev nD) (i : grid0.Coords) (a1 : Memref sig .tc .vmem S64x4096 .f32) (h1 : a1.IsWhole) (a2 : Memref sig .tc .vmem S1x4096 .f32) (h2 : a2.IsWhole) (a3 : Memref sig .tc .vmem S64x4096 .bf16) (h3 : a3.IsWhole) (a4 : Memref sig .tc .vmem S64x4096 .bf16) (h4 : a4.IsWhole) (a5 : Memref sig .tc .vmem S64x4096 .bf16) (h5 : a5.IsWhole) (a6 : Memref sig .tc .vmem S64x4096 .f32) (h6 : a6.IsWhole) (a7 : Memref sig .tc .vmem S64x4096 .f32) (h7 : a7.IsWhole) (a8 : Memref sig .tc .vmem S1x4096 .f32) (h8 : a8.IsWhole) (hc0 : ¬cond0_0 i)
    (x : Vec Ideal S64x4096 .f32) (g : Vec Ideal S1x4096 .f32) (a b d : Vec Ideal S64x4096 .bf16) (r : Vec Ideal S64x4096 .f32) (z : Vec Ideal S1x4096 .f32) :
    out0_B_7 c i a1 h1 a2 h2 a3 h3 a4 h4 a5 h5 a6 h6 a7 h7 a8 h8 hc0 x g a b d r z = k0_pay2 (k0_pay7 x a b d) z := by
  unfold out0_B_7
  rw [View.read_writes_eq_canon _ _ _ (cover0_B_7 c i a1 h1 a2 h2 a3 h3 a4 h4 a5 h5 a6 h6 a7 h7 a8 h8 hc0 x g a b d r z)]
  unfold kernelRun0_B
  dsimp only
  sl_unfold_words
  rw [View.canon_unit_zero Products.offs]
  simp only [View.readAt_eq_ld, h1.read_unread, h2.read_unread, h3.read_unread, h4.read_unread, h5.read_unread, h6.read_unread, h8.read_unread,
    View.ld_unit_zero (S := S64x4096) Products.offs, View.ld_unit_zero (S := S1x4096) Products.offs]

variable (m : (ℓ : Loc nD τ sig) → Buf (Elt Ideal) ℓ) (c : Dev nD)

/-- A point's part of the gradient in the gain. -/
abbrev part (t : Fin cfg0.N) : FVec Ideal S1x4096 .f32 := k0_pay7 (iblk m c 0 t) (iblk m c 2 t) (iblk m c 3 t) (iblk m c 4 t)

/-- Every point leaves the gradient in its rows. -/
theorem rows_of (t : Fin cfg0.N) : (outsAt0 m c t.val t.isLt).1 = k0_pay1 (iblk m c 0 t) (k0_pay9 (iblk m c 0 t) (iblk m c 1 t) (iblk m c 2 t) (iblk m c 3 t) (iblk m c 4 t))
    (k0_pay10 (iblk m c 0 t) (iblk m c 1 t) (iblk m c 2 t) (iblk m c 3 t) (iblk m c 4 t)) (iblk m c 5 t) := by
  by_cases h0 : t.val % 64 = 0
  · rw [outsAt0_A m c t h0]; dsimp only; rw [first6]
  · rw [outsAt0_B m c t h0]; dsimp only; rw [later6]

theorem gain_first (t : Fin cfg0.N) (h0 : t.val % 64 = 0) : (outsAt0 m c t.val t.isLt).2 = part m c t := by
  rw [outsAt0_A m c t h0]; dsimp only; rw [first7, pay2, pay3]; exact funext fun _ => zero_add _

theorem gain_later (t : Fin cfg0.N) (h0 : ¬t.val % 64 = 0) :
    (outsAt0 m c t.val t.isLt).2 = fun j => (outsAt0 m c (t.val - 1) (Nat.lt_of_le_of_lt (Nat.sub_le _ _) t.isLt)).2 j + part m c t j := by
  rw [outsAt0_B m c t h0]; dsimp only; rw [later7, pay2]

/-- After a point the gradient in the gain has the parts of all the points so far. -/
theorem grown (j : S1x4096.Idx) : ∀ n : ℕ, ∀ hn : n < cfg0.N, (outsAt0 m c n hn).2 j = ∑ s : Fin (n + 1), (part m c ⟨s.val, Nat.lt_of_le_of_lt (Nat.le_of_lt_succ s.isLt) hn⟩ j : EReal)
  | 0, hn => by rw [gain_first m c ⟨0, hn⟩ rfl]; exact (Fin.sum_univ_one (fun s : Fin 1 => (part m c ⟨s.val, Nat.lt_of_le_of_lt (Nat.le_of_lt_succ s.isLt) hn⟩ j : EReal))).symm
  | n + 1, hn => by
    rw [Fin.sum_univ_castSucc, gain_later m c ⟨n + 1, hn⟩ (by have := lt_of_lt_of_eq hn N_0; show ¬(n + 1) % 64 = 0; omega)]
    exact congrArg (fun z : EReal => z + part m c ⟨n + 1, hn⟩ j) (grown j n (Nat.lt_of_succ_lt hn))

/-- The rows that a grid point has. -/
theorem bands : ∀ t : Fin cfg0.N, win0_6.index t = ![t.val, 0] ∧ win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_7.index t = ![0, 0] := by
  decide +kernel

theorem onto6 : ∀ u : Fin 64, ∀ v : Fin 1, ∃ t : Fin cfg0.N, win0_6.index t = ![u.val, v.val] := by decide +kernel
/-- The last point, which writes the gradient in the gain back. -/
abbrev last : Fin cfg0.N := ⟨63, (by decide : 63 < 64).trans_eq N_0.symm⟩

theorem onto7 : ∀ u : Fin 1, ∀ v : Fin 1, ∃ _t : Fin 1, win0_7.index last = ![u.val, v.val] := by decide +kernel

/-- The arrays that the program is given. -/
abbrev X : FVec Ideal S4096x4096 .f32 := m ((c : Thread nD τ).loc main_arg0)
abbrev G : FVec Ideal S1x4096 .f32 := m ((c : Thread nD τ).loc main_arg1)
/-- What comes back to the norm of a row. -/
abbrev D (r : Fin 4096) : Fin 4096 → EReal := come (row (M := 4096) (m ((c : Thread nD τ).loc main_arg2)) r) (row (M := 4096) (m ((c : Thread nD τ).loc main_arg3)) r) (row (M := 4096) (m ((c : Thread nD τ).loc main_arg4)) r)
/-- What comes back past the norm. -/
abbrev R : FVec Ideal S4096x4096 .f32 := m ((c : Thread nD τ).loc main_arg5)

/-- The grid leaves the gradient in each row. -/
theorem final6 : (dats m 0 c).arrAt 6 cfg0.N = fun i => R m c i + back (row (X m c) (i 0)) (row (G m c) 0) (D m c (i 0)) (i 1) := by
  refine (dats m 0 c).arrAt_eq_of_cover 6 _ (fun t _ => ?_) (fun x => (Products.cover (m := 64) (n := 4096) win0_6.index
    (fun t x => x ∈ ((cfg0.win 6).blk t).view.set)
    (fun t x => by show x ∈ ((View.whole main_v0_0).slice (win0_6.rect t)).set ↔ _; rw [View.set_slice_whole, Rect.mem_set_unit]; exact Iff.rfl) rfl rfl onto6 x).imp fun t ht => ⟨flush0_6 t, ht⟩)
  rw [Value.flushed6, rows_of, pay1]
  obtain ⟨h6, h0, h1, h2, h3, h4, h5, h7⟩ := bands t
  funext j
  show (R m c ((win0_5.blk t).view.emb j) : EReal) + back (fun k => V m c main_arg0 ((win0_0.blk t).view.emb (ix2 (j 0) k))) (fun k => V m c main_arg1 ((win0_1.blk t).view.emb (ix2 0 k)))
      (come (fun k => V m c main_arg2 ((win0_2.blk t).view.emb (ix2 (j 0) k))) (fun k => V m c main_arg3 ((win0_3.blk t).view.emb (ix2 (j 0) k))) (fun k => V m c main_arg4 ((win0_4.blk t).view.emb (ix2 (j 0) k)))) (j 1)
    = R m c ((win0_6.blk t).view.emb j) + back (row (X m c) ((win0_6.blk t).view.emb j 0)) (row (G m c) 0) (D m c ((win0_6.blk t).view.emb j 0)) ((win0_6.blk t).view.emb j 1)
  have l0 (k) : (win0_0.blk t).view.emb (ix2 (j 0) k) = ix2 ((win0_6.blk t).view.emb j 0) k :=
    lines (M := 4096) (m := 64) (i := win0_0.index t) (o := win0_6.index t) (fun _ _ => rfl) (fun _ _ => rfl) (congrFun (h0.trans h6.symm) 0) (congrFun h0 1) j k
  have l2 (k) : (win0_2.blk t).view.emb (ix2 (j 0) k) = ix2 ((win0_6.blk t).view.emb j 0) k :=
    lines (M := 4096) (m := 64) (i := win0_2.index t) (o := win0_6.index t) (fun _ _ => rfl) (fun _ _ => rfl) (congrFun (h2.trans h6.symm) 0) (congrFun h2 1) j k
  have l3 (k) : (win0_3.blk t).view.emb (ix2 (j 0) k) = ix2 ((win0_6.blk t).view.emb j 0) k :=
    lines (M := 4096) (m := 64) (i := win0_3.index t) (o := win0_6.index t) (fun _ _ => rfl) (fun _ _ => rfl) (congrFun (h3.trans h6.symm) 0) (congrFun h3 1) j k
  have l4 (k) : (win0_4.blk t).view.emb (ix2 (j 0) k) = ix2 ((win0_6.blk t).view.emb j 0) k :=
    lines (M := 4096) (m := 64) (i := win0_4.index t) (o := win0_6.index t) (fun _ _ => rfl) (fun _ _ => rfl) (congrFun (h4.trans h6.symm) 0) (congrFun h4 1) j k
  have l1 (k) : (win0_1.blk t).view.emb (ix2 0 k) = ix2 0 k := whole (i := win0_1.index t) (fun _ _ => rfl) (congrFun h1 0) (congrFun h1 1) k
  have col : (win0_6.blk t).view.emb j 1 = j 1 := column (M := 4096) (m := 64) (o := win0_6.index t) (fun _ _ => rfl) (congrFun h6 1) j
  have l5 : (win0_5.blk t).view.emb j = (win0_6.blk t).view.emb j := by
    have e := lines (M := 4096) (m := 64) (e := (win0_5.blk t).view.emb) (e' := (win0_6.blk t).view.emb) (i := win0_5.index t) (o := win0_6.index t) (fun _ _ => rfl) (fun _ _ => rfl) (congrFun (h5.trans h6.symm) 0) (congrFun h5 1) j (j 1)
    exact ((congrArg (win0_5.blk t).view.emb (Shape.idx_ext₂ rfl rfl : j = ix2 (j 0) (j 1))).trans e).trans (Shape.idx_ext₂ rfl (congrArg Fin.val col.symm))
  simp only [l0, l1, l2, l3, l4, l5, col]
  rfl

/-- The grid leaves the gradient in the gain, summed over the rows. -/
theorem final7 : (dats m 0 c).arrAt 7 cfg0.N = fun i => ∑ r : Fin 4096, give (row (X m c) r) (D m c r) (i 1) := by
  refine (dats m 0 c).arrAt_eq_of_cover 7 _ (fun t hf => ?_) (fun x => (Products.cover (m := 1) (n := 4096) (fun _ : Fin 1 => win0_7.index last)
    (fun _ x => x ∈ ((cfg0.win 7).blk last).view.set)
    (fun _ x => by show x ∈ ((View.whole main_v0_1).slice (win0_7.rect last)).set ↔ _; rw [View.set_slice_whole, Rect.mem_set_unit]; exact Iff.rfl) rfl rfl onto7 x).elim fun _ ht => ⟨last, (flush0_7 last).mpr rfl, ht⟩)
  have ht : t.val = 63 := by have := (flush0_7 t).mp hf; have := lt_of_lt_of_eq t.isLt N_0; omega
  obtain ⟨t, hn⟩ := t
  obtain rfl : t = 63 := ht
  rw [Value.flushed7]
  funext j
  refine (grown m c j 63 hn).trans ?_
  show _ = ∑ r : Fin 4096, give (row (X m c) r) (D m c r) ((win0_7.blk ⟨63, hn⟩).view.emb j 1)
  rw [column (M := 1) (m := 1) (e' := (win0_7.blk ⟨63, hn⟩).view.emb) (o := win0_7.index ⟨63, hn⟩) (fun _ _ => rfl) (congrFun (bands ⟨63, hn⟩).2.2.2.2.2.2.2 1) j,
    Products.sum_runs (P := 64) (k := 64) rfl]
  refine Finset.sum_congr rfl fun s _ => ?_
  obtain ⟨h6, h0, h1, h2, h3, h4, h5, h7⟩ := bands ⟨s.val, s.isLt.trans_eq N_0.symm⟩
  rw [part, pay7]
  refine Finset.sum_congr rfl fun r _ => ?_
  have l0 (k) : (win0_0.blk ⟨s.val, s.isLt.trans_eq N_0.symm⟩).view.emb (ix2 r k) = ix2 ⟨r + 64 * s, by omega⟩ k := place (fun _ _ => rfl) h0 r k
  have l2 (k) : (win0_2.blk ⟨s.val, s.isLt.trans_eq N_0.symm⟩).view.emb (ix2 r k) = ix2 ⟨r + 64 * s, by omega⟩ k := place (fun _ _ => rfl) h2 r k
  have l3 (k) : (win0_3.blk ⟨s.val, s.isLt.trans_eq N_0.symm⟩).view.emb (ix2 r k) = ix2 ⟨r + 64 * s, by omega⟩ k := place (fun _ _ => rfl) h3 r k
  have l4 (k) : (win0_4.blk ⟨s.val, s.isLt.trans_eq N_0.symm⟩).view.emb (ix2 r k) = ix2 ⟨r + 64 * s, by omega⟩ k := place (fun _ _ => rfl) h4 r k
  show give (fun k => V m c main_arg0 ((win0_0.blk ⟨s.val, s.isLt.trans_eq N_0.symm⟩).view.emb (ix2 r k)))
      (come (fun k => V m c main_arg2 ((win0_2.blk ⟨s.val, s.isLt.trans_eq N_0.symm⟩).view.emb (ix2 r k))) (fun k => V m c main_arg3 ((win0_3.blk ⟨s.val, s.isLt.trans_eq N_0.symm⟩).view.emb (ix2 r k))) (fun k => V m c main_arg4 ((win0_4.blk ⟨s.val, s.isLt.trans_eq N_0.symm⟩).view.emb (ix2 r k)))) (j 1) = _
  simp only [l0, l2, l3, l4]

/-- The reference runs and keeps its arguments. -/
theorem ref_frame : Cert.quiescent_RmsBRefIdeal := fun m ρ _ =>
  (θ_run _ _ _).mono (fun r h => ⟨fun c => (h c).2.2, sem_eq_zero_of_no_sems (by decide) r.2⟩) (RmsBRefIdeal.Value.run m ρ)

/-- What the reference computes, element by element. -/
theorem ref_rows (m : (ℓ : Loc RmsBRefIdeal.nD RmsBRefIdeal.τ RmsBRefIdeal.sig) → Buf (Elt Ideal) ℓ) (c : Dev nD)
    (x r : FVec Ideal S4096x4096 .f32) (g : FVec Ideal S1x4096 .f32) (a b d : FVec Ideal S4096x4096 .bf16)
    (hx : m ((c.tc : Thread RmsBRefIdeal.nD RmsBRefIdeal.τ).loc RmsBRefIdeal.main_arg0) = x)
    (hg : m ((c.tc : Thread RmsBRefIdeal.nD RmsBRefIdeal.τ).loc RmsBRefIdeal.main_arg1) = g)
    (ha : m ((c.tc : Thread RmsBRefIdeal.nD RmsBRefIdeal.τ).loc RmsBRefIdeal.main_arg2) = a)
    (hb : m ((c.tc : Thread RmsBRefIdeal.nD RmsBRefIdeal.τ).loc RmsBRefIdeal.main_arg3) = b)
    (hd : m ((c.tc : Thread RmsBRefIdeal.nD RmsBRefIdeal.τ).loc RmsBRefIdeal.main_arg4) = d)
    (hr : m ((c.tc : Thread RmsBRefIdeal.nD RmsBRefIdeal.τ).loc RmsBRefIdeal.main_arg5) = r) :
    (RmsBRefIdeal.Value.res_main_v39 m c : FVec Ideal S4096x4096 .f32)
      = fun i => r i + back (row x (i 0)) (row g 0) (come (row a (i 0)) (row b (i 0)) (row d (i 0))) (i 1) := by
  subst hx hg ha hb hd hr
  have step (x r : FVec Ideal S4096x4096 .f32) (g : FVec Ideal S1x4096 .f32) (a b d : FVec Ideal S4096x4096 .bf16) (y : FVec Ideal S4096x4096 .f32)
      (hy : ∀ i, y i = r i + ((a i + b i + d i) * row g 0 (i 1) * Ideal.rsqrt (mean (row x (i 0))) + x i * slope (row x (i 0)) (row g 0) (come (row a (i 0)) (row b (i 0)) (row d (i 0)))
        + slope (row x (i 0)) (row g 0) (come (row a (i 0)) (row b (i 0)) (row d (i 0))) * x i)) :
      y = fun i => r i + back (row x (i 0)) (row g 0) (come (row a (i 0)) (row b (i 0)) (row d (i 0))) (i 1) :=
    funext fun i => (hy i).trans (by rw [at_row x i, at_row a i, at_row b i, at_row d i]; rfl)
  refine step _ _ _ _ _ _ _ fun i => ?_
  unfold RmsBRefIdeal.Value.res_main_v39
  pointwise
  rfl

/-- The kernel's gradients are the reference's. -/
theorem algebraic : Cert.algebraic_RmsBIdeal_RmsBRefIdeal := fun m ρ m' ρ' _ hag =>
  ⟨fun c i => R m c i + back (row (X m c) (i 0)) (row (G m c) 0) (D m c (i 0)) (i 1), fun c i => (∑ r : Fin 4096, give (row (X m c) r) (D m c r) (i 1) : EReal),
    (θ_run _ _ _).mono (fun _ h c => ⟨(h c).1.trans (final6 m c), (h c).2.1.trans (final7 m c), (h c).2.2⟩) (Value.run_blocks m ρ),
    (θ_run _ _ _).mono (fun _ h c => by
      obtain ⟨r0, r1, keep⟩ := h c
      obtain ⟨a0, a1, a2, a3, a4, a5⟩ := hag c
      refine ⟨r0.trans (ref_rows m' c _ _ _ _ _ _ a0 a1 a2 a3 a4 a5), r1.trans ?_, keep⟩
      rw [a0, a2, a3, a4]
      have step (x : FVec Ideal S4096x4096 .f32) (a b d : FVec Ideal S4096x4096 .bf16) (y : FVec Ideal S1x4096 .f32)
          (hy : ∀ i, y i = ∑ r : Fin 4096, give (row x r) (come (row a r) (row b r) (row d r)) (i 1)) :
          y = fun i => ∑ r : Fin 4096, give (row x r) (come (row a r) (row b r) (row d r)) (i 1) := funext hy
      refine step _ _ _ _ _ fun i => ?_
      pointwise
      rfl) (RmsBRefIdeal.Value.run m' ρ')⟩

end Cert.RmsBIdeal.NormGrad
-- ==== Proof.ResidGrads.lean ====
module

public import proofs.«01_k».proof.Proof.NormGrads
public import proofs.«01_k».proof.Proof.Gen.ResidBIdeal.Value
public import proofs.«01_k».proof.Proof.Gen.ResidBRefIdeal.Run

@[expose] public section

set_option maxRecDepth 16384

noncomputable section

/-! The gradients of the two norms around the residual sum: that in the row after the sum, that in the row which the first norm has, and those
in the two gains, which are added up over the blocks of rows. -/

open Idealize.ShloMosaic Idealize.ShloMosaic.TcCoe Idealize.SL.Sem

namespace Cert.ResidBIdeal.NormGrad

open Cert.ResidBIdeal Cert.ResidBIdeal.Gen Cert.Norm

/-- The sum of the two gradients that come back to the second norm. -/
def both (a b : Fin 4096 → EReal) (k : Fin 4096) : EReal := a k + b k

/-- The gradient in the row after the residual sum: what comes back past the second norm, and that norm's. -/
def mid (x a b g y : Fin 4096 → EReal) (k : Fin 4096) : EReal := y k + back x g (both a b) k

section Point

variable (x q y : FVec Ideal S64x4096 .f32) (a b : FVec Ideal S64x4096 .bf16) (g u z9 z10 : FVec Ideal S1x4096 .f32)

/-- What a block of the first result is given, element by element. -/
theorem rows1 : k0_pay13 (F := Ideal) x (k0_pay10 x g a b) (k0_pay11 x g a b) (k0_pay12 x g a b) y
    = fun j => mid (row x (j 0)) (row a (j 0)) (row b (j 0)) (row g 0) (row y (j 0)) (j 1) := by
  funext j
  unfold k0_pay13 k0_pay12 k0_pay11 k0_pay10 k0_pay9 k0_pay7 k0_pay6 k0_pay5
  pointwise
  rw [at_row x j, at_row a j, at_row b j, at_row y j]; rfl

/-- What a block of the second result is given. -/
theorem rows2 : k0_pay17 (F := Ideal) x (k0_pay10 x g a b) (k0_pay11 x g a b) (k0_pay12 x g a b) y q u
    = fun j => back (row q (j 0)) (row u 0) (mid (row x (j 0)) (row a (j 0)) (row b (j 0)) (row g 0) (row y (j 0))) (j 1) := by
  funext j
  unfold k0_pay17 k0_pay15 k0_pay14
  simp only [rows1]
  pointwise
  rw [at_row q j]; rfl

/-- What a block gives to the gradient in the second norm's gain. -/
theorem gain1 : k0_pay8 (F := Ideal) x a b = fun j => ∑ r : Fin 64, give (row x r) (both (row a r) (row b r)) (j 1) := by
  funext j
  unfold k0_pay8 k0_pay7 k0_pay6 k0_pay5
  pointwise
  rfl

/-- What it gives to that in the first norm's. -/
theorem gain2 : k0_pay16 (F := Ideal) x (k0_pay10 x g a b) (k0_pay11 x g a b) (k0_pay12 x g a b) y q
    = fun j => ∑ r : Fin 64, give (row q r) (mid (row x r) (row a r) (row b r) (row g 0) (row y r)) (j 1) := by
  funext j
  unfold k0_pay16 k0_pay15 k0_pay14
  simp only [rows1]
  pointwise
  rfl

/-- They are added to what is there; at first there is nothing. -/
theorem add1 : k0_pay1 (F := Ideal) u g = fun j => g j + u j := by unfold k0_pay1; simp only [shapeCast_self]; rfl
theorem add2 : k0_pay2 (F := Ideal) u g = fun j => g j + u j := by unfold k0_pay2; simp only [shapeCast_self]; rfl
theorem zero1 : k0_pay3 (F := Ideal) = fun _ => 0 := by unfold k0_pay3; exact funext fun _ => Ideal.ofBits_zero_f32
theorem zero2 : k0_pay4 (F := Ideal) = fun _ => 0 := by unfold k0_pay4; exact funext fun _ => Ideal.ofBits_zero_f32

variable (c : Dev nD) (i : grid0.Coords) (a1 : Memref sig .tc .vmem S64x4096 .f32) (h1 : a1.IsWhole) (a2 : Memref sig .tc .vmem S64x4096 .bf16) (h2 : a2.IsWhole) (a3 : Memref sig .tc .vmem S64x4096 .bf16) (h3 : a3.IsWhole) (a4 : Memref sig .tc .vmem S1x4096 .f32) (h4 : a4.IsWhole) (a5 : Memref sig .tc .vmem S64x4096 .f32) (h5 : a5.IsWhole) (a6 : Memref sig .tc .vmem S1x4096 .f32) (h6 : a6.IsWhole) (a7 : Memref sig .tc .vmem S64x4096 .f32) (h7 : a7.IsWhole) (a8 : Memref sig .tc .vmem S64x4096 .f32) (h8 : a8.IsWhole) (a9 : Memref sig .tc .vmem S64x4096 .bf16) (h9 : a9.IsWhole) (a10 : Memref sig .tc .vmem S1x4096 .f32) (h10 : a10.IsWhole) (a11 : Memref sig .tc .vmem S1x4096 .f32) (h11 : a11.IsWhole)

section First

variable (hc : cond0_0 i)

/-- What the first point leaves in each of the four results. -/
theorem first7 :
    out0_A_7 (F := Ideal) c i a1 h1 a2 h2 a3 h3 a4 h4 a5 h5 a6 h6 a7 h7 a8 h8 a9 h9 a10 h10 a11 h11 hc x a b g q u y = k0_pay13 (F := Ideal) x (k0_pay10 x g a b) (k0_pay11 x g a b) (k0_pay12 x g a b) y := by
  unfold out0_A_7
  rw [View.read_writes_eq_canon _ _ _ (cover0_A_7 (F := Ideal) c i a1 h1 a2 h2 a3 h3 a4 h4 a5 h5 a6 h6 a7 h7 a8 h8 a9 h9 a10 h10 a11 h11 hc x a b g q u y)]
  unfold kernelRun0_A
  dsimp only
  sl_unfold_words
  rw [View.canon_unit_zero Products.offs]
  simp only [View.readAt_eq_ld, h1.read_unread, h2.read_unread, h3.read_unread, h4.read_unread, h5.read_unread, h6.read_unread, h7.read_unread,
    View.ld_unit_zero (S := S64x4096) Products.offs, View.ld_unit_zero (S := S1x4096) Products.offs]
theorem first8 :
    out0_A_8 (F := Ideal) c i a1 h1 a2 h2 a3 h3 a4 h4 a5 h5 a6 h6 a7 h7 a8 h8 a9 h9 a10 h10 a11 h11 hc x a b g q u y = k0_pay17 (F := Ideal) x (k0_pay10 x g a b) (k0_pay11 x g a b) (k0_pay12 x g a b) y q u := by
  unfold out0_A_8
  rw [View.read_writes_eq_canon _ _ _ (cover0_A_8 (F := Ideal) c i a1 h1 a2 h2 a3 h3 a4 h4 a5 h5 a6 h6 a7 h7 a8 h8 a9 h9 a10 h10 a11 h11 hc x a b g q u y)]
  unfold kernelRun0_A
  dsimp only
  sl_unfold_words
  rw [View.canon_unit_zero Products.offs]
  simp only [View.readAt_eq_ld, h1.read_unread, h2.read_unread, h3.read_unread, h4.read_unread, h5.read_unread, h6.read_unread, h7.read_unread,
    View.ld_unit_zero (S := S64x4096) Products.offs, View.ld_unit_zero (S := S1x4096) Products.offs]
theorem first9 :
    out0_A_9 (F := Ideal) c i a1 h1 a2 h2 a3 h3 a4 h4 a5 h5 a6 h6 a7 h7 a8 h8 a9 h9 a10 h10 a11 h11 hc x a b g q u y = k0_pay1 (F := Ideal) (k0_pay8 x a b) (k0_pay3 (F := Ideal)) := by
  unfold out0_A_9
  rw [View.read_writes_eq_canon _ _ _ (cover0_A_9 (F := Ideal) c i a1 h1 a2 h2 a3 h3 a4 h4 a5 h5 a6 h6 a7 h7 a8 h8 a9 h9 a10 h10 a11 h11 hc x a b g q u y)]
  unfold kernelRun0_A
  dsimp only
  sl_unfold_words
  rw [View.canon_cons_unit_zero (S := S1x4096) Products.offs, View.readCov_unit_zero _ Products.offs]
  simp only [View.readAt_eq_ld, h1.read_unread, h2.read_unread, h3.read_unread, h4.read_unread, h5.read_unread, h6.read_unread, h7.read_unread,
    View.ld_unit_zero (S := S64x4096) Products.offs, View.ld_unit_zero (S := S1x4096) Products.offs]
theorem first10 :
    out0_A_10 (F := Ideal) c i a1 h1 a2 h2 a3 h3 a4 h4 a5 h5 a6 h6 a7 h7 a8 h8 a9 h9 a10 h10 a11 h11 hc x a b g q u y = k0_pay2 (F := Ideal) (k0_pay16 x (k0_pay10 x g a b) (k0_pay11 x g a b) (k0_pay12 x g a b) y q) (k0_pay4 (F := Ideal)) := by
  unfold out0_A_10
  rw [View.read_writes_eq_canon _ _ _ (cover0_A_10 (F := Ideal) c i a1 h1 a2 h2 a3 h3 a4 h4 a5 h5 a6 h6 a7 h7 a8 h8 a9 h9 a10 h10 a11 h11 hc x a b g q u y)]
  unfold kernelRun0_A
  dsimp only
  sl_unfold_words
  rw [View.canon_cons_unit_zero (S := S1x4096) Products.offs, View.readCov_unit_zero _ Products.offs]
  simp only [View.readAt_eq_ld, h1.read_unread, h2.read_unread, h3.read_unread, h4.read_unread, h5.read_unread, h6.read_unread, h7.read_unread,
    View.ld_unit_zero (S := S64x4096) Products.offs, View.ld_unit_zero (S := S1x4096) Products.offs]

end First

section Later

variable (hc : ¬cond0_0 i)

/-- What a later point leaves there. -/
theorem later7 :
    out0_B_7 (F := Ideal) c i a1 h1 a2 h2 a3 h3 a4 h4 a5 h5 a6 h6 a7 h7 a8 h8 a9 h9 a10 h10 a11 h11 hc x a b g q u y z9 z10 = k0_pay13 (F := Ideal) x (k0_pay10 x g a b) (k0_pay11 x g a b) (k0_pay12 x g a b) y := by
  unfold out0_B_7
  rw [View.read_writes_eq_canon _ _ _ (cover0_B_7 (F := Ideal) c i a1 h1 a2 h2 a3 h3 a4 h4 a5 h5 a6 h6 a7 h7 a8 h8 a9 h9 a10 h10 a11 h11 hc x a b g q u y z9 z10)]
  unfold kernelRun0_B
  dsimp only
  sl_unfold_words
  rw [View.canon_unit_zero Products.offs]
  simp only [View.readAt_eq_ld, h1.read_unread, h2.read_unread, h3.read_unread, h4.read_unread, h5.read_unread, h6.read_unread, h7.read_unread, h10.read_unread, h11.read_unread,
    View.ld_unit_zero (S := S64x4096) Products.offs, View.ld_unit_zero (S := S1x4096) Products.offs]
theorem later8 :
    out0_B_8 (F := Ideal) c i a1 h1 a2 h2 a3 h3 a4 h4 a5 h5 a6 h6 a7 h7 a8 h8 a9 h9 a10 h10 a11 h11 hc x a b g q u y z9 z10 = k0_pay17 (F := Ideal) x (k0_pay10 x g a b) (k0_pay11 x g a b) (k0_pay12 x g a b) y q u := by
  unfold out0_B_8
  rw [View.read_writes_eq_canon _ _ _ (cover0_B_8 (F := Ideal) c i a1 h1 a2 h2 a3 h3 a4 h4 a5 h5 a6 h6 a7 h7 a8 h8 a9 h9 a10 h10 a11 h11 hc x a b g q u y z9 z10)]
  unfold kernelRun0_B
  dsimp only
  sl_unfold_words
  rw [View.canon_unit_zero Products.offs]
  simp only [View.readAt_eq_ld, h1.read_unread, h2.read_unread, h3.read_unread, h4.read_unread, h5.read_unread, h6.read_unread, h7.read_unread, h10.read_unread, h11.read_unread,
    View.ld_unit_zero (S := S64x4096) Products.offs, View.ld_unit_zero (S := S1x4096) Products.offs]
theorem later9 :
    out0_B_9 (F := Ideal) c i a1 h1 a2 h2 a3 h3 a4 h4 a5 h5 a6 h6 a7 h7 a8 h8 a9 h9 a10 h10 a11 h11 hc x a b g q u y z9 z10 = k0_pay1 (F := Ideal) (k0_pay8 x a b) z9 := by
  unfold out0_B_9
  rw [View.read_writes_eq_canon _ _ _ (cover0_B_9 (F := Ideal) c i a1 h1 a2 h2 a3 h3 a4 h4 a5 h5 a6 h6 a7 h7 a8 h8 a9 h9 a10 h10 a11 h11 hc x a b g q u y z9 z10)]
  unfold kernelRun0_B
  dsimp only
  sl_unfold_words
  rw [View.canon_unit_zero Products.offs]
  simp only [View.readAt_eq_ld, h1.read_unread, h2.read_unread, h3.read_unread, h4.read_unread, h5.read_unread, h6.read_unread, h7.read_unread, h10.read_unread, h11.read_unread,
    View.ld_unit_zero (S := S64x4096) Products.offs, View.ld_unit_zero (S := S1x4096) Products.offs]
theorem later10 :
    out0_B_10 (F := Ideal) c i a1 h1 a2 h2 a3 h3 a4 h4 a5 h5 a6 h6 a7 h7 a8 h8 a9 h9 a10 h10 a11 h11 hc x a b g q u y z9 z10 = k0_pay2 (F := Ideal) (k0_pay16 x (k0_pay10 x g a b) (k0_pay11 x g a b) (k0_pay12 x g a b) y q) z10 := by
  unfold out0_B_10
  rw [View.read_writes_eq_canon _ _ _ (cover0_B_10 (F := Ideal) c i a1 h1 a2 h2 a3 h3 a4 h4 a5 h5 a6 h6 a7 h7 a8 h8 a9 h9 a10 h10 a11 h11 hc x a b g q u y z9 z10)]
  unfold kernelRun0_B
  dsimp only
  sl_unfold_words
  rw [View.canon_unit_zero Products.offs]
  simp only [View.readAt_eq_ld, h1.read_unread, h2.read_unread, h3.read_unread, h4.read_unread, h5.read_unread, h6.read_unread, h7.read_unread, h10.read_unread, h11.read_unread,
    View.ld_unit_zero (S := S64x4096) Products.offs, View.ld_unit_zero (S := S1x4096) Products.offs]

end Later

end Point

variable (m : (ℓ : Loc nD τ sig) → Buf (Elt Ideal) ℓ) (c : Dev nD)

/-- The arrays that the program is given. -/
abbrev X : FVec Ideal S4096x4096 .f32 := m ((c : Thread nD τ).loc main_arg0)
abbrev A : FVec Ideal S4096x4096 .bf16 := m ((c : Thread nD τ).loc main_arg1)
abbrev B : FVec Ideal S4096x4096 .bf16 := m ((c : Thread nD τ).loc main_arg2)
abbrev G : FVec Ideal S1x4096 .f32 := m ((c : Thread nD τ).loc main_arg3)
abbrev Q : FVec Ideal S4096x4096 .f32 := m ((c : Thread nD τ).loc main_arg4)
abbrev U : FVec Ideal S1x4096 .f32 := m ((c : Thread nD τ).loc main_arg5)
abbrev Y : FVec Ideal S4096x4096 .f32 := m ((c : Thread nD τ).loc main_arg6)

/-- The four results, row by row: the gradient after the sum, the first norm's, and what a row gives to the two gains. -/
def after (r : Fin 4096) : Fin 4096 → EReal := mid (row (X m c) r) (row (A m c) r) (row (B m c) r) (row (G m c) 0) (row (Y m c) r)
def before (r : Fin 4096) : Fin 4096 → EReal := back (row (Q m c) r) (row (U m c) 0) (after m c r)
def gives1 (r : Fin 4096) : Fin 4096 → EReal := give (row (X m c) r) (both (row (A m c) r) (row (B m c) r))
def gives2 (r : Fin 4096) : Fin 4096 → EReal := give (row (Q m c) r) (after m c r)

/-- The rows that a grid point has. -/
theorem bands : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![t.val, 0]
    ∧ win0_9.index t = ![0, 0] ∧ win0_10.index t = ![0, 0] := by
  decide +kernel

theorem onto : ∀ u : Fin 64, ∀ v : Fin 1, ∃ t : Fin cfg0.N, win0_7.index t = ![u.val, v.val] ∧ win0_8.index t = ![u.val, v.val] := by decide +kernel
/-- The last point, which writes the gradients in the gains back. -/
abbrev last : Fin cfg0.N := ⟨63, (by decide : 63 < 64).trans_eq N_0.symm⟩

theorem onto_last : ∀ u : Fin 1, ∀ v : Fin 1, ∃ _t : Fin 1, win0_9.index last = ![u.val, v.val] ∧ win0_10.index last = ![u.val, v.val] := by decide +kernel

/-- The number of a row in the whole array. -/
abbrev num (t : Fin cfg0.N) : Fin 64 := ⟨t.val, lt_of_lt_of_eq t.isLt N_0⟩
abbrev line (t : Fin cfg0.N) (r : Fin 64) : Fin 4096 := ⟨r + 64 * num t, by omega⟩

/-- A point's blocks are rows of the arrays, and the gains. -/
theorem rowX (t : Fin cfg0.N) (r : Fin 64) : row (M := 64) (iblk m c 0 t) r = row (X m c) (line t r) :=
  funext fun k => congrArg (X m c) (place (s := num t) (e := (win0_0.blk t).view.emb) (fun _ _ => rfl) (bands t).1 r k)
theorem rowA (t : Fin cfg0.N) (r : Fin 64) : row (M := 64) (iblk m c 1 t) r = row (A m c) (line t r) :=
  funext fun k => congrArg (A m c) (place (s := num t) (e := (win0_1.blk t).view.emb) (fun _ _ => rfl) (bands t).2.1 r k)
theorem rowB (t : Fin cfg0.N) (r : Fin 64) : row (M := 64) (iblk m c 2 t) r = row (B m c) (line t r) :=
  funext fun k => congrArg (B m c) (place (s := num t) (e := (win0_2.blk t).view.emb) (fun _ _ => rfl) (bands t).2.2.1 r k)
theorem rowG (t : Fin cfg0.N) : row (M := 1) (iblk m c 3 t) 0 = row (G m c) 0 :=
  funext fun k => congrArg (G m c) (whole (f := (win0_3.blk t).view.emb) (i := win0_3.index t) (fun _ _ => rfl) (congrFun (bands t).2.2.2.1 0) (congrFun (bands t).2.2.2.1 1) k)
theorem rowQ (t : Fin cfg0.N) (r : Fin 64) : row (M := 64) (iblk m c 4 t) r = row (Q m c) (line t r) :=
  funext fun k => congrArg (Q m c) (place (s := num t) (e := (win0_4.blk t).view.emb) (fun _ _ => rfl) (bands t).2.2.2.2.1 r k)
theorem rowU (t : Fin cfg0.N) : row (M := 1) (iblk m c 5 t) 0 = row (U m c) 0 :=
  funext fun k => congrArg (U m c) (whole (f := (win0_5.blk t).view.emb) (i := win0_5.index t) (fun _ _ => rfl) (congrFun (bands t).2.2.2.2.2.1 0) (congrFun (bands t).2.2.2.2.2.1 1) k)
theorem rowY (t : Fin cfg0.N) (r : Fin 64) : row (M := 64) (iblk m c 6 t) r = row (Y m c) (line t r) :=
  funext fun k => congrArg (Y m c) (place (s := num t) (e := (win0_6.blk t).view.emb) (fun _ _ => rfl) (bands t).2.2.2.2.2.2.1 r k)

/-- Where an element of a block of rows is. -/
theorem spot {e : (Products.Mat 64 4096).Idx → (Products.Mat 4096 4096).Idx} {i : Fin 2 → ℕ} (t : Fin cfg0.N)
    (he : ∀ j a, (e j a : ℕ) = i a * (Products.Mat 64 4096).size a + 1 * (j a : ℕ)) (hi : i = ![t.val, 0]) (j : (Products.Mat 64 4096).Idx) :
    e j = ix2 (line t (j 0)) (j 1) :=
  (congrArg e (Shape.idx_ext₂ rfl rfl : j = ix2 (j 0) (j 1))).trans (place (s := num t) he hi (j 0) (j 1))

/-- A row of a point's blocks gives a row of the first two results. -/
theorem turn7 (t : Fin cfg0.N) (r : Fin 64) : mid (row (M := 64) (iblk m c 0 t) r) (row (M := 64) (iblk m c 1 t) r) (row (M := 64) (iblk m c 2 t) r) (row (M := 1) (iblk m c 3 t) 0)
    (row (M := 64) (iblk m c 6 t) r) = after m c (line t r) := by
  rw [rowX, rowA, rowB, rowG, rowY]; rfl
theorem turn8 (t : Fin cfg0.N) (r : Fin 64) : back (row (M := 64) (iblk m c 4 t) r) (row (M := 1) (iblk m c 5 t) 0) (mid (row (M := 64) (iblk m c 0 t) r) (row (M := 64) (iblk m c 1 t) r)
    (row (M := 64) (iblk m c 2 t) r) (row (M := 1) (iblk m c 3 t) 0) (row (M := 64) (iblk m c 6 t) r)) = before m c (line t r) := by
  rw [turn7, rowQ, rowU]; rfl

/-- Every point leaves its rows of the first two results. -/
theorem point7 (t : Fin cfg0.N) : (outsAt0 m c t.val t.isLt).1 = fun j => after m c (line t (j 0)) (j 1) := by
  by_cases h0 : t.val % 64 = 0
  · rw [outsAt0_A m c t h0]; dsimp only; rw [first7, rows1]
    exact funext fun j => congrFun (turn7 m c t (j 0)) (j 1)
  · rw [outsAt0_B m c t h0]; dsimp only; rw [later7, rows1]
    exact funext fun j => congrFun (turn7 m c t (j 0)) (j 1)
theorem point8 (t : Fin cfg0.N) : (outsAt0 m c t.val t.isLt).2.1 = fun j => before m c (line t (j 0)) (j 1) := by
  by_cases h0 : t.val % 64 = 0
  · rw [outsAt0_A m c t h0]; dsimp only; rw [first8, rows2]
    exact funext fun j => congrFun (turn8 m c t (j 0)) (j 1)
  · rw [outsAt0_B m c t h0]; dsimp only; rw [later8, rows2]
    exact funext fun j => congrFun (turn8 m c t (j 0)) (j 1)

/-- What a point adds to the gradients in the gains. -/
theorem part9 (t : Fin cfg0.N) : k0_pay8 (F := Ideal) (iblk m c 0 t) (iblk m c 1 t) (iblk m c 2 t) = fun j => ∑ r : Fin 64, gives1 m c (line t r) (j 1) := by
  rw [gain1]; funext j
  exact Finset.sum_congr rfl fun r _ => by rw [rowX, rowA, rowB]; rfl
theorem part10 (t : Fin cfg0.N) :
    k0_pay16 (F := Ideal) (iblk m c 0 t) (k0_pay10 (iblk m c 0 t) (iblk m c 3 t) (iblk m c 1 t) (iblk m c 2 t)) (k0_pay11 (iblk m c 0 t) (iblk m c 3 t) (iblk m c 1 t) (iblk m c 2 t))
      (k0_pay12 (iblk m c 0 t) (iblk m c 3 t) (iblk m c 1 t) (iblk m c 2 t)) (iblk m c 6 t) (iblk m c 4 t) = fun j => ∑ r : Fin 64, gives2 m c (line t r) (j 1) := by
  rw [gain2]; funext j
  exact Finset.sum_congr rfl fun r _ => by rw [rowX, rowA, rowB, rowG, rowQ, rowY]; rfl

/-- What is added to at each point has, after a point, all that was added so far. -/
theorem grown {N : ℕ} {f : (n : ℕ) → n < N → EReal} {q : Fin N → EReal} (h0 : ∀ h : 0 < N, f 0 h = q ⟨0, h⟩)
    (hs : ∀ n (h : n + 1 < N), f (n + 1) h = f n (Nat.lt_of_succ_lt h) + q ⟨n + 1, h⟩) :
    ∀ n (h : n < N), f n h = ∑ s : Fin (n + 1), q ⟨s.val, Nat.lt_of_le_of_lt (Nat.le_of_lt_succ s.isLt) h⟩
  | 0, h => (h0 h).trans (Fin.sum_univ_one (fun s : Fin 1 => q ⟨s.val, Nat.lt_of_le_of_lt (Nat.le_of_lt_succ s.isLt) h⟩)).symm
  | n + 1, h => by
    rw [Fin.sum_univ_castSucc, hs n h]
    exact congrArg (fun z : EReal => z + q ⟨n + 1, h⟩) (grown h0 hs n (Nat.lt_of_succ_lt h))

theorem not_first {n : ℕ} (h : n + 1 < cfg0.N) : ¬(n + 1) % 64 = 0 := by have := lt_of_lt_of_eq h N_0; omega

/-- After the last point both have the sum over all the rows. -/
theorem total9 (j : S1x4096.Idx) (t : Fin cfg0.N) (ht : t.val = 63) : (outsAt0 m c t.val t.isLt).2.2.1 j = (∑ r : Fin 4096, gives1 m c r (j 1) : EReal) := by
  refine (grown (f := fun n h => (outsAt0 m c n h).2.2.1 j) (q := fun t => ∑ r : Fin 64, gives1 m c (line t r) (j 1)) (fun h => ?_) (fun n h => ?_) t.val t.isLt).trans ?_
  · rw [outsAt0_A m c ⟨0, h⟩ rfl]; dsimp only; rw [first9, add1, zero1, part9]; exact zero_add _
  · rw [outsAt0_B m c ⟨n + 1, h⟩ (not_first h)]; dsimp only; rw [later9, add1, part9]; rfl
  · obtain ⟨t, hn⟩ := t
    obtain rfl : t = 63 := ht
    rw [Products.sum_runs (P := 64) (k := 64) rfl]
theorem total10 (j : S1x4096.Idx) (t : Fin cfg0.N) (ht : t.val = 63) : (outsAt0 m c t.val t.isLt).2.2.2 j = (∑ r : Fin 4096, gives2 m c r (j 1) : EReal) := by
  refine (grown (f := fun n h => (outsAt0 m c n h).2.2.2 j) (q := fun t => ∑ r : Fin 64, gives2 m c (line t r) (j 1)) (fun h => ?_) (fun n h => ?_) t.val t.isLt).trans ?_
  · rw [outsAt0_A m c ⟨0, h⟩ rfl]; dsimp only; rw [first10, add2, zero2, part10]; exact zero_add _
  · rw [outsAt0_B m c ⟨n + 1, h⟩ (not_first h)]; dsimp only; rw [later10, add2, part10]; rfl
  · obtain ⟨t, hn⟩ := t
    obtain rfl : t = 63 := ht
    rw [Products.sum_runs (P := 64) (k := 64) rfl]

/-- The grid leaves the gradient in each row after the sum -/
theorem final7 : (dats m 0 c).arrAt 7 cfg0.N = fun i => after m c (i 0) (i 1) := by
  refine (dats m 0 c).arrAt_eq_of_cover 7 _ (fun t _ => ?_) (fun x => (Products.cover (m := 64) (n := 4096) win0_7.index
    (fun t x => x ∈ ((cfg0.win 7).blk t).view.set)
    (fun t x => by show x ∈ ((View.whole main_v0_0).slice (win0_7.rect t)).set ↔ _; rw [View.set_slice_whole, Rect.mem_set_unit]; exact Iff.rfl) rfl rfl
    (fun u v => (onto u v).imp fun _ h => h.1) x).imp fun t ht => ⟨flush0_7 t, ht⟩)
  rw [Value.flushed7, point7]
  funext j
  show after m c (line t (j 0)) (j 1) = after m c ((win0_7.blk t).view.emb j 0) ((win0_7.blk t).view.emb j 1)
  rw [spot (e := (win0_7.blk t).view.emb) t (fun _ _ => rfl) (bands t).2.2.2.2.2.2.2.1 j]
  rfl

/-- and in each row before it. -/
theorem final8 : (dats m 0 c).arrAt 8 cfg0.N = fun i => before m c (i 0) (i 1) := by
  refine (dats m 0 c).arrAt_eq_of_cover 8 _ (fun t _ => ?_) (fun x => (Products.cover (m := 64) (n := 4096) win0_8.index
    (fun t x => x ∈ ((cfg0.win 8).blk t).view.set)
    (fun t x => by show x ∈ ((View.whole main_v0_1).slice (win0_8.rect t)).set ↔ _; rw [View.set_slice_whole, Rect.mem_set_unit]; exact Iff.rfl) rfl rfl
    (fun u v => (onto u v).imp fun _ h => h.2) x).imp fun t ht => ⟨flush0_8 t, ht⟩)
  rw [Value.flushed8, point8]
  funext j
  show before m c (line t (j 0)) (j 1) = before m c ((win0_8.blk t).view.emb j 0) ((win0_8.blk t).view.emb j 1)
  rw [spot (e := (win0_8.blk t).view.emb) t (fun _ _ => rfl) (bands t).2.2.2.2.2.2.2.2.1 j]
  rfl

/-- The grid leaves the gradients in the two gains, summed over the rows. -/
theorem final9 : (dats m 0 c).arrAt 9 cfg0.N = fun i => ∑ r : Fin 4096, gives1 m c r (i 1) := by
  refine (dats m 0 c).arrAt_eq_of_cover 9 _ (fun t hf => ?_) (fun x => (Products.cover (m := 1) (n := 4096) (fun _ : Fin 1 => win0_9.index last)
    (fun _ x => x ∈ ((cfg0.win 9).blk last).view.set)
    (fun _ x => by show x ∈ ((View.whole main_v0_2).slice (win0_9.rect last)).set ↔ _; rw [View.set_slice_whole, Rect.mem_set_unit]; exact Iff.rfl) rfl rfl
    (fun u v => (onto_last u v).imp fun _ h => h.1) x).elim fun _ ht => ⟨last, (flush0_9 last).mpr rfl, ht⟩)
  have ht : t.val = 63 := by have := (flush0_9 t).mp hf; have := lt_of_lt_of_eq t.isLt N_0; omega
  have sum : ∀ j : S1x4096.Idx, (outsAt0 m c t.val t.isLt).2.2.1 j = (∑ r : Fin 4096, gives1 m c r (j 1) : EReal) := fun j => total9 m c j t ht
  rw [Value.flushed9]
  generalize outsAt0 m c t.val t.isLt = o at sum ⊢
  funext j
  refine (sum j).trans ?_
  show _ = ∑ r : Fin 4096, gives1 m c r ((win0_9.blk t).view.emb j 1)
  rw [column (M := 1) (m := 1) (e' := (win0_9.blk t).view.emb) (o := win0_9.index t) (fun _ _ => rfl) (congrFun (bands t).2.2.2.2.2.2.2.2.2.1 1) j]
theorem final10 : (dats m 0 c).arrAt 10 cfg0.N = fun i => ∑ r : Fin 4096, gives2 m c r (i 1) := by
  refine (dats m 0 c).arrAt_eq_of_cover 10 _ (fun t hf => ?_) (fun x => (Products.cover (m := 1) (n := 4096) (fun _ : Fin 1 => win0_10.index last)
    (fun _ x => x ∈ ((cfg0.win 10).blk last).view.set)
    (fun _ x => by show x ∈ ((View.whole main_v0_3).slice (win0_10.rect last)).set ↔ _; rw [View.set_slice_whole, Rect.mem_set_unit]; exact Iff.rfl) rfl rfl
    (fun u v => (onto_last u v).imp fun _ h => h.2) x).elim fun _ ht => ⟨last, (flush0_10 last).mpr rfl, ht⟩)
  have ht : t.val = 63 := by have := (flush0_10 t).mp hf; have := lt_of_lt_of_eq t.isLt N_0; omega
  have sum : ∀ j : S1x4096.Idx, (outsAt0 m c t.val t.isLt).2.2.2 j = (∑ r : Fin 4096, gives2 m c r (j 1) : EReal) := fun j => total10 m c j t ht
  rw [Value.flushed10]
  generalize outsAt0 m c t.val t.isLt = o at sum ⊢
  funext j
  refine (sum j).trans ?_
  show _ = ∑ r : Fin 4096, gives2 m c r ((win0_10.blk t).view.emb j 1)
  rw [column (M := 1) (m := 1) (e' := (win0_10.blk t).view.emb) (o := win0_10.index t) (fun _ _ => rfl) (congrFun (bands t).2.2.2.2.2.2.2.2.2.2 1) j]

/-- The reference runs and keeps its arguments. -/
theorem ref_frame : Cert.quiescent_ResidBRefIdeal := fun m ρ _ =>
  (θ_run _ _ _).mono (fun r h => ⟨fun c => (h c).2.2.2.2, sem_eq_zero_of_no_sems (by decide) r.2⟩) (ResidBRefIdeal.Value.run m ρ)

/-- An array is given by its elements. -/
theorem by_entry {M : ℕ} {y : (Products.Mat M 4096).Idx → EReal} {z : Fin M → Fin 4096 → EReal} (h : ∀ a b, y (ix2 a b) = z a b) : y = fun i => z (i 0) (i 1) :=
  funext fun i => (congrArg y (Shape.idx_ext₂ rfl rfl : i = ix2 (i 0) (i 1))).trans (h (i 0) (i 1))

section Reference

variable (m : (ℓ : Loc ResidBRefIdeal.nD ResidBRefIdeal.τ ResidBRefIdeal.sig) → Buf (Elt Ideal) ℓ) (c : Dev nD)
    (x q y : FVec Ideal S4096x4096 .f32) (a b : FVec Ideal S4096x4096 .bf16) (g u : FVec Ideal S1x4096 .f32)
    (hx : m ((c.tc : Thread ResidBRefIdeal.nD ResidBRefIdeal.τ).loc ResidBRefIdeal.main_arg0) = x)
    (ha : m ((c.tc : Thread ResidBRefIdeal.nD ResidBRefIdeal.τ).loc ResidBRefIdeal.main_arg1) = a)
    (hb : m ((c.tc : Thread ResidBRefIdeal.nD ResidBRefIdeal.τ).loc ResidBRefIdeal.main_arg2) = b)
    (hg : m ((c.tc : Thread ResidBRefIdeal.nD ResidBRefIdeal.τ).loc ResidBRefIdeal.main_arg3) = g)
    (hq : m ((c.tc : Thread ResidBRefIdeal.nD ResidBRefIdeal.τ).loc ResidBRefIdeal.main_arg4) = q)
    (hu : m ((c.tc : Thread ResidBRefIdeal.nD ResidBRefIdeal.τ).loc ResidBRefIdeal.main_arg5) = u)
    (hy : m ((c.tc : Thread ResidBRefIdeal.nD ResidBRefIdeal.τ).loc ResidBRefIdeal.main_arg6) = y)

include hx ha hb hg hy in
/-- What the reference computes, element by element. -/
theorem ref_after : (ResidBRefIdeal.Value.res_main_v37 m c : FVec Ideal S4096x4096 .f32)
    = fun i => mid (row x (i 0)) (row a (i 0)) (row b (i 0)) (row g 0) (row y (i 0)) (i 1) := by
  subst hx ha hb hg hy
  have step (x y : FVec Ideal S4096x4096 .f32) (g : FVec Ideal S1x4096 .f32) (a b : FVec Ideal S4096x4096 .bf16) (o : FVec Ideal S4096x4096 .f32)
      (ho : ∀ k l, o (ix2 k l) = mid (row x k) (row a k) (row b k) (row g 0) (row y k) l) :
      o = fun i => mid (row x (i 0)) (row a (i 0)) (row b (i 0)) (row g 0) (row y (i 0)) (i 1) := by_entry ho
  refine step _ _ _ _ _ _ fun k l => ?_
  unfold ResidBRefIdeal.Value.res_main_v37
  pointwise
  rfl

include hx ha hb hg hq hu hy in
theorem ref_before : (ResidBRefIdeal.Value.res_main_v72 m c : FVec Ideal S4096x4096 .bf16)
    = fun i => back (row q (i 0)) (row u 0) (mid (row x (i 0)) (row a (i 0)) (row b (i 0)) (row g 0) (row y (i 0))) (i 1) := by
  subst hx ha hb hg hq hu hy
  have step (x y q : FVec Ideal S4096x4096 .f32) (g u : FVec Ideal S1x4096 .f32) (a b : FVec Ideal S4096x4096 .bf16) (o : FVec Ideal S4096x4096 .bf16)
      (ho : ∀ k l, o (ix2 k l) = back (row q k) (row u 0) (mid (row x k) (row a k) (row b k) (row g 0) (row y k)) l) :
      o = fun i => back (row q (i 0)) (row u 0) (mid (row x (i 0)) (row a (i 0)) (row b (i 0)) (row g 0) (row y (i 0))) (i 1) := by_entry ho
  refine step _ _ _ _ _ _ _ _ fun k l => ?_
  unfold ResidBRefIdeal.Value.res_main_v72
  pointwise
  rfl

include hx ha hb hg hq hy in
theorem ref_gain : (ResidBRefIdeal.Value.res_main_v55 m c : FVec Ideal S1x4096 .f32)
    = fun i => ∑ r : Fin 4096, give (row q r) (mid (row x r) (row a r) (row b r) (row g 0) (row y r)) (i 1) := by
  subst hx ha hb hg hq hy
  have step (x y q : FVec Ideal S4096x4096 .f32) (g : FVec Ideal S1x4096 .f32) (a b : FVec Ideal S4096x4096 .bf16) (o : FVec Ideal S1x4096 .f32)
      (ho : ∀ i, o i = ∑ r : Fin 4096, give (row q r) (mid (row x r) (row a r) (row b r) (row g 0) (row y r)) (i 1)) :
      o = fun i => ∑ r : Fin 4096, give (row q r) (mid (row x r) (row a r) (row b r) (row g 0) (row y r)) (i 1) := funext ho
  refine step _ _ _ _ _ _ _ fun i => ?_
  unfold ResidBRefIdeal.Value.res_main_v55
  pointwise
  rfl

end Reference

/-- The kernel's gradients are the reference's. -/
theorem algebraic : Cert.algebraic_ResidBIdeal_ResidBRefIdeal := fun m ρ m' ρ' _ hag =>
  ⟨fun c i => after m c (i 0) (i 1), fun c i => before m c (i 0) (i 1), fun c i => (∑ r : Fin 4096, gives1 m c r (i 1) : EReal),
    fun c i => (∑ r : Fin 4096, gives2 m c r (i 1) : EReal),
    (θ_run _ _ _).mono (fun _ h c => ⟨(h c).1.trans (final7 m c), (h c).2.1.trans (final8 m c), (h c).2.2.1.trans (final9 m c), (h c).2.2.2.1.trans (final10 m c), (h c).2.2.2.2⟩)
      (Value.run_blocks m ρ),
    (θ_run _ _ _).mono (fun _ h c => by
      obtain ⟨r0, r1, r2, r3, keep⟩ := h c
      obtain ⟨a0, a1, a2, a3, a4, a5, a6⟩ := hag c
      refine ⟨r0.trans (ref_after m' c _ _ _ _ _ a0 a1 a2 a3 a6), r1.trans (ref_before m' c _ _ _ _ _ _ _ a0 a1 a2 a3 a4 a5 a6), r2.trans ?_,
        r3.trans (ref_gain m' c _ _ _ _ _ _ a0 a1 a2 a3 a4 a6), keep⟩
      rw [a0, a1, a2]
      have step (x : FVec Ideal S4096x4096 .f32) (a b : FVec Ideal S4096x4096 .bf16) (y : FVec Ideal S1x4096 .f32)
          (hy : ∀ i, y i = ∑ r : Fin 4096, give (row x r) (both (row a r) (row b r)) (i 1)) :
          y = fun i => ∑ r : Fin 4096, give (row x r) (both (row a r) (row b r)) (i 1) := funext hy
      refine step _ _ _ _ fun i => ?_
      pointwise
      rfl) (ResidBRefIdeal.Value.run m' ρ')⟩

end Cert.ResidBIdeal.NormGrad
-- ==== Proof.ScanRun.lean ====
/- The run of the backward scan of the recurrent mixer: it runs to its end without fault and keeps its arguments, over any float values. -/
module

public import proofs.«01_k».proof.Proof.Gen.ScanIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.ScanIdeal.Run

open Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- If a run ends with each staged input as the pipeline found it, whatever the outputs are, the arguments are unchanged. -/
theorem kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 7 rfl).trans ((hA c 7).trans (V_main_arg6 m c)),
      (Pipeline.RDat.FramePost.arr_in h c 8 rfl).trans ((hA c 8).trans (V_main_arg7 m c)),
      (Pipeline.RDat.FramePost.arr_in h c 9 rfl).trans ((hA c 9).trans (V_main_arg8 m c))⟩) h

/-- The body at the first point, with nothing stated of the outputs: what it leaves in the scratch. -/
noncomputable def runA (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x64x128 .f32) (harg6 : arg6.IsWhole) (arg7 : Memref sig .tc .vmem S8x32x64x128 .f32) (harg7 : arg7.IsWhole) (arg8 : Memref sig .tc .vmem S1x32x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S8x4096 .f32) (harg15 : arg15.IsWhole) (arg16 : Memref sig .tc .vmem S8x64x128 .f32) (harg16 : arg16.IsWhole) (arg17 : Memref sig .tc .vmem S32x64x128 .f32) (harg17 : arg17.IsWhole) (hc0 : cond0_0 i)
    (x0 : Vec F S8x4096 .f32) (x1 : Vec F S8x4096 .f32) (x2 : Vec F S8x4096 .f32) (x3 : Vec F S8x4096 .f32) (x4 : Vec F S8x4096 .f32) (x5 : Vec F S8x64x128 .f32) (x6 : Vec F S8x32x64x128 .f32) (x7 : Vec F S1x32x64x128 .f32) (x8 : Vec F S8x64x128 .f32) (x9 : Vec F S8x64x128 .f32) :
    { LS0 : List (View.Piece (Elt F) S32x64x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS0)) -∗ K ⟨⟩))
          ⊢ wp frame (wpE (defs₀ (F := F)) Variants.none c none) E (cc0_rwkv_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.2.2.2.1, fun E K => ?_⟩
  iintro ⟨H0, H1, H2, H3, H4, H5, H6, H7, H8, H9, H10, H11, H12, H13, H14, H15, HS0, Hk⟩
  iapply ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  iintro ⟨H0, H1, H2, H3, H4, H5, H6, H7, H8, H9, ⟨%f10, H10⟩, ⟨%f11, H11⟩, ⟨%f12, H12⟩, ⟨%f13, H13⟩, ⟨%f14, H14⟩, ⟨%f15, H15⟩, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _, _; isplitr; swap; · iexact H10
    ipureintro; rfl
  isplitl [H11]
  · unfold owns; iexists _, _; isplitr; swap; · iexact H11
    ipureintro; rfl
  isplitl [H12]
  · unfold owns; iexists _, _; isplitr; swap; · iexact H12
    ipureintro; rfl
  isplitl [H13]
  · unfold owns; iexists _, _; isplitr; swap; · iexact H13
    ipureintro; rfl
  isplitl [H14]
  · unfold owns; iexists _, _; isplitr; swap; · iexact H14
    ipureintro; rfl
  isplitl [H15]
  · unfold owns; iexists _, _; isplitr; swap; · iexact H15
    ipureintro; rfl
  iexact HS0

/-- The body at a later point, likewise. -/
noncomputable def runB (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x64x128 .f32) (harg6 : arg6.IsWhole) (arg7 : Memref sig .tc .vmem S8x32x64x128 .f32) (harg7 : arg7.IsWhole) (arg8 : Memref sig .tc .vmem S1x32x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S8x4096 .f32) (harg15 : arg15.IsWhole) (arg16 : Memref sig .tc .vmem S8x64x128 .f32) (harg16 : arg16.IsWhole) (arg17 : Memref sig .tc .vmem S32x64x128 .f32) (harg17 : arg17.IsWhole) (hc0 : ¬cond0_0 i)
    (x0 : Vec F S8x4096 .f32) (x1 : Vec F S8x4096 .f32) (x2 : Vec F S8x4096 .f32) (x3 : Vec F S8x4096 .f32) (x4 : Vec F S8x4096 .f32) (x5 : Vec F S8x64x128 .f32) (x6 : Vec F S8x32x64x128 .f32) (x7 : Vec F S1x32x64x128 .f32) (x8 : Vec F S8x64x128 .f32) (x9 : Vec F S8x64x128 .f32) (xs0 : Vec F S32x64x128 .f32) :
    { LS0 : List (View.Piece (Elt F) S32x64x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS0)) -∗ K ⟨⟩))
          ⊢ wp frame (wpE (defs₀ (F := F)) Variants.none c none) E (cc0_rwkv_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).2.2.2.2.2.2.1, fun E K => ?_⟩
  iintro ⟨H0, H1, H2, H3, H4, H5, H6, H7, H8, H9, H10, H11, H12, H13, H14, H15, HS0, Hk⟩
  iapply ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  iintro ⟨H0, H1, H2, H3, H4, H5, H6, H7, H8, H9, ⟨%f10, H10⟩, ⟨%f11, H11⟩, ⟨%f12, H12⟩, ⟨%f13, H13⟩, ⟨%f14, H14⟩, ⟨%f15, H15⟩, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _, _; isplitr; swap; · iexact H10
    ipureintro; rfl
  isplitl [H11]
  · unfold owns; iexists _, _; isplitr; swap; · iexact H11
    ipureintro; rfl
  isplitl [H12]
  · unfold owns; iexists _, _; isplitr; swap; · iexact H12
    ipureintro; rfl
  isplitl [H13]
  · unfold owns; iexists _, _; isplitr; swap; · iexact H13
    ipureintro; rfl
  isplitl [H14]
  · unfold owns; iexists _, _; isplitr; swap; · iexact H14
    ipureintro; rfl
  isplitl [H15]
  · unfold owns; iexists _, _; isplitr; swap; · iexact H15
    ipureintro; rfl
  iexact HS0

/-- Case A's pieces for scratch `arg17`, which the kernel carries between points, cover it: one of them a store of the WHOLE buffer (Lib/Ring.lean `sl_whole_mem`). -/
theorem scover0_A_0 (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x64x128 .f32) (harg6 : arg6.IsWhole) (arg7 : Memref sig .tc .vmem S8x32x64x128 .f32) (harg7 : arg7.IsWhole) (arg8 : Memref sig .tc .vmem S1x32x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S8x4096 .f32) (harg15 : arg15.IsWhole) (arg16 : Memref sig .tc .vmem S8x64x128 .f32) (harg16 : arg16.IsWhole) (arg17 : Memref sig .tc .vmem S32x64x128 .f32) (harg17 : arg17.IsWhole) (hc0 : cond0_0 i)
    (x0 : Vec F S8x4096 .f32) (x1 : Vec F S8x4096 .f32) (x2 : Vec F S8x4096 .f32) (x3 : Vec F S8x4096 .f32) (x4 : Vec F S8x4096 .f32) (x5 : Vec F S8x64x128 .f32) (x6 : Vec F S8x32x64x128 .f32) (x7 : Vec F S1x32x64x128 .f32) (x8 : Vec F S8x64x128 .f32) (x9 : Vec F S8x64x128 .f32) (y : S32x64x128.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1, y ∈ pc.1.set :=
  View.cover_of_wholeMem (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1 (by sl_whole_mem) y

/-- What case A leaves in scratch `arg17`: its pieces read back over junk. -/
def sout0_A_0 (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x64x128 .f32) (harg6 : arg6.IsWhole) (arg7 : Memref sig .tc .vmem S8x32x64x128 .f32) (harg7 : arg7.IsWhole) (arg8 : Memref sig .tc .vmem S1x32x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S8x4096 .f32) (harg15 : arg15.IsWhole) (arg16 : Memref sig .tc .vmem S8x64x128 .f32) (harg16 : arg16.IsWhole) (arg17 : Memref sig .tc .vmem S32x64x128 .f32) (harg17 : arg17.IsWhole) (hc0 : cond0_0 i)
    (x0 : Vec F S8x4096 .f32) (x1 : Vec F S8x4096 .f32) (x2 : Vec F S8x4096 .f32) (x3 : Vec F S8x4096 .f32) (x4 : Vec F S8x4096 .f32) (x5 : Vec F S8x64x128 .f32) (x6 : Vec F S8x32x64x128 .f32) (x7 : Vec F S1x32x64x128 .f32) (x8 : Vec F S8x64x128 .f32) (x9 : Vec F S8x64x128 .f32) : Vec F S32x64x128 .f32 :=
  VS0_0.read (Elt F) (VS0_0.writes (Elt F) VS0_0.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1)

/-- Case B's pieces for scratch `arg17`, which the kernel carries between points, cover it: 512 pieces of `S1x64x128` tiling it (Lib/Ring.lean `Piece.tiledL`). -/
theorem scover0_B_0 (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x64x128 .f32) (harg6 : arg6.IsWhole) (arg7 : Memref sig .tc .vmem S8x32x64x128 .f32) (harg7 : arg7.IsWhole) (arg8 : Memref sig .tc .vmem S1x32x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S8x4096 .f32) (harg15 : arg15.IsWhole) (arg16 : Memref sig .tc .vmem S8x64x128 .f32) (harg16 : arg16.IsWhole) (arg17 : Memref sig .tc .vmem S32x64x128 .f32) (harg17 : arg17.IsWhole) (hc0 : ¬cond0_0 i)
    (x0 : Vec F S8x4096 .f32) (x1 : Vec F S8x4096 .f32) (x2 : Vec F S8x4096 .f32) (x3 : Vec F S8x4096 .f32) (x4 : Vec F S8x4096 .f32) (x5 : Vec F S8x64x128 .f32) (x6 : Vec F S8x32x64x128 .f32) (x7 : Vec F S1x32x64x128 .f32) (x8 : Vec F S8x64x128 .f32) (x9 : Vec F S8x64x128 .f32) (xs0 : Vec F S32x64x128 .f32) (y : S32x64x128.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).1 S1x64x128.size (by sl_kernel_rfl) y

/-- What case B leaves in scratch `arg17`: its pieces read back over junk. -/
def sout0_B_0 (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x64x128 .f32) (harg6 : arg6.IsWhole) (arg7 : Memref sig .tc .vmem S8x32x64x128 .f32) (harg7 : arg7.IsWhole) (arg8 : Memref sig .tc .vmem S1x32x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S8x4096 .f32) (harg15 : arg15.IsWhole) (arg16 : Memref sig .tc .vmem S8x64x128 .f32) (harg16 : arg16.IsWhole) (arg17 : Memref sig .tc .vmem S32x64x128 .f32) (harg17 : arg17.IsWhole) (hc0 : ¬cond0_0 i)
    (x0 : Vec F S8x4096 .f32) (x1 : Vec F S8x4096 .f32) (x2 : Vec F S8x4096 .f32) (x3 : Vec F S8x4096 .f32) (x4 : Vec F S8x4096 .f32) (x5 : Vec F S8x64x128 .f32) (x6 : Vec F S8x32x64x128 .f32) (x7 : Vec F S1x32x64x128 .f32) (x8 : Vec F S8x64x128 .f32) (x9 : Vec F S8x64x128 .f32) (xs0 : Vec F S32x64x128 .f32) : Vec F S32x64x128 .f32 :=
  VS0_0.read (Elt F) (VS0_0.writes (Elt F) VS0_0.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S32x64x128 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : (n + 1) % 512 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))

/-- What the point before `n + 1` leaves is what point `n` leaves. -/
theorem outsAt0_pred (c : Dev nD) (n : ℕ) (hn : n + 1 < cfg0.N) (h : n + 1 - 1 < cfg0.N) : outsAt0 m c (n + 1 - 1) h = outsAt0 m c n (Nat.lt_of_succ_lt hn) := rfl

/-- `outsAt0` at a point of case A: that case's contents. -/
theorem outsAt0_A (c : Dev nD) (t : Fin cfg0.N) (h0 : t.val % 512 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => unfold outsAt0; rw [dif_pos h0]

/-- `outsAt0` at a point of case B: that case's contents, over what the point before left. -/
theorem outsAt0_B (c : Dev nD) (t : Fin cfg0.N) (h0 : ¬t.val % 512 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => rw [outsAt0, dif_neg h0]; rw [outsAt0_pred m c n hn]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (10, 11, 12, 13, 14, 15): nothing reads what the kernel leaves in them, so nothing
    of it is named (Lib/Pipeline/Dat.lean `Dat.toRForget`). -/
def forgets0 : Fin 16 → Bool := fun w => w.val == 10 || w.val == 11 || w.val == 12 || w.val == 13 || w.val == 14 || w.val == 15

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 512 := lt_of_lt_of_eq t.isLt (show cfg0.N = 512 from N_0)
  by_cases h0 : t.val % 512 = 0
  · by_cases hz : t.val = 0
    · rw [PhiS_castSucc m c t, PhiS_zero m c _ _ hz, PhiA0_eq]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runA c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [HS0]; · iexact HS0
      iintro ⟨H0, H1, H2, H3, H4, H5, H6, H7, H8, H9, H10, H11, H12, H13, H14, H15, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · exfalso; have hN : t.val < 512 := lt_of_lt_of_eq t.isLt (show cfg0.N = 512 from N_0); omega
  · by_cases hz : t.val = 0
    · exfalso; have hN : t.val < 512 := lt_of_lt_of_eq t.isLt (show cfg0.N = 512 from N_0); omega
    · rw [PhiS_castSucc m c t, PhiS_pos m c _ _ hz]
      rw [outsAt0_B m c t h0]
      unfold sout0_B_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runB c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [HS0]; · iexact HS0
      iintro ⟨H0, H1, H2, H3, H4, H5, H6, H7, H8, H9, H10, H11, H12, H13, H14, H15, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 512 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 10, 11, 12, 13, 14, 15) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  kept m ρ (fun c => (dats m 0 c).toRForget forgets0) (A_eq m) (run_main m ρ)

/-- THE FRAME: `Cert.quiescent_ScanIdeal`'s statement (Defs.lean) at any `F` — Proof.lean cites it at `Bits`:
    `theorem Cert.Proof.claim : Cert.Claim := ⟨Cert.ScanIdeal.Gen.facts, fun m ρ _ => Cert.ScanIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.ScanIdeal.Run

end
-- ==== Proof.ScanFrames.lean ====
/- The two frames of the backward scan: the ideal form's run at extended reals, and the printed program's at bits, whose text is the same. -/
module

public import proofs.«01_k».proof.Proof.ScanRun
public import proofs.«01_k».proof.Proof.Gen.Scan
public import proofs.«01_k».proof.Defs

@[expose] public section

namespace Cert.ScanIdeal.Run

open Idealize.ShloMosaic Idealize.ShloMosaic.TcCoe
open Idealize.SL.Sem

variable {F : FTy → Type} [FloatOps F]

set_option maxHeartbeats 8000000 in
set_option maxRecDepth 100000 in
/-- The two programs' bodies have one text. -/
theorem body_eq : (Cert.Scan.defs₀ (F := F)) = Cert.ScanIdeal.defs₀ (F := F) := by
  unfold Cert.Scan.defs₀ Cert.ScanIdeal.defs₀
  congr 1
  funext l a
  match l, a with
  | 0, (t, s) => rfl
  | ⟨_ + 1, h⟩, _ => exact absurd h (Nat.not_lt.2 (Nat.le_add_left _ _))

/-- So have their body tables, with the call's pipeline. -/
theorem table_eq : (Cert.Scan.defs (F := F)) = Cert.ScanIdeal.defs (F := F) :=
  congrArg (Pipeline.defs (Cert.ScanIdeal.pcfgs (F := F))) body_eq

/-- The ideal form runs to its end without fault, keeps its arguments and leaves every counter at zero. -/
theorem ideal_frame : Cert.quiescent_ScanIdeal (hScanIdeal := Cert.ScanIdeal.Gen.facts) := fun m ρ _ => frame m ρ

set_option maxHeartbeats 8000000 in
set_option maxRecDepth 100000 in
/-- The printed program runs to its end without fault, keeps its arguments and leaves every counter at zero. -/
theorem printed_frame : Cert.quiescent_Scan (hScan := Cert.Scan.Gen.facts) := by
  intro m ρ _
  rw [table_eq]
  exact frame (F := Bits) m ρ

end Cert.ScanIdeal.Run

end
-- ==== Proof.lean ====
module

public import proofs.«01_k».proof.Defs
public import proofs.«01_k».proof.Proof.Products
public import proofs.«01_k».proof.Proof.GradInput
public import proofs.«01_k».proof.Proof.GradWeight
public import proofs.«01_k».proof.Proof.Forward
public import proofs.«01_k».proof.Proof.GradInputSum
public import proofs.«01_k».proof.Proof.Merging
public import proofs.«01_k».proof.Proof.Activation
public import proofs.«01_k».proof.Proof.Updates
public import proofs.«01_k».proof.Proof.Norms
public import proofs.«01_k».proof.Proof.Packed
public import proofs.«01_k».proof.Proof.Small
public import proofs.«01_k».proof.Proof.NormGrads
public import proofs.«01_k».proof.Proof.ResidGrads
public import proofs.«01_k».proof.Proof.ScanFrames
public import proofs.«01_k».proof.Proof.Gen.Merge.Frame
public import proofs.«01_k».proof.Proof.Gen.Swiglu.Frame
public import proofs.«01_k».proof.Proof.Gen.DAct.Frame
public import proofs.«01_k».proof.Proof.Gen.DNorm.Frame
public import proofs.«01_k».proof.Proof.Gen.DBranch.Frame
public import proofs.«01_k».proof.Proof.Gen.GDown.Frame
public import proofs.«01_k».proof.Proof.Gen.GFfn.Frame
public import proofs.«01_k».proof.Proof.Gen.GBranch.Frame
public import proofs.«01_k».proof.Proof.Gen.GQkv.Frame
public import proofs.«01_k».proof.Proof.Gen.GRwkv.Frame
public import proofs.«01_k».proof.Proof.Gen.GGate.Frame
public import proofs.«01_k».proof.Proof.Gen.DQkv.Frame
public import proofs.«01_k».proof.Proof.Gen.DRwkv.Frame
public import proofs.«01_k».proof.Proof.Gen.DGate.Frame
public import proofs.«01_k».proof.Proof.Gen.Qkv.Frame
public import proofs.«01_k».proof.Proof.Gen.Rwkv.Frame
public import proofs.«01_k».proof.Proof.Gen.Gate.Frame
public import proofs.«01_k».proof.Proof.Gen.Branch.Frame
public import proofs.«01_k».proof.Proof.Gen.Out.Frame
public import proofs.«01_k».proof.Proof.Gen.Ffn.Frame
public import proofs.«01_k».proof.Proof.Gen.Down.Frame
public import proofs.«01_k».proof.Proof.Gen.MergeF.Frame
public import proofs.«01_k».proof.Proof.Gen.SwigluF.Frame
public import proofs.«01_k».proof.Proof.Gen.RmsF.Frame
public import proofs.«01_k».proof.Proof.Gen.ResidF.Frame
public import proofs.«01_k».proof.Proof.Gen.RmsB.Frame
public import proofs.«01_k».proof.Proof.Gen.ResidB.Frame
public import proofs.«01_k».proof.Proof.Gen.AdamIn.Frame
public import proofs.«01_k».proof.Proof.Gen.AdamLora.Frame
public import proofs.«01_k».proof.Proof.Gen.AdamLoraG.Frame
public import proofs.«01_k».proof.Proof.Gen.AdamSquare.Frame
public import proofs.«01_k».proof.Proof.Gen.AdamUp.Frame
public import proofs.«01_k».proof.Proof.Gen.AdamDown.Frame
public import proofs.«01_k».proof.Proof.Gen.AdamSmall.Frame

@[expose] public section

namespace Cert.Proof

set_option maxHeartbeats 2000000 in
/-- Every claim of the certificate. -/
theorem claim : Cert.Claim := ⟨
  Cert.Merge.Gen.facts, Cert.MergeIdeal.Gen.facts, Cert.MergeRefIdeal.Gen.facts,
  Cert.Swiglu.Gen.facts, Cert.SwigluIdeal.Gen.facts, Cert.SwigluRefIdeal.Gen.facts,
  Cert.DAct.Gen.facts, Cert.DActIdeal.Gen.facts, Cert.DActRefIdeal.Gen.facts,
  Cert.DNorm.Gen.facts, Cert.DNormIdeal.Gen.facts, Cert.DNormRefIdeal.Gen.facts,
  Cert.DBranch.Gen.facts, Cert.DBranchIdeal.Gen.facts, Cert.DBranchRefIdeal.Gen.facts,
  Cert.GDown.Gen.facts, Cert.GDownIdeal.Gen.facts, Cert.GDownRefIdeal.Gen.facts,
  Cert.GFfn.Gen.facts, Cert.GFfnIdeal.Gen.facts, Cert.GFfnRefIdeal.Gen.facts,
  Cert.GBranch.Gen.facts, Cert.GBranchIdeal.Gen.facts, Cert.GBranchRefIdeal.Gen.facts,
  Cert.GQkv.Gen.facts, Cert.GQkvIdeal.Gen.facts, Cert.GQkvRefIdeal.Gen.facts,
  Cert.GRwkv.Gen.facts, Cert.GRwkvIdeal.Gen.facts, Cert.GRwkvRefIdeal.Gen.facts,
  Cert.GGate.Gen.facts, Cert.GGateIdeal.Gen.facts, Cert.GGateRefIdeal.Gen.facts,
  Cert.DQkv.Gen.facts, Cert.DQkvIdeal.Gen.facts, Cert.DQkvRefIdeal.Gen.facts,
  Cert.DRwkv.Gen.facts, Cert.DRwkvIdeal.Gen.facts, Cert.DRwkvRefIdeal.Gen.facts,
  Cert.DGate.Gen.facts, Cert.DGateIdeal.Gen.facts, Cert.DGateRefIdeal.Gen.facts,
  Cert.Qkv.Gen.facts, Cert.QkvIdeal.Gen.facts, Cert.QkvRefIdeal.Gen.facts,
  Cert.Rwkv.Gen.facts, Cert.RwkvIdeal.Gen.facts, Cert.RwkvRefIdeal.Gen.facts,
  Cert.Gate.Gen.facts, Cert.GateIdeal.Gen.facts, Cert.GateRefIdeal.Gen.facts,
  Cert.Branch.Gen.facts, Cert.BranchIdeal.Gen.facts, Cert.BranchRefIdeal.Gen.facts,
  Cert.Out.Gen.facts, Cert.OutIdeal.Gen.facts, Cert.OutRefIdeal.Gen.facts,
  Cert.Ffn.Gen.facts, Cert.FfnIdeal.Gen.facts, Cert.FfnRefIdeal.Gen.facts,
  Cert.Down.Gen.facts, Cert.DownIdeal.Gen.facts, Cert.DownRefIdeal.Gen.facts,
  Cert.MergeF.Gen.facts, Cert.MergeFIdeal.Gen.facts, Cert.MergeFRefIdeal.Gen.facts,
  Cert.SwigluF.Gen.facts, Cert.SwigluFIdeal.Gen.facts, Cert.SwigluFRefIdeal.Gen.facts,
  Cert.RmsF.Gen.facts, Cert.RmsFIdeal.Gen.facts, Cert.RmsFRefIdeal.Gen.facts,
  Cert.ResidF.Gen.facts, Cert.ResidFIdeal.Gen.facts, Cert.ResidFRefIdeal.Gen.facts,
  Cert.RmsB.Gen.facts, Cert.RmsBIdeal.Gen.facts, Cert.RmsBRefIdeal.Gen.facts,
  Cert.ResidB.Gen.facts, Cert.ResidBIdeal.Gen.facts, Cert.ResidBRefIdeal.Gen.facts,
  Cert.AdamIn.Gen.facts, Cert.AdamInIdeal.Gen.facts, Cert.AdamInRefIdeal.Gen.facts,
  Cert.AdamLora.Gen.facts, Cert.AdamLoraIdeal.Gen.facts, Cert.AdamLoraRefIdeal.Gen.facts,
  Cert.AdamLoraG.Gen.facts, Cert.AdamLoraGIdeal.Gen.facts, Cert.AdamLoraGRefIdeal.Gen.facts,
  Cert.AdamSquare.Gen.facts, Cert.AdamSquareIdeal.Gen.facts, Cert.AdamSquareRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  Cert.Scan.Gen.facts, Cert.ScanIdeal.Gen.facts,
  fun m ρ _ => Cert.Merge.Gen.frame m ρ, fun m ρ _ => Cert.MergeIdeal.Gen.frame m ρ, Cert.MergeIdeal.Gate.ref_frame,
  fun m ρ _ => Cert.Swiglu.Gen.frame m ρ, fun m ρ _ => Cert.SwigluIdeal.Gen.frame m ρ, Cert.SwigluIdeal.Activation.ref_frame,
  fun m ρ _ => Cert.DAct.Gen.frame m ρ, fun m ρ _ => Cert.DActIdeal.Gen.frame m ρ, Cert.DActIdeal.Product.ref_frame,
  fun m ρ _ => Cert.DNorm.Gen.frame m ρ, fun m ρ _ => Cert.DNormIdeal.Gen.frame m ρ, Cert.DNormIdeal.Product.ref_frame,
  fun m ρ _ => Cert.DBranch.Gen.frame m ρ, fun m ρ _ => Cert.DBranchIdeal.Gen.frame m ρ, Cert.DBranchIdeal.Product.ref_frame,
  fun m ρ _ => Cert.GDown.Gen.frame m ρ, fun m ρ _ => Cert.GDownIdeal.Gen.frame m ρ, Cert.GDownIdeal.Product.ref_frame,
  fun m ρ _ => Cert.GFfn.Gen.frame m ρ, fun m ρ _ => Cert.GFfnIdeal.Gen.frame m ρ, Cert.GFfnIdeal.Product.ref_frame,
  fun m ρ _ => Cert.GBranch.Gen.frame m ρ, fun m ρ _ => Cert.GBranchIdeal.Gen.frame m ρ, Cert.GBranchIdeal.Product.ref_frame,
  fun m ρ _ => Cert.GQkv.Gen.frame m ρ, fun m ρ _ => Cert.GQkvIdeal.Gen.frame m ρ, Cert.GQkvIdeal.Product.ref_frame,
  fun m ρ _ => Cert.GRwkv.Gen.frame m ρ, fun m ρ _ => Cert.GRwkvIdeal.Gen.frame m ρ, Cert.GRwkvIdeal.Product.ref_frame,
  fun m ρ _ => Cert.GGate.Gen.frame m ρ, fun m ρ _ => Cert.GGateIdeal.Gen.frame m ρ, Cert.GGateIdeal.Product.ref_frame,
  fun m ρ _ => Cert.DQkv.Gen.frame m ρ, fun m ρ _ => Cert.DQkvIdeal.Gen.frame m ρ, Cert.DQkvIdeal.Product.ref_frame,
  fun m ρ _ => Cert.DRwkv.Gen.frame m ρ, fun m ρ _ => Cert.DRwkvIdeal.Gen.frame m ρ, Cert.DRwkvIdeal.Product.ref_frame,
  fun m ρ _ => Cert.DGate.Gen.frame m ρ, fun m ρ _ => Cert.DGateIdeal.Gen.frame m ρ, Cert.DGateIdeal.Product.ref_frame,
  fun m ρ _ => Cert.Qkv.Gen.frame m ρ, fun m ρ _ => Cert.QkvIdeal.Gen.frame m ρ, Cert.QkvIdeal.Product.ref_frame,
  fun m ρ _ => Cert.Rwkv.Gen.frame m ρ, fun m ρ _ => Cert.RwkvIdeal.Gen.frame m ρ, Cert.RwkvIdeal.Product.ref_frame,
  fun m ρ _ => Cert.Gate.Gen.frame m ρ, fun m ρ _ => Cert.GateIdeal.Gen.frame m ρ, Cert.GateIdeal.Product.ref_frame,
  fun m ρ _ => Cert.Branch.Gen.frame m ρ, fun m ρ _ => Cert.BranchIdeal.Gen.frame m ρ, Cert.BranchIdeal.Product.ref_frame,
  fun m ρ _ => Cert.Out.Gen.frame m ρ, fun m ρ _ => Cert.OutIdeal.Gen.frame m ρ, Cert.OutIdeal.Product.ref_frame,
  fun m ρ _ => Cert.Ffn.Gen.frame m ρ, fun m ρ _ => Cert.FfnIdeal.Gen.frame m ρ, Cert.FfnIdeal.Product.ref_frame,
  fun m ρ _ => Cert.Down.Gen.frame m ρ, fun m ρ _ => Cert.DownIdeal.Gen.frame m ρ, Cert.DownIdeal.Product.ref_frame,
  fun m ρ _ => Cert.MergeF.Gen.frame m ρ, fun m ρ _ => Cert.MergeFIdeal.Gen.frame m ρ, Cert.MergeFIdeal.Activation.ref_frame,
  fun m ρ _ => Cert.SwigluF.Gen.frame m ρ, fun m ρ _ => Cert.SwigluFIdeal.Gen.frame m ρ, Cert.SwigluFIdeal.Activation.ref_frame,
  fun m ρ _ => Cert.RmsF.Gen.frame m ρ, fun m ρ _ => Cert.RmsFIdeal.Gen.frame m ρ, Cert.RmsFIdeal.Norm.ref_frame,
  fun m ρ _ => Cert.ResidF.Gen.frame m ρ, fun m ρ _ => Cert.ResidFIdeal.Gen.frame m ρ, Cert.ResidFIdeal.Norm.ref_frame,
  fun m ρ _ => Cert.RmsB.Gen.frame m ρ, fun m ρ _ => Cert.RmsBIdeal.Gen.frame m ρ, Cert.RmsBIdeal.NormGrad.ref_frame,
  fun m ρ _ => Cert.ResidB.Gen.frame m ρ, fun m ρ _ => Cert.ResidBIdeal.Gen.frame m ρ, Cert.ResidBIdeal.NormGrad.ref_frame,
  fun m ρ _ => Cert.AdamIn.Gen.frame m ρ, fun m ρ _ => Cert.AdamInIdeal.Gen.frame m ρ, Cert.AdamInIdeal.Update.ref_frame,
  fun m ρ _ => Cert.AdamLora.Gen.frame m ρ, fun m ρ _ => Cert.AdamLoraIdeal.Gen.frame m ρ, Cert.AdamLoraIdeal.Update.ref_frame,
  fun m ρ _ => Cert.AdamLoraG.Gen.frame m ρ, fun m ρ _ => Cert.AdamLoraGIdeal.Gen.frame m ρ, Cert.AdamLoraGIdeal.Update.ref_frame,
  fun m ρ _ => Cert.AdamSquare.Gen.frame m ρ, fun m ρ _ => Cert.AdamSquareIdeal.Gen.frame m ρ, Cert.AdamSquareIdeal.Update.ref_frame,
  fun m ρ _ => Cert.AdamUp.Gen.frame m ρ, fun m ρ _ => Cert.AdamUpIdeal.Gen.frame m ρ, Cert.AdamUpIdeal.Update.ref_frame,
  fun m ρ _ => Cert.AdamDown.Gen.frame m ρ, fun m ρ _ => Cert.AdamDownIdeal.Gen.frame m ρ, Cert.AdamDownIdeal.Update.ref_frame,
  fun m ρ _ => Cert.AdamSmall.Gen.frame m ρ, fun m ρ _ => Cert.AdamSmallIdeal.Gen.frame m ρ, Cert.AdamSmallIdeal.Update.ref_frame,
  Cert.ScanIdeal.Run.printed_frame, Cert.ScanIdeal.Run.ideal_frame,
  trivial, Cert.MergeIdeal.Gate.algebraic,
  trivial, Cert.SwigluIdeal.Activation.algebraic,
  trivial, Cert.DActIdeal.Product.algebraic,
  trivial, Cert.DNormIdeal.Product.algebraic,
  trivial, Cert.DBranchIdeal.Product.algebraic,
  trivial, Cert.GDownIdeal.Product.algebraic,
  trivial, Cert.GFfnIdeal.Product.algebraic,
  trivial, Cert.GBranchIdeal.Product.algebraic,
  trivial, Cert.GQkvIdeal.Product.algebraic,
  trivial, Cert.GRwkvIdeal.Product.algebraic,
  trivial, Cert.GGateIdeal.Product.algebraic,
  trivial, Cert.DQkvIdeal.Product.algebraic,
  trivial, Cert.DRwkvIdeal.Product.algebraic,
  trivial, Cert.DGateIdeal.Product.algebraic,
  trivial, Cert.QkvIdeal.Product.algebraic,
  trivial, Cert.RwkvIdeal.Product.algebraic,
  trivial, Cert.GateIdeal.Product.algebraic,
  trivial, Cert.BranchIdeal.Product.algebraic,
  trivial, Cert.OutIdeal.Product.algebraic,
  trivial, Cert.FfnIdeal.Product.algebraic,
  trivial, Cert.DownIdeal.Product.algebraic,
  trivial, Cert.MergeFIdeal.Activation.algebraic,
  trivial, Cert.SwigluFIdeal.Activation.algebraic,
  trivial, Cert.RmsFIdeal.Norm.algebraic,
  trivial, Cert.ResidFIdeal.Norm.algebraic,
  trivial, Cert.RmsBIdeal.NormGrad.algebraic,
  trivial, Cert.ResidBIdeal.NormGrad.algebraic,
  trivial, Cert.AdamInIdeal.Update.algebraic,
  trivial, Cert.AdamLoraIdeal.Update.algebraic,
  trivial, Cert.AdamLoraGIdeal.Update.algebraic,
  trivial, Cert.AdamSquareIdeal.Update.algebraic,
  trivial, Cert.AdamUpIdeal.Update.algebraic,
  trivial, Cert.AdamDownIdeal.Update.algebraic,
  trivial, Cert.AdamSmallIdeal.Update.algebraic,
  trivial⟩

end Cert.Proof

end
